-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_MixInSample (m : (ℓ : Loc Cert.MixInSample.nD Cert.MixInSample.τ Cert.MixInSample.sig) → Buf (Elt Bits) ℓ) : Prop :=
  True

def Pre_MixInSampleIdeal (m : (ℓ : Loc Cert.MixInSampleIdeal.nD Cert.MixInSampleIdeal.τ Cert.MixInSampleIdeal.sig) → Buf (Elt Ideal) ℓ) : Prop :=
  True

def Pre_MixInSampleReferenceIdeal (m : (ℓ : Loc Cert.MixInSampleReferenceIdeal.nD Cert.MixInSampleReferenceIdeal.τ Cert.MixInSampleReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_MixOutSample (m : (ℓ : Loc Cert.MixOutSample.nD Cert.MixOutSample.τ Cert.MixOutSample.sig) → Buf (Elt Bits) ℓ) : Prop :=
  True

def Pre_MixOutSampleIdeal (m : (ℓ : Loc Cert.MixOutSampleIdeal.nD Cert.MixOutSampleIdeal.τ Cert.MixOutSampleIdeal.sig) → Buf (Elt Ideal) ℓ) : Prop :=
  True

def Pre_MixOutSampleReferenceIdeal (m : (ℓ : Loc Cert.MixOutSampleReferenceIdeal.nD Cert.MixOutSampleReferenceIdeal.τ Cert.MixOutSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7))
      ∧ r.2.sem = fun _ => 0)

def quiescent_MixInSample [hMixInSample : Cert.MixInSample.Facts] : Prop :=
  ∀ (m : (ℓ : Loc Cert.MixInSample.nD Cert.MixInSample.τ Cert.MixInSample.sig) → Buf (Elt Bits) ℓ) (g : Dev Cert.MixInSample.nD → PrngReg), Pre_MixInSample m →
    θ_run (Cert.MixInSample.defs (F := Bits)) (onTc (τ := Cert.MixInSample.τ) (Cert.MixInSample.main (F := Bits))) ⟨m, fun _ => 0, g⟩ (fun r => (∀ c : Dev Cert.MixInSample.nD,
      r.2.mem ((c.tc : Thread Cert.MixInSample.nD Cert.MixInSample.τ).loc Cert.MixInSample.main_arg0) = m ((c.tc : Thread Cert.MixInSample.nD Cert.MixInSample.τ).loc Cert.MixInSample.main_arg0)
      ∧ r.2.mem ((c.tc : Thread Cert.MixInSample.nD Cert.MixInSample.τ).loc Cert.MixInSample.main_arg1) = m ((c.tc : Thread Cert.MixInSample.nD Cert.MixInSample.τ).loc Cert.MixInSample.main_arg1)
      ∧ r.2.mem ((c.tc : Thread Cert.MixInSample.nD Cert.MixInSample.τ).loc Cert.MixInSample.main_arg2) = m ((c.tc : Thread Cert.MixInSample.nD Cert.MixInSample.τ).loc Cert.MixInSample.main_arg2)
      ∧ r.2.mem ((c.tc : Thread Cert.MixInSample.nD Cert.MixInSample.τ).loc Cert.MixInSample.main_arg3) = m ((c.tc : Thread Cert.MixInSample.nD Cert.MixInSample.τ).loc Cert.MixInSample.main_arg3)
      ∧ r.2.mem ((c.tc : Thread Cert.MixInSample.nD Cert.MixInSample.τ).loc Cert.MixInSample.main_arg4) = m ((c.tc : Thread Cert.MixInSample.nD Cert.MixInSample.τ).loc Cert.MixInSample.main_arg4))
      ∧ r.2.sem = fun _ => 0)

def quiescent_MixInSampleIdeal [hMixInSampleIdeal : Cert.MixInSampleIdeal.Facts] : Prop :=
  ∀ (m : (ℓ : Loc Cert.MixInSampleIdeal.nD Cert.MixInSampleIdeal.τ Cert.MixInSampleIdeal.sig) → Buf (Elt Ideal) ℓ) (g : Dev Cert.MixInSampleIdeal.nD → PrngReg), Pre_MixInSampleIdeal m →
    θ_run (Cert.MixInSampleIdeal.defs (F := Ideal)) (onTc (τ := Cert.MixInSampleIdeal.τ) (Cert.MixInSampleIdeal.main (F := Ideal))) ⟨m, fun _ => 0, g⟩ (fun r => (∀ c : Dev Cert.MixInSampleIdeal.nD,
      r.2.mem ((c.tc : Thread Cert.MixInSampleIdeal.nD Cert.MixInSampleIdeal.τ).loc Cert.MixInSampleIdeal.main_arg0) = m ((c.tc : Thread Cert.MixInSampleIdeal.nD Cert.MixInSampleIdeal.τ).loc Cert.MixInSampleIdeal.main_arg0)
      ∧ r.2.mem ((c.tc : Thread Cert.MixInSampleIdeal.nD Cert.MixInSampleIdeal.τ).loc Cert.MixInSampleIdeal.main_arg1) = m ((c.tc : Thread Cert.MixInSampleIdeal.nD Cert.MixInSampleIdeal.τ).loc Cert.MixInSampleIdeal.main_arg1)
      ∧ r.2.mem ((c.tc : Thread Cert.MixInSampleIdeal.nD Cert.MixInSampleIdeal.τ).loc Cert.MixInSampleIdeal.main_arg2) = m ((c.tc : Thread Cert.MixInSampleIdeal.nD Cert.MixInSampleIdeal.τ).loc Cert.MixInSampleIdeal.main_arg2)
      ∧ r.2.mem ((c.tc : Thread Cert.MixInSampleIdeal.nD Cert.MixInSampleIdeal.τ).loc Cert.MixInSampleIdeal.main_arg3) = m ((c.tc : Thread Cert.MixInSampleIdeal.nD Cert.MixInSampleIdeal.τ).loc Cert.MixInSampleIdeal.main_arg3)
      ∧ r.2.mem ((c.tc : Thread Cert.MixInSampleIdeal.nD Cert.MixInSampleIdeal.τ).loc Cert.MixInSampleIdeal.main_arg4) = m ((c.tc : Thread Cert.MixInSampleIdeal.nD Cert.MixInSampleIdeal.τ).loc Cert.MixInSampleIdeal.main_arg4))
      ∧ r.2.sem = fun _ => 0)

def quiescent_MixInSampleReferenceIdeal [hMixInSampleReferenceIdeal : Cert.MixInSampleReferenceIdeal.Facts] : Prop :=
  ∀ (m : (ℓ : Loc Cert.MixInSampleReferenceIdeal.nD Cert.MixInSampleReferenceIdeal.τ Cert.MixInSampleReferenceIdeal.sig) → Buf (Elt Ideal) ℓ) (g : Dev Cert.MixInSampleReferenceIdeal.nD → PrngReg), Pre_MixInSampleReferenceIdeal m →
    θ_run (Cert.MixInSampleReferenceIdeal.defs (F := Ideal)) (onTc (τ := Cert.MixInSampleReferenceIdeal.τ) (Cert.MixInSampleReferenceIdeal.main (F := Ideal))) ⟨m, fun _ => 0, g⟩ (fun r => (∀ c : Dev Cert.MixInSampleReferenceIdeal.nD,
      r.2.mem ((c.tc : Thread Cert.MixInSampleReferenceIdeal.nD Cert.MixInSampleReferenceIdeal.τ).loc Cert.MixInSampleReferenceIdeal.main_arg0) = m ((c.tc : Thread Cert.MixInSampleReferenceIdeal.nD Cert.MixInSampleReferenceIdeal.τ).loc Cert.MixInSampleReferenceIdeal.main_arg0)
      ∧ r.2.mem ((c.tc : Thread Cert.MixInSampleReferenceIdeal.nD Cert.MixInSampleReferenceIdeal.τ).loc Cert.MixInSampleReferenceIdeal.main_arg1) = m ((c.tc : Thread Cert.MixInSampleReferenceIdeal.nD Cert.MixInSampleReferenceIdeal.τ).loc Cert.MixInSampleReferenceIdeal.main_arg1)
      ∧ r.2.mem ((c.tc : Thread Cert.MixInSampleReferenceIdeal.nD Cert.MixInSampleReferenceIdeal.τ).loc Cert.MixInSampleReferenceIdeal.main_arg2) = m ((c.tc : Thread Cert.MixInSampleReferenceIdeal.nD Cert.MixInSampleReferenceIdeal.τ).loc Cert.MixInSampleReferenceIdeal.main_arg2)
      ∧ r.2.mem ((c.tc : Thread Cert.MixInSampleReferenceIdeal.nD Cert.MixInSampleReferenceIdeal.τ).loc Cert.MixInSampleReferenceIdeal.main_arg3) = m ((c.tc : Thread Cert.MixInSampleReferenceIdeal.nD Cert.MixInSampleReferenceIdeal.τ).loc Cert.MixInSampleReferenceIdeal.main_arg3)
      ∧ r.2.mem ((c.tc : Thread Cert.MixInSampleReferenceIdeal.nD Cert.MixInSampleReferenceIdeal.τ).loc Cert.MixInSampleReferenceIdeal.main_arg4) = m ((c.tc : Thread Cert.MixInSampleReferenceIdeal.nD Cert.MixInSampleReferenceIdeal.τ).loc Cert.MixInSampleReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_MixOutSample [hMixOutSample : Cert.MixOutSample.Facts] : Prop :=
  ∀ (m : (ℓ : Loc Cert.MixOutSample.nD Cert.MixOutSample.τ Cert.MixOutSample.sig) → Buf (Elt Bits) ℓ) (g : Dev Cert.MixOutSample.nD → PrngReg), Pre_MixOutSample m →
    θ_run (Cert.MixOutSample.defs (F := Bits)) (onTc (τ := Cert.MixOutSample.τ) (Cert.MixOutSample.main (F := Bits))) ⟨m, fun _ => 0, g⟩ (fun r => (∀ c : Dev Cert.MixOutSample.nD,
      r.2.mem ((c.tc : Thread Cert.MixOutSample.nD Cert.MixOutSample.τ).loc Cert.MixOutSample.main_arg0) = m ((c.tc : Thread Cert.MixOutSample.nD Cert.MixOutSample.τ).loc Cert.MixOutSample.main_arg0)
      ∧ r.2.mem ((c.tc : Thread Cert.MixOutSample.nD Cert.MixOutSample.τ).loc Cert.MixOutSample.main_arg1) = m ((c.tc : Thread Cert.MixOutSample.nD Cert.MixOutSample.τ).loc Cert.MixOutSample.main_arg1)
      ∧ r.2.mem ((c.tc : Thread Cert.MixOutSample.nD Cert.MixOutSample.τ).loc Cert.MixOutSample.main_arg2) = m ((c.tc : Thread Cert.MixOutSample.nD Cert.MixOutSample.τ).loc Cert.MixOutSample.main_arg2)
      ∧ r.2.mem ((c.tc : Thread Cert.MixOutSample.nD Cert.MixOutSample.τ).loc Cert.MixOutSample.main_arg3) = m ((c.tc : Thread Cert.MixOutSample.nD Cert.MixOutSample.τ).loc Cert.MixOutSample.main_arg3)
      ∧ r.2.mem ((c.tc : Thread Cert.MixOutSample.nD Cert.MixOutSample.τ).loc Cert.MixOutSample.main_arg4) = m ((c.tc : Thread Cert.MixOutSample.nD Cert.MixOutSample.τ).loc Cert.MixOutSample.main_arg4)
      ∧ r.2.mem ((c.tc : Thread Cert.MixOutSample.nD Cert.MixOutSample.τ).loc Cert.MixOutSample.main_arg5) = m ((c.tc : Thread Cert.MixOutSample.nD Cert.MixOutSample.τ).loc Cert.MixOutSample.main_arg5))
      ∧ r.2.sem = fun _ => 0)

def quiescent_MixOutSampleIdeal [hMixOutSampleIdeal : Cert.MixOutSampleIdeal.Facts] : Prop :=
  ∀ (m : (ℓ : Loc Cert.MixOutSampleIdeal.nD Cert.MixOutSampleIdeal.τ Cert.MixOutSampleIdeal.sig) → Buf (Elt Ideal) ℓ) (g : Dev Cert.MixOutSampleIdeal.nD → PrngReg), Pre_MixOutSampleIdeal m →
    θ_run (Cert.MixOutSampleIdeal.defs (F := Ideal)) (onTc (τ := Cert.MixOutSampleIdeal.τ) (Cert.MixOutSampleIdeal.main (F := Ideal))) ⟨m, fun _ => 0, g⟩ (fun r => (∀ c : Dev Cert.MixOutSampleIdeal.nD,
      r.2.mem ((c.tc : Thread Cert.MixOutSampleIdeal.nD Cert.MixOutSampleIdeal.τ).loc Cert.MixOutSampleIdeal.main_arg0) = m ((c.tc : Thread Cert.MixOutSampleIdeal.nD Cert.MixOutSampleIdeal.τ).loc Cert.MixOutSampleIdeal.main_arg0)
      ∧ r.2.mem ((c.tc : Thread Cert.MixOutSampleIdeal.nD Cert.MixOutSampleIdeal.τ).loc Cert.MixOutSampleIdeal.main_arg1) = m ((c.tc : Thread Cert.MixOutSampleIdeal.nD Cert.MixOutSampleIdeal.τ).loc Cert.MixOutSampleIdeal.main_arg1)
      ∧ r.2.mem ((c.tc : Thread Cert.MixOutSampleIdeal.nD Cert.MixOutSampleIdeal.τ).loc Cert.MixOutSampleIdeal.main_arg2) = m ((c.tc : Thread Cert.MixOutSampleIdeal.nD Cert.MixOutSampleIdeal.τ).loc Cert.MixOutSampleIdeal.main_arg2)
      ∧ r.2.mem ((c.tc : Thread Cert.MixOutSampleIdeal.nD Cert.MixOutSampleIdeal.τ).loc Cert.MixOutSampleIdeal.main_arg3) = m ((c.tc : Thread Cert.MixOutSampleIdeal.nD Cert.MixOutSampleIdeal.τ).loc Cert.MixOutSampleIdeal.main_arg3)
      ∧ r.2.mem ((c.tc : Thread Cert.MixOutSampleIdeal.nD Cert.MixOutSampleIdeal.τ).loc Cert.MixOutSampleIdeal.main_arg4) = m ((c.tc : Thread Cert.MixOutSampleIdeal.nD Cert.MixOutSampleIdeal.τ).loc Cert.MixOutSampleIdeal.main_arg4)
      ∧ r.2.mem ((c.tc : Thread Cert.MixOutSampleIdeal.nD Cert.MixOutSampleIdeal.τ).loc Cert.MixOutSampleIdeal.main_arg5) = m ((c.tc : Thread Cert.MixOutSampleIdeal.nD Cert.MixOutSampleIdeal.τ).loc Cert.MixOutSampleIdeal.main_arg5))
      ∧ r.2.sem = fun _ => 0)

def quiescent_MixOutSampleReferenceIdeal [hMixOutSampleReferenceIdeal : Cert.MixOutSampleReferenceIdeal.Facts] : Prop :=
  ∀ (m : (ℓ : Loc Cert.MixOutSampleReferenceIdeal.nD Cert.MixOutSampleReferenceIdeal.τ Cert.MixOutSampleReferenceIdeal.sig) → Buf (Elt Ideal) ℓ) (g : Dev Cert.MixOutSampleReferenceIdeal.nD → PrngReg), Pre_MixOutSampleReferenceIdeal m →
    θ_run (Cert.MixOutSampleReferenceIdeal.defs (F := Ideal)) (onTc (τ := Cert.MixOutSampleReferenceIdeal.τ) (Cert.MixOutSampleReferenceIdeal.main (F := Ideal))) ⟨m, fun _ => 0, g⟩ (fun r => (∀ c : Dev Cert.MixOutSampleReferenceIdeal.nD,
      r.2.mem ((c.tc : Thread Cert.MixOutSampleReferenceIdeal.nD Cert.MixOutSampleReferenceIdeal.τ).loc Cert.MixOutSampleReferenceIdeal.main_arg0) = m ((c.tc : Thread Cert.MixOutSampleReferenceIdeal.nD Cert.MixOutSampleReferenceIdeal.τ).loc Cert.MixOutSampleReferenceIdeal.main_arg0)
      ∧ r.2.mem ((c.tc : Thread Cert.MixOutSampleReferenceIdeal.nD Cert.MixOutSampleReferenceIdeal.τ).loc Cert.MixOutSampleReferenceIdeal.main_arg1) = m ((c.tc : Thread Cert.MixOutSampleReferenceIdeal.nD Cert.MixOutSampleReferenceIdeal.τ).loc Cert.MixOutSampleReferenceIdeal.main_arg1)
      ∧ r.2.mem ((c.tc : Thread Cert.MixOutSampleReferenceIdeal.nD Cert.MixOutSampleReferenceIdeal.τ).loc Cert.MixOutSampleReferenceIdeal.main_arg2) = m ((c.tc : Thread Cert.MixOutSampleReferenceIdeal.nD Cert.MixOutSampleReferenceIdeal.τ).loc Cert.MixOutSampleReferenceIdeal.main_arg2)
      ∧ r.2.mem ((c.tc : Thread Cert.MixOutSampleReferenceIdeal.nD Cert.MixOutSampleReferenceIdeal.τ).loc Cert.MixOutSampleReferenceIdeal.main_arg3) = m ((c.tc : Thread Cert.MixOutSampleReferenceIdeal.nD Cert.MixOutSampleReferenceIdeal.τ).loc Cert.MixOutSampleReferenceIdeal.main_arg3)
      ∧ r.2.mem ((c.tc : Thread Cert.MixOutSampleReferenceIdeal.nD Cert.MixOutSampleReferenceIdeal.τ).loc Cert.MixOutSampleReferenceIdeal.main_arg4) = m ((c.tc : Thread Cert.MixOutSampleReferenceIdeal.nD Cert.MixOutSampleReferenceIdeal.τ).loc Cert.MixOutSampleReferenceIdeal.main_arg4)
      ∧ r.2.mem ((c.tc : Thread Cert.MixOutSampleReferenceIdeal.nD Cert.MixOutSampleReferenceIdeal.τ).loc Cert.MixOutSampleReferenceIdeal.main_arg5) = m ((c.tc : Thread Cert.MixOutSampleReferenceIdeal.nD Cert.MixOutSampleReferenceIdeal.τ).loc Cert.MixOutSampleReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v43) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v37_0)) (v1 : (c : Dev Cert.MixInIdeal.nD) → Buf (Elt Ideal) ((c.tc : Thread Cert.MixInIdeal.nD Cert.MixInIdeal.τ).loc Cert.MixInIdeal.main_v37_1)) (v2 : (c : Dev Cert.MixInIdeal.nD) → Buf (Elt Ideal) ((c.tc : Thread Cert.MixInIdeal.nD Cert.MixInIdeal.τ).loc Cert.MixInIdeal.main_v37_2)) (v3 : (c : Dev Cert.MixInIdeal.nD) → Buf (Elt Ideal) ((c.tc : Thread Cert.MixInIdeal.nD Cert.MixInIdeal.τ).loc Cert.MixInIdeal.main_v37_3)) (v4 : (c : Dev Cert.MixInIdeal.nD) → Buf (Elt Ideal) ((c.tc : Thread Cert.MixInIdeal.nD Cert.MixInIdeal.τ).loc Cert.MixInIdeal.main_v37_4)) (v5 : (c : Dev Cert.MixInIdeal.nD) → Buf (Elt Ideal) ((c.tc : Thread Cert.MixInIdeal.nD Cert.MixInIdeal.τ).loc Cert.MixInIdeal.main_v37_5)) (v6 : (c : Dev Cert.MixInIdeal.nD) → Buf (Elt Ideal) ((c.tc : Thread Cert.MixInIdeal.nD Cert.MixInIdeal.τ).loc Cert.MixInIdeal.main_v37_6)) (v7 : (c : Dev Cert.MixInIdeal.nD) → Buf (Elt Ideal) ((c.tc : Thread Cert.MixInIdeal.nD Cert.MixInIdeal.τ).loc Cert.MixInIdeal.main_v37_7)) (v8 : (c : Dev Cert.MixInIdeal.nD) → Buf (Elt Ideal) ((c.tc : Thread Cert.MixInIdeal.nD Cert.MixInIdeal.τ).loc Cert.MixInIdeal.main_v39)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v37_0) = v0 c
          ∧ r.2.mem ((c.tc : Thread Cert.MixInIdeal.nD Cert.MixInIdeal.τ).loc Cert.MixInIdeal.main_v37_1) = v1 c
          ∧ r.2.mem ((c.tc : Thread Cert.MixInIdeal.nD Cert.MixInIdeal.τ).loc Cert.MixInIdeal.main_v37_2) = v2 c
          ∧ r.2.mem ((c.tc : Thread Cert.MixInIdeal.nD Cert.MixInIdeal.τ).loc Cert.MixInIdeal.main_v37_3) = v3 c
          ∧ r.2.mem ((c.tc : Thread Cert.MixInIdeal.nD Cert.MixInIdeal.τ).loc Cert.MixInIdeal.main_v37_4) = v4 c
          ∧ r.2.mem ((c.tc : Thread Cert.MixInIdeal.nD Cert.MixInIdeal.τ).loc Cert.MixInIdeal.main_v37_5) = v5 c
          ∧ r.2.mem ((c.tc : Thread Cert.MixInIdeal.nD Cert.MixInIdeal.τ).loc Cert.MixInIdeal.main_v37_6) = v6 c
          ∧ r.2.mem ((c.tc : Thread Cert.MixInIdeal.nD Cert.MixInIdeal.τ).loc Cert.MixInIdeal.main_v37_7) = v7 c
          ∧ r.2.mem ((c.tc : Thread Cert.MixInIdeal.nD Cert.MixInIdeal.τ).loc Cert.MixInIdeal.main_v39) = v8 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v115) = v0 c
          ∧ r.2.mem ((c.tc : Thread Cert.MixInReferenceIdeal.nD Cert.MixInReferenceIdeal.τ).loc Cert.MixInReferenceIdeal.main_v116) = v1 c
          ∧ r.2.mem ((c.tc : Thread Cert.MixInReferenceIdeal.nD Cert.MixInReferenceIdeal.τ).loc Cert.MixInReferenceIdeal.main_v117) = v2 c
          ∧ r.2.mem ((c.tc : Thread Cert.MixInReferenceIdeal.nD Cert.MixInReferenceIdeal.τ).loc Cert.MixInReferenceIdeal.main_v118) = v3 c
          ∧ r.2.mem ((c.tc : Thread Cert.MixInReferenceIdeal.nD Cert.MixInReferenceIdeal.τ).loc Cert.MixInReferenceIdeal.main_v113) = v4 c
          ∧ r.2.mem ((c.tc : Thread Cert.MixInReferenceIdeal.nD Cert.MixInReferenceIdeal.τ).loc Cert.MixInReferenceIdeal.main_v119) = v5 c
          ∧ r.2.mem ((c.tc : Thread Cert.MixInReferenceIdeal.nD Cert.MixInReferenceIdeal.τ).loc Cert.MixInReferenceIdeal.main_v114) = v6 c
          ∧ r.2.mem ((c.tc : Thread Cert.MixInReferenceIdeal.nD Cert.MixInReferenceIdeal.τ).loc Cert.MixInReferenceIdeal.main_v120) = v7 c
          ∧ r.2.mem ((c.tc : Thread Cert.MixInReferenceIdeal.nD Cert.MixInReferenceIdeal.τ).loc Cert.MixInReferenceIdeal.main_v121) = v8 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v23) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)) →
    ∃ (v0 : (c : Dev Cert.FfnSampleIdeal.nD) → Buf (Elt Ideal) ((c.tc : Thread Cert.FfnSampleIdeal.nD Cert.FfnSampleIdeal.τ).loc Cert.FfnSampleIdeal.main_v17)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v17) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v43) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7))

def preserves_MixInSample_MixInSampleIdeal : Prop :=
  True

def algebraic_MixInSampleIdeal_MixInSampleReferenceIdeal [hMixInSampleIdeal : Cert.MixInSampleIdeal.Facts] [hMixInSampleReferenceIdeal : Cert.MixInSampleReferenceIdeal.Facts] : Prop :=
  ∀ (m : (ℓ : Loc Cert.MixInSampleIdeal.nD Cert.MixInSampleIdeal.τ Cert.MixInSampleIdeal.sig) → Buf (Elt Ideal) ℓ) (g : Dev Cert.MixInSampleIdeal.nD → PrngReg)
    (m' : (ℓ : Loc Cert.MixInSampleReferenceIdeal.nD Cert.MixInSampleReferenceIdeal.τ Cert.MixInSampleReferenceIdeal.sig) → Buf (Elt Ideal) ℓ) (g' : Dev Cert.MixInSampleReferenceIdeal.nD → PrngReg), Pre_MixInSampleIdeal m →
    (∀ c : Dev Cert.MixInSampleIdeal.nD,
      m' ((c.tc : Thread Cert.MixInSampleReferenceIdeal.nD Cert.MixInSampleReferenceIdeal.τ).loc Cert.MixInSampleReferenceIdeal.main_arg0) = m ((c.tc : Thread Cert.MixInSampleIdeal.nD Cert.MixInSampleIdeal.τ).loc Cert.MixInSampleIdeal.main_arg0)
      ∧ m' ((c.tc : Thread Cert.MixInSampleReferenceIdeal.nD Cert.MixInSampleReferenceIdeal.τ).loc Cert.MixInSampleReferenceIdeal.main_arg1) = m ((c.tc : Thread Cert.MixInSampleIdeal.nD Cert.MixInSampleIdeal.τ).loc Cert.MixInSampleIdeal.main_arg1)
      ∧ m' ((c.tc : Thread Cert.MixInSampleReferenceIdeal.nD Cert.MixInSampleReferenceIdeal.τ).loc Cert.MixInSampleReferenceIdeal.main_arg2) = m ((c.tc : Thread Cert.MixInSampleIdeal.nD Cert.MixInSampleIdeal.τ).loc Cert.MixInSampleIdeal.main_arg2)
      ∧ m' ((c.tc : Thread Cert.MixInSampleReferenceIdeal.nD Cert.MixInSampleReferenceIdeal.τ).loc Cert.MixInSampleReferenceIdeal.main_arg3) = m ((c.tc : Thread Cert.MixInSampleIdeal.nD Cert.MixInSampleIdeal.τ).loc Cert.MixInSampleIdeal.main_arg3)
      ∧ m' ((c.tc : Thread Cert.MixInSampleReferenceIdeal.nD Cert.MixInSampleReferenceIdeal.τ).loc Cert.MixInSampleReferenceIdeal.main_arg4) = m ((c.tc : Thread Cert.MixInSampleIdeal.nD Cert.MixInSampleIdeal.τ).loc Cert.MixInSampleIdeal.main_arg4)) →
    ∃ (v0 : (c : Dev Cert.MixInSampleIdeal.nD) → Buf (Elt Ideal) ((c.tc : Thread Cert.MixInSampleIdeal.nD Cert.MixInSampleIdeal.τ).loc Cert.MixInSampleIdeal.main_v56_0)) (v1 : (c : Dev Cert.MixInSampleIdeal.nD) → Buf (Elt Ideal) ((c.tc : Thread Cert.MixInSampleIdeal.nD Cert.MixInSampleIdeal.τ).loc Cert.MixInSampleIdeal.main_v56_1)) (v2 : (c : Dev Cert.MixInSampleIdeal.nD) → Buf (Elt Ideal) ((c.tc : Thread Cert.MixInSampleIdeal.nD Cert.MixInSampleIdeal.τ).loc Cert.MixInSampleIdeal.main_v56_2)) (v3 : (c : Dev Cert.MixInSampleIdeal.nD) → Buf (Elt Ideal) ((c.tc : Thread Cert.MixInSampleIdeal.nD Cert.MixInSampleIdeal.τ).loc Cert.MixInSampleIdeal.main_v56_3)) (v4 : (c : Dev Cert.MixInSampleIdeal.nD) → Buf (Elt Ideal) ((c.tc : Thread Cert.MixInSampleIdeal.nD Cert.MixInSampleIdeal.τ).loc Cert.MixInSampleIdeal.main_v56_4)) (v5 : (c : Dev Cert.MixInSampleIdeal.nD) → Buf (Elt Ideal) ((c.tc : Thread Cert.MixInSampleIdeal.nD Cert.MixInSampleIdeal.τ).loc Cert.MixInSampleIdeal.main_v56_5)) (v6 : (c : Dev Cert.MixInSampleIdeal.nD) → Buf (Elt Ideal) ((c.tc : Thread Cert.MixInSampleIdeal.nD Cert.MixInSampleIdeal.τ).loc Cert.MixInSampleIdeal.main_v56_6)) (v7 : (c : Dev Cert.MixInSampleIdeal.nD) → Buf (Elt Ideal) ((c.tc : Thread Cert.MixInSampleIdeal.nD Cert.MixInSampleIdeal.τ).loc Cert.MixInSampleIdeal.main_v56_7)) (v8 : (c : Dev Cert.MixInSampleIdeal.nD) → Buf (Elt Ideal) ((c.tc : Thread Cert.MixInSampleIdeal.nD Cert.MixInSampleIdeal.τ).loc Cert.MixInSampleIdeal.main_v58)),
      θ_run (Cert.MixInSampleIdeal.defs (F := Ideal)) (onTc (τ := Cert.MixInSampleIdeal.τ) (Cert.MixInSampleIdeal.main (F := Ideal))) ⟨m, fun _ => 0, g⟩ (fun r => ∀ c : Dev Cert.MixInSampleIdeal.nD,
          r.2.mem ((c.tc : Thread Cert.MixInSampleIdeal.nD Cert.MixInSampleIdeal.τ).loc Cert.MixInSampleIdeal.main_v56_0) = v0 c
          ∧ r.2.mem ((c.tc : Thread Cert.MixInSampleIdeal.nD Cert.MixInSampleIdeal.τ).loc Cert.MixInSampleIdeal.main_v56_1) = v1 c
          ∧ r.2.mem ((c.tc : Thread Cert.MixInSampleIdeal.nD Cert.MixInSampleIdeal.τ).loc Cert.MixInSampleIdeal.main_v56_2) = v2 c
          ∧ r.2.mem ((c.tc : Thread Cert.MixInSampleIdeal.nD Cert.MixInSampleIdeal.τ).loc Cert.MixInSampleIdeal.main_v56_3) = v3 c
          ∧ r.2.mem ((c.tc : Thread Cert.MixInSampleIdeal.nD Cert.MixInSampleIdeal.τ).loc Cert.MixInSampleIdeal.main_v56_4) = v4 c
          ∧ r.2.mem ((c.tc : Thread Cert.MixInSampleIdeal.nD Cert.MixInSampleIdeal.τ).loc Cert.MixInSampleIdeal.main_v56_5) = v5 c
          ∧ r.2.mem ((c.tc : Thread Cert.MixInSampleIdeal.nD Cert.MixInSampleIdeal.τ).loc Cert.MixInSampleIdeal.main_v56_6) = v6 c
          ∧ r.2.mem ((c.tc : Thread Cert.MixInSampleIdeal.nD Cert.MixInSampleIdeal.τ).loc Cert.MixInSampleIdeal.main_v56_7) = v7 c
          ∧ r.2.mem ((c.tc : Thread Cert.MixInSampleIdeal.nD Cert.MixInSampleIdeal.τ).loc Cert.MixInSampleIdeal.main_v58) = v8 c
          ∧ r.2.mem ((c.tc : Thread Cert.MixInSampleIdeal.nD Cert.MixInSampleIdeal.τ).loc Cert.MixInSampleIdeal.main_arg0) = m ((c.tc : Thread Cert.MixInSampleIdeal.nD Cert.MixInSampleIdeal.τ).loc Cert.MixInSampleIdeal.main_arg0)
          ∧ r.2.mem ((c.tc : Thread Cert.MixInSampleIdeal.nD Cert.MixInSampleIdeal.τ).loc Cert.MixInSampleIdeal.main_arg1) = m ((c.tc : Thread Cert.MixInSampleIdeal.nD Cert.MixInSampleIdeal.τ).loc Cert.MixInSampleIdeal.main_arg1)
          ∧ r.2.mem ((c.tc : Thread Cert.MixInSampleIdeal.nD Cert.MixInSampleIdeal.τ).loc Cert.MixInSampleIdeal.main_arg2) = m ((c.tc : Thread Cert.MixInSampleIdeal.nD Cert.MixInSampleIdeal.τ).loc Cert.MixInSampleIdeal.main_arg2)
          ∧ r.2.mem ((c.tc : Thread Cert.MixInSampleIdeal.nD Cert.MixInSampleIdeal.τ).loc Cert.MixInSampleIdeal.main_arg3) = m ((c.tc : Thread Cert.MixInSampleIdeal.nD Cert.MixInSampleIdeal.τ).loc Cert.MixInSampleIdeal.main_arg3)
          ∧ r.2.mem ((c.tc : Thread Cert.MixInSampleIdeal.nD Cert.MixInSampleIdeal.τ).loc Cert.MixInSampleIdeal.main_arg4) = m ((c.tc : Thread Cert.MixInSampleIdeal.nD Cert.MixInSampleIdeal.τ).loc Cert.MixInSampleIdeal.main_arg4))
      ∧ θ_run (Cert.MixInSampleReferenceIdeal.defs (F := Ideal)) (onTc (τ := Cert.MixInSampleReferenceIdeal.τ) (Cert.MixInSampleReferenceIdeal.main (F := Ideal))) ⟨m', fun _ => 0, g'⟩ (fun r => ∀ c : Dev Cert.MixInSampleReferenceIdeal.nD,
          r.2.mem ((c.tc : Thread Cert.MixInSampleReferenceIdeal.nD Cert.MixInSampleReferenceIdeal.τ).loc Cert.MixInSampleReferenceIdeal.main_v117) = v0 c
          ∧ r.2.mem ((c.tc : Thread Cert.MixInSampleReferenceIdeal.nD Cert.MixInSampleReferenceIdeal.τ).loc Cert.MixInSampleReferenceIdeal.main_v118) = v1 c
          ∧ r.2.mem ((c.tc : Thread Cert.MixInSampleReferenceIdeal.nD Cert.MixInSampleReferenceIdeal.τ).loc Cert.MixInSampleReferenceIdeal.main_v119) = v2 c
          ∧ r.2.mem ((c.tc : Thread Cert.MixInSampleReferenceIdeal.nD Cert.MixInSampleReferenceIdeal.τ).loc Cert.MixInSampleReferenceIdeal.main_v120) = v3 c
          ∧ r.2.mem ((c.tc : Thread Cert.MixInSampleReferenceIdeal.nD Cert.MixInSampleReferenceIdeal.τ).loc Cert.MixInSampleReferenceIdeal.main_v115) = v4 c
          ∧ r.2.mem ((c.tc : Thread Cert.MixInSampleReferenceIdeal.nD Cert.MixInSampleReferenceIdeal.τ).loc Cert.MixInSampleReferenceIdeal.main_v121) = v5 c
          ∧ r.2.mem ((c.tc : Thread Cert.MixInSampleReferenceIdeal.nD Cert.MixInSampleReferenceIdeal.τ).loc Cert.MixInSampleReferenceIdeal.main_v116) = v6 c
          ∧ r.2.mem ((c.tc : Thread Cert.MixInSampleReferenceIdeal.nD Cert.MixInSampleReferenceIdeal.τ).loc Cert.MixInSampleReferenceIdeal.main_v122) = v7 c
          ∧ r.2.mem ((c.tc : Thread Cert.MixInSampleReferenceIdeal.nD Cert.MixInSampleReferenceIdeal.τ).loc Cert.MixInSampleReferenceIdeal.main_v123) = v8 c
          ∧ r.2.mem ((c.tc : Thread Cert.MixInSampleReferenceIdeal.nD Cert.MixInSampleReferenceIdeal.τ).loc Cert.MixInSampleReferenceIdeal.main_arg0) = m' ((c.tc : Thread Cert.MixInSampleReferenceIdeal.nD Cert.MixInSampleReferenceIdeal.τ).loc Cert.MixInSampleReferenceIdeal.main_arg0)
          ∧ r.2.mem ((c.tc : Thread Cert.MixInSampleReferenceIdeal.nD Cert.MixInSampleReferenceIdeal.τ).loc Cert.MixInSampleReferenceIdeal.main_arg1) = m' ((c.tc : Thread Cert.MixInSampleReferenceIdeal.nD Cert.MixInSampleReferenceIdeal.τ).loc Cert.MixInSampleReferenceIdeal.main_arg1)
          ∧ r.2.mem ((c.tc : Thread Cert.MixInSampleReferenceIdeal.nD Cert.MixInSampleReferenceIdeal.τ).loc Cert.MixInSampleReferenceIdeal.main_arg2) = m' ((c.tc : Thread Cert.MixInSampleReferenceIdeal.nD Cert.MixInSampleReferenceIdeal.τ).loc Cert.MixInSampleReferenceIdeal.main_arg2)
          ∧ r.2.mem ((c.tc : Thread Cert.MixInSampleReferenceIdeal.nD Cert.MixInSampleReferenceIdeal.τ).loc Cert.MixInSampleReferenceIdeal.main_arg3) = m' ((c.tc : Thread Cert.MixInSampleReferenceIdeal.nD Cert.MixInSampleReferenceIdeal.τ).loc Cert.MixInSampleReferenceIdeal.main_arg3)
          ∧ r.2.mem ((c.tc : Thread Cert.MixInSampleReferenceIdeal.nD Cert.MixInSampleReferenceIdeal.τ).loc Cert.MixInSampleReferenceIdeal.main_arg4) = m' ((c.tc : Thread Cert.MixInSampleReferenceIdeal.nD Cert.MixInSampleReferenceIdeal.τ).loc Cert.MixInSampleReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v16) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_MixOutSample_MixOutSampleIdeal : Prop :=
  True

def algebraic_MixOutSampleIdeal_MixOutSampleReferenceIdeal [hMixOutSampleIdeal : Cert.MixOutSampleIdeal.Facts] [hMixOutSampleReferenceIdeal : Cert.MixOutSampleReferenceIdeal.Facts] : Prop :=
  ∀ (m : (ℓ : Loc Cert.MixOutSampleIdeal.nD Cert.MixOutSampleIdeal.τ Cert.MixOutSampleIdeal.sig) → Buf (Elt Ideal) ℓ) (g : Dev Cert.MixOutSampleIdeal.nD → PrngReg)
    (m' : (ℓ : Loc Cert.MixOutSampleReferenceIdeal.nD Cert.MixOutSampleReferenceIdeal.τ Cert.MixOutSampleReferenceIdeal.sig) → Buf (Elt Ideal) ℓ) (g' : Dev Cert.MixOutSampleReferenceIdeal.nD → PrngReg), Pre_MixOutSampleIdeal m →
    (∀ c : Dev Cert.MixOutSampleIdeal.nD,
      m' ((c.tc : Thread Cert.MixOutSampleReferenceIdeal.nD Cert.MixOutSampleReferenceIdeal.τ).loc Cert.MixOutSampleReferenceIdeal.main_arg0) = m ((c.tc : Thread Cert.MixOutSampleIdeal.nD Cert.MixOutSampleIdeal.τ).loc Cert.MixOutSampleIdeal.main_arg0)
      ∧ m' ((c.tc : Thread Cert.MixOutSampleReferenceIdeal.nD Cert.MixOutSampleReferenceIdeal.τ).loc Cert.MixOutSampleReferenceIdeal.main_arg1) = m ((c.tc : Thread Cert.MixOutSampleIdeal.nD Cert.MixOutSampleIdeal.τ).loc Cert.MixOutSampleIdeal.main_arg1)
      ∧ m' ((c.tc : Thread Cert.MixOutSampleReferenceIdeal.nD Cert.MixOutSampleReferenceIdeal.τ).loc Cert.MixOutSampleReferenceIdeal.main_arg2) = m ((c.tc : Thread Cert.MixOutSampleIdeal.nD Cert.MixOutSampleIdeal.τ).loc Cert.MixOutSampleIdeal.main_arg2)
      ∧ m' ((c.tc : Thread Cert.MixOutSampleReferenceIdeal.nD Cert.MixOutSampleReferenceIdeal.τ).loc Cert.MixOutSampleReferenceIdeal.main_arg3) = m ((c.tc : Thread Cert.MixOutSampleIdeal.nD Cert.MixOutSampleIdeal.τ).loc Cert.MixOutSampleIdeal.main_arg3)
      ∧ m' ((c.tc : Thread Cert.MixOutSampleReferenceIdeal.nD Cert.MixOutSampleReferenceIdeal.τ).loc Cert.MixOutSampleReferenceIdeal.main_arg4) = m ((c.tc : Thread Cert.MixOutSampleIdeal.nD Cert.MixOutSampleIdeal.τ).loc Cert.MixOutSampleIdeal.main_arg4)
      ∧ m' ((c.tc : Thread Cert.MixOutSampleReferenceIdeal.nD Cert.MixOutSampleReferenceIdeal.τ).loc Cert.MixOutSampleReferenceIdeal.main_arg5) = m ((c.tc : Thread Cert.MixOutSampleIdeal.nD Cert.MixOutSampleIdeal.τ).loc Cert.MixOutSampleIdeal.main_arg5)) →
    ∃ (v0 : (c : Dev Cert.MixOutSampleIdeal.nD) → Buf (Elt Ideal) ((c.tc : Thread Cert.MixOutSampleIdeal.nD Cert.MixOutSampleIdeal.τ).loc Cert.MixOutSampleIdeal.main_v7)),
      θ_run (Cert.MixOutSampleIdeal.defs (F := Ideal)) (onTc (τ := Cert.MixOutSampleIdeal.τ) (Cert.MixOutSampleIdeal.main (F := Ideal))) ⟨m, fun _ => 0, g⟩ (fun r => ∀ c : Dev Cert.MixOutSampleIdeal.nD,
          r.2.mem ((c.tc : Thread Cert.MixOutSampleIdeal.nD Cert.MixOutSampleIdeal.τ).loc Cert.MixOutSampleIdeal.main_v7) = v0 c
          ∧ r.2.mem ((c.tc : Thread Cert.MixOutSampleIdeal.nD Cert.MixOutSampleIdeal.τ).loc Cert.MixOutSampleIdeal.main_arg0) = m ((c.tc : Thread Cert.MixOutSampleIdeal.nD Cert.MixOutSampleIdeal.τ).loc Cert.MixOutSampleIdeal.main_arg0)
          ∧ r.2.mem ((c.tc : Thread Cert.MixOutSampleIdeal.nD Cert.MixOutSampleIdeal.τ).loc Cert.MixOutSampleIdeal.main_arg1) = m ((c.tc : Thread Cert.MixOutSampleIdeal.nD Cert.MixOutSampleIdeal.τ).loc Cert.MixOutSampleIdeal.main_arg1)
          ∧ r.2.mem ((c.tc : Thread Cert.MixOutSampleIdeal.nD Cert.MixOutSampleIdeal.τ).loc Cert.MixOutSampleIdeal.main_arg2) = m ((c.tc : Thread Cert.MixOutSampleIdeal.nD Cert.MixOutSampleIdeal.τ).loc Cert.MixOutSampleIdeal.main_arg2)
          ∧ r.2.mem ((c.tc : Thread Cert.MixOutSampleIdeal.nD Cert.MixOutSampleIdeal.τ).loc Cert.MixOutSampleIdeal.main_arg3) = m ((c.tc : Thread Cert.MixOutSampleIdeal.nD Cert.MixOutSampleIdeal.τ).loc Cert.MixOutSampleIdeal.main_arg3)
          ∧ r.2.mem ((c.tc : Thread Cert.MixOutSampleIdeal.nD Cert.MixOutSampleIdeal.τ).loc Cert.MixOutSampleIdeal.main_arg4) = m ((c.tc : Thread Cert.MixOutSampleIdeal.nD Cert.MixOutSampleIdeal.τ).loc Cert.MixOutSampleIdeal.main_arg4)
          ∧ r.2.mem ((c.tc : Thread Cert.MixOutSampleIdeal.nD Cert.MixOutSampleIdeal.τ).loc Cert.MixOutSampleIdeal.main_arg5) = m ((c.tc : Thread Cert.MixOutSampleIdeal.nD Cert.MixOutSampleIdeal.τ).loc Cert.MixOutSampleIdeal.main_arg5))
      ∧ θ_run (Cert.MixOutSampleReferenceIdeal.defs (F := Ideal)) (onTc (τ := Cert.MixOutSampleReferenceIdeal.τ) (Cert.MixOutSampleReferenceIdeal.main (F := Ideal))) ⟨m', fun _ => 0, g'⟩ (fun r => ∀ c : Dev Cert.MixOutSampleReferenceIdeal.nD,
          r.2.mem ((c.tc : Thread Cert.MixOutSampleReferenceIdeal.nD Cert.MixOutSampleReferenceIdeal.τ).loc Cert.MixOutSampleReferenceIdeal.main_v23) = v0 c
          ∧ r.2.mem ((c.tc : Thread Cert.MixOutSampleReferenceIdeal.nD Cert.MixOutSampleReferenceIdeal.τ).loc Cert.MixOutSampleReferenceIdeal.main_arg0) = m' ((c.tc : Thread Cert.MixOutSampleReferenceIdeal.nD Cert.MixOutSampleReferenceIdeal.τ).loc Cert.MixOutSampleReferenceIdeal.main_arg0)
          ∧ r.2.mem ((c.tc : Thread Cert.MixOutSampleReferenceIdeal.nD Cert.MixOutSampleReferenceIdeal.τ).loc Cert.MixOutSampleReferenceIdeal.main_arg1) = m' ((c.tc : Thread Cert.MixOutSampleReferenceIdeal.nD Cert.MixOutSampleReferenceIdeal.τ).loc Cert.MixOutSampleReferenceIdeal.main_arg1)
          ∧ r.2.mem ((c.tc : Thread Cert.MixOutSampleReferenceIdeal.nD Cert.MixOutSampleReferenceIdeal.τ).loc Cert.MixOutSampleReferenceIdeal.main_arg2) = m' ((c.tc : Thread Cert.MixOutSampleReferenceIdeal.nD Cert.MixOutSampleReferenceIdeal.τ).loc Cert.MixOutSampleReferenceIdeal.main_arg2)
          ∧ r.2.mem ((c.tc : Thread Cert.MixOutSampleReferenceIdeal.nD Cert.MixOutSampleReferenceIdeal.τ).loc Cert.MixOutSampleReferenceIdeal.main_arg3) = m' ((c.tc : Thread Cert.MixOutSampleReferenceIdeal.nD Cert.MixOutSampleReferenceIdeal.τ).loc Cert.MixOutSampleReferenceIdeal.main_arg3)
          ∧ r.2.mem ((c.tc : Thread Cert.MixOutSampleReferenceIdeal.nD Cert.MixOutSampleReferenceIdeal.τ).loc Cert.MixOutSampleReferenceIdeal.main_arg4) = m' ((c.tc : Thread Cert.MixOutSampleReferenceIdeal.nD Cert.MixOutSampleReferenceIdeal.τ).loc Cert.MixOutSampleReferenceIdeal.main_arg4)
          ∧ r.2.mem ((c.tc : Thread Cert.MixOutSampleReferenceIdeal.nD Cert.MixOutSampleReferenceIdeal.τ).loc Cert.MixOutSampleReferenceIdeal.main_arg5) = m' ((c.tc : Thread Cert.MixOutSampleReferenceIdeal.nD Cert.MixOutSampleReferenceIdeal.τ).loc Cert.MixOutSampleReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMixIn : Cert.MixIn.Facts) (hMixInIdeal : Cert.MixInIdeal.Facts) (hMixInReferenceIdeal : Cert.MixInReferenceIdeal.Facts) (hMixOut : Cert.MixOut.Facts) (hMixOutIdeal : Cert.MixOutIdeal.Facts) (hMixOutReferenceIdeal : Cert.MixOutReferenceIdeal.Facts) (hFfnSample : Cert.FfnSample.Facts) (hFfnSampleIdeal : Cert.FfnSampleIdeal.Facts) (hFfnSampleReferenceIdeal : Cert.FfnSampleReferenceIdeal.Facts) (hMixInSample : Cert.MixInSample.Facts) (hMixInSampleIdeal : Cert.MixInSampleIdeal.Facts) (hMixInSampleReferenceIdeal : Cert.MixInSampleReferenceIdeal.Facts) (hAda : Cert.Ada.Facts) (hAdaIdeal : Cert.AdaIdeal.Facts) (hAdaReferenceIdeal : Cert.AdaReferenceIdeal.Facts) (hMixOutSample : Cert.MixOutSample.Facts) (hMixOutSampleIdeal : Cert.MixOutSampleIdeal.Facts) (hMixOutSampleReferenceIdeal : Cert.MixOutSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_MixInSample (hMixInSample := hMixInSample)
    ∧ quiescent_MixInSampleIdeal (hMixInSampleIdeal := hMixInSampleIdeal)
    ∧ quiescent_MixInSampleReferenceIdeal (hMixInSampleReferenceIdeal := hMixInSampleReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_MixOutSample (hMixOutSample := hMixOutSample)
    ∧ quiescent_MixOutSampleIdeal (hMixOutSampleIdeal := hMixOutSampleIdeal)
    ∧ quiescent_MixOutSampleReferenceIdeal (hMixOutSampleReferenceIdeal := hMixOutSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_MixIn_MixInIdeal
    ∧ algebraic_MixInIdeal_MixInReferenceIdeal (hMixInIdeal := hMixInIdeal) (hMixInReferenceIdeal := hMixInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_MixInSample_MixInSampleIdeal
    ∧ algebraic_MixInSampleIdeal_MixInSampleReferenceIdeal (hMixInSampleIdeal := hMixInSampleIdeal) (hMixInSampleReferenceIdeal := hMixInSampleReferenceIdeal)
    ∧ preserves_Ada_AdaIdeal
    ∧ algebraic_AdaIdeal_AdaReferenceIdeal (hAdaIdeal := hAdaIdeal) (hAdaReferenceIdeal := hAdaReferenceIdeal)
    ∧ preserves_MixOutSample_MixOutSampleIdeal
    ∧ algebraic_MixOutSampleIdeal_MixOutSampleReferenceIdeal (hMixOutSampleIdeal := hMixOutSampleIdeal) (hMixOutSampleReferenceIdeal := hMixOutSampleReferenceIdeal)
-- ==== Pre_finite.lean ====
abbrev S16384x512 : Shape := ⟨2, ![16384, 512]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S16384x512 .bf16) (main_arg1 : FVec F S16384x512 .bf16) (main_arg2 : FVec F S16384x512 .bf16) (main_arg3 : FVec F S4x64 .f32) (main_arg4 : FVec F S128 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x512 .f32 := (extf .f32 · bitsLt_bf16_f32) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S4x64 .f32 := Host.absf main_arg3
  fn_part1 (F := F) main_v16 main_v17
-- ==== Kernel.lean ====
abbrev S16384x512 : Shape := ⟨2, ![16384, 512]⟩
abbrev S4x64 : Shape := ⟨2, ![4, 64]⟩
abbrev S128 : Shape := ⟨1, ![128]⟩
abbrev S1x128 : Shape := ⟨2, ![1, 128]⟩
abbrev S512x128 : Shape := ⟨2, ![512, 128]⟩
abbrev S2x512x1 : Shape := ⟨3, ![2, 512, 1]⟩
abbrev S2x512x128 : Shape := ⟨3, ![2, 512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S1x64 : Shape := ⟨2, ![1, 64]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![2, 4, 16, 16], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.minsi arg3 arg2
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.minsi arg3 arg2
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S4x64 : Shape := ⟨2, ![4, 64]⟩
abbrev S128 : Shape := ⟨1, ![128]⟩
abbrev S2x8192x4x2x64 : Shape := ⟨5, ![2, 8192, 4, 2, 64]⟩
abbrev S2x8192x4x128 : Shape := ⟨4, ![2, 8192, 4, 128]⟩
abbrev S1x64 : Shape := ⟨2, ![1, 64]⟩
abbrev S64 : Shape := ⟨1, ![64]⟩
abbrev S_ : Shape := ⟨0, ![]⟩
abbrev S8192 : Shape := ⟨1, ![8192]⟩
abbrev S2x4x2x8192x8192 : Shape := ⟨5, ![2, 4, 2, 8192, 8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S128, .f32⟩
  | .hbm, ⟨5, _⟩ => ⟨S16384x512, .f32⟩
  | .hbm, ⟨6, _⟩ => ⟨S2x8192x4x2x64, .f32⟩
  | .hbm, ⟨7, _⟩ => ⟨S16384x512, .f32⟩
  | .hbm, ⟨8, _⟩ => ⟨S2x8192x4x2x64, .f32⟩
  | .hbm, ⟨9, _⟩ => ⟨S16384x512, .f32⟩
  | .hbm, ⟨10, _⟩ => ⟨S2x8192x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .i32⟩
  | .hbm, ⟨31, _⟩ => ⟨S2x4x2x8192x8192, .f32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S2x4x2x8192x8192, .i1⟩
  | .hbm, ⟨40, _⟩ => ⟨S2x4x2x8192x8192, .f32⟩
  | .hbm, ⟨41, _⟩ => ⟨S2x4x2x8192x8192, .f32⟩
  | .hbm, ⟨42, _⟩ => ⟨S_, .f32⟩
  | .hbm, ⟨43, _⟩ => ⟨S2x4x2x8192, .f32⟩
  | .hbm, ⟨44, _⟩ => ⟨S_, .f32⟩
  | .hbm, ⟨45, _⟩ => ⟨S2x4x2x8192, .f32⟩
  | .hbm, ⟨46, _⟩ => ⟨S2x4x2x8192, .f32⟩
  | .hbm, ⟨47, _⟩ => ⟨S2x4x2x8192x1, .f32⟩
  | .hbm, ⟨48, _⟩ => ⟨S2x4x2x8192x8192, .f32⟩
  | .hbm, ⟨49, _⟩ => ⟨S2x4x2x8192x8192, .f32⟩
  | .hbm, ⟨50, _⟩ => ⟨S2x4x2x8192x8192, .f32⟩
  | .hbm, ⟨51, _⟩ => ⟨S_, .f32⟩
  | .hbm, ⟨52, _⟩ => ⟨S2x4x2x8192, .f32⟩
  | .hbm, ⟨53, _⟩ => ⟨S2x4x2x8192x1, .f32⟩
  | .hbm, ⟨54, _⟩ => ⟨S2x4x2x8192x8192, .f32⟩
  | .hbm, ⟨55, _⟩ => ⟨S2x4x2x8192x8192, .f32⟩
  | .hbm, ⟨56, _⟩ => ⟨S2x4x1x8192x8192, .f32⟩
  | .hbm, ⟨57, _⟩ => ⟨S2x4x8192x8192, .f32⟩
  | .hbm, ⟨58, _⟩ => ⟨S2x4x1x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S2x4x8192x8192, .f32⟩
  | .hbm, ⟨63, _⟩ => ⟨S2x4x128x8192, .f32⟩
  | .hbm, ⟨64, _⟩ => ⟨S2x8192x4x128, .f32⟩
  | .hbm, ⟨65, _⟩ => ⟨S2x8192x4x128, .f32⟩
  | .hbm, ⟨66, _⟩ => ⟨S_, .f32⟩
  | .hbm, ⟨67, _⟩ => ⟨S2x8192x4, .f32⟩
  | .hbm, ⟨68, _⟩ => ⟨S2x8192x4x1, .f32⟩
  | .hbm, ⟨69, _⟩ => ⟨S_, .f32⟩
  | .hbm, ⟨70, _⟩ => ⟨S2x8192x4x1, .f32⟩
  | .hbm, ⟨71, _⟩ => ⟨S2x8192x4x1, .f32⟩
  | .hbm, ⟨72, _⟩ => ⟨S_, .f32⟩
  | .hbm, ⟨73, _⟩ => ⟨S2x8192x4x1, .f32⟩
  | .hbm, ⟨74, _⟩ => ⟨S2x8192x4x1, .f32⟩
  | .hbm, ⟨75, _⟩ => ⟨S2x8192x4x1, .f32⟩
  | .hbm, ⟨76, _⟩ => ⟨S2x8192x4x128, .f32⟩
  | .hbm, ⟨77, _⟩ => ⟨S2x8192x4x128, .f32⟩
  | .hbm, ⟨78, _⟩ => ⟨S1x1x1x128, .f32⟩
  | .hbm, ⟨79, _⟩ => ⟨S2x8192x4x128, .f32⟩
  | .hbm, ⟨80, _⟩ => ⟨S2x8192x4x128, .f32⟩
  | .hbm, ⟨81, _⟩ => ⟨S_, .f32⟩
  | .hbm, ⟨82, _⟩ => ⟨S2x8192x4x128, .f32⟩
  | .hbm, ⟨83, _⟩ => ⟨S2x8192x4x128, .f32⟩
  | .hbm, ⟨84, _⟩ => ⟨S16384x512, .f32⟩
  | .hbm, ⟨85, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Ffn.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 14
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x5632, .bf16⟩
  | .hbm, ⟨9, _⟩ => ⟨S2816x1024, .bf16⟩
  | .hbm, ⟨10, _⟩ => ⟨S16384x1024, .f32⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x5632, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x8192x1024, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1x1x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== MixIn.lean ====
abbrev S2x8192x1024 : Shape := ⟨3, ![2, 8192, 1024]⟩
abbrev S2x1x1024 : Shape := ⟨3, ![2, 1, 1024]⟩
abbrev S1024 : Shape := ⟨1, ![1024]⟩
abbrev S1024x3592 : Shape := ⟨2, ![1024, 3592]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S16384x1024 : Shape := ⟨2, ![16384, 1024]⟩
abbrev S1024x8 : Shape := ⟨2, ![1024, 8]⟩
abbrev S1024x128 : Shape := ⟨2, ![1024, 128]⟩
abbrev S1024x2048 : Shape := ⟨2, ![1024, 2048]⟩
abbrev S1024x1536 : Shape := ⟨2, ![1024, 1536]⟩
abbrev S1024x3712 : Shape := ⟨2, ![1024, 3712]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S1x1x1024 : Shape := ⟨3, ![1, 1, 1024]⟩
abbrev S512x128 : Shape := ⟨2, ![512, 128]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S2x8192x1536 : Shape := ⟨3, ![2, 8192, 1536]⟩
abbrev S2x3x1536 : Shape := ⟨3, ![2, 3, 1536]⟩

abbrev nBuf : Space → Nat
  | .hbm => 60
  | .vmem => 31
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3592, .f32⟩
  | .hbm, ⟨5, _⟩ => ⟨S8192, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8192, .f32⟩
  | .hbm, ⟨19, _⟩ => ⟨S8192x1, .f32⟩
  | .hbm, ⟨20, _⟩ => ⟨S1x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192x48, .f32⟩
  | .hbm, ⟨28, _⟩ => ⟨S_, .f32⟩
  | .hbm, ⟨29, _⟩ => ⟨S8192x8, .f32⟩
  | .hbm, ⟨30, _⟩ => ⟨S_, .f32⟩
  | .hbm, ⟨31, _⟩ => ⟨S8192x48, .f32⟩
  | .hbm, ⟨32, _⟩ => ⟨S8192x48, .f32⟩
  | .hbm, ⟨33, _⟩ => ⟨S8192x64, .f32⟩
  | .hbm, ⟨34, _⟩ => ⟨S8192x8, .f32⟩
  | .hbm, ⟨35, _⟩ => ⟨S8192x64, .f32⟩
  | .hbm, ⟨36, _⟩ => ⟨S8192x64, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S16384x1024, .f32⟩
  | .hbm, ⟨41, _⟩ => ⟨S1024x8, .f32⟩
  | .hbm, ⟨42, _⟩ => ⟨S_, .i32⟩
  | .hbm, ⟨43, _⟩ => ⟨S_, .f32⟩
  | .hbm, ⟨44, _⟩ => ⟨S1024x128, .f32⟩
  | .hbm, ⟨45, _⟩ => ⟨S1024x2048, .f32⟩
  | .hbm, ⟨46, _⟩ => ⟨S1024x1536, .f32⟩
  | .hbm, ⟨47, _⟩ => ⟨S1024x3712, .f32⟩
  | .hbm, ⟨48, _⟩ => ⟨S1024x3712, .bf16⟩
  | .hbm, ⟨49, _⟩ => ⟨S1x1024, .f32⟩
  | .hbm, ⟨50, _⟩ => ⟨S16384x1536, .f32⟩
  | .hbm, ⟨51, _⟩ => ⟨S16384x512, .f32⟩
  | .hbm, ⟨52, _⟩ => ⟨S16384x128, .f32⟩
  | .hbm, ⟨53, _⟩ => ⟨S16384x512, .bf16⟩
  | .hbm, ⟨54, _⟩ => ⟨S16384x512, .f32⟩
  | .hbm, ⟨55, _⟩ => ⟨S16384x512, .bf16⟩
  | .hbm, ⟨56, _⟩ => ⟨S16384x512, .f32⟩
  | .hbm, ⟨57, _⟩ => ⟨S16384x512, .bf16⟩
  | .hbm, ⟨58, _⟩ => ⟨S2x8192x1536, .f32⟩
  | .hbm, ⟨59, _⟩ => ⟨S2x3x1536, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3712, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1536, .f32⟩
  | .local _ .vmem, ⟨15, _⟩ => ⟨S512x1536, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .bf16⟩
  | .local _ .vmem, ⟨29, _⟩ => ⟨S512x512, .bf16⟩
  | .local _ .vmem, ⟨30, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev main_v37_4 : Ref sig .tc := ⟨.hbm, 54, rfl⟩
abbrev main_v37_5 : Ref sig .tc := ⟨.hbm, 55, rfl⟩
abbrev main_v37_6 : Ref sig .tc := ⟨.hbm, 56, rfl⟩
abbrev main_v37_7 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixInReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x3592 : Shape := ⟨2, ![1024, 3592]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3592 : Shape := ⟨3, ![2, 8192, 3592]⟩
abbrev S2x8192x1536 : Shape := ⟨3, ![2, 8192, 1536]⟩
abbrev S2x8192x512 : Shape := ⟨3, ![2, 8192, 512]⟩
abbrev S2x8192x4 : Shape := ⟨3, ![2, 8192, 4]⟩
abbrev S8192 : Shape := ⟨1, ![8192]⟩
abbrev S2x8192x4x2x64 : Shape := ⟨5, ![2, 8192, 4, 2, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x1x8 : Shape := ⟨4, ![8192, 1, 1, 8]⟩
abbrev S2x8192x4x2x16 : Shape := ⟨5, ![2, 8192, 4, 2, 16]⟩
abbrev S2x8192x4x2x8 : Shape := ⟨5, ![2, 8192, 4, 2, 8]⟩
abbrev S1x8192x1x1x8 : Shape := ⟨5, ![1, 8192, 1, 1, 8]⟩
abbrev S2x8192x4x2x48 : Shape := ⟨5, ![2, 8192, 4, 2, 48]⟩
abbrev S2x8192x8 : Shape := ⟨3, ![2, 8192, 8]⟩
abbrev S2x8192x128 : Shape := ⟨3, ![2, 8192, 128]⟩
abbrev S16384x512 : Shape := ⟨2, ![16384, 512]⟩
abbrev S16384x1536 : Shape := ⟨2, ![16384, 1536]⟩
abbrev S16384x128 : Shape := ⟨2, ![16384, 128]⟩
abbrev S2x3x1536 : Shape := ⟨3, ![2, 3, 1536]⟩

abbrev nBuf : Space → Nat
  | .hbm => 140
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024, .f32⟩
  | 4 => ⟨S1024x3592, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S_, .f32⟩
  | 22 => ⟨S2x1x1024, .f32⟩
  | 23 => ⟨S2x1x1024, .f32⟩
  | 24 => ⟨S2x8192x1024, .f32⟩
  | 25 => ⟨S2x8192x1024, .f32⟩
  | 26 => ⟨S2x8192x1024, .f32⟩
  | 27 => ⟨S2x8192x1024, .f32⟩
  | 28 => ⟨S2x8192x3592, .f32⟩
  | 29 => ⟨S2x8192x1536, .f32⟩
  | 30 => ⟨S2x8192x512, .f32⟩
  | 31 => ⟨S2x8192x4, .f32⟩
  | 32 => ⟨S2x8192x4, .f32⟩
  | 33 => ⟨S2x8192x512, .f32⟩
  | 34 => ⟨S2x8192x512, .f32⟩
  | 35 => ⟨S2x8192x512, .f32⟩
  | 36 => ⟨S8192, .i32⟩
  | 37 => ⟨S2x8192x4x2x64, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8, .f32⟩
  | 46 => ⟨S_, .f32⟩
  | 47 => ⟨S8, .f32⟩
  | 48 => ⟨S8, .f32⟩
  | 49 => ⟨S8, .f32⟩
  | 50 => ⟨S8192, .f32⟩
  | 51 => ⟨S8192x1, .f32⟩
  | 52 => ⟨S1x8, .f32⟩
  | 53 => ⟨S8192x8, .f32⟩
  | 54 => ⟨S8192x8, .f32⟩
  | 55 => ⟨S8192x8, .f32⟩
  | 56 => ⟨S8192x8, .f32⟩
  | 57 => ⟨S8192x1x1x8, .f32⟩
  | 58 => ⟨S8192x8, .f32⟩
  | 59 => ⟨S8192x1x1x8, .f32⟩
  | 60 => ⟨S2x8192x4x2x16, .f32⟩
  | 61 => ⟨S2x8192x4x2x8, .f32⟩
  | 62 => ⟨S2x8192x4x2x8, .f32⟩
  | 63 => ⟨S1x8192x1x1x8, .f32⟩
  | 64 => ⟨S2x8192x4x2x8, .f32⟩
  | 65 => ⟨S2x8192x4x2x8, .f32⟩
  | 66 => ⟨S1x8192x1x1x8, .f32⟩
  | 67 => ⟨S2x8192x4x2x8, .f32⟩
  | 68 => ⟨S2x8192x4x2x8, .f32⟩
  | 69 => ⟨S2x8192x4x2x8, .f32⟩
  | 70 => ⟨S1x8192x1x1x8, .f32⟩
  | 71 => ⟨S2x8192x4x2x8, .f32⟩
  | 72 => ⟨S2x8192x4x2x8, .f32⟩
  | 73 => ⟨S1x8192x1x1x8, .f32⟩
  | 74 => ⟨S2x8192x4x2x8, .f32⟩
  | 75 => ⟨S2x8192x4x2x8, .f32⟩
  | 76 => ⟨S2x8192x4x2x8, .f32⟩
  | 77 => ⟨S2x8192x4x2x16, .f32⟩
  | 78 => ⟨S2x8192x4x2x48, .f32⟩
  | 79 => ⟨S2x8192x4x2x64, .f32⟩
  | 80 => ⟨S_, .f32⟩
  | 81 => ⟨S2x8192x4x2x64, .f32⟩
  | 82 => ⟨S2x8192x4x2x64, .f32⟩
  | 83 => ⟨S2x8192x4x2x64, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S8192, .f32⟩
  | 97 => ⟨S8192x1, .f32⟩
  | 98 => ⟨S1x8, .f32⟩
  | 99 => ⟨S8192x8, .f32⟩
  | 100 => ⟨S8192x8, .f32⟩
  | 101 => ⟨S8192x8, .f32⟩
  | 102 => ⟨S8192x8, .f32⟩
  | 103 => ⟨S8192x1x1x8, .f32⟩
  | 104 => ⟨S8192x8, .f32⟩
  | 105 => ⟨S8192x1x1x8, .f32⟩
  | 106 => ⟨S2x8192x4x2x16, .f32⟩
  | 107 => ⟨S2x8192x4x2x8, .f32⟩
  | 108 => ⟨S2x8192x4x2x8, .f32⟩
  | 109 => ⟨S1x8192x1x1x8, .f32⟩
  | 110 => ⟨S2x8192x4x2x8, .f32⟩
  | 111 => ⟨S2x8192x4x2x8, .f32⟩
  | 112 => ⟨S1x8192x1x1x8, .f32⟩
  | 113 => ⟨S2x8192x4x2x8, .f32⟩
  | 114 => ⟨S2x8192x4x2x8, .f32⟩
  | 115 => ⟨S2x8192x4x2x8, .f32⟩
  | 116 => ⟨S1x8192x1x1x8, .f32⟩
  | 117 => ⟨S2x8192x4x2x8, .f32⟩
  | 118 => ⟨S2x8192x4x2x8, .f32⟩
  | 119 => ⟨S1x8192x1x1x8, .f32⟩
  | 120 => ⟨S2x8192x4x2x8, .f32⟩
  | 121 => ⟨S2x8192x4x2x8, .f32⟩
  | 122 => ⟨S2x8192x4x2x8, .f32⟩
  | 123 => ⟨S2x8192x4x2x16, .f32⟩
  | 124 => ⟨S2x8192x4x2x48, .f32⟩
  | 125 => ⟨S2x8192x4x2x64, .f32⟩
  | 126 => ⟨S2x8192x8, .f32⟩
  | 127 => ⟨S_, .i32⟩
  | _ => ⟨S2x8192x1024, .f32⟩

abbrev hbmTy0_1 (i : Nat) : BufTy := match i % 128 with
  | 0 => ⟨S_, .f32⟩
  | 1 => ⟨S2x8192x128, .f32⟩
  | 2 => ⟨S16384x512, .f32⟩
  | 3 => ⟨S16384x512, .f32⟩
  | 4 => ⟨S16384x512, .f32⟩
  | 5 => ⟨S16384x1536, .f32⟩
  | 6 => ⟨S16384x512, .f32⟩
  | 7 => ⟨S16384x128, .f32⟩
  | 8 => ⟨S16384x512, .bf16⟩
  | 9 => ⟨S16384x512, .bf16⟩
  | 10 => ⟨S16384x512, .bf16⟩
  | 11 => ⟨S2x3x1536, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_6 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_9 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_c : Ref sig .tc := ⟨.hbm, 127, rfl⟩
abbrev main_call0_v0 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩

abbrev nD : Nat := 1
abbrev τ : Topo := Topo.v7x

variable {F : FTy → Type} [FloatOps F]
-- ==== MixOut.lean ====
abbrev S2x8192x1024 : Shape := ⟨3, ![2, 8192, 1024]⟩
abbrev S16384x512 : Shape := ⟨2, ![16384, 512]⟩
abbrev S2x1x1024 : Shape := ⟨3, ![2, 1, 1024]⟩
abbrev S1024 : Shape := ⟨1, ![1024]⟩
abbrev S1024x1024 : Shape := ⟨2, ![1024, 1024]⟩
abbrev S16384x1024 : Shape := ⟨2, ![16384, 1024]⟩
abbrev S1x1024 : Shape := ⟨2, ![1, 1024]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S2x1x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutReferenceIdeal.lean ====
abbrev S2x8192x1024 : Shape := ⟨3, ![2, 8192, 1024]⟩
abbrev S16384x512 : Shape := ⟨2, ![16384, 512]⟩
abbrev S2x1x1024 : Shape := ⟨3, ![2, 1, 1024]⟩
abbrev S1024 : Shape := ⟨1, ![1024]⟩
abbrev S1024x1024 : Shape := ⟨2, ![1024, 1024]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S2x1x1024, .f32⟩
  | .hbm, ⟨4, _⟩ => ⟨S1024, .f32⟩
  | .hbm, ⟨5, _⟩ => ⟨S1024x1024, .f32⟩
  | .hbm, ⟨6, _⟩ => ⟨S2x8192x512, .bf16⟩
  | .hbm, ⟨7, _⟩ => ⟨S2x8192x512, .bf16⟩
  | .hbm, ⟨8, _⟩ => ⟨S2x8192x1024, .bf16⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== FfnSample.lean ====
abbrev S128x4x1024 : Shape := ⟨3, ![128, 4, 1024]⟩
abbrev S128x1x1024 : Shape := ⟨3, ![128, 1, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S128x1024 : Shape := ⟨2, ![128, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 26
  | .vmem => 11
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x5632, .bf16⟩
  | .hbm, ⟨9, _⟩ => ⟨S2816x1024, .bf16⟩
  | .hbm, ⟨10, _⟩ => ⟨S512x1024, .f32⟩
  | .hbm, ⟨11, _⟩ => ⟨S128x1024, .f32⟩
  | .hbm, ⟨12, _⟩ => ⟨S128x4x1024, .f32⟩
  | .hbm, ⟨13, _⟩ => ⟨S512x1024, .f32⟩
  | .hbm, ⟨14, _⟩ => ⟨S1x512x1024, .f32⟩
  | .hbm, ⟨15, _⟩ => ⟨S128x1024, .f32⟩
  | .hbm, ⟨16, _⟩ => ⟨S128x4x1024, .f32⟩
  | .hbm, ⟨17, _⟩ => ⟨S512x1024, .f32⟩
  | .hbm, ⟨18, _⟩ => ⟨S1x512x1024, .f32⟩
  | .hbm, ⟨19, _⟩ => ⟨S128x1024, .f32⟩
  | .hbm, ⟨20, _⟩ => ⟨S128x4x1024, .f32⟩
  | .hbm, ⟨21, _⟩ => ⟨S512x1024, .f32⟩
  | .hbm, ⟨22, _⟩ => ⟨S1x512x1024, .f32⟩
  | .hbm, ⟨23, _⟩ => ⟨S1x1024, .f32⟩
  | .hbm, ⟨24, _⟩ => ⟨S1x1024, .f32⟩
  | .hbm, ⟨25, _⟩ => ⟨S512x1024, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FfnSampleReferenceIdeal.lean ====
abbrev S128x4x1024 : Shape := ⟨3, ![128, 4, 1024]⟩
abbrev S128x1x1024 : Shape := ⟨3, ![128, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x5632 : Shape := ⟨3, ![128, 4, 5632]⟩
abbrev S128x4x2816 : Shape := ⟨3, ![128, 4, 2816]⟩
abbrev S512x1024 : Shape := ⟨2, ![512, 1024]⟩

abbrev nBuf : Space → Nat
  | .hbm => 68
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S128x4x1024, .f32⟩
  | .hbm, ⟨9, _⟩ => ⟨S_, .f32⟩
  | .hbm, ⟨10, _⟩ => ⟨S128x4, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S128x4x1, .f32⟩
  | .hbm, ⟨19, _⟩ => ⟨S128x4x1024, .f32⟩
  | .hbm, ⟨20, _⟩ => ⟨S128x4x1024, .f32⟩
  | .hbm, ⟨21, _⟩ => ⟨S1x1x1024, .f32⟩
  | .hbm, ⟨22, _⟩ => ⟨S128x4x1024, .f32⟩
  | .hbm, ⟨23, _⟩ => ⟨S128x4x1024, .f32⟩
  | .hbm, ⟨24, _⟩ => ⟨S_, .f32⟩
  | .hbm, ⟨25, _⟩ => ⟨S128x1x1024, .f32⟩
  | .hbm, ⟨26, _⟩ => ⟨S128x1x1024, .f32⟩
  | .hbm, ⟨27, _⟩ => ⟨S128x4x1024, .f32⟩
  | .hbm, ⟨28, _⟩ => ⟨S128x4x1024, .f32⟩
  | .hbm, ⟨29, _⟩ => ⟨S128x4x1024, .f32⟩
  | .hbm, ⟨30, _⟩ => ⟨S128x4x1024, .f32⟩
  | .hbm, ⟨31, _⟩ => ⟨S128x4x5632, .f32⟩
  | .hbm, ⟨32, _⟩ => ⟨S128x4x2816, .f32⟩
  | .hbm, ⟨33, _⟩ => ⟨S128x4x2816, .f32⟩
  | .hbm, ⟨34, _⟩ => ⟨S128x4x2816, .f32⟩
  | .hbm, ⟨35, _⟩ => ⟨S128x4x2816, .f32⟩
  | .hbm, ⟨36, _⟩ => ⟨S_, .f32⟩
  | .hbm, ⟨37, _⟩ => ⟨S128x4x2816, .f32⟩
  | .hbm, ⟨38, _⟩ => ⟨S128x4x2816, .f32⟩
  | .hbm, ⟨39, _⟩ => ⟨S_, .f32⟩
  | .hbm, ⟨40, _⟩ => ⟨S128x4x2816, .f32⟩
  | .hbm, ⟨41, _⟩ => ⟨S128x4x2816, .f32⟩
  | .hbm, ⟨42, _⟩ => ⟨S128x4x2816, .f32⟩
  | .hbm, ⟨43, _⟩ => ⟨S128x4x2816, .f32⟩
  | .hbm, ⟨44, _⟩ => ⟨S128x4x1024, .f32⟩
  | .hbm, ⟨45, _⟩ => ⟨S_, .f32⟩
  | .hbm, ⟨46, _⟩ => ⟨S128x1x1024, .f32⟩
  | .hbm, ⟨47, _⟩ => ⟨S128x1x1024, .f32⟩
  | .hbm, ⟨48, _⟩ => ⟨S128x4x1024, .f32⟩
  | .hbm, ⟨49, _⟩ => ⟨S_, .f32⟩
  | .hbm, ⟨50, _⟩ => ⟨S128x4, .f32⟩
  | .hbm, ⟨51, _⟩ => ⟨S128x4x1, .f32⟩
  | .hbm, ⟨52, _⟩ => ⟨S_, .f32⟩
  | .hbm, ⟨53, _⟩ => ⟨S128x4x1, .f32⟩
  | .hbm, ⟨54, _⟩ => ⟨S128x4x1, .f32⟩
  | .hbm, ⟨55, _⟩ => ⟨S_, .f32⟩
  | .hbm, ⟨56, _⟩ => ⟨S128x4x1, .f32⟩
  | .hbm, ⟨57, _⟩ => ⟨S128x4x1, .f32⟩
  | .hbm, ⟨58, _⟩ => ⟨S128x4x1, .f32⟩
  | .hbm, ⟨59, _⟩ => ⟨S128x4x1024, .f32⟩
  | .hbm, ⟨60, _⟩ => ⟨S128x4x1024, .f32⟩
  | .hbm, ⟨61, _⟩ => ⟨S1x1x1024, .f32⟩
  | .hbm, ⟨62, _⟩ => ⟨S128x4x1024, .f32⟩
  | .hbm, ⟨63, _⟩ => ⟨S128x4x1024, .f32⟩
  | .hbm, ⟨64, _⟩ => ⟨S128x4x1024, .f32⟩
  | .hbm, ⟨65, _⟩ => ⟨S128x4x1024, .f32⟩
  | .hbm, ⟨66, _⟩ => ⟨S128x4x1024, .f32⟩
  | .hbm, ⟨67, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== MixInSample.lean ====
abbrev S128x4x1024 : Shape := ⟨3, ![128, 4, 1024]⟩
abbrev S128x1x1024 : Shape := ⟨3, ![128, 1, 1024]⟩
abbrev S1024 : Shape := ⟨1, ![1024]⟩
abbrev S1024x3592 : Shape := ⟨2, ![1024, 3592]⟩
abbrev S4 : Shape := ⟨1, ![4]⟩
abbrev S_ : Shape := ⟨0, ![]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x48 : Shape := ⟨2, ![4, 48]⟩
abbrev S4x64 : Shape := ⟨2, ![4, 64]⟩
abbrev S4x128 : Shape := ⟨2, ![4, 128]⟩
abbrev S1x4x1x128 : Shape := ⟨4, ![1, 4, 1, 128]⟩
abbrev S128x4x1x128 : Shape := ⟨4, ![128, 4, 1, 128]⟩
abbrev S512x128 : Shape := ⟨2, ![512, 128]⟩
abbrev S512x1024 : Shape := ⟨2, ![512, 1024]⟩
abbrev S128x1024 : Shape := ⟨2, ![128, 1024]⟩
abbrev S1x512x1024 : Shape := ⟨3, ![1, 512, 1024]⟩
abbrev S1024x8 : Shape := ⟨2, ![1024, 8]⟩
abbrev S1024x128 : Shape := ⟨2, ![1024, 128]⟩
abbrev S1024x2048 : Shape := ⟨2, ![1024, 2048]⟩
abbrev S1024x1536 : Shape := ⟨2, ![1024, 1536]⟩
abbrev S1024x3712 : Shape := ⟨2, ![1024, 3712]⟩
abbrev S1x1024 : Shape := ⟨2, ![1, 1024]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S128x4x1536 : Shape := ⟨3, ![128, 4, 1536]⟩
abbrev S128x3x1536 : Shape := ⟨3, ![128, 3, 1536]⟩

abbrev nBuf : Space → Nat
  | .hbm => 80
  | .vmem => 17
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x3592, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S4, .f32⟩
  | .hbm, ⟨22, _⟩ => ⟨S4x1, .f32⟩
  | .hbm, ⟨23, _⟩ => ⟨S1x8, .f32⟩
  | .hbm, ⟨24, _⟩ => ⟨S4x8, .f32⟩
  | .hbm, ⟨25, _⟩ => ⟨S4x8, .f32⟩
  | .hbm, ⟨26, _⟩ => ⟨S4x8, .f32⟩
  | .hbm, ⟨27, _⟩ => ⟨S4x8, .f32⟩
  | .hbm, ⟨28, _⟩ => ⟨S4x8, .f32⟩
  | .hbm, ⟨29, _⟩ => ⟨S_, .f32⟩
  | .hbm, ⟨30, _⟩ => ⟨S4x48, .f32⟩
  | .hbm, ⟨31, _⟩ => ⟨S_, .f32⟩
  | .hbm, ⟨32, _⟩ => ⟨S4x8, .f32⟩
  | .hbm, ⟨33, _⟩ => ⟨S_, .f32⟩
  | .hbm, ⟨34, _⟩ => ⟨S4x48, .f32⟩
  | .hbm, ⟨35, _⟩ => ⟨S4x48, .f32⟩
  | .hbm, ⟨36, _⟩ => ⟨S4x64, .f32⟩
  | .hbm, ⟨37, _⟩ => ⟨S4x8, .f32⟩
  | .hbm, ⟨38, _⟩ => ⟨S4x64, .f32⟩
  | .hbm, ⟨39, _⟩ => ⟨S4x64, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S1x4x1x128, .f32⟩
  | .hbm, ⟨44, _⟩ => ⟨S128x4x1x128, .f32⟩
  | .hbm, ⟨45, _⟩ => ⟨S512x128, .f32⟩
  | .hbm, ⟨46, _⟩ => ⟨S1x4x1x128, .f32⟩
  | .hbm, ⟨47, _⟩ => ⟨S128x4x1x128, .f32⟩
  | .hbm, ⟨48, _⟩ => ⟨S512x128, .f32⟩
  | .hbm, ⟨49, _⟩ => ⟨S1x4x1x128, .f32⟩
  | .hbm, ⟨50, _⟩ => ⟨S128x4x1x128, .f32⟩
  | .hbm, ⟨51, _⟩ => ⟨S512x128, .f32⟩
  | .hbm, ⟨52, _⟩ => ⟨S512x1024, .f32⟩
  | .hbm, ⟨53, _⟩ => ⟨S128x1024, .f32⟩
  | .hbm, ⟨54, _⟩ => ⟨S128x4x1024, .f32⟩
  | .hbm, ⟨55, _⟩ => ⟨S512x1024, .f32⟩
  | .hbm, ⟨56, _⟩ => ⟨S1x512x1024, .f32⟩
  | .hbm, ⟨57, _⟩ => ⟨S128x1024, .f32⟩
  | .hbm, ⟨58, _⟩ => ⟨S128x4x1024, .f32⟩
  | .hbm, ⟨59, _⟩ => ⟨S512x1024, .f32⟩
  | .hbm, ⟨60, _⟩ => ⟨S1x512x1024, .f32⟩
  | .hbm, ⟨61, _⟩ => ⟨S1024x8, .f32⟩
  | .hbm, ⟨62, _⟩ => ⟨S_, .i32⟩
  | .hbm, ⟨63, _⟩ => ⟨S_, .f32⟩
  | .hbm, ⟨64, _⟩ => ⟨S1024x128, .f32⟩
  | .hbm, ⟨65, _⟩ => ⟨S1024x2048, .f32⟩
  | .hbm, ⟨66, _⟩ => ⟨S1024x1536, .f32⟩
  | .hbm, ⟨67, _⟩ => ⟨S1024x3712, .f32⟩
  | .hbm, ⟨68, _⟩ => ⟨S1024x3712, .bf16⟩
  | .hbm, ⟨69, _⟩ => ⟨S1x1024, .f32⟩
  | .hbm, ⟨70, _⟩ => ⟨S512x1536, .f32⟩
  | .hbm, ⟨71, _⟩ => ⟨S512x512, .f32⟩
  | .hbm, ⟨72, _⟩ => ⟨S512x128, .f32⟩
  | .hbm, ⟨73, _⟩ => ⟨S512x512, .bf16⟩
  | .hbm, ⟨74, _⟩ => ⟨S512x512, .f32⟩
  | .hbm, ⟨75, _⟩ => ⟨S512x512, .bf16⟩
  | .hbm, ⟨76, _⟩ => ⟨S512x512, .f32⟩
  | .hbm, ⟨77, _⟩ => ⟨S512x512, .bf16⟩
  | .hbm, ⟨78, _⟩ => ⟨S128x4x1536, .f32⟩
  | .hbm, ⟨79, _⟩ => ⟨S128x3x1536, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x1024, .f32⟩
  | .local _ .vmem, ⟨4, _⟩ => ⟨S1024x3712, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1536, .f32⟩
  | .local _ .vmem, ⟨9, _⟩ => ⟨S512x512, .f32⟩
  | .local _ .vmem, ⟨10, _⟩ => ⟨S512x128, .f32⟩
  | .local _ .vmem, ⟨11, _⟩ => ⟨S512x512, .bf16⟩
  | .local _ .vmem, ⟨12, _⟩ => ⟨S512x512, .f32⟩
  | .local _ .vmem, ⟨13, _⟩ => ⟨S512x512, .bf16⟩
  | .local _ .vmem, ⟨14, _⟩ => ⟨S512x512, .f32⟩
  | .local _ .vmem, ⟨15, _⟩ => ⟨S512x512, .bf16⟩
  | .local _ .vmem, ⟨16, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_call0_v0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56_0 : Ref sig .tc := ⟨.hbm, 70, rfl⟩
abbrev main_v56_1 : Ref sig .tc := ⟨.hbm, 71, rfl⟩
abbrev main_v56_2 : Ref sig .tc := ⟨.hbm, 72, rfl⟩
abbrev main_v56_3 : Ref sig .tc := ⟨.hbm, 73, rfl⟩
abbrev main_v56_4 : Ref sig .tc := ⟨.hbm, 74, rfl⟩
abbrev main_v56_5 : Ref sig .tc := ⟨.hbm, 75, rfl⟩
abbrev main_v56_6 : Ref sig .tc := ⟨.hbm, 76, rfl⟩
abbrev main_v56_7 : Ref sig .tc := ⟨.hbm, 77, rfl⟩
abbrev main_v57 : Ref sig .tc := ⟨.hbm, 78, rfl⟩
abbrev main_v58 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== MixInSampleReferenceIdeal.lean ====
abbrev S128x4x1024 : Shape := ⟨3, ![128, 4, 1024]⟩
abbrev S128x1x1024 : Shape := ⟨3, ![128, 1, 1024]⟩
abbrev S1024 : Shape := ⟨1, ![1024]⟩
abbrev S1024x3592 : Shape := ⟨2, ![1024, 3592]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x3592 : Shape := ⟨3, ![128, 4, 3592]⟩
abbrev S128x4x1536 : Shape := ⟨3, ![128, 4, 1536]⟩
abbrev S128x4x512 : Shape := ⟨3, ![128, 4, 512]⟩
abbrev S128x4x4 : Shape := ⟨3, ![128, 4, 4]⟩
abbrev S4 : Shape := ⟨1, ![4]⟩
abbrev S128x4x4x2x64 : Shape := ⟨5, ![128, 4, 4, 2, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x1x8 : Shape := ⟨4, ![4, 1, 1, 8]⟩
abbrev S128x4x4x2x16 : Shape := ⟨5, ![128, 4, 4, 2, 16]⟩
abbrev S128x4x4x2x8 : Shape := ⟨5, ![128, 4, 4, 2, 8]⟩
abbrev S1x4x1x1x8 : Shape := ⟨5, ![1, 4, 1, 1, 8]⟩
abbrev S128x4x4x2x48 : Shape := ⟨5, ![128, 4, 4, 2, 48]⟩
abbrev S128x4x8 : Shape := ⟨3, ![128, 4, 8]⟩
abbrev S128x4x128 : Shape := ⟨3, ![128, 4, 128]⟩
abbrev S512x512 : Shape := ⟨2, ![512, 512]⟩
abbrev S512x1536 : Shape := ⟨2, ![512, 1536]⟩
abbrev S512x128 : Shape := ⟨2, ![512, 128]⟩
abbrev S128x3x1536 : Shape := ⟨3, ![128, 3, 1536]⟩

abbrev nBuf : Space → Nat
  | .hbm => 143
  | .vmem => 0
  | .smem => 0
  | _ => 0

abbrev hbmTy0_0 (i : Nat) : BufTy := match i % 128 with
  | 0 => ⟨S128x4x1024, .f32⟩
  | 1 => ⟨S128x1x1024, .f32⟩
  | 2 => ⟨S128x1x1024, .f32⟩
  | 3 => ⟨S1024, .f32⟩
  | 4 => ⟨S1024x3592, .f32⟩
  | 5 => ⟨S128x4x1024, .f32⟩
  | 6 => ⟨S_, .f32⟩
  | 7 => ⟨S128x4, .f32⟩
  | 8 => ⟨S128x4x1, .f32⟩
  | 9 => ⟨S_, .f32⟩
  | 10 => ⟨S128x4x1, .f32⟩
  | 11 => ⟨S128x4x1, .f32⟩
  | 12 => ⟨S_, .f32⟩
  | 13 => ⟨S128x4x1, .f32⟩
  | 14 => ⟨S128x4x1, .f32⟩
  | 15 => ⟨S128x4x1, .f32⟩
  | 16 => ⟨S128x4x1024, .f32⟩
  | 17 => ⟨S128x4x1024, .f32⟩
  | 18 => ⟨S1x1x1024, .f32⟩
  | 19 => ⟨S128x4x1024, .f32⟩
  | 20 => ⟨S128x4x1024, .f32⟩
  | 21 => ⟨S_, .f32⟩
  | 22 => ⟨S128x1x1024, .f32⟩
  | 23 => ⟨S128x1x1024, .f32⟩
  | 24 => ⟨S128x4x1024, .f32⟩
  | 25 => ⟨S128x4x1024, .f32⟩
  | 26 => ⟨S128x4x1024, .f32⟩
  | 27 => ⟨S128x4x1024, .f32⟩
  | 28 => ⟨S128x4x3592, .f32⟩
  | 29 => ⟨S128x4x1536, .f32⟩
  | 30 => ⟨S128x4x512, .f32⟩
  | 31 => ⟨S128x4x4, .f32⟩
  | 32 => ⟨S128x4x4, .f32⟩
  | 33 => ⟨S128x4x512, .f32⟩
  | 34 => ⟨S128x4x512, .f32⟩
  | 35 => ⟨S128x4x512, .f32⟩
  | 36 => ⟨S4, .i32⟩
  | 37 => ⟨S_, .i32⟩
  | 38 => ⟨S4, .i32⟩
  | 39 => ⟨S4, .i32⟩
  | 40 => ⟨S128x4x4x2x64, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S4, .f32⟩
  | 54 => ⟨S4x1, .f32⟩
  | 55 => ⟨S1x8, .f32⟩
  | 56 => ⟨S4x8, .f32⟩
  | 57 => ⟨S4x8, .f32⟩
  | 58 => ⟨S4x8, .f32⟩
  | 59 => ⟨S4x8, .f32⟩
  | 60 => ⟨S4x1x1x8, .f32⟩
  | 61 => ⟨S4x8, .f32⟩
  | 62 => ⟨S4x1x1x8, .f32⟩
  | 63 => ⟨S128x4x4x2x16, .f32⟩
  | 64 => ⟨S128x4x4x2x8, .f32⟩
  | 65 => ⟨S128x4x4x2x8, .f32⟩
  | 66 => ⟨S1x4x1x1x8, .f32⟩
  | 67 => ⟨S128x4x4x2x8, .f32⟩
  | 68 => ⟨S128x4x4x2x8, .f32⟩
  | 69 => ⟨S1x4x1x1x8, .f32⟩
  | 70 => ⟨S128x4x4x2x8, .f32⟩
  | 71 => ⟨S128x4x4x2x8, .f32⟩
  | 72 => ⟨S128x4x4x2x8, .f32⟩
  | 73 => ⟨S1x4x1x1x8, .f32⟩
  | 74 => ⟨S128x4x4x2x8, .f32⟩
  | 75 => ⟨S128x4x4x2x8, .f32⟩
  | 76 => ⟨S1x4x1x1x8, .f32⟩
  | 77 => ⟨S128x4x4x2x8, .f32⟩
  | 78 => ⟨S128x4x4x2x8, .f32⟩
  | 79 => ⟨S128x4x4x2x8, .f32⟩
  | 80 => ⟨S128x4x4x2x16, .f32⟩
  | 81 => ⟨S128x4x4x2x48, .f32⟩
  | 82 => ⟨S128x4x4x2x64, .f32⟩
  | 83 => ⟨S_, .f32⟩
  | 84 => ⟨S128x4x4x2x64, .f32⟩
  | 85 => ⟨S128x4x4x2x64, .f32⟩
  | 86 => ⟨S128x4x4x2x64, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S8, .f32⟩
  | 95 => ⟨S_, .f32⟩
  | 96 => ⟨S8, .f32⟩
  | 97 => ⟨S8, .f32⟩
  | 98 => ⟨S8, .f32⟩
  | 99 => ⟨S4, .f32⟩
  | 100 => ⟨S4x1, .f32⟩
  | 101 => ⟨S1x8, .f32⟩
  | 102 => ⟨S4x8, .f32⟩
  | 103 => ⟨S4x8, .f32⟩
  | 104 => ⟨S4x8, .f32⟩
  | 105 => ⟨S4x8, .f32⟩
  | 106 => ⟨S4x1x1x8, .f32⟩
  | 107 => ⟨S4x8, .f32⟩
  | 108 => ⟨S4x1x1x8, .f32⟩
  | 109 => ⟨S128x4x4x2x16, .f32⟩
  | 110 => ⟨S128x4x4x2x8, .f32⟩
  | 111 => ⟨S128x4x4x2x8, .f32⟩
  | 112 => ⟨S1x4x1x1x8, .f32⟩
  | 113 => ⟨S128x4x4x2x8, .f32⟩
  | 114 => ⟨S128x4x4x2x8, .f32⟩
  | 115 => ⟨S1x4x1x1x8, .f32⟩
  | 116 => ⟨S128x4x4x2x8, .f32⟩
  | 117 => ⟨S128x4x4x2x8, .f32⟩
  | 118 => ⟨S128x4x4x2x8, .f32⟩
  | 119 => ⟨S1x4x1x1x8, .f32⟩
  | 120 => ⟨S128x4x4x2x8, .f32⟩
  | 121 => ⟨S128x4x4x2x8, .f32⟩
  | 122 => ⟨S1x4x1x1x8, .f32⟩
  | 123 => ⟨S128x4x4x2x8, .f32⟩
  | 124 => ⟨S128x4x4x2x8, .f32⟩
  | 125 => ⟨S128x4x4x2x8, .f32⟩
  | 126 => ⟨S128x4x4x2x16, .f32⟩
  | 127 => ⟨S128x4x4x2x48, .f32⟩
  | _ => ⟨S128x4x1024, .f32⟩

abbrev hbmTy0_1 (i : Nat) : BufTy := match i % 128 with
  | 0 => ⟨S128x4x4x2x64, .f32⟩
  | 1 => ⟨S128x4x8, .f32⟩
  | 2 => ⟨S_, .i32⟩
  | 3 => ⟨S_, .f32⟩
  | 4 => ⟨S128x4x128, .f32⟩
  | 5 => ⟨S512x512, .f32⟩
  | 6 => ⟨S512x512, .f32⟩
  | 7 => ⟨S512x512, .f32⟩
  | 8 => ⟨S512x1536, .f32⟩
  | 9 => ⟨S512x512, .f32⟩
  | 10 => ⟨S512x128, .f32⟩
  | 11 => ⟨S512x512, .bf16⟩
  | 12 => ⟨S512x512, .bf16⟩
  | 13 => ⟨S512x512, .bf16⟩
  | 14 => ⟨S128x3x1536, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_6 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_7 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_c_10 : Ref sig .tc := ⟨.hbm, 130, rfl⟩
abbrev main_call0_v0 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩

abbrev nD : Nat := 1
abbrev τ : Topo := Topo.v7x

variable {F : FTy → Type} [FloatOps F]
-- ==== Ada.lean ====
abbrev S2x1024 : Shape := ⟨2, ![2, 1024]⟩
abbrev S128x1024 : Shape := ⟨2, ![128, 1024]⟩
abbrev S1024x9216 : Shape := ⟨2, ![1024, 9216]⟩
abbrev S9216 : Shape := ⟨1, ![9216]⟩
abbrev S130x1024 : Shape := ⟨2, ![130, 1024]⟩
abbrev S_ : Shape := ⟨0, ![]⟩
abbrev S136x1024 : Shape := ⟨2, ![136, 1024]⟩
abbrev S1x9216 : Shape := ⟨2, ![1, 9216]⟩
abbrev S136x9216 : Shape := ⟨2, ![136, 9216]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S128x1024, .f32⟩
  | .hbm, ⟨2, _⟩ => ⟨S1024x9216, .f32⟩
  | .hbm, ⟨3, _⟩ => ⟨S9216, .f32⟩
  | .hbm, ⟨4, _⟩ => ⟨S130x1024, .f32⟩
  | .hbm, ⟨5, _⟩ => ⟨S_, .i32⟩
  | .hbm, ⟨6, _⟩ => ⟨S_, .f32⟩
  | .hbm, ⟨7, _⟩ => ⟨S136x1024, .f32⟩
  | .hbm, ⟨8, _⟩ => ⟨S1x9216, .f32⟩
  | .hbm, ⟨9, _⟩ => ⟨S136x9216, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S2x1024 : Shape := ⟨2, ![2, 1024]⟩
abbrev S128x1024 : Shape := ⟨2, ![128, 1024]⟩
abbrev S1024x9216 : Shape := ⟨2, ![1024, 9216]⟩
abbrev S9216 : Shape := ⟨1, ![9216]⟩
abbrev S_ : Shape := ⟨0, ![]⟩
abbrev S6x1024 : Shape := ⟨2, ![6, 1024]⟩
abbrev S2x9216 : Shape := ⟨2, ![2, 9216]⟩
abbrev S1x9216 : Shape := ⟨2, ![1, 9216]⟩
abbrev S128x9216 : Shape := ⟨2, ![128, 9216]⟩
abbrev S6x9216 : Shape := ⟨2, ![6, 9216]⟩
abbrev S136x9216 : Shape := ⟨2, ![136, 9216]⟩

abbrev nBuf : Space → Nat
  | .hbm => 46
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S128x1024, .f32⟩
  | .hbm, ⟨2, _⟩ => ⟨S1024x9216, .f32⟩
  | .hbm, ⟨3, _⟩ => ⟨S9216, .f32⟩
  | .hbm, ⟨4, _⟩ => ⟨S_, .f32⟩
  | .hbm, ⟨5, _⟩ => ⟨S6x1024, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x9216, .f32⟩
  | .hbm, ⟨16, _⟩ => ⟨S1x9216, .f32⟩
  | .hbm, ⟨17, _⟩ => ⟨S2x9216, .f32⟩
  | .hbm, ⟨18, _⟩ => ⟨S2x9216, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x9216, .f32⟩
  | .hbm, ⟨29, _⟩ => ⟨S1x9216, .f32⟩
  | .hbm, ⟨30, _⟩ => ⟨S128x9216, .f32⟩
  | .hbm, ⟨31, _⟩ => ⟨S128x9216, .f32⟩
  | .hbm, ⟨32, _⟩ => ⟨S6x1024, .f32⟩
  | .hbm, ⟨33, _⟩ => ⟨S6x1024, .f32⟩
  | .hbm, ⟨34, _⟩ => ⟨S_, .f32⟩
  | .hbm, ⟨35, _⟩ => ⟨S6x1024, .f32⟩
  | .hbm, ⟨36, _⟩ => ⟨S6x1024, .f32⟩
  | .hbm, ⟨37, _⟩ => ⟨S_, .f32⟩
  | .hbm, ⟨38, _⟩ => ⟨S6x1024, .f32⟩
  | .hbm, ⟨39, _⟩ => ⟨S6x1024, .f32⟩
  | .hbm, ⟨40, _⟩ => ⟨S6x1024, .f32⟩
  | .hbm, ⟨41, _⟩ => ⟨S6x9216, .f32⟩
  | .hbm, ⟨42, _⟩ => ⟨S1x9216, .f32⟩
  | .hbm, ⟨43, _⟩ => ⟨S6x9216, .f32⟩
  | .hbm, ⟨44, _⟩ => ⟨S6x9216, .f32⟩
  | .hbm, ⟨45, _⟩ => ⟨S136x9216, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]
-- ==== MixOutSample.lean ====
abbrev S128x4x1024 : Shape := ⟨3, ![128, 4, 1024]⟩
abbrev S512x512 : Shape := ⟨2, ![512, 512]⟩
abbrev S128x1x1024 : Shape := ⟨3, ![128, 1, 1024]⟩
abbrev S1024 : Shape := ⟨1, ![1024]⟩
abbrev S1024x1024 : Shape := ⟨2, ![1024, 1024]⟩
abbrev S512x1024 : Shape := ⟨2, ![512, 1024]⟩
abbrev S128x1024 : Shape := ⟨2, ![128, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .f32⟩
  | .hbm, ⟨3, _⟩ => ⟨S128x1x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S512x1024, .f32⟩
  | .hbm, ⟨8, _⟩ => ⟨S128x1024, .f32⟩
  | .hbm, ⟨9, _⟩ => ⟨S128x4x1024, .f32⟩
  | .hbm, ⟨10, _⟩ => ⟨S512x1024, .f32⟩
  | .hbm, ⟨11, _⟩ => ⟨S1x512x1024, .f32⟩
  | .hbm, ⟨12, _⟩ => ⟨S1x1024, .f32⟩
  | .hbm, ⟨13, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .f32⟩
  | .local _ .vmem, ⟨3, _⟩ => ⟨S1x512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MixOutSampleReferenceIdeal.lean ====
abbrev S128x4x1024 : Shape := ⟨3, ![128, 4, 1024]⟩
abbrev S512x512 : Shape := ⟨2, ![512, 512]⟩
abbrev S128x1x1024 : Shape := ⟨3, ![128, 1, 1024]⟩
abbrev S1024 : Shape := ⟨1, ![1024]⟩
abbrev S1024x1024 : Shape := ⟨2, ![1024, 1024]⟩
abbrev S128x4x512 : Shape := ⟨3, ![128, 4, 512]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 34
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .f32⟩
  | .hbm, ⟨3, _⟩ => ⟨S128x1x1024, .f32⟩
  | .hbm, ⟨4, _⟩ => ⟨S1024, .f32⟩
  | .hbm, ⟨5, _⟩ => ⟨S1024x1024, .f32⟩
  | .hbm, ⟨6, _⟩ => ⟨S128x4x512, .bf16⟩
  | .hbm, ⟨7, _⟩ => ⟨S128x4x512, .f32⟩
  | .hbm, ⟨8, _⟩ => ⟨S128x4x512, .f32⟩
  | .hbm, ⟨9, _⟩ => ⟨S128x4x1024, .f32⟩
  | .hbm, ⟨10, _⟩ => ⟨S128x4x1024, .f32⟩
  | .hbm, ⟨11, _⟩ => ⟨S_, .f32⟩
  | .hbm, ⟨12, _⟩ => ⟨S128x1x1024, .f32⟩
  | .hbm, ⟨13, _⟩ => ⟨S128x1x1024, .f32⟩
  | .hbm, ⟨14, _⟩ => ⟨S128x4x1024, .f32⟩
  | .hbm, ⟨15, _⟩ => ⟨S_, .f32⟩
  | .hbm, ⟨16, _⟩ => ⟨S128x4, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S128x4x1, .f32⟩
  | .hbm, ⟨25, _⟩ => ⟨S128x4x1024, .f32⟩
  | .hbm, ⟨26, _⟩ => ⟨S128x4x1024, .f32⟩
  | .hbm, ⟨27, _⟩ => ⟨S1x1x1024, .f32⟩
  | .hbm, ⟨28, _⟩ => ⟨S128x4x1024, .f32⟩
  | .hbm, ⟨29, _⟩ => ⟨S128x4x1024, .f32⟩
  | .hbm, ⟨30, _⟩ => ⟨S128x4x1024, .f32⟩
  | .hbm, ⟨31, _⟩ => ⟨S128x4x1024, .f32⟩
  | .hbm, ⟨32, _⟩ => ⟨S128x4x1024, .f32⟩
  | .hbm, ⟨33, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.AttConds.lean ====
/- Hand-written, untrusted: THE CONDITIONS OF THE ATTENTION BODY over the grid, the staging memrefs at a point and the
   scratch buffers, as the modules of its run state them (the layout of the generated frame modules). -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 2048 := Nat.lt_of_lt_of_eq t.isLt N_0
    have e0 : (grid0.coords t 0).val = t.val / 1024 % 2 := Pipeline.Grid.coords_val t 0 (by decide) rfl
    have e1 : (grid0.coords t 1).val = t.val / 256 % 4 := Pipeline.Grid.coords_val t 1 (by decide) rfl
    have e2 : (grid0.coords t 2).val = t.val / 16 % 16 := Pipeline.Grid.coords_val t 2 (by decide) rfl
    have e3 : (grid0.coords t 3).val = t.val / 1 % 16 := Pipeline.Grid.coords_val t 3 (by decide) rfl
    simp only [cond0_0, e0, e1, e2, e3]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 3).val) (BitVec.ofNat 32 (i 2).val))) 0#32) = 1#1
/-- It holds at the points whose coordinates have i3 + 1 ≤ i2 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := k0_cond3 i = 1#1
/-- It holds at the points whose coordinates have i2 = i3 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x512x1 .f32 := Memref.whole cc0_scratch0
abbrev scM0_1 : Memref sig .tc .vmem S2x512x1 .f32 := Memref.whole cc0_scratch1
abbrev scM0_2 : Memref sig .tc .vmem S2x512x128 .f32 := Memref.whole cc0_scratch2
/-- The scratch `arg10` the kernel carries between points, as a view: what it holds is stated through it. -/
abbrev VS0_0 : View sig .tc .vmem S2x512x1 .f32 := scM0_0.view
/-- The scratch `arg11` the kernel carries between points, as a view: what it holds is stated through it. -/
abbrev VS0_1 : View sig .tc .vmem S2x512x1 .f32 := scM0_1.view
/-- The scratch `arg12` the kernel carries between points, as a view: what it holds is stated through it. -/
abbrev VS0_2 : View sig .tc .vmem S2x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.Att

end
-- ==== Proof.AttRunA.lean ====
/- Hand-written, untrusted: the attention body's run, case A: the first key tile, which is also the diagonal one: the running softmax is set up, the masked tile folded in, the result stored. -/
module

public import proofs.«01_k».proof.Proof.AttConds

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- The body's run at the first key tile, which is also the diagonal one: the running softmax is set up, the masked tile folded in, the result stored. The stores of each buffer are the pieces the run finds. -/
noncomputable def kRunA (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole) (hc0 : cond0_0 i) (hc1 : ¬cond0_1 i) (hc2 : cond0_2 i)
    (x0 : Vec F S512x128 .bf16) (x1 : Vec F S512x128 .bf16) (x2 : Vec F S512x128 .bf16) (x3 : Vec F S4x64 .f32) (x4 : Vec F S1x128 .f32) :
    Σ' (L5 : List (View.Piece (Elt F) S512x128 .bf16)), Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_prompt_diff_attention i arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_prompt_diff_attention_eq_skeleton]; unfold cc0_prompt_diff_attention_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; iexact H5
    isplitl [HS0]; · iexists _; iexact HS0
    isplitl [HS1]; · iexists _; iexact HS1
    iexists _; iexact HS2

end Cert.Proof.Att

end
-- ==== Proof.AttRunB.lean ====
/- Hand-written, untrusted: the attention body's run, case B: the key tiles past the diagonal: nothing is stored. -/
module

public import proofs.«01_k».proof.Proof.AttRunA

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- The body's run at the key tiles past the diagonal: nothing is stored. The stores of each buffer are the pieces the run finds. -/
noncomputable def kRunB (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole) (hc0 : ¬cond0_0 i) (hc1 : ¬cond0_1 i) (hc2 : ¬cond0_2 i)
    (x0 : Vec F S512x128 .bf16) (x1 : Vec F S512x128 .bf16) (x2 : Vec F S512x128 .bf16) (x3 : Vec F S4x64 .f32) (x4 : Vec F S1x128 .f32) (x5 : Vec F S512x128 .bf16) (xs0 : Vec F S2x512x1 .f32) (xs1 : Vec F S2x512x1 .f32) (xs2 : Vec F S2x512x128 .f32) :
    Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xs0 ∗ owns (c : Thread nD τ) arg11 fullShare xs1 ∗ owns (c : Thread nD τ) arg12 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_prompt_diff_attention i arg4 harg4 arg5 harg5 arg6 harg6 arg7 harg7 arg8 harg8 arg9 harg9 arg10 harg10 arg11 harg11 arg12 harg12) K } := by
  refine ⟨[], [], [], fun E K => ?run⟩
  case run =>
    simp only [cc0_prompt_diff_attention_eq_skeleton]; unfold cc0_prompt_diff_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro; exact hf5
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.Proof.Att

end
-- ==== Proof.AttRunC.lean ====
/- Hand-written, untrusted: the attention body's run, case C: the first key tile, below the diagonal: the running softmax is set up and the whole tile folded in. -/
module

public import proofs.«01_k».proof.Proof.AttRunB

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- The body's run at the first key tile, below the diagonal: the running softmax is set up and the whole tile folded in. The stores of each buffer are the pieces the run finds. -/
noncomputable def kRunC (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole) (hc0 : cond0_0 i) (hc1 : cond0_1 i) (hc2 : ¬cond0_2 i)
    (x0 : Vec F S512x128 .bf16) (x1 : Vec F S512x128 .bf16) (x2 : Vec F S512x128 .bf16) (x3 : Vec F S4x64 .f32) (x4 : Vec F S1x128 .f32) (x5 : Vec F S512x128 .bf16) :
    Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_prompt_diff_attention i arg4 harg4 arg5 harg5 arg6 harg6 arg7 harg7 arg8 harg8 arg9 harg9 arg10 harg10 arg11 harg11 arg12 harg12) K } := by
  refine ⟨?_, ?_, ?_, fun E K => ?run⟩
  case run =>
    simp only [cc0_prompt_diff_attention_eq_skeleton]; unfold cc0_prompt_diff_attention_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro; exact hf5
    isplitl [HS0]; · iexists _; iexact HS0
    isplitl [HS1]; · iexists _; iexact HS1
    iexists _; iexact HS2

end Cert.Proof.Att

end
-- ==== Proof.AttRunD.lean ====
/- Hand-written, untrusted: the attention body's run, case D: the the diagonal tile after earlier ones: the masked tile folded in, the result stored. -/
module

public import proofs.«01_k».proof.Proof.AttRunC

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1200000 in
/-- The body's run at the the diagonal tile after earlier ones: the masked tile folded in, the result stored. The stores of each buffer are the pieces the run finds. -/
noncomputable def kRunD (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole) (hc0 : ¬cond0_0 i) (hc1 : ¬cond0_1 i) (hc2 : cond0_2 i)
    (x0 : Vec F S512x128 .bf16) (x1 : Vec F S512x128 .bf16) (x2 : Vec F S512x128 .bf16) (x3 : Vec F S4x64 .f32) (x4 : Vec F S1x128 .f32) (xs0 : Vec F S2x512x1 .f32) (xs1 : Vec F S2x512x1 .f32) (xs2 : Vec F S2x512x128 .f32) :
    Σ' (L5 : List (View.Piece (Elt F) S512x128 .bf16)), Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_prompt_diff_attention i arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_prompt_diff_attention_eq_skeleton]; unfold cc0_prompt_diff_attention_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; iexact H5
    isplitl [HS0]; · iexists _; iexact HS0
    isplitl [HS1]; · iexists _; iexact HS1
    iexists _; iexact HS2

end Cert.Proof.Att

end
-- ==== Proof.AttRunE.lean ====
/- Hand-written, untrusted: the attention body's run, case E: the a tile below the diagonal after earlier ones: the whole tile folded in. -/
module

public import proofs.«01_k».proof.Proof.AttRunD

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1200000 in
/-- The body's run at the a tile below the diagonal after earlier ones: the whole tile folded in. The stores of each buffer are the pieces the run finds. -/
noncomputable def kRunE (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole) (hc0 : ¬cond0_0 i) (hc1 : cond0_1 i) (hc2 : ¬cond0_2 i)
    (x0 : Vec F S512x128 .bf16) (x1 : Vec F S512x128 .bf16) (x2 : Vec F S512x128 .bf16) (x3 : Vec F S4x64 .f32) (x4 : Vec F S1x128 .f32) (x5 : Vec F S512x128 .bf16) (xs0 : Vec F S2x512x1 .f32) (xs1 : Vec F S2x512x1 .f32) (xs2 : Vec F S2x512x128 .f32) :
    Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xs0 ∗ owns (c : Thread nD τ) arg11 fullShare xs1 ∗ owns (c : Thread nD τ) arg12 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_prompt_diff_attention i arg4 harg4 arg5 harg5 arg6 harg6 arg7 harg7 arg8 harg8 arg9 harg9 arg10 harg10 arg11 harg11 arg12 harg12) K } := by
  refine ⟨?_, ?_, ?_, fun E K => ?run⟩
  case run =>
    simp only [cc0_prompt_diff_attention_eq_skeleton]; unfold cc0_prompt_diff_attention_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro; exact hf5
    isplitl [HS0]; · iexists _; iexact HS0
    isplitl [HS1]; · iexists _; iexact HS1
    iexists _; iexact HS2

end Cert.Proof.Att

end
-- ==== Proof.AttStep.lean ====
/- Hand-written, untrusted: WHAT THE ATTENTION BODY LEAVES IN ITS SCRATCH BUFFERS, case by case, as plain functions. The
   two softmaxes of the head are two slabs (`Slab`: running maximum, running sum, weighted sum); a tile below the diagonal
   updates them by `updU0`, `updU1`, the diagonal tile by `updM0`, `updM1`, and `finish` is what the diagonal tile
   stores. The triples `stepA` … `stepE` state the five cases of the body in these words. -/
module

public import proofs.«01_k».proof.Proof.AttRunE
public import Idealize.ShloMosaic.Lib.Pipeline.ReadBack
public import Idealize.ShloMosaic.Lib.Pipeline.Value

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-- The running maximum, the running sum and the weighted sum of one of the two softmaxes. -/
structure Slab (F : FTy → Type) [FloatOps F] [Named F] where
  m : Vec F S1x512x1 .f32
  l : Vec F S1x512x1 .f32
  a : Vec F S1x512x128 .f32

/-- The first and the second slab's place in a scratch buffer. -/
abbrev R0 : Rect S2x512x1 := Rect.unit ![0, 0, 0] ![1, 512, 1] inb_S2x512x1_S1x512x1_0_0_0
abbrev R1 : Rect S2x512x1 := Rect.unit ![1, 0, 0] ![1, 512, 1] inb_S2x512x1_S1x512x1_1_0_0
abbrev Q0 : Rect S2x512x128 := Rect.unit ![0, 0, 0] ![1, 512, 128] inb_S2x512x128_S1x512x128_0_0_0
abbrev Q1 : Rect S2x512x128 := Rect.unit ![1, 0, 0] ![1, 512, 128] inb_S2x512x128_S1x512x128_1_0_0

/-- A scratch buffer holding the two slabs `p0`, `p1`. -/
def two (p0 p1 : Vec F S1x512x1 .f32) : Vec F S2x512x1 .f32 := View.canon [⟨R1, p1⟩, ⟨R0, p0⟩]
def twoW (p0 p1 : Vec F S1x512x128 .f32) : Vec F S2x512x128 .f32 := View.canon [⟨Q1, p1⟩, ⟨Q0, p0⟩]

theorem ld_two0 (p0 p1 : Vec F S1x512x1 .f32) : View.ld (two p0 p1) R0 = p0 := by
  funext j
  exact (View.canon_cons_of_not_mem ⟨R1, p1⟩ [⟨R0, p0⟩] (LoadRect.idx_not_mem_of_disj (show LoadRect.disj R1 R0.toLoadRect = true from rfl) j)).trans
    (View.canon_cons_emb R0 p0 [] j)
theorem ld_two1 (p0 p1 : Vec F S1x512x1 .f32) : View.ld (two p0 p1) R1 = p1 := by
  funext j; exact View.canon_cons_emb R1 p1 [⟨R0, p0⟩] j
theorem ld_twoW0 (p0 p1 : Vec F S1x512x128 .f32) : View.ld (twoW p0 p1) Q0 = p0 := by
  funext j
  exact (View.canon_cons_of_not_mem ⟨Q1, p1⟩ [⟨Q0, p0⟩] (LoadRect.idx_not_mem_of_disj (show LoadRect.disj Q1 Q0.toLoadRect = true from rfl) j)).trans
    (View.canon_cons_emb Q0 p0 [] j)
theorem ld_twoW1 (p0 p1 : Vec F S1x512x128 .f32) : View.ld (twoW p0 p1) Q1 = p1 := by
  funext j; exact View.canon_cons_emb Q1 p1 [⟨Q0, p0⟩] j

/-- The two slabs stored over anything are the buffer holding the two. -/
theorem canon_two (p0 p1 : Vec F S1x512x1 .f32) (L : List (View.Piece (Elt F) S2x512x1 .f32)) :
    View.canon (⟨R1, p1⟩ :: ⟨R0, p0⟩ :: L) = two p0 p1 := by
  funext y
  obtain ⟨q, hq, hy⟩ := View.cover_of_tiledL (Val := Elt F) [⟨R1, p1⟩, ⟨R0, p0⟩] S1x512x1.size (by sl_kernel_rfl) y
  unfold two
  by_cases h1 : y ∈ R1.set
  · obtain ⟨x, rfl⟩ := R1.exists_idx_of_mem h1
    exact (View.canon_cons_emb R1 p1 (⟨R0, p0⟩ :: L) x).trans (View.canon_cons_emb R1 p1 [⟨R0, p0⟩] x).symm
  · rw [View.canon_cons_of_not_mem ⟨R1, p1⟩ _ h1, View.canon_cons_of_not_mem ⟨R1, p1⟩ _ h1]
    have h0 : y ∈ R0.set := by
      rcases List.mem_cons.mp hq with rfl | hq
      · exact absurd hy h1
      · rcases List.mem_singleton.mp hq with rfl; exact hy
    obtain ⟨x, rfl⟩ := R0.exists_idx_of_mem h0
    exact (View.canon_cons_emb R0 p0 L x).trans (View.canon_cons_emb R0 p0 [] x).symm
theorem canon_twoW (p0 p1 : Vec F S1x512x128 .f32) (L : List (View.Piece (Elt F) S2x512x128 .f32)) :
    View.canon (⟨Q1, p1⟩ :: ⟨Q0, p0⟩ :: L) = twoW p0 p1 := by
  funext y
  obtain ⟨q, hq, hy⟩ := View.cover_of_tiledL (Val := Elt F) [⟨Q1, p1⟩, ⟨Q0, p0⟩] S1x512x128.size (by sl_kernel_rfl) y
  unfold twoW
  by_cases h1 : y ∈ Q1.set
  · obtain ⟨x, rfl⟩ := Q1.exists_idx_of_mem h1
    exact (View.canon_cons_emb Q1 p1 (⟨Q0, p0⟩ :: L) x).trans (View.canon_cons_emb Q1 p1 [⟨Q0, p0⟩] x).symm
  · rw [View.canon_cons_of_not_mem ⟨Q1, p1⟩ _ h1, View.canon_cons_of_not_mem ⟨Q1, p1⟩ _ h1]
    have h0 : y ∈ Q0.set := by
      rcases List.mem_cons.mp hq with rfl | hq
      · exact absurd hy h1
      · rcases List.mem_singleton.mp hq with rfl; exact hy
    obtain ⟨x, rfl⟩ := Q0.exists_idx_of_mem h0
    exact (View.canon_cons_emb Q0 p0 L x).trans (View.canon_cons_emb Q0 p0 [] x).symm

/-- Loads of one slab over the other's store, and over the fill of a whole buffer. -/
theorem skip10 {sig : RefSig} {κ : Kind} {sp : Space} (v : View sig κ sp S2x512x1 .f32) (w : Vec F S1x512x1 .f32) (L : List (View.Piece (Elt F) S2x512x1 .f32)) :
    v.readCov (⟨R0, w⟩ :: L) R1.toLoadRect = v.readCov L R1.toLoadRect :=
  View.readCov_skip v R0 w L R1.toLoadRect rfl
theorem skip01 {sig : RefSig} {κ : Kind} {sp : Space} (v : View sig κ sp S2x512x1 .f32) (w : Vec F S1x512x1 .f32) (L : List (View.Piece (Elt F) S2x512x1 .f32)) :
    v.readCov (⟨R1, w⟩ :: L) R0.toLoadRect = v.readCov L R0.toLoadRect :=
  View.readCov_skip v R1 w L R0.toLoadRect rfl
theorem skipW10 {sig : RefSig} {κ : Kind} {sp : Space} (v : View sig κ sp S2x512x128 .f32) (w : Vec F S1x512x128 .f32) (L : List (View.Piece (Elt F) S2x512x128 .f32)) :
    v.readCov (⟨Q0, w⟩ :: L) Q1.toLoadRect = v.readCov L Q1.toLoadRect :=
  View.readCov_skip v Q0 w L Q1.toLoadRect rfl
theorem skipW01 {sig : RefSig} {κ : Kind} {sp : Space} (v : View sig κ sp S2x512x128 .f32) (w : Vec F S1x512x128 .f32) (L : List (View.Piece (Elt F) S2x512x128 .f32)) :
    v.readCov (⟨Q1, w⟩ :: L) Q0.toLoadRect = v.readCov L Q0.toLoadRect :=
  View.readCov_skip v Q1 w L Q0.toLoadRect rfl
theorem fillR {sig : RefSig} {κ : Kind} {sp : Space} (v : View sig κ sp S2x512x1 .f32) (inb) (Z : Vec F S2x512x1 .f32) (L : List (View.Piece (Elt F) S2x512x1 .f32)) (r : Rect S2x512x1) :
    v.readCov (⟨Rect.unit ![0, 0, 0] ![2, 512, 1] inb, Z⟩ :: L) r.toLoadRect = View.ld Z r :=
  View.readCov_fill (s := S2x512x1) v inb Z L r (fun a => by rw [hz3])
theorem fillW {sig : RefSig} {κ : Kind} {sp : Space} (v : View sig κ sp S2x512x128 .f32) (inb) (Z : Vec F S2x512x128 .f32) (L : List (View.Piece (Elt F) S2x512x128 .f32)) (r : Rect S2x512x128) :
    v.readCov (⟨Rect.unit ![0, 0, 0] ![2, 512, 128] inb, Z⟩ :: L) r.toLoadRect = View.ld Z r :=
  View.readCov_fill (s := S2x512x128) v inb Z L r (fun a => by rw [hz3])

/-- The slabs before the first tile. -/
def init0 : Slab F := ⟨View.ld (k0_pay1 (F := F)) R0, View.ld (k0_pay2 (F := F)) R0, View.ld (k0_pay3 (F := F)) Q0⟩
def init1 : Slab F := ⟨View.ld (k0_pay1 (F := F)) R1, View.ld (k0_pay2 (F := F)) R1, View.ld (k0_pay3 (F := F)) Q1⟩

/-- The update of the first and of the second slab by a tile below the diagonal, … -/
def updU0 (q k v : Vec F S512x128 .bf16) (s : Slab F) : Slab F :=
  ⟨k0_pay17 (k0_pay11 q k s.m), k0_pay14 q k s.m s.l, k0_pay16 v (k0_pay12 q k s.m) (k0_pay13 q k s.m) (k0_pay15 s.a)⟩
def updU1 (q k v : Vec F S512x128 .bf16) (s : Slab F) : Slab F :=
  ⟨k0_pay6 (k0_pay20 q k k0_pay8 s.m), k0_pay4 (k0_pay23 q k k0_pay8 s.m s.l),
    k0_pay5 v (k0_pay21 q k k0_pay8 s.m) (k0_pay22 q k k0_pay8 s.m) s.a⟩
/-- … and by the diagonal tile. -/
def updM0 (q k v : Vec F S512x128 .bf16) (s : Slab F) : Slab F :=
  ⟨k0_pay32 (k0_pay27 q k s.m), k0_pay30 q k s.m s.l, k0_pay31 v (k0_pay28 q k s.m) (k0_pay29 q k s.m) s.a⟩
def updM1 (q k v : Vec F S512x128 .bf16) (s : Slab F) : Slab F :=
  ⟨k0_pay40 (k0_pay35 q k k0_pay24 s.m), k0_pay38 (k0_pay36 q k k0_pay24 s.m) (k0_pay37 q k k0_pay24 s.m) s.l,
    k0_pay39 v (k0_pay36 q k k0_pay24 s.m) (k0_pay37 q k k0_pay24 s.m) s.a⟩
/-- The block the diagonal tile stores, from the two slabs after it. -/
def finish (lv : Vec F S4x64 .f32) (dn : Vec F S1x128 .f32) (s0 s1 : Slab F) : Vec F S512x128 .bf16 :=
  k0_pay7 (k0_pay41 lv) s0.a s0.l s1.a s1.l dn

/-- The three scratch buffers holding two slabs. -/
abbrev scm (s0 s1 : Slab F) : Vec F S2x512x1 .f32 := two s0.m s1.m
abbrev scl (s0 s1 : Slab F) : Vec F S2x512x1 .f32 := two s0.l s1.l
abbrev sca (s0 s1 : Slab F) : Vec F S2x512x128 .f32 := twoW s0.a s1.a

variable (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole)
  (x0 x1 x2 : Vec F S512x128 .bf16) (x3 : Vec F S4x64 .f32) (x4 : Vec F S1x128 .f32)
theorem canA_o (hc0 : cond0_0 i) (hc1 : ¬cond0_1 i) (hc2 : cond0_2 i) :
    View.canon (kRunA c i arg4 harg4 arg5 harg5 arg6 harg6 arg7 harg7 arg8 harg8 arg9 harg9 arg10 harg10 arg11 harg11 arg12 harg12 hc0 hc1 hc2 x0 x1 x2 x3 x4).1 = finish x3 x4 (updM0 x0 x1 x2 init0) (updM1 x0 x1 x2 init1) := by
  unfold kRunA; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact View.canon_unit_zero (S := S512x128) hz2 _ _
theorem covA_o (hc0 : cond0_0 i) (hc1 : ¬cond0_1 i) (hc2 : cond0_2 i) (y : S512x128.Idx) : ∃ p ∈ (kRunA c i arg4 harg4 arg5 harg5 arg6 harg6 arg7 harg7 arg8 harg8 arg9 harg9 arg10 harg10 arg11 harg11 arg12 harg12 hc0 hc1 hc2 x0 x1 x2 x3 x4).1, y ∈ p.1.set :=
  View.cover_of_wholeMem (kRunA c i arg4 harg4 arg5 harg5 arg6 harg6 arg7 harg7 arg8 harg8 arg9 harg9 arg10 harg10 arg11 harg11 arg12 harg12 hc0 hc1 hc2 x0 x1 x2 x3 x4).1 (by sl_whole_mem) y
theorem canA_m (hc0 : cond0_0 i) (hc1 : ¬cond0_1 i) (hc2 : cond0_2 i) :
    View.canon (kRunA c i arg4 harg4 arg5 harg5 arg6 harg6 arg7 harg7 arg8 harg8 arg9 harg9 arg10 harg10 arg11 harg11 arg12 harg12 hc0 hc1 hc2 x0 x1 x2 x3 x4).2.1 = scm (updM0 x0 x1 x2 init0) (updM1 x0 x1 x2 init1) := by
  unfold kRunA; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covA_m (hc0 : cond0_0 i) (hc1 : ¬cond0_1 i) (hc2 : cond0_2 i) (y : S2x512x1.Idx) : ∃ p ∈ (kRunA c i arg4 harg4 arg5 harg5 arg6 harg6 arg7 harg7 arg8 harg8 arg9 harg9 arg10 harg10 arg11 harg11 arg12 harg12 hc0 hc1 hc2 x0 x1 x2 x3 x4).2.1, y ∈ p.1.set :=
  View.cover_of_wholeMem (kRunA c i arg4 harg4 arg5 harg5 arg6 harg6 arg7 harg7 arg8 harg8 arg9 harg9 arg10 harg10 arg11 harg11 arg12 harg12 hc0 hc1 hc2 x0 x1 x2 x3 x4).2.1 (by sl_whole_mem) y
theorem canA_l (hc0 : cond0_0 i) (hc1 : ¬cond0_1 i) (hc2 : cond0_2 i) :
    View.canon (kRunA c i arg4 harg4 arg5 harg5 arg6 harg6 arg7 harg7 arg8 harg8 arg9 harg9 arg10 harg10 arg11 harg11 arg12 harg12 hc0 hc1 hc2 x0 x1 x2 x3 x4).2.2.1 = scl (updM0 x0 x1 x2 init0) (updM1 x0 x1 x2 init1) := by
  unfold kRunA; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covA_l (hc0 : cond0_0 i) (hc1 : ¬cond0_1 i) (hc2 : cond0_2 i) (y : S2x512x1.Idx) : ∃ p ∈ (kRunA c i arg4 harg4 arg5 harg5 arg6 harg6 arg7 harg7 arg8 harg8 arg9 harg9 arg10 harg10 arg11 harg11 arg12 harg12 hc0 hc1 hc2 x0 x1 x2 x3 x4).2.2.1, y ∈ p.1.set :=
  View.cover_of_wholeMem (kRunA c i arg4 harg4 arg5 harg5 arg6 harg6 arg7 harg7 arg8 harg8 arg9 harg9 arg10 harg10 arg11 harg11 arg12 harg12 hc0 hc1 hc2 x0 x1 x2 x3 x4).2.2.1 (by sl_whole_mem) y
theorem canA_a (hc0 : cond0_0 i) (hc1 : ¬cond0_1 i) (hc2 : cond0_2 i) :
    View.canon (kRunA c i arg4 harg4 arg5 harg5 arg6 harg6 arg7 harg7 arg8 harg8 arg9 harg9 arg10 harg10 arg11 harg11 arg12 harg12 hc0 hc1 hc2 x0 x1 x2 x3 x4).2.2.2.1 = sca (updM0 x0 x1 x2 init0) (updM1 x0 x1 x2 init1) := by
  unfold kRunA; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_twoW (F := F) _ _ _
theorem covA_a (hc0 : cond0_0 i) (hc1 : ¬cond0_1 i) (hc2 : cond0_2 i) (y : S2x512x128.Idx) : ∃ p ∈ (kRunA c i arg4 harg4 arg5 harg5 arg6 harg6 arg7 harg7 arg8 harg8 arg9 harg9 arg10 harg10 arg11 harg11 arg12 harg12 hc0 hc1 hc2 x0 x1 x2 x3 x4).2.2.2.1, y ∈ p.1.set :=
  View.cover_of_wholeMem (kRunA c i arg4 harg4 arg5 harg5 arg6 harg6 arg7 harg7 arg8 harg8 arg9 harg9 arg10 harg10 arg11 harg11 arg12 harg12 hc0 hc1 hc2 x0 x1 x2 x3 x4).2.2.2.1 (by sl_whole_mem) y
/-- The body at the first tile of the first row of tiles (it is the diagonal one). -/
theorem stepA (hc0 : cond0_0 i) (hc1 : ¬cond0_1 i) (hc2 : cond0_2 i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (finish x3 x4 (updM0 x0 x1 x2 init0) (updM1 x0 x1 x2 init1)) ∗ owns (c : Thread nD τ) arg10 fullShare (scm (updM0 x0 x1 x2 init0) (updM1 x0 x1 x2 init1)) ∗ owns (c : Thread nD τ) arg11 fullShare (scl (updM0 x0 x1 x2 init0) (updM1 x0 x1 x2 init1)) ∗ owns (c : Thread nD τ) arg12 fullShare (sca (updM0 x0 x1 x2 init0) (updM1 x0 x1 x2 init1))) -∗ K ⟨⟩))
      ⊢ wp frame (wpE (defs₀ (F := F)) Variants.none c none) E (cc0_prompt_diff_attention i arg4 harg4 arg5 harg5 arg6 harg6 arg7 harg7 arg8 harg8 arg9 harg9 arg10 harg10 arg11 harg11 arg12 harg12) K := by
  iintro ⟨H0, H1, H2, H3, H4, H5, HS0, HS1, HS2, Hk⟩
  iapply ((kRunA c i arg4 harg4 arg5 harg5 arg6 harg6 arg7 harg7 arg8 harg8 arg9 harg9 arg10 harg10 arg11 harg11 arg12 harg12 hc0 hc1 hc2 x0 x1 x2 x3 x4).2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, ⟨%f5, H5⟩, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact (View.read_writes_eq_canon _ _ _ (covA_o c i arg4 harg4 arg5 harg5 arg6 harg6 arg7 harg7 arg8 harg8 arg9 harg9 arg10 harg10 arg11 harg11 arg12 harg12 x0 x1 x2 x3 x4 hc0 hc1 hc2)).trans (canA_o c i arg4 harg4 arg5 harg5 arg6 harg6 arg7 harg7 arg8 harg8 arg9 harg9 arg10 harg10 arg11 harg11 arg12 harg12 x0 x1 x2 x3 x4 hc0 hc1 hc2)
  isplitl [HS0]
  · unfold owns; iexists _; isplitr; swap; · iexact HS0
    ipureintro; exact (View.read_writes_eq_canon _ _ _ (covA_m c i arg4 harg4 arg5 harg5 arg6 harg6 arg7 harg7 arg8 harg8 arg9 harg9 arg10 harg10 arg11 harg11 arg12 harg12 x0 x1 x2 x3 x4 hc0 hc1 hc2)).trans (canA_m c i arg4 harg4 arg5 harg5 arg6 harg6 arg7 harg7 arg8 harg8 arg9 harg9 arg10 harg10 arg11 harg11 arg12 harg12 x0 x1 x2 x3 x4 hc0 hc1 hc2)
  isplitl [HS1]
  · unfold owns; iexists _; isplitr; swap; · iexact HS1
    ipureintro; exact (View.read_writes_eq_canon _ _ _ (covA_l c i arg4 harg4 arg5 harg5 arg6 harg6 arg7 harg7 arg8 harg8 arg9 harg9 arg10 harg10 arg11 harg11 arg12 harg12 x0 x1 x2 x3 x4 hc0 hc1 hc2)).trans (canA_l c i arg4 harg4 arg5 harg5 arg6 harg6 arg7 harg7 arg8 harg8 arg9 harg9 arg10 harg10 arg11 harg11 arg12 harg12 x0 x1 x2 x3 x4 hc0 hc1 hc2)
  · unfold owns; iexists _; isplitr; swap; · iexact HS2
    ipureintro; exact (View.read_writes_eq_canon _ _ _ (covA_a c i arg4 harg4 arg5 harg5 arg6 harg6 arg7 harg7 arg8 harg8 arg9 harg9 arg10 harg10 arg11 harg11 arg12 harg12 x0 x1 x2 x3 x4 hc0 hc1 hc2)).trans (canA_a c i arg4 harg4 arg5 harg5 arg6 harg6 arg7 harg7 arg8 harg8 arg9 harg9 arg10 harg10 arg11 harg11 arg12 harg12 x0 x1 x2 x3 x4 hc0 hc1 hc2)

theorem canC_m (hc0 : cond0_0 i) (hc1 : cond0_1 i) (hc2 : ¬cond0_2 i) (x5 : Vec F S512x128 .bf16) :
    View.canon (kRunC c i arg4 harg4 arg5 harg5 arg6 harg6 arg7 harg7 arg8 harg8 arg9 harg9 arg10 harg10 arg11 harg11 arg12 harg12 hc0 hc1 hc2 x0 x1 x2 x3 x4 x5).1 = scm (updU0 x0 x1 x2 init0) (updU1 x0 x1 x2 init1) := by
  unfold kRunC; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covC_m (hc0 : cond0_0 i) (hc1 : cond0_1 i) (hc2 : ¬cond0_2 i) (x5 : Vec F S512x128 .bf16) (y : S2x512x1.Idx) : ∃ p ∈ (kRunC c i arg4 harg4 arg5 harg5 arg6 harg6 arg7 harg7 arg8 harg8 arg9 harg9 arg10 harg10 arg11 harg11 arg12 harg12 hc0 hc1 hc2 x0 x1 x2 x3 x4 x5).1, y ∈ p.1.set :=
  View.cover_of_wholeMem (kRunC c i arg4 harg4 arg5 harg5 arg6 harg6 arg7 harg7 arg8 harg8 arg9 harg9 arg10 harg10 arg11 harg11 arg12 harg12 hc0 hc1 hc2 x0 x1 x2 x3 x4 x5).1 (by sl_whole_mem) y
theorem canC_l (hc0 : cond0_0 i) (hc1 : cond0_1 i) (hc2 : ¬cond0_2 i) (x5 : Vec F S512x128 .bf16) :
    View.canon (kRunC c i arg4 harg4 arg5 harg5 arg6 harg6 arg7 harg7 arg8 harg8 arg9 harg9 arg10 harg10 arg11 harg11 arg12 harg12 hc0 hc1 hc2 x0 x1 x2 x3 x4 x5).2.1 = scl (updU0 x0 x1 x2 init0) (updU1 x0 x1 x2 init1) := by
  unfold kRunC; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covC_l (hc0 : cond0_0 i) (hc1 : cond0_1 i) (hc2 : ¬cond0_2 i) (x5 : Vec F S512x128 .bf16) (y : S2x512x1.Idx) : ∃ p ∈ (kRunC c i arg4 harg4 arg5 harg5 arg6 harg6 arg7 harg7 arg8 harg8 arg9 harg9 arg10 harg10 arg11 harg11 arg12 harg12 hc0 hc1 hc2 x0 x1 x2 x3 x4 x5).2.1, y ∈ p.1.set :=
  View.cover_of_wholeMem (kRunC c i arg4 harg4 arg5 harg5 arg6 harg6 arg7 harg7 arg8 harg8 arg9 harg9 arg10 harg10 arg11 harg11 arg12 harg12 hc0 hc1 hc2 x0 x1 x2 x3 x4 x5).2.1 (by sl_whole_mem) y
theorem canC_a (hc0 : cond0_0 i) (hc1 : cond0_1 i) (hc2 : ¬cond0_2 i) (x5 : Vec F S512x128 .bf16) :
    View.canon (kRunC c i arg4 harg4 arg5 harg5 arg6 harg6 arg7 harg7 arg8 harg8 arg9 harg9 arg10 harg10 arg11 harg11 arg12 harg12 hc0 hc1 hc2 x0 x1 x2 x3 x4 x5).2.2.1 = sca (updU0 x0 x1 x2 init0) (updU1 x0 x1 x2 init1) := by
  unfold kRunC; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_twoW (F := F) _ _ _
theorem covC_a (hc0 : cond0_0 i) (hc1 : cond0_1 i) (hc2 : ¬cond0_2 i) (x5 : Vec F S512x128 .bf16) (y : S2x512x128.Idx) : ∃ p ∈ (kRunC c i arg4 harg4 arg5 harg5 arg6 harg6 arg7 harg7 arg8 harg8 arg9 harg9 arg10 harg10 arg11 harg11 arg12 harg12 hc0 hc1 hc2 x0 x1 x2 x3 x4 x5).2.2.1, y ∈ p.1.set :=
  View.cover_of_wholeMem (kRunC c i arg4 harg4 arg5 harg5 arg6 harg6 arg7 harg7 arg8 harg8 arg9 harg9 arg10 harg10 arg11 harg11 arg12 harg12 hc0 hc1 hc2 x0 x1 x2 x3 x4 x5).2.2.1 (by sl_whole_mem) y
/-- The body at the first tile, below the diagonal. -/
theorem stepC (hc0 : cond0_0 i) (hc1 : cond0_1 i) (hc2 : ¬cond0_2 i) (x5 : Vec F S512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (scm (updU0 x0 x1 x2 init0) (updU1 x0 x1 x2 init1)) ∗ owns (c : Thread nD τ) arg11 fullShare (scl (updU0 x0 x1 x2 init0) (updU1 x0 x1 x2 init1)) ∗ owns (c : Thread nD τ) arg12 fullShare (sca (updU0 x0 x1 x2 init0) (updU1 x0 x1 x2 init1))) -∗ K ⟨⟩))
      ⊢ wp frame (wpE (defs₀ (F := F)) Variants.none c none) E (cc0_prompt_diff_attention i arg4 harg4 arg5 harg5 arg6 harg6 arg7 harg7 arg8 harg8 arg9 harg9 arg10 harg10 arg11 harg11 arg12 harg12) K := by
  iintro ⟨H0, H1, H2, H3, H4, H5, HS0, HS1, HS2, Hk⟩
  iapply ((kRunC c i arg4 harg4 arg5 harg5 arg6 harg6 arg7 harg7 arg8 harg8 arg9 harg9 arg10 harg10 arg11 harg11 arg12 harg12 hc0 hc1 hc2 x0 x1 x2 x3 x4 x5).2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr; swap; · iexact HS0
    ipureintro; exact (View.read_writes_eq_canon _ _ _ (covC_m c i arg4 harg4 arg5 harg5 arg6 harg6 arg7 harg7 arg8 harg8 arg9 harg9 arg10 harg10 arg11 harg11 arg12 harg12 x0 x1 x2 x3 x4 hc0 hc1 hc2 x5)).trans (canC_m c i arg4 harg4 arg5 harg5 arg6 harg6 arg7 harg7 arg8 harg8 arg9 harg9 arg10 harg10 arg11 harg11 arg12 harg12 x0 x1 x2 x3 x4 hc0 hc1 hc2 x5)
  isplitl [HS1]
  · unfold owns; iexists _; isplitr; swap; · iexact HS1
    ipureintro; exact (View.read_writes_eq_canon _ _ _ (covC_l c i arg4 harg4 arg5 harg5 arg6 harg6 arg7 harg7 arg8 harg8 arg9 harg9 arg10 harg10 arg11 harg11 arg12 harg12 x0 x1 x2 x3 x4 hc0 hc1 hc2 x5)).trans (canC_l c i arg4 harg4 arg5 harg5 arg6 harg6 arg7 harg7 arg8 harg8 arg9 harg9 arg10 harg10 arg11 harg11 arg12 harg12 x0 x1 x2 x3 x4 hc0 hc1 hc2 x5)
  · unfold owns; iexists _; isplitr; swap; · iexact HS2
    ipureintro; exact (View.read_writes_eq_canon _ _ _ (covC_a c i arg4 harg4 arg5 harg5 arg6 harg6 arg7 harg7 arg8 harg8 arg9 harg9 arg10 harg10 arg11 harg11 arg12 harg12 x0 x1 x2 x3 x4 hc0 hc1 hc2 x5)).trans (canC_a c i arg4 harg4 arg5 harg5 arg6 harg6 arg7 harg7 arg8 harg8 arg9 harg9 arg10 harg10 arg11 harg11 arg12 harg12 x0 x1 x2 x3 x4 hc0 hc1 hc2 x5)

theorem canD_o (hc0 : ¬cond0_0 i) (hc1 : ¬cond0_1 i) (hc2 : cond0_2 i) (s0 s1 : Slab F) :
    View.canon (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).1 = finish x3 x4 (updM0 x0 x1 x2 s0) (updM1 x0 x1 x2 s1) := by
  unfold kRunD; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact View.canon_unit_zero (S := S512x128) hz2 _ _
theorem covD_o (hc0 : ¬cond0_0 i) (hc1 : ¬cond0_1 i) (hc2 : cond0_2 i) (s0 s1 : Slab F) (y : S512x128.Idx) : ∃ p ∈ (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).1, y ∈ p.1.set :=
  View.cover_of_wholeMem (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).1 (by sl_whole_mem) y
theorem canD_m (hc0 : ¬cond0_0 i) (hc1 : ¬cond0_1 i) (hc2 : cond0_2 i) (s0 s1 : Slab F) :
    View.canon (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.1 = scm (updM0 x0 x1 x2 s0) (updM1 x0 x1 x2 s1) := by
  unfold kRunD; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covD_m (hc0 : ¬cond0_0 i) (hc1 : ¬cond0_1 i) (hc2 : cond0_2 i) (s0 s1 : Slab F) (y : S2x512x1.Idx) : ∃ p ∈ (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.1, y ∈ p.1.set :=
  View.cover_of_tiledL (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.1 S1x512x1.size (by sl_kernel_rfl) y
theorem canD_l (hc0 : ¬cond0_0 i) (hc1 : ¬cond0_1 i) (hc2 : cond0_2 i) (s0 s1 : Slab F) :
    View.canon (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.2.1 = scl (updM0 x0 x1 x2 s0) (updM1 x0 x1 x2 s1) := by
  unfold kRunD; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covD_l (hc0 : ¬cond0_0 i) (hc1 : ¬cond0_1 i) (hc2 : cond0_2 i) (s0 s1 : Slab F) (y : S2x512x1.Idx) : ∃ p ∈ (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.2.1, y ∈ p.1.set :=
  View.cover_of_tiledL (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.2.1 S1x512x1.size (by sl_kernel_rfl) y
theorem canD_a (hc0 : ¬cond0_0 i) (hc1 : ¬cond0_1 i) (hc2 : cond0_2 i) (s0 s1 : Slab F) :
    View.canon (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.2.2.1 = sca (updM0 x0 x1 x2 s0) (updM1 x0 x1 x2 s1) := by
  unfold kRunD; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_twoW (F := F) _ _ _
theorem covD_a (hc0 : ¬cond0_0 i) (hc1 : ¬cond0_1 i) (hc2 : cond0_2 i) (s0 s1 : Slab F) (y : S2x512x128.Idx) : ∃ p ∈ (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.2.2.1, y ∈ p.1.set :=
  View.cover_of_tiledL (kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.2.2.1 S1x512x128.size (by sl_kernel_rfl) y
/-- The body at the diagonal tile after earlier ones. -/
theorem stepD (hc0 : ¬cond0_0 i) (hc1 : ¬cond0_1 i) (hc2 : cond0_2 i) (s0 s1 : Slab F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare (scm s0 s1) ∗ owns (c : Thread nD τ) arg11 fullShare (scl s0 s1) ∗ owns (c : Thread nD τ) arg12 fullShare (sca s0 s1) ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (finish x3 x4 (updM0 x0 x1 x2 s0) (updM1 x0 x1 x2 s1)) ∗ owns (c : Thread nD τ) arg10 fullShare (scm (updM0 x0 x1 x2 s0) (updM1 x0 x1 x2 s1)) ∗ owns (c : Thread nD τ) arg11 fullShare (scl (updM0 x0 x1 x2 s0) (updM1 x0 x1 x2 s1)) ∗ owns (c : Thread nD τ) arg12 fullShare (sca (updM0 x0 x1 x2 s0) (updM1 x0 x1 x2 s1))) -∗ K ⟨⟩))
      ⊢ wp frame (wpE (defs₀ (F := F)) Variants.none c none) E (cc0_prompt_diff_attention i arg4 harg4 arg5 harg5 arg6 harg6 arg7 harg7 arg8 harg8 arg9 harg9 arg10 harg10 arg11 harg11 arg12 harg12) K := by
  iintro ⟨H0, H1, H2, H3, H4, H5, HS0, HS1, HS2, Hk⟩
  iapply ((kRunD c i arg4 harg4 arg5 harg5 arg6 harg6 arg7 harg7 arg8 harg8 arg9 harg9 arg10 harg10 arg11 harg11 arg12 harg12 hc0 hc1 hc2 x0 x1 x2 x3 x4 (scm s0 s1) (scl s0 s1) (sca s0 s1)).2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, ⟨%f5, H5⟩, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact (View.read_writes_eq_canon _ _ _ (covD_o c i arg4 harg4 arg5 harg5 arg6 harg6 arg7 harg7 arg8 harg8 arg9 harg9 arg10 harg10 arg11 harg11 arg12 harg12 x0 x1 x2 x3 x4 hc0 hc1 hc2 s0 s1)).trans (canD_o c i arg4 harg4 arg5 harg5 arg6 harg6 arg7 harg7 arg8 harg8 arg9 harg9 arg10 harg10 arg11 harg11 arg12 harg12 x0 x1 x2 x3 x4 hc0 hc1 hc2 s0 s1)
  isplitl [HS0]
  · unfold owns; iexists _; isplitr; swap; · iexact HS0
    ipureintro; exact (View.read_writes_eq_canon _ _ _ (covD_m c i arg4 harg4 arg5 harg5 arg6 harg6 arg7 harg7 arg8 harg8 arg9 harg9 arg10 harg10 arg11 harg11 arg12 harg12 x0 x1 x2 x3 x4 hc0 hc1 hc2 s0 s1)).trans (canD_m c i arg4 harg4 arg5 harg5 arg6 harg6 arg7 harg7 arg8 harg8 arg9 harg9 arg10 harg10 arg11 harg11 arg12 harg12 x0 x1 x2 x3 x4 hc0 hc1 hc2 s0 s1)
  isplitl [HS1]
  · unfold owns; iexists _; isplitr; swap; · iexact HS1
    ipureintro; exact (View.read_writes_eq_canon _ _ _ (covD_l c i arg4 harg4 arg5 harg5 arg6 harg6 arg7 harg7 arg8 harg8 arg9 harg9 arg10 harg10 arg11 harg11 arg12 harg12 x0 x1 x2 x3 x4 hc0 hc1 hc2 s0 s1)).trans (canD_l c i arg4 harg4 arg5 harg5 arg6 harg6 arg7 harg7 arg8 harg8 arg9 harg9 arg10 harg10 arg11 harg11 arg12 harg12 x0 x1 x2 x3 x4 hc0 hc1 hc2 s0 s1)
  · unfold owns; iexists _; isplitr; swap; · iexact HS2
    ipureintro; exact (View.read_writes_eq_canon _ _ _ (covD_a c i arg4 harg4 arg5 harg5 arg6 harg6 arg7 harg7 arg8 harg8 arg9 harg9 arg10 harg10 arg11 harg11 arg12 harg12 x0 x1 x2 x3 x4 hc0 hc1 hc2 s0 s1)).trans (canD_a c i arg4 harg4 arg5 harg5 arg6 harg6 arg7 harg7 arg8 harg8 arg9 harg9 arg10 harg10 arg11 harg11 arg12 harg12 x0 x1 x2 x3 x4 hc0 hc1 hc2 s0 s1)

theorem canE_m (hc0 : ¬cond0_0 i) (hc1 : cond0_1 i) (hc2 : ¬cond0_2 i) (x5 : Vec F S512x128 .bf16) (s0 s1 : Slab F) :
    View.canon (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).1 = scm (updU0 x0 x1 x2 s0) (updU1 x0 x1 x2 s1) := by
  unfold kRunE; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covE_m (hc0 : ¬cond0_0 i) (hc1 : cond0_1 i) (hc2 : ¬cond0_2 i) (x5 : Vec F S512x128 .bf16) (s0 s1 : Slab F) (y : S2x512x1.Idx) : ∃ p ∈ (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).1, y ∈ p.1.set :=
  View.cover_of_tiledL (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).1 S1x512x1.size (by sl_kernel_rfl) y
theorem canE_l (hc0 : ¬cond0_0 i) (hc1 : cond0_1 i) (hc2 : ¬cond0_2 i) (x5 : Vec F S512x128 .bf16) (s0 s1 : Slab F) :
    View.canon (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).2.1 = scl (updU0 x0 x1 x2 s0) (updU1 x0 x1 x2 s1) := by
  unfold kRunE; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_two (F := F) _ _ _
theorem covE_l (hc0 : ¬cond0_0 i) (hc1 : cond0_1 i) (hc2 : ¬cond0_2 i) (x5 : Vec F S512x128 .bf16) (s0 s1 : Slab F) (y : S2x512x1.Idx) : ∃ p ∈ (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).2.1, y ∈ p.1.set :=
  View.cover_of_tiledL (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).2.1 S1x512x1.size (by sl_kernel_rfl) y
theorem canE_a (hc0 : ¬cond0_0 i) (hc1 : cond0_1 i) (hc2 : ¬cond0_2 i) (x5 : Vec F S512x128 .bf16) (s0 s1 : Slab F) :
    View.canon (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).2.2.1 = sca (updU0 x0 x1 x2 s0) (updU1 x0 x1 x2 s1) := by
  unfold kRunE; dsimp only; sl_unfold_words
  simp only [skip10, skip01, skipW10, skipW01, fillR, fillW, View.readCov_cons_toLoadRect, View.readAt_eq_ld, harg4.read_unread, harg5.read_unread,
    harg6.read_unread, harg7.read_unread, harg8.read_unread, harg10.read_unread, harg11.read_unread, harg12.read_unread,
    View.ld_unit_zero (S := S512x128) hz2, View.ld_unit_zero (S := S4x64) hz2, View.ld_unit_zero (S := S1x128) hz2, ld_two0, ld_two1, ld_twoW0, ld_twoW1]

  exact canon_twoW (F := F) _ _ _
theorem covE_a (hc0 : ¬cond0_0 i) (hc1 : cond0_1 i) (hc2 : ¬cond0_2 i) (x5 : Vec F S512x128 .bf16) (s0 s1 : Slab F) (y : S2x512x128.Idx) : ∃ p ∈ (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).2.2.1, y ∈ p.1.set :=
  View.cover_of_tiledL (kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).2.2.1 S1x512x128.size (by sl_kernel_rfl) y
/-- The body at a tile below the diagonal after earlier ones. -/
theorem stepE (hc0 : ¬cond0_0 i) (hc1 : cond0_1 i) (hc2 : ¬cond0_2 i) (x5 : Vec F S512x128 .bf16) (s0 s1 : Slab F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (scm s0 s1) ∗ owns (c : Thread nD τ) arg11 fullShare (scl s0 s1) ∗ owns (c : Thread nD τ) arg12 fullShare (sca s0 s1) ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (scm (updU0 x0 x1 x2 s0) (updU1 x0 x1 x2 s1)) ∗ owns (c : Thread nD τ) arg11 fullShare (scl (updU0 x0 x1 x2 s0) (updU1 x0 x1 x2 s1)) ∗ owns (c : Thread nD τ) arg12 fullShare (sca (updU0 x0 x1 x2 s0) (updU1 x0 x1 x2 s1))) -∗ K ⟨⟩))
      ⊢ wp frame (wpE (defs₀ (F := F)) Variants.none c none) E (cc0_prompt_diff_attention i arg4 harg4 arg5 harg5 arg6 harg6 arg7 harg7 arg8 harg8 arg9 harg9 arg10 harg10 arg11 harg11 arg12 harg12) K := by
  iintro ⟨H0, H1, H2, H3, H4, H5, HS0, HS1, HS2, Hk⟩
  iapply ((kRunE c i arg4 harg4 arg5 harg5 arg6 harg6 arg7 harg7 arg8 harg8 arg9 harg9 arg10 harg10 arg11 harg11 arg12 harg12 hc0 hc1 hc2 x0 x1 x2 x3 x4 x5 (scm s0 s1) (scl s0 s1) (sca s0 s1)).2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr; swap; · iexact HS0
    ipureintro; exact (View.read_writes_eq_canon _ _ _ (covE_m c i arg4 harg4 arg5 harg5 arg6 harg6 arg7 harg7 arg8 harg8 arg9 harg9 arg10 harg10 arg11 harg11 arg12 harg12 x0 x1 x2 x3 x4 hc0 hc1 hc2 x5 s0 s1)).trans (canE_m c i arg4 harg4 arg5 harg5 arg6 harg6 arg7 harg7 arg8 harg8 arg9 harg9 arg10 harg10 arg11 harg11 arg12 harg12 x0 x1 x2 x3 x4 hc0 hc1 hc2 x5 s0 s1)
  isplitl [HS1]
  · unfold owns; iexists _; isplitr; swap; · iexact HS1
    ipureintro; exact (View.read_writes_eq_canon _ _ _ (covE_l c i arg4 harg4 arg5 harg5 arg6 harg6 arg7 harg7 arg8 harg8 arg9 harg9 arg10 harg10 arg11 harg11 arg12 harg12 x0 x1 x2 x3 x4 hc0 hc1 hc2 x5 s0 s1)).trans (canE_l c i arg4 harg4 arg5 harg5 arg6 harg6 arg7 harg7 arg8 harg8 arg9 harg9 arg10 harg10 arg11 harg11 arg12 harg12 x0 x1 x2 x3 x4 hc0 hc1 hc2 x5 s0 s1)
  · unfold owns; iexists _; isplitr; swap; · iexact HS2
    ipureintro; exact (View.read_writes_eq_canon _ _ _ (covE_a c i arg4 harg4 arg5 harg5 arg6 harg6 arg7 harg7 arg8 harg8 arg9 harg9 arg10 harg10 arg11 harg11 arg12 harg12 x0 x1 x2 x3 x4 hc0 hc1 hc2 x5 s0 s1)).trans (canE_a c i arg4 harg4 arg5 harg5 arg6 harg6 arg7 harg7 arg8 harg8 arg9 harg9 arg10 harg10 arg11 harg11 arg12 harg12 x0 x1 x2 x3 x4 hc0 hc1 hc2 x5 s0 s1)

end Cert.Proof.Att

end
-- ==== Proof.AttFrame.lean ====
/- Hand-written, untrusted: THE ATTENTION KERNEL'S RUN. `tileStep` folds one tile into the two slabs, `slabs` is what the
   scratch buffers hold after each grid point, `outAt` what the output's buffer holds (from a row's diagonal tile on, what
   that tile stored); `run_main_quiescent` says that every execution ends with each array at what these leave in it. -/
module

public import proofs.«01_k».proof.Proof.AttStep
public import Idealize.ShloMosaic.Lib.Claim

@[expose] public section

set_option maxRecDepth 16384

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch and the output hold after each point -/

/-- One grid point's effect on the two slabs: the tile is folded in below and on the diagonal, skipped above it. -/
def tileStep (c : Dev nD) (t : Fin cfg0.N) (b : Slab F × Slab F) : Slab F × Slab F :=
  if t.val % 16 + 1 ≤ t.val / 16 % 16 then
    (updU0 (iblk m c 0 t) (iblk m c 1 t) (iblk m c 2 t) b.1, updU1 (iblk m c 0 t) (iblk m c 1 t) (iblk m c 2 t) b.2)
  else if t.val / 16 % 16 = t.val % 16 then
    (updM0 (iblk m c 0 t) (iblk m c 1 t) (iblk m c 2 t) b.1, updM1 (iblk m c 0 t) (iblk m c 1 t) (iblk m c 2 t) b.2)
  else b

/-- The two slabs after point `n`: a row of tiles starts afresh. -/
def slabs (c : Dev nD) : (n : ℕ) → n < cfg0.N → Slab F × Slab F
  | 0, hn => tileStep m c ⟨0, hn⟩ (init0, init1)
  | n + 1, hn => tileStep m c ⟨n + 1, hn⟩ (if (n + 1) % 16 = 0 then (init0, init1) else slabs c n (Nat.lt_of_succ_lt hn))

theorem slabs_first (c : Dev nD) (t : Fin cfg0.N) (h : t.val % 16 = 0) : slabs m c t.val t.isLt = tileStep m c t (init0, init1) := by
  obtain ⟨n, hn⟩ := t
  cases n with
  | zero => rfl
  | succ n => show tileStep m c ⟨n + 1, hn⟩ (if (n + 1) % 16 = 0 then (init0, init1) else _) = _; rw [if_pos h]

theorem slabs_next (c : Dev nD) (t : Fin cfg0.N) (h : ¬t.val % 16 = 0) :
    slabs m c t.val t.isLt = tileStep m c t (slabs m c (t.val - 1) (Nat.lt_of_le_of_lt (Nat.sub_le _ _) t.isLt)) := by
  obtain ⟨n, hn⟩ := t
  cases n with
  | zero => exact absurd (Nat.zero_mod _) h
  | succ n => show tileStep m c ⟨n + 1, hn⟩ (if (n + 1) % 16 = 0 then (init0, init1) else _) = _; rw [if_neg h]; rfl

/-- What the diagonal point `t` stores. -/
def finAt (c : Dev nD) (t : Fin cfg0.N) : Vec F S512x128 .bf16 :=
  finish (iblk m c 3 t) (iblk m c 4 t) (slabs m c t.val t.isLt).1 (slabs m c t.val t.isLt).2

/-- What the output's buffer holds after point `n`, from its row's diagonal point on. -/
def outAt (c : Dev nD) : (n : ℕ) → n < cfg0.N → Vec F S512x128 .bf16
  | 0, hn => finAt m c ⟨0, hn⟩
  | n + 1, hn => if (n + 1) / 16 % 16 = (n + 1) % 16 then finAt m c ⟨n + 1, hn⟩ else outAt c n (Nat.lt_of_succ_lt hn)

theorem outAt_diag (c : Dev nD) (t : Fin cfg0.N) (h : t.val / 16 % 16 = t.val % 16) : outAt m c t.val t.isLt = finAt m c t := by
  obtain ⟨n, hn⟩ := t
  cases n with
  | zero => rfl
  | succ n => show (if (n + 1) / 16 % 16 = (n + 1) % 16 then _ else _) = _; rw [if_pos h]

theorem outAt_off (c : Dev nD) (t : Fin cfg0.N) (h : ¬t.val / 16 % 16 = t.val % 16) :
    outAt m c t.val t.isLt = outAt m c (t.val - 1) (Nat.lt_of_le_of_lt (Nat.sub_le _ _) t.isLt) := by
  obtain ⟨n, hn⟩ := t
  cases n with
  | zero => exact absurd (by simp) h
  | succ n => show (if (n + 1) / 16 % 16 = (n + 1) % 16 then _ else _) = _; rw [if_neg h]; rfl

/-- The invariant before position `n`: the three scratch buffers at the slabs the point before left, at anything before
    the first point. -/
def PhiS (c : Dev nD) : (n : ℕ) → n ≤ cfg0.N → sProp 𝕄
  | 0, _ => Pipeline.ΦA spec0 c
  | n + 1, hn => iprop(iprop(owns (c : Thread nD τ) scM0_0 fullShare (scm (slabs m c n hn).1 (slabs m c n hn).2) ∗ owns (c : Thread nD τ) scM0_1 fullShare (scl (slabs m c n hn).1 (slabs m c n hn).2) ∗ owns (c : Thread nD τ) scM0_2 fullShare (sca (slabs m c n hn).1 (slabs m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scm (slabs m c n hn).1 (slabs m c n hn).2) ∗ owns (c : Thread nD τ) scM0_1 fullShare (scl (slabs m c n hn).1 (slabs m c n hn).2) ∗ owns (c : Thread nD τ) scM0_2 fullShare (sca (slabs m c n hn).1 (slabs m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare (scm (slabs m c (n - 1) (by omega)).1 (slabs m c (n - 1) (by omega)).2) ∗ owns (c : Thread nD τ) scM0_1 fullShare (scl (slabs m c (n - 1) (by omega)).1 (slabs m c (n - 1) (by omega)).2) ∗ owns (c : Thread nD τ) scM0_2 fullShare (sca (slabs m c (n - 1) (by omega)).1 (slabs m c (n - 1) (by omega)).2)) ∗ (∃ r, prngReg c r)) := by
  cases n with
  | zero => exact absurd rfl hz
  | succ n => rfl

/-! ## The pipeline's proof data -/

/-- The arrays as the region finds them; after the body each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output's window is idle exactly off the diagonal, is written back at the end of a row of tiles and never fetched. -/
theorem idle5 : ∀ t : Fin cfg0.N, cfg0.idle 5 (grid0.coords t) = !decide (t.val / 16 % 16 = t.val % 16) :=
  (by decide +kernel : ∀ t : Fin grid0.N, cfg0.idle 5 (grid0.coords t) = !decide (t.val / 16 % 16 = t.val % 16))
theorem idle5_true (t : Fin cfg0.N) (h : ¬t.val / 16 % 16 = t.val % 16) : cfg0.idle 5 (grid0.coords t) = true := by
  rw [idle5, decide_eq_false h]; rfl
theorem idle5_false (t : Fin cfg0.N) (h : t.val / 16 % 16 = t.val % 16) : cfg0.idle 5 (grid0.coords t) = false := by
  rw [idle5, decide_eq_true h]; rfl
theorem flush5_false (t : Fin cfg0.N) (h : ¬t.val % 16 = 15) : (cfg0.win 5).flush t = false := by
  rw [← Bool.not_eq_true]; exact fun hf => h ((flush0_5 t).mp hf)
theorem fetch5 (t : Fin cfg0.N) : (cfg0.win 5).fetch t = false := rfl

/-- Past a row's diagonal point, the output's buffer holds what that point stored. -/
theorem before5 (c : Dev nD) (d) : ∀ (n : ℕ) (t : Fin cfg0.N), t.val = n → t.val / 16 % 16 < t.val % 16 →
    (dats m 0 c).before 5 t d = outAt m c t.val t.isLt
  | 0, t, h0, h => absurd h (by omega)
  | n + 1, t, hn, h => by
    have hlt : t.val - 1 < cfg0.N := Nat.lt_of_le_of_lt (Nat.sub_le _ _) t.isLt
    rw [(dats m 0 c).before_of_pos 5 t (by omega) (fetch5 t) d, flush5_false ⟨t.val - 1, hlt⟩ (by show ¬(t.val - 1) % 16 = 15; omega),
      if_neg Bool.false_ne_true, outAt_off m c t (by omega)]
    unfold Dat.left
    by_cases hd : (t.val - 1) / 16 % 16 = (t.val - 1) % 16
    · rw [idle5_false ⟨t.val - 1, hlt⟩ hd]
      show (dats m 0 c).kept 5 ⟨t.val - 1, hlt⟩ d = _
      rw [show (dats m 0 c).kept 5 ⟨t.val - 1, hlt⟩ d = (dats m 0 c).after 5 ⟨t.val - 1, hlt⟩ from rfl, after0_5]
    · rw [idle5_true ⟨t.val - 1, hlt⟩ hd]
      exact before5 c d n ⟨t.val - 1, hlt⟩ (by show t.val - 1 = n; omega) (by show (t.val - 1) / 16 % 16 < (t.val - 1) % 16; omega)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 2048 := lt_of_lt_of_eq t.isLt (show cfg0.N = 2048 from N_0)
  by_cases h0 : t.val % 16 = 0
  · by_cases h1 : t.val % 16 + 1 ≤ t.val / 16 % 16
    · have h2 : ¬t.val / 16 % 16 = t.val % 16 := by omega
      have hs : slabs m c t.val t.isLt = (updU0 (iblk m c 0 t) (iblk m c 1 t) (iblk m c 2 t) init0, updU1 (iblk m c 0 t) (iblk m c 1 t) (iblk m c 2 t) init1) := by
        rw [slabs_first m c t h0]; unfold tileStep; rw [if_pos h1]
      rw [Dat.leavesExact_idle (dats m 0 c) 5 t (idle5_true t h2) (flush5_false t (by omega))]
      rw [hs]
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (stepC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) ((hcond0_1 t).mpr h1) (fun h => h2 ((hcond0_2 t).mp h)) ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have h2 : t.val / 16 % 16 = t.val % 16 := by omega
      have hs : slabs m c t.val t.isLt = (updM0 (iblk m c 0 t) (iblk m c 1 t) (iblk m c 2 t) init0, updM1 (iblk m c 0 t) (iblk m c 1 t) (iblk m c 2 t) init1) := by
        rw [slabs_first m c t h0]; unfold tileStep; rw [if_neg h1, if_pos h2]
      rw [show (dats m 0 c).leavesExact 5 t = owns (c : Thread nD τ) (ms0_5 t) fullShare ((dats m 0 c).after 5 t) from by
        unfold Dat.leavesExact; rw [idle5_false t h2], after0_5, outAt_diag m c t h2]
      unfold finAt
      rw [hs]
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (stepA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (stepA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HS2]; · iexists _; iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
  · by_cases h1 : t.val % 16 + 1 ≤ t.val / 16 % 16
    · have h2 : ¬t.val / 16 % 16 = t.val % 16 := by omega
      have hs : slabs m c t.val t.isLt = (updU0 (iblk m c 0 t) (iblk m c 1 t) (iblk m c 2 t) (slabs m c (t.val - 1) (Nat.lt_of_le_of_lt (Nat.sub_le _ _) t.isLt)).1, updU1 (iblk m c 0 t) (iblk m c 1 t) (iblk m c 2 t) (slabs m c (t.val - 1) (Nat.lt_of_le_of_lt (Nat.sub_le _ _) t.isLt)).2) := by
        rw [slabs_next m c t h0]; unfold tileStep; rw [if_pos h1]
      rw [Dat.leavesExact_idle (dats m 0 c) 5 t (idle5_true t h2) (flush5_false t (by omega))]
      rw [hs]
      rw [PhiS_castSucc m c t, PhiS_pos m c _ _ (by omega)]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (stepE c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (fun h => h0 ((hcond0_0 t).mp h)) ((hcond0_1 t).mpr h1) (fun h => h2 ((hcond0_2 t).mp h)) ((dats m 0 c).before 5 t d5) (slabs m c (t.val - 1) (Nat.lt_of_le_of_lt (Nat.sub_le _ _) t.isLt)).1 (slabs m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases h2 : t.val / 16 % 16 = t.val % 16
      · have hs : slabs m c t.val t.isLt = (updM0 (iblk m c 0 t) (iblk m c 1 t) (iblk m c 2 t) (slabs m c (t.val - 1) (Nat.lt_of_le_of_lt (Nat.sub_le _ _) t.isLt)).1, updM1 (iblk m c 0 t) (iblk m c 1 t) (iblk m c 2 t) (slabs m c (t.val - 1) (Nat.lt_of_le_of_lt (Nat.sub_le _ _) t.isLt)).2) := by
          rw [slabs_next m c t h0]; unfold tileStep; rw [if_neg h1, if_pos h2]
        rw [show (dats m 0 c).leavesExact 5 t = owns (c : Thread nD τ) (ms0_5 t) fullShare ((dats m 0 c).after 5 t) from by
          unfold Dat.leavesExact; rw [idle5_false t h2], after0_5, outAt_diag m c t h2]
        unfold finAt
        rw [hs]
        rw [PhiS_castSucc m c t, PhiS_pos m c _ _ (by omega)]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (stepD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (fun h => h0 ((hcond0_0 t).mp h)) (fun h => h1 ((hcond0_1 t).mp h)) ((hcond0_2 t).mpr h2) (slabs m c (t.val - 1) (Nat.lt_of_le_of_lt (Nat.sub_le _ _) t.isLt)).1 (slabs m c (t.val - 1) (Nat.lt_of_le_of_lt (Nat.sub_le _ _) t.isLt)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
      · have hs : slabs m c t.val t.isLt = (slabs m c (t.val - 1) (Nat.lt_of_le_of_lt (Nat.sub_le _ _) t.isLt)) := by
          rw [slabs_next m c t h0]; unfold tileStep; rw [if_neg h1, if_neg h2]
        rw [hs]
        rw [PhiS_castSucc m c t, PhiS_pos m c _ _ (by omega)]
        by_cases hf : t.val % 16 = 15
        · rw [show (dats m 0 c).leavesExact 5 t = owns (c : Thread nD τ) (ms0_5 t) fullShare ((dats m 0 c).after 5 t) from by
            unfold Dat.leavesExact; rw [idle5_true t h2, (flush0_5 t).mpr hf], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kRunB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) ((dats m 0 c).before 5 t d5) (scm (slabs m c (t.val - 1) (Nat.lt_of_le_of_lt (Nat.sub_le _ _) t.isLt)).1 (slabs m c (t.val - 1) (Nat.lt_of_le_of_lt (Nat.sub_le _ _) t.isLt)).2) (scl (slabs m c (t.val - 1) (Nat.lt_of_le_of_lt (Nat.sub_le _ _) t.isLt)).1 (slabs m c (t.val - 1) (Nat.lt_of_le_of_lt (Nat.sub_le _ _) t.isLt)).2) (sca (slabs m c (t.val - 1) (Nat.lt_of_le_of_lt (Nat.sub_le _ _) t.isLt)).1 (slabs m c (t.val - 1) (Nat.lt_of_le_of_lt (Nat.sub_le _ _) t.isLt)).2)).2.2.2 Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          rw [before5 m c d5 t.val t rfl (by omega)]; iexact H5
        · rw [Dat.leavesExact_idle (dats m 0 c) 5 t (idle5_true t h2) (flush5_false t hf)]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kRunB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) ((dats m 0 c).before 5 t d5) (scm (slabs m c (t.val - 1) (Nat.lt_of_le_of_lt (Nat.sub_le _ _) t.isLt)).1 (slabs m c (t.val - 1) (Nat.lt_of_le_of_lt (Nat.sub_le _ _) t.isLt)).2) (scl (slabs m c (t.val - 1) (Nat.lt_of_le_of_lt (Nat.sub_le _ _) t.isLt)).1 (slabs m c (t.val - 1) (Nat.lt_of_le_of_lt (Nat.sub_le _ _) t.isLt)).2) (sca (slabs m c (t.val - 1) (Nat.lt_of_le_of_lt (Nat.sub_le _ _) t.isLt)).1 (slabs m c (t.val - 1) (Nat.lt_of_le_of_lt (Nat.sub_le _ _) t.isLt)).2)).2.2.2 Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 2048 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The attention kernel terminates, leaves its arguments and every semaphore as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Att

end
-- ==== Proof.AttMath.lean ====
/- Hand-written, untrusted: THE ONLINE SOFTMAX OF ONE ROW, over the extended reals. A row's scores `s` come in tiles of 512
   keys. `rowMax`, `rowSum` and `rowAcc` are the running maximum, the running sum of exponentials and the running weighted
   sum of values, as the tiled program updates them tile after tile; the lemmas say that after any number of tiles they are
   the maximum, the sum and the weighted sum over all the keys seen, relative to that maximum. `soft_diff` is the
   law that joins two such rows: the difference of the two quotients is the weighted sum of the values under the
   difference of the two softmax rows. -/
module

public import Idealize.ShloMosaic.Lib.Pointwise

@[expose] public section

noncomputable section

namespace Cert.Proof.AttMath

open Idealize.ShloMosaic
open scoped BigOperators

/-- The maximum of a tile of 512 scores. -/
def tileMax (s : ℕ → EReal) (n : ℕ) : EReal := Finset.univ.fold max ⊥ fun c : Fin 512 => s (512 * n + c.val)

/-- The running maximum after `n` tiles. -/
def rowMax (s : ℕ → EReal) : ℕ → EReal
  | 0 => ⊥
  | n + 1 => max (rowMax s n) (tileMax s n)

/-- The running sum of exponentials after `n` tiles. -/
def rowSum (s : ℕ → EReal) : ℕ → EReal
  | 0 => 0
  | n + 1 => rowSum s n * Ideal.exp (rowMax s n - rowMax s (n + 1))
      + ∑ c : Fin 512, Ideal.exp (s (512 * n + c.val) - rowMax s (n + 1))

/-- The running weighted sum of values after `n` tiles. -/
def rowAcc (s v : ℕ → EReal) : ℕ → EReal
  | 0 => 0
  | n + 1 => rowAcc s v n * Ideal.exp (rowMax s n - rowMax s (n + 1))
      + ∑ c : Fin 512, Ideal.exp (s (512 * n + c.val) - rowMax s (n + 1)) * v (512 * n + c.val)

/-- The exponential of a difference that is not positive is a real number. -/
theorem exp_sub_real {x y : EReal} (h : x ≤ y) : ∃ r : ℝ, Ideal.exp (x - y) = (r : EReal) := by
  induction y with
  | bot => obtain rfl := le_bot_iff.mp h; exact ⟨0, by simp⟩
  | top => exact ⟨0, by rw [EReal.sub_top]; simp⟩
  | coe b =>
    induction x with
    | bot => exact ⟨0, by rw [EReal.bot_sub]; simp⟩
    | top => exact absurd h (by simp)
    | coe a => exact ⟨Real.exp (a - b), by rw [← EReal.coe_sub, Ideal.exp_coe]⟩

/-- Two rescalings in a row are one. -/
theorem exp_sub_mul {x y z : EReal} (h : x ≤ y) (h' : y ≤ z) :
    Ideal.exp (x - y) * Ideal.exp (y - z) = Ideal.exp (x - z) := by
  induction z with
  | top => rw [EReal.sub_top, EReal.sub_top]; simp
  | bot => obtain rfl := le_bot_iff.mp h'; obtain rfl := le_bot_iff.mp h; simp
  | coe c =>
    induction y with
    | top => exact absurd h' (by simp)
    | bot => obtain rfl := le_bot_iff.mp h; simp
    | coe b =>
      induction x with
      | top => exact absurd h (by simp)
      | bot => simp
      | coe a =>
        rw [← EReal.coe_sub, ← EReal.coe_sub, ← EReal.coe_sub, Ideal.exp_coe, Ideal.exp_coe, Ideal.exp_coe,
          ← EReal.coe_mul, ← Real.exp_add]
        congr 2; ring

theorem coe_sum {ι : Type} (t : Finset ι) (f : ι → ℝ) : ((∑ i ∈ t, f i : ℝ) : EReal) = ∑ i ∈ t, (f i : EReal) := by
  classical
  induction t using Finset.induction with
  | empty => simp
  | insert a t ha ih => rw [Finset.sum_insert ha, Finset.sum_insert ha, EReal.coe_add, ih]

/-- A real factor distributes over a finite sum of reals. -/
theorem sum_mul_real {ι : Type} (t : Finset ι) (f : ι → EReal) (c : EReal) (hf : ∀ i ∈ t, ∃ r : ℝ, f i = r)
    (hc : ∃ r : ℝ, c = r) : (∑ i ∈ t, f i) * c = ∑ i ∈ t, f i * c := by
  obtain ⟨c, rfl⟩ := hc
  have hf' : ∀ i ∈ t, f i = ((f i).toReal : EReal) := fun i hi => by obtain ⟨r, hr⟩ := hf i hi; rw [hr]; rfl
  rw [Finset.sum_congr rfl hf', ← coe_sum, ← EReal.coe_mul, Finset.sum_mul, coe_sum]
  exact Finset.sum_congr rfl fun i hi => by rw [EReal.coe_mul, ← hf' i hi]

theorem le_rowMax_succ (s : ℕ → EReal) (n : ℕ) : rowMax s n ≤ rowMax s (n + 1) := le_max_left _ _

/-- Every score seen is at most the running maximum. -/
theorem le_rowMax (s : ℕ → EReal) : ∀ n j, j < 512 * n → s j ≤ rowMax s n
  | 0, j, h => absurd h (by omega)
  | n + 1, j, h => by
    by_cases hj : j < 512 * n
    · exact (le_rowMax s n j hj).trans (le_rowMax_succ s n)
    · refine le_trans ?_ (le_max_right _ _)
      refine (Finset.le_fold_max _).mpr (.inr ⟨⟨j - 512 * n, by omega⟩, Finset.mem_univ _, ?_⟩)
      show s j ≤ s (512 * n + (j - 512 * n))
      rw [show 512 * n + (j - 512 * n) = j by omega]

/-- The running maximum is the least bound of the scores seen. -/
theorem rowMax_le (s : ℕ → EReal) (B : EReal) : ∀ n, (∀ j, j < 512 * n → s j ≤ B) → rowMax s n ≤ B
  | 0, _ => bot_le
  | n + 1, h => max_le (rowMax_le s B n fun j hj => h j (by omega))
      ((Finset.fold_max_le _).mpr ⟨bot_le, fun c _ => h _ (by have := c.isLt; omega)⟩)

theorem sum_succ_tile (f : ℕ → EReal) (n : ℕ) :
    ∑ j ∈ Finset.range (512 * (n + 1)), f j = ∑ j ∈ Finset.range (512 * n), f j + ∑ c : Fin 512, f (512 * n + c.val) := by
  rw [show 512 * (n + 1) = 512 * n + 512 by ring, Finset.sum_range_add]
  exact congrArg (∑ j ∈ Finset.range (512 * n), f j + ·) (Fin.sum_univ_eq_sum_range (fun c => f (512 * n + c)) 512).symm

/-- The running sum is the sum of the exponentials of all the scores seen, relative to the running maximum. -/
theorem rowSum_eq (s : ℕ → EReal) : ∀ n, rowSum s n = ∑ j ∈ Finset.range (512 * n), Ideal.exp (s j - rowMax s n)
  | 0 => by simp [rowSum]
  | n + 1 => by
    rw [sum_succ_tile, rowSum, rowSum_eq s n,
      sum_mul_real _ _ _ (fun j hj => exp_sub_real (le_rowMax s n j (Finset.mem_range.mp hj))) (exp_sub_real (le_rowMax_succ s n))]
    congr 1
    exact Finset.sum_congr rfl fun j hj => exp_sub_mul (le_rowMax s n j (Finset.mem_range.mp hj)) (le_rowMax_succ s n)

/-- The running weighted sum is that of all the keys seen, relative to the running maximum, when the values are real. -/
theorem rowAcc_eq (s v : ℕ → EReal) (hv : ∀ j, ∃ r : ℝ, v j = r) :
    ∀ n, rowAcc s v n = ∑ j ∈ Finset.range (512 * n), Ideal.exp (s j - rowMax s n) * v j
  | 0 => by simp [rowAcc]
  | n + 1 => by
    rw [sum_succ_tile, rowAcc, rowAcc_eq s v hv n, sum_mul_real _ _ _ ?_ (exp_sub_real (le_rowMax_succ s n))]
    · congr 1
      refine Finset.sum_congr rfl fun j hj => ?_
      rw [mul_assoc, mul_comm (v j), ← mul_assoc, exp_sub_mul (le_rowMax s n j (Finset.mem_range.mp hj)) (le_rowMax_succ s n)]
    · intro j hj
      obtain ⟨a, ha⟩ := exp_sub_real (le_rowMax s n j (Finset.mem_range.mp hj))
      obtain ⟨b, hb⟩ := hv j
      exact ⟨a * b, by rw [ha, hb, EReal.coe_mul]⟩

/-- The row's maximum over all 8192 keys, its softmax denominator and its softmax weights. -/
def fullMax (s : ℕ → EReal) : EReal := Finset.univ.fold max ⊥ fun j : Fin 8192 => s j.val

def fullSum (s : ℕ → EReal) : EReal := ∑ j : Fin 8192, Ideal.exp (s j.val - fullMax s)

def soft (s : ℕ → EReal) (j : Fin 8192) : EReal := Ideal.div (Ideal.exp (s j.val - fullMax s)) (fullSum s)

theorem le_fullMax (s : ℕ → EReal) (j : ℕ) (hj : j < 8192) : s j ≤ fullMax s :=
  (Finset.le_fold_max _).mpr (.inr ⟨⟨j, hj⟩, Finset.mem_univ _, le_rfl⟩)

theorem fullMax_le (s : ℕ → EReal) (B : EReal) (h : ∀ j, j < 8192 → s j ≤ B) : fullMax s ≤ B :=
  (Finset.fold_max_le _).mpr ⟨bot_le, fun c _ => h _ c.isLt⟩

/-- When every key after the first `n` tiles is masked, the running maximum is the row's maximum. -/
theorem rowMax_full (s : ℕ → EReal) (n : ℕ) (hn : 512 * n ≤ 8192) (hs : ∀ j, 512 * n ≤ j → s j = ⊥) :
    rowMax s n = fullMax s := by
  refine le_antisymm (rowMax_le s _ n fun j hj => le_fullMax s j (by omega)) (fullMax_le s _ fun j _ => ?_)
  by_cases h : j < 512 * n
  · exact le_rowMax s n j h
  · rw [hs j (by omega)]; exact bot_le

/-- A sum over the first `n` tiles whose terms vanish afterwards is the sum over all the keys. -/
theorem sum_full (f : ℕ → EReal) (n : ℕ) (hn : 512 * n ≤ 8192) (hf : ∀ j, 512 * n ≤ j → f j = 0) :
    ∑ j ∈ Finset.range (512 * n), f j = ∑ j : Fin 8192, f j.val := by
  rw [Fin.sum_univ_eq_sum_range f 8192]
  refine Finset.sum_subset (Finset.range_subset_range.mpr hn) fun j _ hj => hf j ?_
  simpa using hj

theorem exp_bot_sub (x : EReal) : Ideal.exp (⊥ - x) = 0 := by rw [EReal.bot_sub]; simp

theorem rowSum_full (s : ℕ → EReal) (n : ℕ) (hn : 512 * n ≤ 8192) (hs : ∀ j, 512 * n ≤ j → s j = ⊥) :
    rowSum s n = fullSum s := by
  rw [rowSum_eq, rowMax_full s n hn hs]
  exact sum_full _ n hn fun j hj => by rw [hs j hj, exp_bot_sub]

theorem rowAcc_full (s v : ℕ → EReal) (hv : ∀ j, ∃ r : ℝ, v j = r) (n : ℕ) (hn : 512 * n ≤ 8192)
    (hs : ∀ j, 512 * n ≤ j → s j = ⊥) : rowAcc s v n = ∑ j : Fin 8192, Ideal.exp (s j.val - fullMax s) * v j.val := by
  rw [rowAcc_eq s v hv, rowMax_full s n hn hs]
  exact sum_full (fun j => Ideal.exp (s j - fullMax s) * v j) n hn fun j hj => by
    show Ideal.exp (s j - fullMax s) * v j = 0
    rw [hs j hj, exp_bot_sub, zero_mul]

/-- The softmax denominator of a row with scores that are real or masked, one of them real, is a positive real. -/
theorem fullSum_real (s : ℕ → EReal) (htop : ∀ j, s j ≠ ⊤) (i : ℕ) (hi : i < 8192) (hr : s i ≠ ⊥) :
    ∃ r : ℝ, 0 < r ∧ fullSum s = r := by
  have hmax : ∃ j : Fin 8192, fullMax s = s j.val := by
    obtain ⟨j, _, hj⟩ := Finset.exists_max_image (Finset.univ : Finset (Fin 8192)) (fun j => s j.val) ⟨⟨i, hi⟩, Finset.mem_univ _⟩
    exact ⟨j, le_antisymm (fullMax_le s _ fun k hk => hj ⟨k, hk⟩ (Finset.mem_univ _)) (le_fullMax s _ j.isLt)⟩
  obtain ⟨j, hj⟩ := hmax
  have hbot : s j.val ≠ ⊥ := fun h => hr (le_bot_iff.mp (by rw [← h, ← hj]; exact le_fullMax s i hi))
  have hone : Ideal.exp (s j.val - fullMax s) = 1 := by
    rw [hj]
    generalize hx : s j.val = x at hbot
    have ht : x ≠ ⊤ := hx ▸ htop j.val
    lift x to ℝ using ⟨ht, hbot⟩
    rw [← EReal.coe_sub, sub_self, Ideal.exp_coe, Real.exp_zero]; rfl
  have hre : ∀ k : Fin 8192, ∃ r : ℝ, Ideal.exp (s k.val - fullMax s) = r := fun k => exp_sub_real (le_fullMax s _ k.isLt)
  choose e he using hre
  have hnn : ∀ k, 0 ≤ e k := by
    intro k
    have : (0 : EReal) ≤ (e k : EReal) := by
      rw [← he k]
      generalize s k.val - fullMax s = x
      induction x with
      | bot => simp
      | top => simp
      | coe a => rw [Ideal.exp_coe]; exact_mod_cast (Real.exp_pos a).le
    exact_mod_cast this
  refine ⟨∑ k, e k, ?_, ?_⟩
  · refine lt_of_lt_of_le (zero_lt_one) (le_trans (le_of_eq ?_) (Finset.single_le_sum (fun k _ => hnn k) (Finset.mem_univ j)))
    have : ((e j : ℝ) : EReal) = 1 := by rw [← he j, hone]
    exact_mod_cast this.symm
  · unfold fullSum
    rw [coe_sum]; exact Finset.sum_congr rfl fun k _ => he k

/-- The two quotients' difference is the values' sum under the difference of the two softmax rows. -/
theorem soft_diff (s₀ s₁ v : ℕ → EReal) (lam : EReal) (hlam : ∃ r : ℝ, lam = r) (hv : ∀ j, ∃ r : ℝ, v j = r) (n : ℕ)
    (hn : 512 * n ≤ 8192) (h₀ : ∀ j, 512 * n ≤ j → s₀ j = ⊥) (h₁ : ∀ j, 512 * n ≤ j → s₁ j = ⊥)
    (ht₀ : ∀ j, s₀ j ≠ ⊤) (ht₁ : ∀ j, s₁ j ≠ ⊤) (i : ℕ) (hi : i < 8192) (hr₀ : s₀ i ≠ ⊥) (hr₁ : s₁ i ≠ ⊥) :
    Ideal.div (rowAcc s₀ v n) (rowSum s₀ n) - lam * Ideal.div (rowAcc s₁ v n) (rowSum s₁ n)
      = ∑ j : Fin 8192, (soft s₀ j - lam * soft s₁ j) * v j.val := by
  rw [rowAcc_full s₀ v hv n hn h₀, rowAcc_full s₁ v hv n hn h₁, rowSum_full s₀ n hn h₀, rowSum_full s₁ n hn h₁]
  unfold soft
  obtain ⟨L₀, hL₀, e₀⟩ := fullSum_real s₀ ht₀ i hi hr₀
  obtain ⟨L₁, hL₁, e₁⟩ := fullSum_real s₁ ht₁ i hi hr₁
  obtain ⟨lam, rfl⟩ := hlam
  have hre₀ : ∀ k : Fin 8192, ∃ r : ℝ, Ideal.exp (s₀ k.val - fullMax s₀) = r := fun k => exp_sub_real (le_fullMax s₀ _ k.isLt)
  have hre₁ : ∀ k : Fin 8192, ∃ r : ℝ, Ideal.exp (s₁ k.val - fullMax s₁) = r := fun k => exp_sub_real (le_fullMax s₁ _ k.isLt)
  choose a ha using hre₀
  choose b hb using hre₁
  choose w hw using hv
  rw [e₀, e₁]
  simp only [Ideal.div_coe hL₀.ne', Ideal.div_coe hL₁.ne', ha, hb, hw]
  simp only [← EReal.coe_mul, ← coe_sum, ← EReal.coe_sub]
  refine congrArg _ ?_
  rw [Finset.sum_mul, Finset.sum_mul, Finset.mul_sum, ← Finset.sum_sub_distrib]
  exact Finset.sum_congr rfl fun k _ => by ring

/-- The last step on a row `o` of 128: its RMS norm, the gain `g` and the factor one minus the initial lambda. -/
def outRow (o g : Fin 128 → EReal) (d : Fin 128) : EReal :=
  o d * Ideal.rsqrt (Ideal.div (∑ e, o e * o e) (Ideal.ofBits FTy.f32 0x43000000#32) + Ideal.ofBits FTy.f32 0x358637BD#32) * g d
    * Ideal.ofBits FTy.f32 0x3F4CCCCD#32

/-! ## The specification: one element of the attention's result -/

/-- Element `(R, C)` of a packed array of 16384 rows and 512 columns, `0` outside it. -/
def get (X : FVec Ideal ⟨2, ![16384, 512]⟩ .bf16) (R C : ℕ) : EReal :=
  if h : R < 16384 ∧ C < 512 then X (ix2 ⟨R, h.1⟩ ⟨C, h.2⟩) else 0

theorem get_of_lt (X : FVec Ideal ⟨2, ![16384, 512]⟩ .bf16) (R C : ℕ) (hR : R < 16384) (hC : C < 512) :
    get X R C = X (ix2 ⟨R, hR⟩ ⟨C, hC⟩) := dif_pos ⟨hR, hC⟩

theorem eq_get (X : FVec Ideal ⟨2, ![16384, 512]⟩ .bf16) (r : Fin 16384) (c : Fin 512) (R C : ℕ) (hr : r.val = R) (hc : c.val = C) :
    X (ix2 r c) = get X R C := by
  subst hr; subst hc; exact (get_of_lt X _ _ r.isLt c.isLt).symm

/-- The score of query `i` and key `j` of batch `b` and head `h` under softmax `u`: the product over the head's 64 columns
    of that softmax, masked where the key is later than the query. -/
def score (Q K : FVec Ideal ⟨2, ![16384, 512]⟩ .bf16) (b h u i j : ℕ) : EReal :=
  if j ≤ i then ∑ d : Fin 64, get Q (8192 * b + i) (128 * h + (64 * u + d.val)) * get K (8192 * b + j) (128 * h + (64 * u + d.val)) else ⊥

/-- Entry `d` of value `j` of batch `b` and head `h`. -/
def vals (V : FVec Ideal ⟨2, ![16384, 512]⟩ .bf16) (b h d j : ℕ) : EReal := get V (8192 * b + j) (128 * h + d)

/-- The weight of the second softmax, from the four rows of `lam_vec`. -/
def lam (lv : FVec Ideal ⟨2, ![4, 64]⟩ .f32) : EReal :=
  Ideal.exp (∑ x : Fin 64, lv (ix2 0 x) * lv (ix2 1 x)) - Ideal.exp (∑ x : Fin 64, lv (ix2 2 x) * lv (ix2 3 x)) + Ideal.ofBits .f32 0x3E4CCCCD#32

/-- The differential attention of query `i` at entry `e`. -/
def att (Q K V : FVec Ideal ⟨2, ![16384, 512]⟩ .bf16) (lv : FVec Ideal ⟨2, ![4, 64]⟩ .f32) (b h i e : ℕ) : EReal :=
  ∑ j : Fin 8192, (soft (score Q K b h 0 i) j - lam lv * soft (score Q K b h 1 i) j) * vals V b h e j.val

/-- Element `(R, C)` of the result: token `R % 8192` of batch `R / 8192`, entry `C % 128` of head `C / 128`. -/
def spec (Q K V : FVec Ideal ⟨2, ![16384, 512]⟩ .bf16) (lv : FVec Ideal ⟨2, ![4, 64]⟩ .f32) (g : FVec Ideal ⟨1, ![128]⟩ .f32)
    (R : Fin 16384) (C : Fin 512) : EReal :=
  outRow (fun e => att Q K V lv (R.val / 8192) (C.val / 128) (R.val % 8192) e.val) (fun e => g (ix1 e)) ⟨C.val % 128, by omega⟩

end Cert.Proof.AttMath
-- ==== Proof.AttOut.lean ====
/- Hand-written, untrusted: WHAT ONE TILE OF THE ATTENTION KERNEL DOES TO ONE ROW, over the extended reals. `Row s r z w n` says
   that a slab's row `r` is the running maximum, sum and weighted sum of the scores `z` and values `w` after `n` tiles; the
   slabs before the first tile are so at `n = 0` (`init0_row`, `init1_row`), a tile below the diagonal (`updU0_row`, `updU1_row`)
   and the diagonal tile (`updM0_row`, `updM1_row`) each take `n` to `n + 1`. `finish_apply` is the block the diagonal tile
   stores, at an index. -/
module

public import proofs.«01_k».proof.Proof.AttStep
public import proofs.«01_k».proof.Proof.AttMath
public import Idealize.ShloMosaic.Lib.Pointwise

@[expose] public section

set_option maxRecDepth 16384

noncomputable section

namespace Cert.Proof.AttOut

open Cert.KernelIdeal Cert.KernelIdeal.Gen Idealize.ShloMosaic Idealize.ShloMosaic.TcCoe
open Cert.Proof.Att Cert.Proof.AttMath

/-- The score of a query row and a key row over one half (`h = 0` or `1`) of the 128 lanes. -/
def hs (h : Fin 2) (q k : FVec Ideal S512x128 .bf16) (r c : Fin 512) : EReal :=
  ∑ d : Fin 64, q (ix2 r (⟨64 * h.val + d.val, by omega⟩ : Fin 128)) * k (ix2 c (⟨64 * h.val + d.val, by omega⟩ : Fin 128))

theorem negInf : Ideal.ofBits .f32 0xFF800000#32 = ⊥ := by simp [Ideal.ofBits, Ideal.ieee]

theorem lo_bit : ∀ x : Fin 128, IntOp.xori (IntOp.xori (IntOp.cmpi .slt (BitVec.ofNat 32 x.val) 64#32) 1#1) 1#1 = if x.val < 64 then 1#1 else 0#1 := by
  decide +kernel
theorem hi_bit : ∀ x : Fin 128, IntOp.xori (IntOp.xori (IntOp.cmpi .slt (BitVec.ofNat 32 x.val) 64#32) 0#1) 1#1 = if x.val < 64 then 0#1 else 1#1 := by
  decide +kernel

theorem sel_one {α : Type} (x y : α) : Scalar.select 1#1 x y = x := rfl
theorem sel_zero {α : Type} (x y : α) : Scalar.select 0#1 x y = y := rfl

theorem sel_lo (x : Fin 128) (y z : EReal) :
    Scalar.select (IntOp.xori (IntOp.xori (IntOp.cmpi .slt (BitVec.ofNat 32 x.val) 64#32) 1#1) 1#1) y z = if x.val < 64 then y else z := by
  rw [lo_bit]; split <;> rfl
theorem sel_hi (x : Fin 128) (y z : EReal) :
    Scalar.select (IntOp.xori (IntOp.xori (IntOp.cmpi .slt (BitVec.ofNat 32 x.val) 64#32) 0#1) 1#1) y z = if x.val < 64 then z else y := by
  rw [hi_bit]; split <;> rfl

/-- The comparison of a column with a row is the comparison of their numbers. -/
theorem sel_le (c r : Fin 512) (y z : EReal) :
    Scalar.select (IntOp.cmpi .sle (BitVec.ofNat 32 c.val) (BitVec.ofNat 32 r.val)) y z = if c.val ≤ r.val then y else z := by
  have e : ∀ x : Fin 512, (BitVec.ofNat 32 x.val).toInt = (x.val : Int) := by decide +kernel
  have h : IntOp.cmpi .sle (BitVec.ofNat 32 c.val) (BitVec.ofNat 32 r.val) = if c.val ≤ r.val then 1#1 else 0#1 := by
    have hd : IntOp.cmpi .sle (BitVec.ofNat 32 c.val) (BitVec.ofNat 32 r.val) = BitVec.ofBool (decide (c.val ≤ r.val)) := by
      simp only [IntOp.cmpi, BitVec.sle, e, Nat.cast_le]
    rw [hd]
    by_cases h : c.val ≤ r.val
    · rw [if_pos h, decide_eq_true h]; rfl
    · rw [if_neg h, decide_eq_false h]; rfl
  rw [h]; split <;> rfl

theorem sum_lo (f : Fin 128 → EReal) : (∑ x : Fin 128, if x.val < 64 then f x else 0) = ∑ d : Fin 64, f ⟨64 * 0 + d.val, by omega⟩ := by
  rw [Fin.sum_univ_add (a := 64) (b := 64) (fun x : Fin 128 => if x.val < 64 then f x else 0)]
  have h : ∑ i : Fin 64, (fun x : Fin 128 => if x.val < 64 then f x else 0) (Fin.natAdd 64 i) = 0 :=
    Finset.sum_eq_zero fun i _ => if_neg (by show ¬ 64 + i.val < 64; omega)
  rw [h, add_zero]
  refine Finset.sum_congr rfl fun i _ => ?_
  show (if i.val < 64 then _ else _) = _
  rw [if_pos i.isLt]
  exact congrArg f (Fin.ext (by show i.val = 64 * 0 + i.val; omega))

theorem sum_hi (f : Fin 128 → EReal) : (∑ x : Fin 128, if x.val < 64 then 0 else f x) = ∑ d : Fin 64, f ⟨64 * 1 + d.val, by omega⟩ := by
  rw [Fin.sum_univ_add (a := 64) (b := 64) (fun x : Fin 128 => if x.val < 64 then 0 else f x)]
  have h : ∑ i : Fin 64, (fun x : Fin 128 => if x.val < 64 then 0 else f x) (Fin.castAdd 64 i) = 0 :=
    Finset.sum_eq_zero fun i _ => if_pos (by show i.val < 64; omega)
  rw [h, zero_add]
  refine Finset.sum_congr rfl fun i _ => ?_
  show (if 64 + i.val < 64 then _ else _) = _
  rw [if_neg (by omega)]
  exact congrArg f (Fin.ext (by show 64 + i.val = 64 * 1 + i.val; omega))

theorem mask_bot : (Named.named κ "mask" 0xF149F2CA#32 : Ideal .f32) = (⊥ : EReal) :=
  IdealRules.named_const.ideal_named_scalar _ _ _ _ rfl

variable (q k v : FVec Ideal S512x128 .bf16) (r : Fin 512) (c : Fin 512) (d : Fin 128)

/-- The four score blocks at an index: below the diagonal, and on it, where a later key is masked. -/
theorem pay9_apply : k0_pay9 (F := Ideal) q k (ix2 r c) = hs 0 q k r c := by
  pointwise [k0_pay9, k0_pay8]
  simp only [sel_lo]
  exact sum_lo fun x => q (ix2 r x) * k (ix2 c x)
theorem pay18_apply : k0_pay18 (F := Ideal) q k k0_pay8 (ix2 r c) = hs 1 q k r c := by
  pointwise [k0_pay18, k0_pay8]
  simp only [sel_hi]
  exact sum_hi fun x => q (ix2 r x) * k (ix2 c x)
theorem pay25_apply : k0_pay25 (F := Ideal) q k (ix2 r c) = if c.val ≤ r.val then hs 0 q k r c else ⊥ := by
  pointwise [k0_pay25, k0_pay24]
  rw [sel_le, mask_bot]
  simp only [sel_lo]
  rw [sum_lo fun x => q (ix2 r x) * k (ix2 c x)]; rfl
theorem pay33_apply : k0_pay33 (F := Ideal) q k k0_pay24 (ix2 r c) = if c.val ≤ r.val then hs 1 q k r c else ⊥ := by
  pointwise [k0_pay33, k0_pay24]
  rw [sel_le, mask_bot]
  simp only [sel_hi]
  rw [sum_hi fun x => q (ix2 r x) * k (ix2 c x)]; rfl

/-- A slab's row `r` holds the running maximum, sum and weighted sum of the scores `z` and values `w` after `n` tiles. -/
structure Row (s : Slab Ideal) (r : Fin 512) (z : ℕ → EReal) (w : Fin 128 → ℕ → EReal) (n : ℕ) : Prop where
  m : s.m (ix3 0 r 0) = rowMax z n
  l : s.l (ix3 0 r 0) = rowSum z n
  a : ∀ d : Fin 128, s.a (ix3 0 r d) = rowAcc z (w d) n

theorem init0_row (z : ℕ → EReal) (w : Fin 128 → ℕ → EReal) : Row init0 r z w 0 where
  m := by
    show k0_pay1 (F := Ideal) (R0.emb (ix3 0 r 0)) = ⊥
    exact mask_bot
  l := by
    show k0_pay2 (F := Ideal) (R0.emb (ix3 0 r 0)) = 0
    exact Ideal.ofBits_zero .f32
  a := fun d => by
    show k0_pay3 (F := Ideal) (Q0.emb (ix3 0 r d)) = 0
    exact Ideal.ofBits_zero .f32

theorem init1_row (z : ℕ → EReal) (w : Fin 128 → ℕ → EReal) : Row init1 r z w 0 where
  m := by
    show k0_pay1 (F := Ideal) (R1.emb (ix3 0 r 0)) = ⊥
    exact mask_bot
  l := by
    show k0_pay2 (F := Ideal) (R1.emb (ix3 0 r 0)) = 0
    exact Ideal.ofBits_zero .f32
  a := fun d => by
    show k0_pay3 (F := Ideal) (Q1.emb (ix3 0 r d)) = 0
    exact Ideal.ofBits_zero .f32

/-- A tile below the diagonal takes a row from `n` tiles to `n + 1`, in either slab. -/
theorem updU0_row (s : Slab Ideal) (z : ℕ → EReal) (w : Fin 128 → ℕ → EReal) (n : ℕ) (hs' : Row s r z w n)
    (hz : ∀ c : Fin 512, hs 0 q k r c = z (512 * n + c.val))
    (hw : ∀ (c : Fin 512) d, v (ix2 c d) = w d (512 * n + c.val)) : Row (updU0 q k v s) r z w (n + 1) := by
  have hM : k0_pay11 (F := Ideal) q k s.m (ix2 r 0) = rowMax z (n + 1) := by
    pointwise [k0_pay11, k0_pay10]
    simp only [pay9_apply, hz, hs'.m, negInf]
    rfl
  have hC : k0_pay13 (F := Ideal) q k s.m (ix2 r 0) = Ideal.exp (rowMax z n - rowMax z (n + 1)) := by
    pointwise [k0_pay13, k0_pay10]
    simp only [hM, hs'.m]
  have hP : ∀ c : Fin 512, k0_pay12 (F := Ideal) q k s.m (ix2 r c) = Ideal.exp (z (512 * n + c.val) - rowMax z (n + 1)) := fun c => by
    pointwise [k0_pay12]
    simp only [hM, pay9_apply, hz]
  refine ⟨?_, ?_, fun d => ?_⟩
  · show k0_pay17 (k0_pay11 (F := Ideal) q k s.m) (ix3 0 r 0) = _
    pointwise [k0_pay17]
    exact hM
  · show k0_pay14 (F := Ideal) q k s.m s.l (ix3 0 r 0) = _
    pointwise [k0_pay14]
    simp only [hP, hC, hs'.l]
    rfl
  · show k0_pay16 (F := Ideal) v (k0_pay12 q k s.m) (k0_pay13 q k s.m) (k0_pay15 s.a) (ix3 0 r d) = _
    pointwise [k0_pay16, k0_pay15]
    simp only [hP, hC, hs'.a, hw]
    rfl

theorem updU1_row (s : Slab Ideal) (z : ℕ → EReal) (w : Fin 128 → ℕ → EReal) (n : ℕ) (hs' : Row s r z w n)
    (hz : ∀ c : Fin 512, hs 1 q k r c = z (512 * n + c.val))
    (hw : ∀ (c : Fin 512) d, v (ix2 c d) = w d (512 * n + c.val)) : Row (updU1 q k v s) r z w (n + 1) := by
  have hM : k0_pay20 (F := Ideal) q k k0_pay8 s.m (ix2 r 0) = rowMax z (n + 1) := by
    pointwise [k0_pay20, k0_pay19]
    simp only [pay18_apply, hz, hs'.m, negInf]
    rfl
  have hC : k0_pay22 (F := Ideal) q k k0_pay8 s.m (ix2 r 0) = Ideal.exp (rowMax z n - rowMax z (n + 1)) := by
    pointwise [k0_pay22, k0_pay19]
    simp only [hM, hs'.m]
  have hP : ∀ c : Fin 512, k0_pay21 (F := Ideal) q k k0_pay8 s.m (ix2 r c) = Ideal.exp (z (512 * n + c.val) - rowMax z (n + 1)) := fun c => by
    pointwise [k0_pay21]
    simp only [hM, pay18_apply, hz]
  refine ⟨?_, ?_, fun d => ?_⟩
  · show k0_pay6 (k0_pay20 (F := Ideal) q k k0_pay8 s.m) (ix3 0 r 0) = _
    pointwise [k0_pay6]
    exact hM
  · show k0_pay4 (F := Ideal) (k0_pay23 q k k0_pay8 s.m s.l) (ix3 0 r 0) = _
    pointwise [k0_pay4, k0_pay23]
    simp only [hP, hC, hs'.l]
    rfl
  · show k0_pay5 (F := Ideal) v (k0_pay21 q k k0_pay8 s.m) (k0_pay22 q k k0_pay8 s.m) s.a (ix3 0 r d) = _
    pointwise [k0_pay5, k0_pay15]
    simp only [hP, hC, hs'.a, hw]
    rfl

/-- The diagonal tile does so with the later keys of the tile masked. -/
theorem updM0_row (s : Slab Ideal) (z : ℕ → EReal) (w : Fin 128 → ℕ → EReal) (n : ℕ) (hs' : Row s r z w n)
    (hz : ∀ c : Fin 512, (if c.val ≤ r.val then hs 0 q k r c else ⊥) = z (512 * n + c.val))
    (hw : ∀ (c : Fin 512) d, v (ix2 c d) = w d (512 * n + c.val)) : Row (updM0 q k v s) r z w (n + 1) := by
  have hM : k0_pay27 (F := Ideal) q k s.m (ix2 r 0) = rowMax z (n + 1) := by
    pointwise [k0_pay27, k0_pay26]
    simp only [pay25_apply, hz, hs'.m, negInf]
    rfl
  have hC : k0_pay29 (F := Ideal) q k s.m (ix2 r 0) = Ideal.exp (rowMax z n - rowMax z (n + 1)) := by
    pointwise [k0_pay29, k0_pay26]
    simp only [hM, hs'.m]
  have hP : ∀ c : Fin 512, k0_pay28 (F := Ideal) q k s.m (ix2 r c) = Ideal.exp (z (512 * n + c.val) - rowMax z (n + 1)) := fun c => by
    pointwise [k0_pay28]
    simp only [hM, pay25_apply, hz]
  refine ⟨?_, ?_, fun d => ?_⟩
  · show k0_pay32 (k0_pay27 (F := Ideal) q k s.m) (ix3 0 r 0) = _
    pointwise [k0_pay32]
    exact hM
  · show k0_pay30 (F := Ideal) q k s.m s.l (ix3 0 r 0) = _
    pointwise [k0_pay30]
    simp only [hP, hC, hs'.l]
    rfl
  · show k0_pay31 (F := Ideal) v (k0_pay28 q k s.m) (k0_pay29 q k s.m) s.a (ix3 0 r d) = _
    pointwise [k0_pay31, k0_pay15]
    simp only [hP, hC, hs'.a, hw]
    rfl

theorem updM1_row (s : Slab Ideal) (z : ℕ → EReal) (w : Fin 128 → ℕ → EReal) (n : ℕ) (hs' : Row s r z w n)
    (hz : ∀ c : Fin 512, (if c.val ≤ r.val then hs 1 q k r c else ⊥) = z (512 * n + c.val))
    (hw : ∀ (c : Fin 512) d, v (ix2 c d) = w d (512 * n + c.val)) : Row (updM1 q k v s) r z w (n + 1) := by
  have hM : k0_pay35 (F := Ideal) q k k0_pay24 s.m (ix2 r 0) = rowMax z (n + 1) := by
    pointwise [k0_pay35, k0_pay34]
    simp only [pay33_apply, hz, hs'.m, negInf]
    rfl
  have hC : k0_pay37 (F := Ideal) q k k0_pay24 s.m (ix2 r 0) = Ideal.exp (rowMax z n - rowMax z (n + 1)) := by
    pointwise [k0_pay37, k0_pay34]
    simp only [hM, hs'.m]
  have hP : ∀ c : Fin 512, k0_pay36 (F := Ideal) q k k0_pay24 s.m (ix2 r c) = Ideal.exp (z (512 * n + c.val) - rowMax z (n + 1)) := fun c => by
    pointwise [k0_pay36]
    simp only [hM, pay33_apply, hz]
  refine ⟨?_, ?_, fun d => ?_⟩
  · show k0_pay40 (k0_pay35 (F := Ideal) q k k0_pay24 s.m) (ix3 0 r 0) = _
    pointwise [k0_pay40]
    exact hM
  · show k0_pay38 (F := Ideal) (k0_pay36 q k k0_pay24 s.m) (k0_pay37 q k k0_pay24 s.m) s.l (ix3 0 r 0) = _
    pointwise [k0_pay38]
    simp only [hP, hC, hs'.l]
    rfl
  · show k0_pay39 (F := Ideal) v (k0_pay36 q k k0_pay24 s.m) (k0_pay37 q k k0_pay24 s.m) s.a (ix3 0 r d) = _
    pointwise [k0_pay39, k0_pay15]
    simp only [hP, hC, hs'.a, hw]
    rfl

/-- The weight of the second softmax as the kernel computes it. -/
theorem lam_apply (lv : FVec Ideal S4x64 .f32) : k0_pay41 (F := Ideal) lv (ix2 0 0) = lam lv := by
  pointwise [k0_pay41]
  rfl

/-- What the diagonal tile stores: the difference of the two weighted means, normed. -/
theorem finish_apply (lv : FVec Ideal S4x64 .f32) (dn : FVec Ideal S1x128 .f32) (s0 s1 : Slab Ideal) :
    finish lv dn s0 s1 (ix2 r d) = outRow
      (fun e => Ideal.div (s0.a (ix3 0 r e)) (s0.l (ix3 0 r 0)) - lam lv * Ideal.div (s1.a (ix3 0 r e)) (s1.l (ix3 0 r 0)))
      (fun e => dn (ix2 0 e)) d := by
  unfold finish
  pointwise [k0_pay7]
  rw [lam_apply]
  rfl

end Cert.Proof.AttOut

end
-- ==== Proof.AttVal.lean ====
/- Hand-written, untrusted: THE RUN OF THE ATTENTION KERNEL WITH ITS RESULT NAMED, over the extended reals. Along a row of
   tiles the two slabs hold the running maximum, sum and weighted sum of the row's scores (`slabs_rows`, by induction over the
   grid); the block written back at the row's end is the one its diagonal point stored (`outAt_last`); the blocks cover the
   result array (`covered5`), so it ends at `G`, whose element is `tiled` (`run`). Where the arguments are real numbers `tiled` is
   the specification `AttMath.spec` (`tiled_eq_spec`). -/
module

public import proofs.«01_k».proof.Proof.AttFrame
public import proofs.«01_k».proof.Proof.AttOut

@[expose] public section

set_option maxRecDepth 16384

noncomputable section

namespace Cert.Proof.AttVal

open Cert.KernelIdeal Cert.KernelIdeal.Gen Idealize.ShloMosaic Idealize.ShloMosaic.TcCoe Idealize.SL.Sem
open Cert.Proof.Att Cert.Proof.AttMath Cert.Proof.AttOut

/-! ## The tiled form and the specification -/

/-- The tiled attention of query `i` at entry `e`: the two running quotients after the tiles up to the query's own. -/
def tatt (Q K V : FVec Ideal S16384x512 .bf16) (lv : FVec Ideal S4x64 .f32) (b h i e : ℕ) : EReal :=
  Ideal.div (rowAcc (score Q K b h 0 i) (vals V b h e) (i / 512 + 1)) (rowSum (score Q K b h 0 i) (i / 512 + 1))
    - lam lv * Ideal.div (rowAcc (score Q K b h 1 i) (vals V b h e) (i / 512 + 1)) (rowSum (score Q K b h 1 i) (i / 512 + 1))

/-- Element `(R, C)` of what the kernel computes. -/
def tiled (Q K V : FVec Ideal S16384x512 .bf16) (lv : FVec Ideal S4x64 .f32) (g : FVec Ideal S128 .f32) (R : Fin 16384) (C : Fin 512) : EReal :=
  outRow (fun e => tatt Q K V lv (R.val / 8192) (C.val / 128) (R.val % 8192) e.val) (fun e => g (ix1 e)) ⟨C.val % 128, by omega⟩

theorem get_real (X : FVec Ideal S16384x512 .bf16) (h : ∀ i, ∃ r : ℝ, X i = (r : EReal)) (R C : ℕ) : ∃ r : ℝ, get X R C = (r : EReal) := by
  unfold AttMath.get
  split
  · exact h _
  · exact ⟨0, rfl⟩

theorem sum_real {ι : Type} (t : Finset ι) (f : ι → EReal) (hf : ∀ i, ∃ r : ℝ, f i = (r : EReal)) : ∃ r : ℝ, ∑ i ∈ t, f i = (r : EReal) := by
  choose g hg using hf
  exact ⟨∑ i ∈ t, g i, by rw [coe_sum]; exact Finset.sum_congr rfl fun i _ => hg i⟩

theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem exp_real {x : EReal} (hx : ∃ r : ℝ, x = r) : ∃ r : ℝ, Ideal.exp x = r := by
  obtain ⟨a, rfl⟩ := hx; exact ⟨Real.exp a, Ideal.exp_coe a⟩

theorem lam_real (lv : FVec Ideal S4x64 .f32) (h : ∀ i, ∃ r : ℝ, lv i = (r : EReal)) : ∃ r : ℝ, lam lv = r := by
  obtain ⟨a, ha⟩ := exp_real (sum_real Finset.univ (fun x : Fin 64 => lv (ix2 0 x) * lv (ix2 1 x)) fun x => mul_real (h _) (h _))
  obtain ⟨b, hb⟩ := exp_real (sum_real Finset.univ (fun x : Fin 64 => lv (ix2 2 x) * lv (ix2 3 x)) fun x => mul_real (h _) (h _))
  obtain ⟨d, hd⟩ : ∃ r : ℝ, Ideal.ofBits .f32 0x3E4CCCCD#32 = r := ⟨_, by simp [Ideal.ofBits, Ideal.ieee]; rfl⟩
  exact ⟨a - b + d, by unfold lam; rw [ha, hb, hd, ← EReal.coe_sub, ← EReal.coe_add]⟩

theorem score_real (Q K : FVec Ideal S16384x512 .bf16) (hQ : ∀ i, ∃ r : ℝ, Q i = (r : EReal)) (hK : ∀ i, ∃ r : ℝ, K i = (r : EReal))
    (b h u i j : ℕ) (hj : j ≤ i) : ∃ r : ℝ, score Q K b h u i j = r := by
  unfold score
  rw [if_pos hj]
  exact sum_real _ _ fun d => mul_real (get_real Q hQ _ _) (get_real K hK _ _)

/-- On real arguments the tiled attention is the attention. -/
theorem tatt_eq_att (Q K V : FVec Ideal S16384x512 .bf16) (lv : FVec Ideal S4x64 .f32)
    (hQ : ∀ i, ∃ r : ℝ, Q i = (r : EReal)) (hK : ∀ i, ∃ r : ℝ, K i = (r : EReal)) (hV : ∀ i, ∃ r : ℝ, V i = (r : EReal))
    (hl : ∀ i, ∃ r : ℝ, lv i = (r : EReal)) (b h i e : ℕ) (hi : i < 8192) : tatt Q K V lv b h i e = att Q K V lv b h i e := by
  have top : ∀ u j, score Q K b h u i j ≠ ⊤ := fun u j => by
    by_cases hj : j ≤ i
    · obtain ⟨r, hr⟩ := score_real Q K hQ hK b h u i j hj; rw [hr]; exact EReal.coe_ne_top r
    · unfold score; rw [if_neg hj]; exact bot_ne_top
  have late : ∀ u j, 512 * (i / 512 + 1) ≤ j → score Q K b h u i j = ⊥ := fun u j hj => by
    unfold score; rw [if_neg (by omega)]
  have own : ∀ u, score Q K b h u i i ≠ ⊥ := fun u => by
    obtain ⟨r, hr⟩ := score_real Q K hQ hK b h u i i le_rfl; rw [hr]; exact EReal.coe_ne_bot r
  exact soft_diff _ _ _ _ (lam_real lv hl) (fun j => get_real V hV _ _) _ (by omega) (late 0) (late 1) (top 0) (top 1) i hi (own 0) (own 1)

theorem tiled_eq_spec (Q K V : FVec Ideal S16384x512 .bf16) (lv : FVec Ideal S4x64 .f32) (g : FVec Ideal S128 .f32)
    (hQ : ∀ i, ∃ r : ℝ, Q i = (r : EReal)) (hK : ∀ i, ∃ r : ℝ, K i = (r : EReal)) (hV : ∀ i, ∃ r : ℝ, V i = (r : EReal))
    (hl : ∀ i, ∃ r : ℝ, lv i = (r : EReal)) (R : Fin 16384) (C : Fin 512) : tiled Q K V lv g R C = spec Q K V lv g R C := by
  unfold tiled spec
  exact congrArg (fun o => outRow o (fun e => g (ix1 e)) ⟨C.val % 128, by omega⟩)
    (funext fun e => tatt_eq_att Q K V lv hQ hK hV hl _ _ _ _ (by omega))

/-! ## The blocks of a grid point -/

variable (m : (ℓ : Loc nD τ sig) → Buf (Elt Ideal) ℓ) (ρ : Dev nD → PrngReg) (c : Dev nD)

/-- The argument arrays as vectors of extended reals. -/
abbrev a0 : FVec Ideal S16384x512 .bf16 := m ((c : Thread nD τ).loc main_arg0)
abbrev a1 : FVec Ideal S16384x512 .bf16 := m ((c : Thread nD τ).loc main_arg1)
abbrev a2 : FVec Ideal S16384x512 .bf16 := m ((c : Thread nD τ).loc main_arg2)
abbrev a3 : FVec Ideal S4x64 .f32 := m ((c : Thread nD τ).loc main_arg3)
abbrev a4 : FVec Ideal S128 .f32 := m ((c : Thread nD τ).loc main_arg4)

theorem V_v0 : V m c main_v0 = shapeCast S1x128 (a4 m c) shapeCasts_S128_S1x128 := by
  simp only [V, hostOps0]; after_results_simp <;> rfl

theorem tlt (t : Fin cfg0.N) : t.val < 2048 := t.isLt

theorem ixq : ∀ t : Fin cfg0.N, win0_0.index t (0 : Fin 2) = t.val / 1024 * 16 + t.val / 16 % 16 ∧ win0_0.index t (1 : Fin 2) = t.val / 256 % 4 :=
  (by decide +kernel : ∀ t : Fin grid0.N, _)
theorem ixk : ∀ t : Fin cfg0.N, win0_1.index t (0 : Fin 2) = t.val / 1024 * 16 + min (t.val % 16) (t.val / 16 % 16) ∧ win0_1.index t (1 : Fin 2) = t.val / 256 % 4 :=
  (by decide +kernel : ∀ t : Fin grid0.N, _)
theorem ixv : ∀ t : Fin cfg0.N, win0_2.index t (0 : Fin 2) = t.val / 1024 * 16 + min (t.val % 16) (t.val / 16 % 16) ∧ win0_2.index t (1 : Fin 2) = t.val / 256 % 4 :=
  (by decide +kernel : ∀ t : Fin grid0.N, _)
theorem ixl : ∀ t : Fin cfg0.N, win0_3.index t (0 : Fin 2) = 0 ∧ win0_3.index t (1 : Fin 2) = 0 := (by decide +kernel : ∀ t : Fin grid0.N, _)
theorem ixg : ∀ t : Fin cfg0.N, win0_4.index t (0 : Fin 2) = 0 ∧ win0_4.index t (1 : Fin 2) = 0 := (by decide +kernel : ∀ t : Fin grid0.N, _)
theorem ixo : ∀ t : Fin cfg0.N, win0_5.index t (0 : Fin 2) = t.val / 1024 * 16 + t.val / 16 % 16 ∧ win0_5.index t (1 : Fin 2) = t.val / 256 % 4 :=
  (by decide +kernel : ∀ t : Fin grid0.N, _)

theorem iblk0_apply (t : Fin cfg0.N) (r : Fin 512) (d : Fin 128) :
    iblk m c 0 t (ix2 r d) = get (a0 m c) (8192 * (t.val / 1024) + (512 * (t.val / 16 % 16) + r.val)) (128 * (t.val / 256 % 4) + d.val) := by
  obtain ⟨e0, e1⟩ := ixq t
  have ht := tlt t
  rw [get_of_lt _ _ _ (by omega) (by omega)]
  show V m c main_arg0 (((cfg0.win 0).blk t).view.emb (ix2 r d)) = _
  rw [V_main_arg0]
  refine congrArg (a0 m c) (funext fun a => Fin.ext ?_)
  match a with
  | ⟨0, _⟩ => show win0_0.index t (0 : Fin 2) * 512 + 1 * r.val = 8192 * (t.val / 1024) + (512 * (t.val / 16 % 16) + r.val); omega
  | ⟨1, _⟩ => show win0_0.index t (1 : Fin 2) * 128 + 1 * d.val = 128 * (t.val / 256 % 4) + d.val; omega

theorem iblk1_apply (t : Fin cfg0.N) (r : Fin 512) (d : Fin 128) :
    iblk m c 1 t (ix2 r d) = get (a1 m c) (8192 * (t.val / 1024) + (512 * min (t.val % 16) (t.val / 16 % 16) + r.val)) (128 * (t.val / 256 % 4) + d.val) := by
  obtain ⟨e0, e1⟩ := ixk t
  have ht := tlt t
  rw [get_of_lt _ _ _ (by omega) (by omega)]
  show V m c main_arg1 (((cfg0.win 1).blk t).view.emb (ix2 r d)) = _
  rw [V_main_arg1]
  refine congrArg (a1 m c) (funext fun a => Fin.ext ?_)
  match a with
  | ⟨0, _⟩ => show win0_1.index t (0 : Fin 2) * 512 + 1 * r.val = 8192 * (t.val / 1024) + (512 * min (t.val % 16) (t.val / 16 % 16) + r.val); omega
  | ⟨1, _⟩ => show win0_1.index t (1 : Fin 2) * 128 + 1 * d.val = 128 * (t.val / 256 % 4) + d.val; omega

theorem iblk2_apply (t : Fin cfg0.N) (r : Fin 512) (d : Fin 128) :
    iblk m c 2 t (ix2 r d) = get (a2 m c) (8192 * (t.val / 1024) + (512 * min (t.val % 16) (t.val / 16 % 16) + r.val)) (128 * (t.val / 256 % 4) + d.val) := by
  obtain ⟨e0, e1⟩ := ixv t
  have ht := tlt t
  rw [get_of_lt _ _ _ (by omega) (by omega)]
  show V m c main_arg2 (((cfg0.win 2).blk t).view.emb (ix2 r d)) = _
  rw [V_main_arg2]
  refine congrArg (a2 m c) (funext fun a => Fin.ext ?_)
  match a with
  | ⟨0, _⟩ => show win0_2.index t (0 : Fin 2) * 512 + 1 * r.val = 8192 * (t.val / 1024) + (512 * min (t.val % 16) (t.val / 16 % 16) + r.val); omega
  | ⟨1, _⟩ => show win0_2.index t (1 : Fin 2) * 128 + 1 * d.val = 128 * (t.val / 256 % 4) + d.val; omega

theorem iblk3_eq (t : Fin cfg0.N) : iblk m c 3 t = a3 m c := by
  obtain ⟨e0, e1⟩ := ixl t
  funext j
  obtain ⟨p, d, rfl⟩ : ∃ (p : Fin 4) (d : Fin 64), j = ix2 p d := ⟨j 0, j 1, eq_ix2 j⟩
  show V m c main_arg3 (((cfg0.win 3).blk t).view.emb (ix2 p d)) = _
  rw [V_main_arg3]
  refine congrArg (a3 m c) (funext fun a => Fin.ext ?_)
  match a with
  | ⟨0, _⟩ => show win0_3.index t (0 : Fin 2) * 4 + 1 * p.val = p.val; omega
  | ⟨1, _⟩ => show win0_3.index t (1 : Fin 2) * 64 + 1 * d.val = d.val; omega

theorem iblk4_apply (t : Fin cfg0.N) (d : Fin 128) : iblk m c 4 t (ix2 0 d) = a4 m c (ix1 d) := by
  obtain ⟨e0, e1⟩ := ixg t
  have he : ((cfg0.win 4).blk t).view.emb (ix2 0 d) = ix2 (0 : Fin 1) d := by
    funext a; apply Fin.ext
    match a with
    | ⟨0, _⟩ => show win0_4.index t (0 : Fin 2) * 1 + 1 * 0 = 0; omega
    | ⟨1, _⟩ => show win0_4.index t (1 : Fin 2) * 128 + 1 * d.val = d.val; omega
  show V m c main_v0 (((cfg0.win 4).blk t).view.emb (ix2 0 d)) = _
  rw [he, V_v0]
  pointwise

/-! ## The slabs along a row of tiles -/

/-- The scores and values of query row `r` of point `n`'s row of tiles. -/
abbrev zAt (u n : ℕ) (r : Fin 512) : ℕ → EReal := score (a0 m c) (a1 m c) (n / 1024) (n / 256 % 4) u (512 * (n / 16 % 16) + r.val)
abbrev wAt (n : ℕ) (d : Fin 128) : ℕ → EReal := vals (a2 m c) (n / 1024) (n / 256 % 4) d.val

/-- A product of a query row and a key row of point `t`'s blocks, over one half of the lanes. -/
theorem hs_eq (t : Fin cfg0.N) (u : Fin 2) (r k : Fin 512) :
    hs u (iblk m c 0 t) (iblk m c 1 t) r k = ∑ d : Fin 64,
      get (a0 m c) (8192 * (t.val / 1024) + (512 * (t.val / 16 % 16) + r.val)) (128 * (t.val / 256 % 4) + (64 * u.val + d.val))
        * get (a1 m c) (8192 * (t.val / 1024) + (512 * min (t.val % 16) (t.val / 16 % 16) + k.val)) (128 * (t.val / 256 % 4) + (64 * u.val + d.val)) := by
  unfold hs
  exact Finset.sum_congr rfl fun d _ => congrArg₂ (· * ·) (iblk0_apply m c t _ _) (iblk1_apply m c t _ _)

theorem hz_below (t : Fin cfg0.N) (u : Fin 2) (r : Fin 512) (h : t.val % 16 + 1 ≤ t.val / 16 % 16) (k : Fin 512) :
    hs u (iblk m c 0 t) (iblk m c 1 t) r k = zAt m c u.val t.val r (512 * (t.val % 16) + k.val) := by
  rw [hs_eq]
  show _ = score _ _ _ _ _ _ _
  unfold score
  rw [if_pos (by omega), min_eq_left (by omega)]

theorem hz_diag (t : Fin cfg0.N) (u : Fin 2) (r : Fin 512) (h : t.val / 16 % 16 = t.val % 16) (k : Fin 512) :
    (if k.val ≤ r.val then hs u (iblk m c 0 t) (iblk m c 1 t) r k else ⊥) = zAt m c u.val t.val r (512 * (t.val % 16) + k.val) := by
  rw [hs_eq]
  show _ = score _ _ _ _ _ _ _
  unfold score
  rw [min_eq_left (by omega)]
  exact if_congr (by omega) rfl rfl

theorem hw_at (t : Fin cfg0.N) (h : t.val % 16 ≤ t.val / 16 % 16) (k : Fin 512) (d : Fin 128) :
    iblk m c 2 t (ix2 k d) = wAt m c t.val d (512 * (t.val % 16) + k.val) := by
  rw [iblk2_apply, min_eq_left h]; rfl

/-- Both slabs' row `r` after `n` tiles of point `t`'s row of tiles. -/
def Rows (b : Slab Ideal × Slab Ideal) (t n : ℕ) : Prop :=
  ∀ r : Fin 512, Row b.1 r (zAt m c 0 t r) (wAt m c t) n ∧ Row b.2 r (zAt m c 1 t r) (wAt m c t) n

/-- A tile up to the diagonal takes both slabs one tile on; a later one leaves them. -/
theorem tileStep_rows (t : Fin cfg0.N) (b : Slab Ideal × Slab Ideal) (hb : Rows m c b t.val (min (t.val % 16) (t.val / 16 % 16 + 1))) :
    Rows m c (tileStep m c t b) t.val (min (t.val % 16 + 1) (t.val / 16 % 16 + 1)) := by
  intro r
  obtain ⟨h0, h1⟩ := hb r
  unfold tileStep
  by_cases hl : t.val % 16 + 1 ≤ t.val / 16 % 16
  · rw [if_pos hl]
    rw [min_eq_left (by omega)] at h0 h1 ⊢
    exact ⟨updU0_row _ _ _ r _ _ _ _ h0 (hz_below m c t 0 r hl) (hw_at m c t (by omega)),
      updU1_row _ _ _ r _ _ _ _ h1 (hz_below m c t 1 r hl) (hw_at m c t (by omega))⟩
  · rw [if_neg hl]
    by_cases hd : t.val / 16 % 16 = t.val % 16
    · rw [if_pos hd]
      rw [min_eq_left (by omega)] at h0 h1 ⊢
      exact ⟨updM0_row _ _ _ r _ _ _ _ h0 (hz_diag m c t 0 r hd) (hw_at m c t (by omega)),
        updM1_row _ _ _ r _ _ _ _ h1 (hz_diag m c t 1 r hd) (hw_at m c t (by omega))⟩
    · rw [if_neg hd]
      rw [min_eq_right (by omega)] at h0 h1 ⊢
      exact ⟨h0, h1⟩

/-- After point `n` the slabs hold the tiles of its row so far, up to the diagonal. -/
theorem slabs_rows : ∀ (n : ℕ) (t : Fin cfg0.N), t.val = n →
    Rows m c (slabs m c t.val t.isLt) t.val (min (t.val % 16 + 1) (t.val / 16 % 16 + 1)) := by
  intro n
  induction n with
  | zero =>
    intro t ht
    rw [slabs_first m c t (by omega)]
    refine tileStep_rows m c t _ fun r => ?_
    rw [show min (t.val % 16) (t.val / 16 % 16 + 1) = 0 by omega]
    exact ⟨init0_row r _ _, init1_row r _ _⟩
  | succ n ih =>
    intro t ht
    by_cases h0 : t.val % 16 = 0
    · rw [slabs_first m c t h0]
      refine tileStep_rows m c t _ fun r => ?_
      rw [show min (t.val % 16) (t.val / 16 % 16 + 1) = 0 by omega]
      exact ⟨init0_row r _ _, init1_row r _ _⟩
    · rw [slabs_next m c t h0]
      refine tileStep_rows m c t _ fun r => ?_
      have hlt : t.val - 1 < cfg0.N := Nat.lt_of_le_of_lt (Nat.sub_le _ _) t.isLt
      have h := ih ⟨t.val - 1, hlt⟩ (by show t.val - 1 = n; omega) r
      simp only at h
      rw [show (t.val - 1) % 16 + 1 = t.val % 16 by omega, show (t.val - 1) / 16 % 16 = t.val / 16 % 16 by omega] at h
      unfold zAt wAt at h ⊢
      rw [show (t.val - 1) / 1024 = t.val / 1024 by omega, show (t.val - 1) / 256 % 4 = t.val / 256 % 4 by omega,
        show (t.val - 1) / 16 % 16 = t.val / 16 % 16 by omega] at h
      exact h

/-! ## The result array -/

/-- Row `r` of point `t`'s output block is row `rowOf t r` of the array, its lane `d` column `colOf t d`. -/
abbrev rowOf (t : Fin cfg0.N) (r : Fin 512) : Fin 16384 :=
  ⟨8192 * (t.val / 1024) + (512 * (t.val / 16 % 16) + r.val), by have := tlt t; omega⟩
abbrev colOf (t : Fin cfg0.N) (d : Fin 128) : Fin 512 := ⟨128 * (t.val / 256 % 4) + d.val, by have := tlt t; omega⟩

/-- The result array as one function of the argument arrays. -/
def G : FVec Ideal S16384x512 .bf16 := fun j => tiled (a0 m c) (a1 m c) (a2 m c) (a3 m c) (a4 m c) (j 0) (j 1)

/-- What a diagonal point stores, at an index. -/
theorem finAt_apply (t : Fin cfg0.N) (h : t.val / 16 % 16 = t.val % 16) (r : Fin 512) (d : Fin 128) :
    finAt m c t (ix2 r d) = tiled (a0 m c) (a1 m c) (a2 m c) (a3 m c) (a4 m c) (rowOf t r) (colOf t d) := by
  unfold finAt
  have ht := tlt t
  obtain ⟨h0, h1⟩ := slabs_rows m c t.val t rfl r
  rw [min_eq_left (by omega)] at h0 h1
  rw [finish_apply, iblk3_eq]
  simp only [h0.a, h0.l, h1.a, h1.l, iblk4_apply]
  unfold tiled tatt
  rw [show (rowOf t r).val / 8192 = t.val / 1024 by show (8192 * (t.val / 1024) + (512 * (t.val / 16 % 16) + r.val)) / 8192 = _; omega,
    show (rowOf t r).val % 8192 = 512 * (t.val / 16 % 16) + r.val by show (8192 * (t.val / 1024) + (512 * (t.val / 16 % 16) + r.val)) % 8192 = _; omega,
    show (colOf t d).val / 128 = t.val / 256 % 4 by show (128 * (t.val / 256 % 4) + d.val) / 128 = _; omega,
    show (512 * (t.val / 16 % 16) + r.val) / 512 + 1 = t.val % 16 + 1 by omega]
  exact congrArg (outRow _ _) (Fin.ext (by show d.val = (128 * (t.val / 256 % 4) + d.val) % 128; omega))

/-- From a row's diagonal point on, the output block is the one that point stored. -/
theorem outAt_row : ∀ (n : ℕ) (t : Fin cfg0.N), t.val % 16 = t.val / 16 % 16 + n → ∀ (r : Fin 512) (d : Fin 128),
    outAt m c t.val t.isLt (ix2 r d) = tiled (a0 m c) (a1 m c) (a2 m c) (a3 m c) (a4 m c) (rowOf t r) (colOf t d) := by
  intro n
  induction n with
  | zero => intro t ht r d; rw [outAt_diag m c t (by omega)]; exact finAt_apply m c t (by omega) r d
  | succ n ih =>
    intro t ht r d
    have hlt : t.val - 1 < cfg0.N := Nat.lt_of_le_of_lt (Nat.sub_le _ _) t.isLt
    have e16 : (t.val - 1) / 16 = t.val / 16 := by omega
    rw [outAt_off m c t (by omega), ih ⟨t.val - 1, hlt⟩ (by show (t.val - 1) % 16 = (t.val - 1) / 16 % 16 + n; rw [e16]; omega) r d]
    exact congrArg₂ (tiled _ _ _ _ _)
      (Fin.ext (by show 8192 * ((t.val - 1) / 1024) + (512 * ((t.val - 1) / 16 % 16) + r.val) = 8192 * (t.val / 1024) + (512 * (t.val / 16 % 16) + r.val); omega))
      (Fin.ext (by show 128 * ((t.val - 1) / 256 % 4) + d.val = 128 * (t.val / 256 % 4) + d.val; omega))

/-- An index of the output window's block as an index of the array. -/
theorem emb5 (t : Fin cfg0.N) (r : Fin 512) (d : Fin 128) : ((cfg0.win 5).blk t).view.emb (ix2 r d) = ix2 (rowOf t r) (colOf t d) := by
  obtain ⟨e0, e1⟩ := ixo t
  funext a; apply Fin.ext
  match a with
  | ⟨0, _⟩ => show win0_5.index t (0 : Fin 2) * 512 + 1 * r.val = 8192 * (t.val / 1024) + (512 * (t.val / 16 % 16) + r.val); omega
  | ⟨1, _⟩ => show win0_5.index t (1 : Fin 2) * 128 + 1 * d.val = 128 * (t.val / 256 % 4) + d.val; omega

/-- What the last point of a row of tiles writes back is its block of `G`. -/
theorem flushed5_eq (t : Fin cfg0.N) (hf : (cfg0.win 5).flush t = true) :
    (dats m 0 c).flushed 5 t = ((cfg0.win 5).blk t).view.read (Elt Ideal) (G m c) := by
  have h15 : t.val % 16 = 15 := (flush0_5 t).mp hf
  show (cfg0.win 5).cut (grid0.coords t) ((dats m 0 c).after 5 t) = _
  rw [after0_5]
  funext j
  obtain ⟨r, d, rfl⟩ : ∃ (r : Fin 512) (d : Fin 128), j = ix2 r d := ⟨j 0, j 1, eq_ix2 j⟩
  show outAt m c t.val t.isLt (ix2 r d) = G m c (((cfg0.win 5).blk t).view.emb (ix2 r d))
  rw [emb5, outAt_row m c (15 - t.val / 16 % 16) t (by omega) r d]
  rfl

/-- The blocks written back cover the result array. -/
theorem covered5 (i : S16384x512.Idx) : ∃ t : Fin cfg0.N, (cfg0.win 5).flush t = true ∧ i ∈ ((cfg0.win 5).blk t).view.set := by
  obtain ⟨R, C, rfl⟩ : ∃ (R : Fin 16384) (C : Fin 512), i = ix2 R C := ⟨i 0, i 1, eq_ix2 i⟩
  obtain ⟨t, ht⟩ : ∃ t : Fin cfg0.N, t.val = R.val / 8192 * 1024 + C.val / 128 * 256 + R.val % 8192 / 512 * 16 + 15 :=
    ⟨⟨R.val / 8192 * 1024 + C.val / 128 * 256 + R.val % 8192 / 512 * 16 + 15, by show _ < 2048; omega⟩, rfl⟩
  refine ⟨t, (flush0_5 t).mpr (by omega), ?_⟩
  have h := ((cfg0.win 5).blk t).view.emb_mem_set (ix2 (⟨R.val % 512, by omega⟩ : Fin 512) (⟨C.val % 128, by omega⟩ : Fin 128))
  rw [emb5] at h
  have eR : rowOf t (⟨R.val % 512, by omega⟩ : Fin 512) = R :=
    Fin.ext (by show 8192 * (t.val / 1024) + (512 * (t.val / 16 % 16) + R.val % 512) = R.val; omega)
  have eC : colOf t (⟨C.val % 128, by omega⟩ : Fin 128) = C :=
    Fin.ext (by show 128 * (t.val / 256 % 4) + C.val % 128 = C.val; omega)
  rwa [eR, eC] at h

/-- The run with the result array at its function of the arguments. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans ((dats m 0 c).arrAt_eq_of_cover 5 (G m c) (fun t hf => flushed5_eq m c t hf) covered5), h.2 c⟩)
    (θ_run_and (run_main m ρ) (unchanged m ρ))

end Cert.Proof.AttVal

end
-- ==== Proof.AttRef.lean ====
/- Hand-written, untrusted: WHAT THE REFERENCE OF THE ATTENTION RETURNS, at an index: element `(R, C)` of its result is
   `AttMath.spec` (`out_apply`). The generated reading of the printed operations is cited stage by stage: the masked scores,
   their maximum, the exponentials, the two softmaxes, their difference, its product with the values, and the norm. -/
module

public import proofs.«01_k».proof.Proof.Gen.ReferenceIdeal.Read
public import proofs.«01_k».proof.Proof.AttMath
public import Idealize.ShloMosaic.Lib.Pointwise

@[expose] public section

noncomputable section

namespace Cert.Proof.AttRef

open Cert.ReferenceIdeal Cert.ReferenceIdeal.Gen Cert.ReferenceIdeal.Facts Cert.ReferenceIdeal.Read
open Idealize.ShloMosaic Idealize.ShloMosaic.TcCoe Cert.Proof.AttMath

variable (x0 x1 x2 : FVec Ideal S16384x512 .bf16) (x3 : FVec Ideal S4x64 .f32) (x4 : FVec Ideal S128 .f32)
  (b : Fin 2) (h : Fin 4) (u : Fin 2) (i j : Fin 8192) (e : Fin 128) (R : Fin 16384) (C : Fin 512)

theorem negInf : Ideal.ofBits .f32 0xFF800000#32 = ⊥ := by simp [Ideal.ofBits, Ideal.ieee]

/-- The comparison of a key's position with a query's is the comparison of their numbers. -/
theorem sel_le (c r : Fin 8192) (y z : EReal) :
    Scalar.select (IntOp.cmpi .sle (BitVec.ofNat 32 c.val) (BitVec.ofNat 32 r.val)) y z = if c.val ≤ r.val then y else z := by
  have e : ∀ x : Fin 8192, (BitVec.ofNat 32 x.val).toInt = (x.val : Int) := fun x => by
    have hx : (BitVec.ofNat 32 x.val).toNat = x.val := by rw [BitVec.toNat_ofNat]; exact Nat.mod_eq_of_lt (by omega)
    rw [BitVec.toInt_eq_toNat_of_lt (by rw [hx]; omega), hx]
  have hd : IntOp.cmpi .sle (BitVec.ofNat 32 c.val) (BitVec.ofNat 32 r.val) = BitVec.ofBool (decide (c.val ≤ r.val)) := by
    simp only [IntOp.cmpi, BitVec.sle, e, Nat.cast_le]
  rw [hd]
  by_cases h : c.val ≤ r.val
  · rw [if_pos h, decide_eq_true h]; rfl
  · rw [if_neg h, decide_eq_false h]; rfl

/-- The masked scores. -/
theorem score_apply : val_main_v29 (F := Ideal) x0 x1 (ix5 b h u i j) = score x0 x1 b.val h.val u.val i.val j.val := by
  pointwise [val_main_v29, val_main_call0_v2, val_main_call0_v1, val_main_call0_v0, val_main_cst_2, val_main_v28, val_main_v27, val_main_v26, val_main_v25, val_main_v24, val_main_v23, val_main_v22, val_main_v3, val_main_v2, val_main_v1, val_main_v0]
  rw [sel_le]
  unfold score
  refine if_congr Iff.rfl (Finset.sum_congr rfl fun d _ => ?_) negInf
  exact congrArg₂ (· * ·) (eq_get _ _ _ _ _ (by simp only; omega) (by simp only; omega)) (eq_get _ _ _ _ _ (by simp only; omega) (by simp only; omega))

theorem red_apply (y : FVec Ideal S2x4x2x8192x8192 .f32) (c : FVec Ideal S_ .f32) :
    Host.reduce FloatOps.maximumf y c reducesTo_S2x4x2x8192x8192_S2x4x2x8192_d4 h_S_ (ix4 b h u i)
      = Finset.univ.fold max (c (Shape.Idx.first h_S_)) fun x => y (ix5 b h u i x) := by
  pointwise

/-- A row's maximum. -/
theorem max_apply : val_main_v32 (F := Ideal) x0 x1 (ix4 b h u i) = fullMax (score x0 x1 b.val h.val u.val i.val) := by
  have h30 : val_main_v30 (F := Ideal) x0 x1 (ix4 b h u i) = fullMax (score x0 x1 b.val h.val u.val i.val) := by
    unfold val_main_v30
    generalize hy : val_main_v29 (F := Ideal) x0 x1 = y
    rw [red_apply]
    have hy' : ∀ x : Fin 8192, y (ix5 b h u i x) = score x0 x1 b.val h.val u.val i.val x.val := fun x => by rw [← hy, score_apply]
    simp only [hy']
    unfold fullMax
    exact congrArg (fun z => Finset.univ.fold max z _) negInf
  rw [val_main_v32_apply, h30]
  show max (val_main_v31 (F := Ideal) _) _ = _
  rw [val_main_v31_apply, val_main_cst_4_apply]
  show max (Ideal.ofBits .f32 0xFF800000#32) _ = _
  rw [negInf, max_eq_right bot_le]

/-- The exponentials. -/
theorem exp_apply : val_main_v36 (F := Ideal) x0 x1 (ix5 b h u i j)
    = Ideal.exp (score x0 x1 b.val h.val u.val i.val j.val - fullMax (score x0 x1 b.val h.val u.val i.val)) := by
  pointwise [val_main_v36, val_main_v35, val_main_v34, val_main_v33]
  rw [score_apply, max_apply]

/-- The two softmaxes. -/
theorem soft_apply : val_main_v40 (F := Ideal) x0 x1 (ix5 b h u i j) = soft (score x0 x1 b.val h.val u.val i.val) j := by
  pointwise [val_main_v40, val_main_v39, val_main_v38, val_main_v37, val_main_cst_5]
  simp only [exp_apply]
  rfl

/-- The second softmax's weight. -/
theorem lam_apply (i : S_.Idx) : val_main_v21 (F := Ideal) x3 i = lam x3 := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1]
  rfl

/-- A softmax cut out of the pair. -/
theorem first_apply : val_main_v42 (F := Ideal) x0 x1 (ix4 b h i j) = soft (score x0 x1 b.val h.val 0 i.val) j := by
  rw [val_main_v42_apply, val_main_v41_apply]
  refine Eq.trans (congrArg (val_main_v40 (F := Ideal) x0 x1) (funext fun a => Fin.ext ?_)) (soft_apply x0 x1 b h 0 i j)
  match a with
  | ⟨0, _⟩ => show (((b.val * 4 + h.val) * 8192 + i.val) * 8192 + j.val) / 268435456 = b.val; omega
  | ⟨1, _⟩ => show (((b.val * 4 + h.val) * 8192 + i.val) * 8192 + j.val) / 67108864 % 4 = h.val; omega
  | ⟨2, _⟩ => rfl
  | ⟨3, _⟩ => show (((b.val * 4 + h.val) * 8192 + i.val) * 8192 + j.val) / 8192 % 8192 = i.val; omega
  | ⟨4, _⟩ => show (((b.val * 4 + h.val) * 8192 + i.val) * 8192 + j.val) % 8192 = j.val; omega
theorem second_apply : val_main_v44 (F := Ideal) x0 x1 (ix4 b h i j) = soft (score x0 x1 b.val h.val 1 i.val) j := by
  rw [val_main_v44_apply, val_main_v43_apply]
  refine Eq.trans (congrArg (val_main_v40 (F := Ideal) x0 x1) (funext fun a => Fin.ext ?_)) (soft_apply x0 x1 b h 1 i j)
  match a with
  | ⟨0, _⟩ => show (((b.val * 4 + h.val) * 8192 + i.val) * 8192 + j.val) / 268435456 = b.val; omega
  | ⟨1, _⟩ => show (((b.val * 4 + h.val) * 8192 + i.val) * 8192 + j.val) / 67108864 % 4 = h.val; omega
  | ⟨2, _⟩ => rfl
  | ⟨3, _⟩ => show (((b.val * 4 + h.val) * 8192 + i.val) * 8192 + j.val) / 8192 % 8192 = i.val; omega
  | ⟨4, _⟩ => show (((b.val * 4 + h.val) * 8192 + i.val) * 8192 + j.val) % 8192 = j.val; omega

/-- Their difference. -/
theorem diff_apply : val_main_v47 (F := Ideal) x0 x1 x3 (ix4 b h i j)
    = soft (score x0 x1 b.val h.val 0 i.val) j - lam x3 * soft (score x0 x1 b.val h.val 1 i.val) j := by
  rw [val_main_v47_apply, val_main_v46_apply, val_main_v45_apply, first_apply, second_apply, lam_apply]
  rfl

/-- The attention of a query. -/
theorem o_apply : val_main_v49 (F := Ideal) x0 x1 x2 x3 (ix4 b i h e) = att x0 x1 x2 x3 b.val h.val i.val e.val := by
  pointwise [val_main_v49, val_main_v48, val_main_v5, val_main_v4]
  unfold att
  refine Finset.sum_congr rfl fun j _ => ?_
  rw [diff_apply, mul_comm]
  rw [eq_get x2 _ _ (8192 * b.val + j.val) (128 * h.val + e.val) (by simp only; omega) (by simp only; omega)]
  rfl

/-- An element of the result. -/
theorem out_apply : val_main_v66 (F := Ideal) x0 x1 x2 x3 x4 (ix2 R C) = spec x0 x1 x2 x3 x4 R C := by
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_6, val_main_cst_7, val_main_cst_8, val_main_cst_9]
  simp only [o_apply]
  rfl

end Cert.Proof.AttRef

end
-- ==== Proof.AttPre.lean ====
/- Hand-written, untrusted: WHAT THE PRECONDITION OF THE ATTENTION'S VALUE CLAIM SAYS. `finite` is the conjunction, over four
   arrays, of "every element's absolute value is below infinity"; over the extended reals that is "every element is a real
   number" (`reals`). -/
module

public import proofs.«01_k».proof.Proof.Gen.Pre_finite
public import Idealize.ShloMosaic.Lib.Pointwise
public import Idealize.ShloMosaic.Lib.ReduceAll

@[expose] public section

noncomputable section

namespace Cert.Proof.AttPre

open Cert.Pre_finite Cert.Pre_finite.Facts Idealize.ShloMosaic

theorem posInf : Ideal.ofBits .f32 0x7F800000#32 = ⊤ := by simp [Ideal.ofBits, Ideal.ieee]

theorem and_one : ∀ a b : BitVec 1, IntOp.andi a b = 1#1 → a = 1#1 ∧ b = 1#1 := by decide

/-- An extended real whose absolute value is below infinity is a real number. -/
theorem real_of_abs {x : EReal} (h : Ideal.cmp .olt (max x (-x)) ⊤ = 1#1) : ∃ r : ℝ, x = r := by
  have h' : max x (-x) < ⊤ := by
    by_contra hn
    simp [Ideal.cmp, hn] at h
  obtain ⟨h1, h2⟩ := max_lt_iff.mp h'
  induction x with
  | bot => exact absurd h2 (by simp)
  | top => exact absurd h1 (by simp)
  | coe r => exact ⟨r, rfl⟩

/-- The four arrays hold real numbers. -/
theorem reals [Cert.Pre_finite.Facts] (q k v : FVec Ideal S16384x512 .bf16) (lv : FVec Ideal S4x64 .f32) (g : FVec Ideal S128 .f32)
    (h : fn (F := Ideal) q k v lv g = fun _ => 1#1) :
    (∀ i, ∃ r : ℝ, q i = (r : EReal)) ∧ (∀ i, ∃ r : ℝ, k i = (r : EReal)) ∧ (∀ i, ∃ r : ℝ, v i = (r : EReal)) ∧ (∀ i, ∃ r : ℝ, lv i = (r : EReal)) := by
  have h0 := congrFun h ix0
  unfold fn fn_part1 at h0
  dsimp only at h0
  obtain ⟨h1, hl⟩ := and_one _ _ h0
  obtain ⟨h2, hv⟩ := and_one _ _ h1
  obtain ⟨hq, hk⟩ := and_one _ _ h2
  refine ⟨fun i => real_of_abs ?_, fun i => real_of_abs ?_, fun i => real_of_abs ?_, fun i => real_of_abs ?_⟩
  · have := Host.reduce_andi_all _ _ _ _ _ hq i
    rw [← posInf]; exact this
  · have := Host.reduce_andi_all _ _ _ _ _ hk i
    rw [← posInf]; exact this
  · have := Host.reduce_andi_all _ _ _ _ _ hv i
    rw [← posInf]; exact this
  · have := Host.reduce_andi_all _ _ _ _ _ hl i
    rw [← posInf]; exact this

end Cert.Proof.AttPre

end
-- ==== Proof.AttClaim.lean ====
/- Hand-written, untrusted: THE CLAIMS ABOUT THE PROMPT ATTENTION CALL. The kernel's frame at machine words (AttBitsFrame.lean) and
   over the extended reals (AttFrame.lean), the reference's frame (its generated run; it declares no semaphore), and the value
   claim: on real queries, keys, values and lambda vectors the kernel's run (AttVal.lean) and the reference's run end with the
   same array, the differential attention of each query. -/
module

public import proofs.«01_k».proof.Defs
public import proofs.«01_k».proof.Proof.Gen.Kernel
public import proofs.«01_k».proof.Proof.AttBitsFrame
public import proofs.«01_k».proof.Proof.AttVal
public import proofs.«01_k».proof.Proof.AttRef
public import proofs.«01_k».proof.Proof.AttPre

@[expose] public section

noncomputable section

namespace Cert.Proof.AttClaim

open Idealize.ShloMosaic Idealize.ShloMosaic.TcCoe Idealize.SL.Sem

/-- The kernel over machine words runs, changes no argument, and leaves every semaphore at zero. -/
theorem frame_bits : Cert.quiescent_Kernel (hKernel := Cert.Kernel.Gen.facts) := fun m ρ _ => AttBits.frame m ρ

/-- The same over the extended reals. -/
theorem frame_ideal : Cert.quiescent_KernelIdeal (hKernelIdeal := Cert.KernelIdeal.Gen.facts) := fun m ρ _ => Att.frame m ρ

/-- The same where the arguments are real numbers. -/
theorem frame_ideal_finite :
    Cert.quiescent_KernelIdeal_pre_finite (hKernelIdeal := Cert.KernelIdeal.Gen.facts) (hPre_finite := Cert.Pre_finite.Gen.facts) :=
  fun m ρ _ => Att.frame m ρ

/-- The reference runs and changes no argument. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the arguments are real numbers. -/
theorem frame_ref_finite :
    Cert.quiescent_ReferenceIdeal_pre_finite (hReferenceIdeal := Cert.ReferenceIdeal.Gen.facts) (hPre_finite := Cert.Pre_finite.Gen.facts) :=
  fun m ρ _ => frame_ref m ρ trivial

/-- The one rewrite: the mask constant of the kernel stands for minus infinity. -/
theorem preserves : Cert.preserves_Kernel_KernelIdeal :=
  IdealRules.named_const.statement Cert.KernelIdeal.κ "mask" .f32 0xF149F2CA#32 ⊥ rfl

/-- The kernel's result is the reference's, element by element, over the extended reals. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  refine ⟨fun c => AttVal.G m c, AttVal.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4⟩ := hm c
  obtain ⟨hQ, hK, hV, hl⟩ := AttPre.reals _ _ _ _ _ (hp c)
  rw [Cert.ReferenceIdeal.Read.val_main_v66_eq, h0, h1, h2, h3, h4]
  funext j
  obtain ⟨R, C, rfl⟩ : ∃ (R : Fin 16384) (C : Fin 512), j = ix2 R C := ⟨j 0, j 1, eq_ix2 j⟩
  exact (AttRef.out_apply _ _ _ _ _ R C).trans (AttVal.tiled_eq_spec _ _ _ _ _ hQ hK hV hl R C).symm

end Cert.Proof.AttClaim

end
-- ==== Proof.FfnMath.lean ====
/- Hand-written, untrusted: THE FEED-FORWARD HALF STEP AS A FUNCTION OF ONE ROW, over the extended reals, in the words of
   the mathematics: an adaptive RMS norm of the row (`modRow`), the SwiGLU activation (`act`), the second product
   (`ffnRow`), and the gated residual with a post-norm (`resRow`). `ffnRow_chunks` cuts the second product's sum over the
   2816 hidden units into the eleven chunks of 256 that the kernel goes through. Both programs are read at an index in these terms
   (FfnOut.lean, FfnRef.lean). -/
module

public import Idealize.ShloMosaic.Lib.Pointwise

@[expose] public section

noncomputable section

namespace Cert.Proof.FfnMath

open Idealize.ShloMosaic
open scoped BigOperators

/-- The RMS factor of a row of 1024: one over the root of the mean square plus a small constant. -/
def rmsInv (x : Fin 1024 → EReal) : EReal :=
  Ideal.rsqrt (Ideal.div (∑ e, x e * x e) (Ideal.ofBits FTy.f32 1149239296#32) + Ideal.ofBits FTy.f32 897988541#32)

/-- The normed row, weighted by `g`, scaled by one plus `sc` and shifted by `sh`. -/
def modRow (x g sc sh : Fin 1024 → EReal) (l : Fin 1024) : EReal := x l * rmsInv x * g l * (1 + sc l) + sh l

/-- The `k`-th column of the product of a row `h` with a matrix of `n` columns. -/
def col {n : ℕ} (h : Fin 1024 → EReal) (w : Fin 1024 → Fin n → EReal) (k : Fin n) : EReal := ∑ d, h d * w d k

/-- SwiGLU: hidden unit `k` is `silu` of column `k` times column `2816 + k`. -/
def act (h : Fin 1024 → EReal) (wi : Fin 1024 → Fin 5632 → EReal) (k : Fin 2816) : EReal :=
  col h wi ⟨k.val, by omega⟩ * Ideal.logistic (col h wi ⟨k.val, by omega⟩) * col h wi ⟨2816 + k.val, by omega⟩

/-- The second product of a row of hidden units. -/
def ffnRow (a : Fin 2816 → EReal) (wo : Fin 2816 → Fin 1024 → EReal) (l : Fin 1024) : EReal := ∑ k, a k * wo k l

/-- The part of the second product that chunk `c` of 256 hidden units contributes. -/
def chunk (a : Fin 2816 → EReal) (wo : Fin 2816 → Fin 1024 → EReal) (l : Fin 1024) (c : Fin 11) : EReal :=
  ∑ t : Fin 256, a ⟨c.val * 256 + t.val, by omega⟩ * wo ⟨c.val * 256 + t.val, by omega⟩ l

/-- The second product is the sum of its eleven chunks, added in order. -/
theorem ffnRow_chunks (a : Fin 2816 → EReal) (wo : Fin 2816 → Fin 1024 → EReal) (l : Fin 1024) :
    ffnRow a wo l = chunk a wo l 0 + chunk a wo l 1 + chunk a wo l 2 + chunk a wo l 3 + chunk a wo l 4 + chunk a wo l 5
      + chunk a wo l 6 + chunk a wo l 7 + chunk a wo l 8 + chunk a wo l 9 + chunk a wo l 10 := by
  unfold ffnRow
  rw [Fin.sum_univ_tiles 11 256 (by norm_num)]
  rw [Fin.sum_univ_castSucc, Fin.sum_univ_castSucc, Fin.sum_univ_castSucc, Fin.sum_univ_eight]
  rfl

/-- The residual step: the row plus half the gate times the normed update weighted by `gp`. -/
def resRow (x ga gp o : Fin 1024 → EReal) (l : Fin 1024) : EReal :=
  x l + Ideal.ofBits FTy.f32 1056964608#32 * ga l * (o l * rmsInv o * gp l)

/-- The whole half step on one row. -/
def row (x sh sc ga g gp : Fin 1024 → EReal) (wi : Fin 1024 → Fin 5632 → EReal) (wo : Fin 2816 → Fin 1024 → EReal)
    (l : Fin 1024) : EReal :=
  resRow x ga gp (ffnRow (act (modRow x g sc sh) wi) wo) l

end Cert.Proof.FfnMath

end
-- ==== Proof.FfnOut.lean ====
/- Hand-written, untrusted: WHAT ONE GRID POINT OF THE FEED-FORWARD KERNEL LEAVES IN ITS OUTPUT BLOCK. First, at any float
   values, the block as the printed payloads of the input blocks (`out_eq`): the normed rows are stored once, the accumulator
   is stored eleven times and each time read back whole. Then, over the extended reals, each payload at an index, and the
   block's row `r` as the half step `FfnMath.row` of the input blocks (`out_apply`). -/
module

public import proofs.«01_k».proof.Proof.Gen.FfnIdeal.Value
public import proofs.«01_k».proof.Proof.FfnMath
public import Idealize.ShloMosaic.Lib.Pipeline.ValueKit.Acc

@[expose] public section

set_option maxRecDepth 16384

noncomputable section

namespace Cert.Proof.FfnOut

open Cert.FfnIdeal Cert.FfnIdeal.Gen Cert.FfnIdeal.Value Idealize.ShloMosaic Idealize.ShloMosaic.TcCoe Idealize.SL.Sem
open Cert.Proof.FfnMath

section Any
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A load of the whole of a buffer whose last store was of the whole reads that store's value. -/
theorem rc {e : EltTy} {κ : Kind} {sp : Space} {sig : RefSig} (v : View sig κ sp S512x1024 e) (inb inb' : ∀ a, (![0, 0] : Fin 2 → Nat) a + (![512, 1024] : Fin 2 → Nat) a ≤ S512x1024.size a)
    (w : S512x1024.Idx → Elt F e) (L : List (View.Piece (Elt F) S512x1024 e)) :
    v.readCov ((⟨Rect.unit (s := S512x1024) ![0, 0] ![512, 1024] inb, w⟩ : View.Piece (Elt F) S512x1024 e) :: L) (Rect.unit (s := S512x1024) ![0, 0] ![512, 1024] inb').toLoadRect = w :=
  View.readCov_cons_unit_lit' v inb inb' w L (fun a => by fin_cases a <;> rfl) (fun a => by fin_cases a <;> rfl)

/-- 256 columns of the first weight matrix from column `o`. -/
def wcol (x6 : Vec F S1024x5632 .bf16) (o : Nat) (inb : ∀ a, (![0, o] : Fin 2 → Nat) a + S1024x256.size a ≤ S1024x5632.size a) : Vec F S1024x256 .bf16 :=
  View.ld x6 (Rect.unit (s := S1024x5632) ![0, o] S1024x256.size inb)

/-- 256 rows of the second weight matrix from row `o`. -/
def wrow (x7 : Vec F S2816x1024 .bf16) (o : Nat) (inb : ∀ a, (![o, 0] : Fin 2 → Nat) a + S256x1024.size a ≤ S2816x1024.size a) : Vec F S256x1024 .bf16 :=
  View.ld x7 (Rect.unit (s := S2816x1024) ![o, 0] S256x1024.size inb)

/-- The eleven accumulator stores, in order. -/
def accAll (h : Vec F S512x1024 .bf16) (x6 : Vec F S1024x5632 .bf16) (x7 : Vec F S2816x1024 .bf16) : Vec F S512x1024 .f32 :=
  let a0 := k0_pay6 h (k0_pay5 h (wcol x6 0 inb_S1024x5632_S1024x256_0_0)) (wcol x6 2816 inb_S1024x5632_S1024x256_0_2816) (wrow x7 0 inb_S2816x1024_S256x1024_0_0)
  let a1 := k0_pay7 h (wcol x6 256 inb_S1024x5632_S1024x256_0_256) (wcol x6 3072 inb_S1024x5632_S1024x256_0_3072) (wrow x7 256 inb_S2816x1024_S256x1024_256_0) a0
  let a2 := k0_pay8 h (wcol x6 512 inb_S1024x5632_S1024x256_0_512) (wcol x6 3328 inb_S1024x5632_S1024x256_0_3328) (wrow x7 512 inb_S2816x1024_S256x1024_512_0) a1
  let a3 := k0_pay10 (k0_pay9 h (wcol x6 768 inb_S1024x5632_S1024x256_0_768) (wcol x6 3584 inb_S1024x5632_S1024x256_0_3584) (wrow x7 768 inb_S2816x1024_S256x1024_768_0) a2)
  let a4 := k0_pay11 h (wcol x6 1024 inb_S1024x5632_S1024x256_0_1024) (wcol x6 3840 inb_S1024x5632_S1024x256_0_3840) (wrow x7 1024 inb_S2816x1024_S256x1024_1024_0) a3
  let a5 := k0_pay13 (k0_pay12 h (wcol x6 1280 inb_S1024x5632_S1024x256_0_1280) (wcol x6 4096 inb_S1024x5632_S1024x256_0_4096)) (wrow x7 1280 inb_S2816x1024_S256x1024_1280_0) a4
  let a6 := k0_pay14 h (wcol x6 1536 inb_S1024x5632_S1024x256_0_1536) (wcol x6 4352 inb_S1024x5632_S1024x256_0_4352) (wrow x7 1536 inb_S2816x1024_S256x1024_1536_0) a5
  let a7 := k0_pay16 h (k0_pay15 h (wcol x6 1792 inb_S1024x5632_S1024x256_0_1792)) (wcol x6 4608 inb_S1024x5632_S1024x256_0_4608) (wrow x7 1792 inb_S2816x1024_S256x1024_1792_0) a6
  let a8 := k0_pay17 h (wcol x6 2048 inb_S1024x5632_S1024x256_0_2048) (wcol x6 4864 inb_S1024x5632_S1024x256_0_4864) (wrow x7 2048 inb_S2816x1024_S256x1024_2048_0) a7
  let a9 := k0_pay18 h (wcol x6 2304 inb_S1024x5632_S1024x256_0_2304) (wcol x6 5120 inb_S1024x5632_S1024x256_0_5120) (wrow x7 2304 inb_S2816x1024_S256x1024_2304_0) a8
  k0_pay1 (k0_pay19 h (wcol x6 2560 inb_S1024x5632_S1024x256_0_2560) (wcol x6 5376 inb_S1024x5632_S1024x256_0_5376) (wrow x7 2560 inb_S2816x1024_S256x1024_2560_0)) a9

/-- What the body leaves in the output block, as the printed payloads of the input blocks. -/
theorem out_eq (c : Dev nD) (i : grid0.Coords) (arg1 : Memref sig .tc .vmem S512x1024 .f32) (h1 : arg1.IsWhole) (arg2 : Memref sig .tc .vmem S1x1x1024 .f32) (h2 : arg2.IsWhole) (arg3 : Memref sig .tc .vmem S1x1x1024 .f32) (h3 : arg3.IsWhole) (arg4 : Memref sig .tc .vmem S1x1x1024 .f32) (h4 : arg4.IsWhole) (arg5 : Memref sig .tc .vmem S1x1024 .f32) (h5 : arg5.IsWhole) (arg6 : Memref sig .tc .vmem S1x1024 .f32) (h6 : arg6.IsWhole) (arg7 : Memref sig .tc .vmem S1024x5632 .bf16) (h7 : arg7.IsWhole) (arg8 : Memref sig .tc .vmem S2816x1024 .bf16) (h8 : arg8.IsWhole) (arg9 : Memref sig .tc .vmem S512x1024 .f32) (h9 : arg9.IsWhole) (arg10 : Memref sig .tc .vmem S512x1024 .bf16) (h10 : arg10.IsWhole) (arg11 : Memref sig .tc .vmem S512x1024 .f32) (h11 : arg11.IsWhole)
    (x0 : Vec F S512x1024 .f32) (x1 : Vec F S1x1x1024 .f32) (x2 : Vec F S1x1x1024 .f32) (x3 : Vec F S1x1x1024 .f32) (x4 : Vec F S1x1024 .f32) (x5 : Vec F S1x1024 .f32) (x6 : Vec F S1024x5632 .bf16) (x7 : Vec F S2816x1024 .bf16) :
    out0_A_8 c i arg1 h1 arg2 h2 arg3 h3 arg4 h4 arg5 h5 arg6 h6 arg7 h7 arg8 h8 arg9 h9 arg10 h10 arg11 h11 x0 x1 x2 x3 x4 x5 x6 x7
      = k0_pay2 (k0_pay3 x0) x3 (accAll (k0_pay4 x0 x4 x2 x1) x6 x7) x5 := by
  unfold out0_A_8
  rw [View.read_writes_junk_eq_canon]
  unfold kernelRun0_A
  dsimp only
  sl_unfold_words
  rw [View.canon_unit_zero hz]
  simp only [rc, View.readAt_eq_ld, h1.read_unread, h2.read_unread, h3.read_unread, h4.read_unread, h5.read_unread, h6.read_unread, h7.read_unread, h8.read_unread, View.ld_unit_zero (S := S512x1024) hz, View.ld_unit_zero (S := S1x1024) hz, View.ld_unit_zero (S := S1x1x1024) hz3]
  rfl

end Any

/-- 256 columns of a matrix from column `o`, at an index. -/
theorem wcol_apply (x6 : FVec Ideal S1024x5632 .bf16) (o : Nat) (inb : ∀ a, (![0, o] : Fin 2 → Nat) a + S1024x256.size a ≤ S1024x5632.size a)
    (d : Fin 1024) (k : Fin 256) (h : o + k.val < 5632) : wcol (F := Ideal) x6 o inb (ix2 d k) = x6 (ix2 d ⟨o + k.val, h⟩) := by
  refine congrArg x6 (funext fun a => Fin.ext ?_)
  match a with
  | ⟨0, _⟩ => show 0 + 1 * d.val = d.val; omega
  | ⟨1, _⟩ => show o + 1 * k.val = o + k.val; omega

/-- 256 rows of a matrix from row `o`, at an index. -/
theorem wrow_apply (x7 : FVec Ideal S2816x1024 .bf16) (o : Nat) (inb : ∀ a, (![o, 0] : Fin 2 → Nat) a + S256x1024.size a ≤ S2816x1024.size a)
    (k : Fin 256) (d : Fin 1024) (h : o + k.val < 2816) : wrow (F := Ideal) x7 o inb (ix2 k d) = x7 (ix2 ⟨o + k.val, h⟩ d) := by
  refine congrArg x7 (funext fun a => Fin.ext ?_)
  match a with
  | ⟨0, _⟩ => show o + 1 * k.val = o + k.val; omega
  | ⟨1, _⟩ => show 0 + 1 * d.val = d.val; omega

/-- The normed rows. -/
theorem pay4_apply (x : FVec Ideal S512x1024 .f32) (sc sh : FVec Ideal S1x1x1024 .f32) (g : FVec Ideal S1x1024 .f32) (r : Fin 512) (l : Fin 1024) :
    k0_pay4 (F := Ideal) x g sc sh (ix2 r l)
      = modRow (fun d => x (ix2 r d)) (fun d => g (ix2 0 d)) (fun d => sc (ix3 0 0 d)) (fun d => sh (ix3 0 0 d)) l := by
  pointwise [k0_pay4, k0_pay3]
  rfl

/-- The residual step. -/
theorem pay2_apply (x acc : FVec Ideal S512x1024 .f32) (ga : FVec Ideal S1x1x1024 .f32) (gp : FVec Ideal S1x1024 .f32) (r : Fin 512) (l : Fin 1024) :
    k0_pay2 (F := Ideal) (k0_pay3 x) ga acc gp (ix2 r l)
      = resRow (fun d => x (ix2 r d)) (fun d => ga (ix3 0 0 d)) (fun d => gp (ix2 0 d)) (fun d => acc (ix2 r d)) l := by
  pointwise [k0_pay2, k0_pay3]
  rfl

/-- What one chunk adds to the accumulator, from its three weight blocks. -/
def part (h : FVec Ideal S512x1024 .bf16) (wa wb : FVec Ideal S1024x256 .bf16) (wo : FVec Ideal S256x1024 .bf16) (r : Fin 512) (l : Fin 1024) : EReal :=
  ∑ k : Fin 256, (∑ d, h (ix2 r d) * wa (ix2 d k)) * Ideal.logistic (∑ d, h (ix2 r d) * wa (ix2 d k)) * (∑ d, h (ix2 r d) * wb (ix2 d k)) * wo (ix2 k l)

variable (h : FVec Ideal S512x1024 .bf16) (wa wb : FVec Ideal S1024x256 .bf16) (wo : FVec Ideal S256x1024 .bf16) (acc : FVec Ideal S512x1024 .f32) (r : Fin 512) (l : Fin 1024)

theorem pay6_apply : k0_pay6 (F := Ideal) h (k0_pay5 h wa) wb wo (ix2 r l) = part h wa wb wo r l := by
  pointwise [k0_pay6, k0_pay5]; rfl
theorem pay7_apply : k0_pay7 (F := Ideal) h wa wb wo acc (ix2 r l) = acc (ix2 r l) + part h wa wb wo r l := by
  pointwise [k0_pay7]; rfl
theorem pay8_apply : k0_pay8 (F := Ideal) h wa wb wo acc (ix2 r l) = acc (ix2 r l) + part h wa wb wo r l := by
  pointwise [k0_pay8]; rfl
theorem pay10_apply : k0_pay10 (k0_pay9 (F := Ideal) h wa wb wo acc) (ix2 r l) = acc (ix2 r l) + part h wa wb wo r l := by
  pointwise [k0_pay10, k0_pay9]; rfl
theorem pay11_apply : k0_pay11 (F := Ideal) h wa wb wo acc (ix2 r l) = acc (ix2 r l) + part h wa wb wo r l := by
  pointwise [k0_pay11]; rfl
theorem pay13_apply : k0_pay13 (F := Ideal) (k0_pay12 h wa wb) wo acc (ix2 r l) = acc (ix2 r l) + part h wa wb wo r l := by
  pointwise [k0_pay13, k0_pay12]; rfl
theorem pay14_apply : k0_pay14 (F := Ideal) h wa wb wo acc (ix2 r l) = acc (ix2 r l) + part h wa wb wo r l := by
  pointwise [k0_pay14]; rfl
theorem pay16_apply : k0_pay16 (F := Ideal) h (k0_pay15 h wa) wb wo acc (ix2 r l) = acc (ix2 r l) + part h wa wb wo r l := by
  pointwise [k0_pay16, k0_pay15]; rfl
theorem pay17_apply : k0_pay17 (F := Ideal) h wa wb wo acc (ix2 r l) = acc (ix2 r l) + part h wa wb wo r l := by
  pointwise [k0_pay17]; rfl
theorem pay18_apply : k0_pay18 (F := Ideal) h wa wb wo acc (ix2 r l) = acc (ix2 r l) + part h wa wb wo r l := by
  pointwise [k0_pay18]; rfl
theorem pay19_apply : k0_pay1 (k0_pay19 (F := Ideal) h wa wb wo) acc (ix2 r l) = acc (ix2 r l) + part h wa wb wo r l := by
  pointwise [k0_pay1, k0_pay19]; rfl

/-- One chunk's part, when its weight blocks are cut at the chunk's offsets, is the chunk of the row's second product. -/
theorem part_chunk (x6 : FVec Ideal S1024x5632 .bf16) (x7 : FVec Ideal S2816x1024 .bf16) (c : Fin 11) (oa ob : Nat) (ha : oa = c.val * 256) (hb : ob = 2816 + c.val * 256) (ia ib io) :
    part h (wcol (F := Ideal) x6 oa ia) (wcol (F := Ideal) x6 ob ib) (wrow (F := Ideal) x7 oa io) r l
      = chunk (act (fun d => h (ix2 r d)) (fun d j => x6 (ix2 d j))) (fun k d => x7 (ix2 k d)) l c := by
  subst ha; subst hb
  refine Finset.sum_congr rfl fun k _ => ?_
  rw [wrow_apply x7 _ io k l (by omega)]
  simp only [fun d => wcol_apply x6 _ ia d k (by omega), fun d => wcol_apply x6 _ ib d k (by omega)]
  simp only [act, col, Nat.add_assoc]

/-- The accumulator after the eleven chunks is the row's second product. -/
theorem accAll_apply (x6 : FVec Ideal S1024x5632 .bf16) (x7 : FVec Ideal S2816x1024 .bf16) :
    accAll (F := Ideal) h x6 x7 (ix2 r l) = ffnRow (act (fun d => h (ix2 r d)) (fun d j => x6 (ix2 d j))) (fun k d => x7 (ix2 k d)) l := by
  unfold accAll
  simp only [pay19_apply, pay18_apply, pay17_apply, pay16_apply, pay14_apply, pay13_apply, pay11_apply, pay10_apply, pay8_apply, pay7_apply, pay6_apply]
  rw [ffnRow_chunks, part_chunk h r l x6 x7 0 0 2816 rfl rfl, part_chunk h r l x6 x7 1 256 3072 rfl rfl, part_chunk h r l x6 x7 2 512 3328 rfl rfl,
    part_chunk h r l x6 x7 3 768 3584 rfl rfl, part_chunk h r l x6 x7 4 1024 3840 rfl rfl, part_chunk h r l x6 x7 5 1280 4096 rfl rfl,
    part_chunk h r l x6 x7 6 1536 4352 rfl rfl, part_chunk h r l x6 x7 7 1792 4608 rfl rfl, part_chunk h r l x6 x7 8 2048 4864 rfl rfl,
    part_chunk h r l x6 x7 9 2304 5120 rfl rfl, part_chunk h r l x6 x7 10 2560 5376 rfl rfl]

/-- The output block at an index: the half step of the block's row. -/
theorem out_apply (x0 : FVec Ideal S512x1024 .f32) (x1 x2 x3 : FVec Ideal S1x1x1024 .f32) (x4 x5 : FVec Ideal S1x1024 .f32) (x6 : FVec Ideal S1024x5632 .bf16) (x7 : FVec Ideal S2816x1024 .bf16) :
    k0_pay2 (F := Ideal) (k0_pay3 x0) x3 (accAll (F := Ideal) (k0_pay4 (F := Ideal) x0 x4 x2 x1) x6 x7) x5 (ix2 r l)
      = row (fun d => x0 (ix2 r d)) (fun d => x1 (ix3 0 0 d)) (fun d => x2 (ix3 0 0 d)) (fun d => x3 (ix3 0 0 d)) (fun d => x4 (ix2 0 d)) (fun d => x5 (ix2 0 d))
          (fun d j => x6 (ix2 d j)) (fun k d => x7 (ix2 k d)) l := by
  rw [pay2_apply]
  simp only [accAll_apply, pay4_apply]
  rfl

end Cert.Proof.FfnOut

end
-- ==== Proof.FfnRun.lean ====
/- Hand-written, untrusted: THE RUN OF THE FEED-FORWARD PROGRAM WITH ITS RESULT NAMED, over the extended reals: row `R` of the
   result array is the half step `FfnMath.row` of token `R % 8192` of batch `R / 8192` (`G`, `run`). Each grid point writes one
   block of 512 rows (`flushed8_eq`), the 32 blocks cover the array (`covered8`), and the arrays the host prepared before the
   call (the weights' casts, the reshapes) are the arguments at an index (`V_v0` to `V_v4`). -/
module

public import proofs.«01_k».proof.Proof.FfnOut

@[expose] public section

set_option maxRecDepth 16384

noncomputable section

namespace Cert.Proof.FfnRun

open Cert.FfnIdeal Cert.FfnIdeal.Gen Cert.FfnIdeal.Value Idealize.ShloMosaic Idealize.ShloMosaic.TcCoe Idealize.SL.Sem
open Cert.Proof.FfnMath

variable (m : (ℓ : Loc nD τ sig) → Buf (Elt Ideal) ℓ) (ρ : Dev nD → PrngReg) (c : Dev nD)

/-- The argument arrays as vectors of extended reals. -/
abbrev a0 : FVec Ideal S2x8192x1024 .f32 := m ((c : Thread nD τ).loc main_arg0)
abbrev a1 : FVec Ideal S2x1x1024 .f32 := m ((c : Thread nD τ).loc main_arg1)
abbrev a2 : FVec Ideal S2x1x1024 .f32 := m ((c : Thread nD τ).loc main_arg2)
abbrev a3 : FVec Ideal S2x1x1024 .f32 := m ((c : Thread nD τ).loc main_arg3)
abbrev a4 : FVec Ideal S1024 .f32 := m ((c : Thread nD τ).loc main_arg4)
abbrev a5 : FVec Ideal S1024 .f32 := m ((c : Thread nD τ).loc main_arg5)
abbrev a6 : FVec Ideal S1024x5632 .f32 := m ((c : Thread nD τ).loc main_arg6)
abbrev a7 : FVec Ideal S2816x1024 .f32 := m ((c : Thread nD τ).loc main_arg7)

/-- Row `R` of the result from the argument arrays. -/
def Gv (x : FVec Ideal S2x8192x1024 .f32) (sh sc ga : FVec Ideal S2x1x1024 .f32) (g gp : FVec Ideal S1024 .f32)
    (wi : FVec Ideal S1024x5632 .f32) (wo : FVec Ideal S2816x1024 .f32) (R : Fin 16384) (l : Fin 1024) : EReal :=
  row (fun d => x (ix3 (⟨R.val / 8192, by omega⟩ : Fin 2) (⟨R.val % 8192, by omega⟩ : Fin 8192) d))
    (fun d => sh (ix3 (⟨R.val / 8192, by omega⟩ : Fin 2) 0 d)) (fun d => sc (ix3 (⟨R.val / 8192, by omega⟩ : Fin 2) 0 d))
    (fun d => ga (ix3 (⟨R.val / 8192, by omega⟩ : Fin 2) 0 d)) (fun d => g (ix1 d)) (fun d => gp (ix1 d))
    (fun d j => wi (ix2 d j)) (fun k d => wo (ix2 k d)) l

/-- The result array as one function of the argument arrays. -/
def G : FVec Ideal S16384x1024 .f32 := fun j => Gv (a0 m c) (a1 m c) (a2 m c) (a3 m c) (a4 m c) (a5 m c) (a6 m c) (a7 m c) (j 0) (j 1)

/-! ## The arrays the host prepared -/

theorem V_v0 : V m c main_v0 = truncf (F := Ideal) .bf16 (a6 m c) bitsLt_bf16_f32 := by
  simp only [V, hostOps0]; after_results_simp <;> rfl
theorem V_v1 : V m c main_v1 = truncf (F := Ideal) .bf16 (a7 m c) bitsLt_bf16_f32 := by
  simp only [V, hostOps0]; after_results_simp <;> rfl
theorem V_v2 : V m c main_v2 = shapeCast S16384x1024 (a0 m c) shapeCasts_S2x8192x1024_S16384x1024 := by
  simp only [V, hostOps0]; after_results_simp <;> rfl
theorem V_v3 : V m c main_v3 = shapeCast S1x1024 (a4 m c) shapeCasts_S1024_S1x1024 := by
  simp only [V, hostOps0]; after_results_simp <;> rfl
theorem V_v4 : V m c main_v4 = shapeCast S1x1024 (a5 m c) shapeCasts_S1024_S1x1024 := by
  simp only [V, hostOps0]; after_results_simp <;> rfl

/-! ## The windows' blocks -/

theorem ix0 : ∀ t : Fin cfg0.N, win0_0.index t (0 : Fin 2) = t.val ∧ win0_0.index t (1 : Fin 2) = 0 := (by decide +kernel : ∀ t : Fin grid0.N, _)
theorem ix8 : ∀ t : Fin cfg0.N, win0_8.index t (0 : Fin 2) = t.val ∧ win0_8.index t (1 : Fin 2) = 0 := (by decide +kernel : ∀ t : Fin grid0.N, _)
theorem ix1w : ∀ t : Fin cfg0.N, win0_1.index t (0 : Fin 3) = t.val / 16 ∧ win0_1.index t (1 : Fin 3) = 0 ∧ win0_1.index t (2 : Fin 3) = 0 := (by decide +kernel : ∀ t : Fin grid0.N, _)
theorem ix2w : ∀ t : Fin cfg0.N, win0_2.index t (0 : Fin 3) = t.val / 16 ∧ win0_2.index t (1 : Fin 3) = 0 ∧ win0_2.index t (2 : Fin 3) = 0 := (by decide +kernel : ∀ t : Fin grid0.N, _)
theorem ix3w : ∀ t : Fin cfg0.N, win0_3.index t (0 : Fin 3) = t.val / 16 ∧ win0_3.index t (1 : Fin 3) = 0 ∧ win0_3.index t (2 : Fin 3) = 0 := (by decide +kernel : ∀ t : Fin grid0.N, _)
theorem ix4w : ∀ t : Fin cfg0.N, win0_4.index t (0 : Fin 2) = 0 ∧ win0_4.index t (1 : Fin 2) = 0 := (by decide +kernel : ∀ t : Fin grid0.N, _)
theorem ix5w : ∀ t : Fin cfg0.N, win0_5.index t (0 : Fin 2) = 0 ∧ win0_5.index t (1 : Fin 2) = 0 := (by decide +kernel : ∀ t : Fin grid0.N, _)
theorem ix6w : ∀ t : Fin cfg0.N, win0_6.index t (0 : Fin 2) = 0 ∧ win0_6.index t (1 : Fin 2) = 0 := (by decide +kernel : ∀ t : Fin grid0.N, _)
theorem ix7w : ∀ t : Fin cfg0.N, win0_7.index t (0 : Fin 2) = 0 ∧ win0_7.index t (1 : Fin 2) = 0 := (by decide +kernel : ∀ t : Fin grid0.N, _)

/-- Row `r` of point `t`'s block is row `512 t + r` of the array. -/
abbrev rowOf (t : Fin cfg0.N) (r : Fin 512) : Fin 16384 := ⟨t.val * 512 + r.val, by have := t.isLt; have h : cfg0.N = 32 := rfl; omega⟩

theorem tlt (t : Fin cfg0.N) : t.val < 32 := t.isLt

theorem iblk0_apply (t : Fin cfg0.N) (r : Fin 512) (d : Fin 1024) :
    iblk m c 0 t (ix2 r d) = a0 m c (ix3 (⟨(rowOf t r).val / 8192, by omega⟩ : Fin 2) (⟨(rowOf t r).val % 8192, by omega⟩ : Fin 8192) d) := by
  obtain ⟨e0, e1⟩ := ix0 t
  have he : ((cfg0.win 0).blk t).view.emb (ix2 r d) = ix2 (rowOf t r) d := by
    funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  show V m c main_v2 (((cfg0.win 0).blk t).view.emb (ix2 r d)) = _
  rw [he, V_v2]
  pointwise

theorem emb3 (t : Fin cfg0.N) (d : Fin 1024) : (⟨t.val / 16, by have := tlt t; omega⟩ : Fin 2) = ⟨t.val / 16, by have := tlt t; omega⟩ := rfl

theorem iblk1_apply (t : Fin cfg0.N) (d : Fin 1024) :
    iblk m c 1 t (ix3 0 0 d) = a1 m c (ix3 (⟨t.val / 16, by have := tlt t; omega⟩ : Fin 2) 0 d) := by
  obtain ⟨e0, e1, e2⟩ := ix1w t
  show V m c main_arg1 (((cfg0.win 1).blk t).view.emb (ix3 0 0 d)) = _
  rw [V_main_arg1]
  refine congrArg (a1 m c) (funext fun a => Fin.ext ?_)
  match a with
  | ⟨0, _⟩ => show win0_1.index t (0 : Fin 3) * 1 + 1 * 0 = t.val / 16; omega
  | ⟨1, _⟩ => show win0_1.index t (1 : Fin 3) * 1 + 1 * 0 = 0; omega
  | ⟨2, _⟩ => show win0_1.index t (2 : Fin 3) * 1024 + 1 * d.val = d.val; omega

theorem iblk2_apply (t : Fin cfg0.N) (d : Fin 1024) :
    iblk m c 2 t (ix3 0 0 d) = a2 m c (ix3 (⟨t.val / 16, by have := tlt t; omega⟩ : Fin 2) 0 d) := by
  obtain ⟨e0, e1, e2⟩ := ix2w t
  show V m c main_arg2 (((cfg0.win 2).blk t).view.emb (ix3 0 0 d)) = _
  rw [V_main_arg2]
  refine congrArg (a2 m c) (funext fun a => Fin.ext ?_)
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * d.val = d.val; omega

theorem iblk3_apply (t : Fin cfg0.N) (d : Fin 1024) :
    iblk m c 3 t (ix3 0 0 d) = a3 m c (ix3 (⟨t.val / 16, by have := tlt t; omega⟩ : Fin 2) 0 d) := by
  obtain ⟨e0, e1, e2⟩ := ix3w t
  show V m c main_arg3 (((cfg0.win 3).blk t).view.emb (ix3 0 0 d)) = _
  rw [V_main_arg3]
  refine congrArg (a3 m c) (funext fun a => Fin.ext ?_)
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 1024 + 1 * d.val = d.val; omega

theorem iblk4_apply (t : Fin cfg0.N) (d : Fin 1024) : iblk m c 4 t (ix2 0 d) = a4 m c (ix1 d) := by
  obtain ⟨e0, e1⟩ := ix4w t
  have he : ((cfg0.win 4).blk t).view.emb (ix2 0 d) = ix2 (0 : Fin 1) d := by
    funext a; apply Fin.ext
    match a with
    | ⟨0, _⟩ => show win0_4.index t (0 : Fin 2) * 1 + 1 * 0 = 0; omega
    | ⟨1, _⟩ => show win0_4.index t (1 : Fin 2) * 1024 + 1 * d.val = d.val; omega
  show V m c main_v3 (((cfg0.win 4).blk t).view.emb (ix2 0 d)) = _
  rw [he, V_v3]
  pointwise

theorem iblk5_apply (t : Fin cfg0.N) (d : Fin 1024) : iblk m c 5 t (ix2 0 d) = a5 m c (ix1 d) := by
  obtain ⟨e0, e1⟩ := ix5w t
  have he : ((cfg0.win 5).blk t).view.emb (ix2 0 d) = ix2 (0 : Fin 1) d := by
    funext a; apply Fin.ext
    match a with
    | ⟨0, _⟩ => show win0_5.index t (0 : Fin 2) * 1 + 1 * 0 = 0; omega
    | ⟨1, _⟩ => show win0_5.index t (1 : Fin 2) * 1024 + 1 * d.val = d.val; omega
  show V m c main_v4 (((cfg0.win 5).blk t).view.emb (ix2 0 d)) = _
  rw [he, V_v4]
  pointwise

theorem iblk6_apply (t : Fin cfg0.N) (d : Fin 1024) (j : Fin 5632) : iblk m c 6 t (ix2 d j) = a6 m c (ix2 d j) := by
  obtain ⟨e0, e1⟩ := ix6w t
  show V m c main_v0 (((cfg0.win 6).blk t).view.emb (ix2 d j)) = _
  rw [V_v0]
  refine congrArg (a6 m c) (funext fun a => Fin.ext ?_)
  match a with
  | ⟨0, _⟩ => show win0_6.index t (0 : Fin 2) * 1024 + 1 * d.val = d.val; omega
  | ⟨1, _⟩ => show win0_6.index t (1 : Fin 2) * 5632 + 1 * j.val = j.val; omega

theorem iblk7_apply (t : Fin cfg0.N) (k : Fin 2816) (d : Fin 1024) : iblk m c 7 t (ix2 k d) = a7 m c (ix2 k d) := by
  obtain ⟨e0, e1⟩ := ix7w t
  show V m c main_v1 (((cfg0.win 7).blk t).view.emb (ix2 k d)) = _
  rw [V_v1]
  refine congrArg (a7 m c) (funext fun a => Fin.ext ?_)
  match a with
  | ⟨0, _⟩ => show win0_7.index t (0 : Fin 2) * 2816 + 1 * k.val = k.val; omega
  | ⟨1, _⟩ => show win0_7.index t (1 : Fin 2) * 1024 + 1 * d.val = d.val; omega

/-- An index of the output window's block as an index of the array. -/
theorem emb8 (t : Fin cfg0.N) (r : Fin 512) (l : Fin 1024) : ((cfg0.win 8).blk t).view.emb (ix2 r l) = ix2 (rowOf t r) l := by
  obtain ⟨e0, e1⟩ := ix8 t
  funext a; apply Fin.ext
  match a with
  | ⟨0, _⟩ => show win0_8.index t (0 : Fin 2) * 512 + 1 * r.val = t.val * 512 + r.val; omega
  | ⟨1, _⟩ => show win0_8.index t (1 : Fin 2) * 1024 + 1 * l.val = l.val; omega

/-- What point `t` writes back is its block of `G`. -/
theorem flushed8_eq (t : Fin cfg0.N) :
    (dats m 0 c).flushed 8 t = ((cfg0.win 8).blk t).view.read (Elt Ideal) (G m c) := by
  rw [flushed8_A, FfnOut.out_eq]
  funext j
  obtain ⟨r, l, rfl⟩ : ∃ (r : Fin 512) (l : Fin 1024), j = ix2 r l := ⟨j 0, j 1, eq_ix2 j⟩
  show k0_pay2 (F := Ideal) _ _ _ _ (ix2 r l) = G m c (((cfg0.win 8).blk t).view.emb (ix2 r l))
  rw [emb8, FfnOut.out_apply]
  have hb : (⟨t.val / 16, by have := tlt t; omega⟩ : Fin 2) = ⟨(rowOf t r).val / 8192, by omega⟩ :=
    Fin.ext (by show t.val / 16 = (t.val * 512 + r.val) / 8192; omega)
  simp only [iblk0_apply, iblk1_apply, iblk2_apply, iblk3_apply, iblk4_apply, iblk5_apply, iblk6_apply, iblk7_apply, hb]
  rfl

/-- The 32 blocks cover the result array. -/
theorem covered8 (i : S16384x1024.Idx) : ∃ t : Fin cfg0.N, (cfg0.win 8).flush t = true ∧ i ∈ ((cfg0.win 8).blk t).view.set := by
  obtain ⟨R, l, rfl⟩ : ∃ (R : Fin 16384) (l : Fin 1024), i = ix2 R l := ⟨i 0, i 1, eq_ix2 i⟩
  refine ⟨(⟨R.val / 512, by show _ < 32; omega⟩ : Fin cfg0.N), flush0_8 _, ?_⟩
  have h := ((cfg0.win 8).blk (⟨R.val / 512, by show _ < 32; omega⟩ : Fin cfg0.N)).view.emb_mem_set (ix2 (⟨R.val % 512, by omega⟩ : Fin 512) l)
  rw [emb8] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

/-- The run with the result array at its function of the arguments. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((dats m 0 c).arrAt_eq_of_cover 8 (G m c) (fun t _ => flushed8_eq m c t) covered8), (h c).2⟩)
    (run_blocks m ρ)

end Cert.Proof.FfnRun

end
-- ==== Proof.FfnRef.lean ====
/- Hand-written, untrusted: WHAT THE REFERENCE OF THE FEED-FORWARD CALL RETURNS, at an index: row `R` of its result is the
   half step `FfnMath.row` of token `R % 8192` of batch `R / 8192` (`out_apply`). The generated reading of the printed
   operations is cited stage by stage. -/
module

public import proofs.«01_k».proof.Proof.Gen.FfnReferenceIdeal.Read
public import proofs.«01_k».proof.Proof.FfnMath

@[expose] public section

noncomputable section

namespace Cert.Proof.FfnRef

open Cert.FfnReferenceIdeal Cert.FfnReferenceIdeal.Read Idealize.ShloMosaic Idealize.ShloMosaic.TcCoe Cert.Proof.FfnMath

/-- The modulated norm of a token. -/
theorem mod_apply (x : FVec Ideal S2x8192x1024 .f32) (sh sc : FVec Ideal S2x1x1024 .f32) (g : FVec Ideal S1024 .f32)
    (b : Fin 2) (s : Fin 8192) (l : Fin 1024) :
    val_main_v18 (F := Ideal) x sh sc g (ix3 b s l)
      = modRow (fun d => x (ix3 b s d)) (fun d => g (ix1 d)) (fun d => sc (ix3 b 0 d)) (fun d => sh (ix3 b 0 d)) l := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- A hidden unit of a token. -/
theorem act_apply (x : FVec Ideal S2x8192x1024 .f32) (sh sc : FVec Ideal S2x1x1024 .f32) (g : FVec Ideal S1024 .f32)
    (wi : FVec Ideal S1024x5632 .f32) (b : Fin 2) (s : Fin 8192) (k : Fin 2816) :
    val_main_v23 (F := Ideal) x sh sc g wi (ix3 b s k)
      = act (fun d => val_main_v18 (F := Ideal) x sh sc g (ix3 b s d)) (fun d j => wi (ix2 d j)) k := by
  pointwise [val_main_v23, val_main_v22, val_main_call0_v5, val_main_call0_v4, val_main_call0_cst_0, val_main_call0_v3, val_main_call0_v2, val_main_call0_cst, val_main_call0_v1, val_main_call0_v0, val_main_v21, val_main_v20, val_main_v19]
  rfl

/-- A row of the result. -/
theorem out_apply (x : FVec Ideal S2x8192x1024 .f32) (sh sc ga : FVec Ideal S2x1x1024 .f32) (g gp : FVec Ideal S1024 .f32)
    (wi : FVec Ideal S1024x5632 .f32) (wo : FVec Ideal S2816x1024 .f32) (R : Fin 16384) (l : Fin 1024) :
    val_main_v43 (F := Ideal) x sh sc ga g gp wi wo (ix2 R l)
      = row (fun d => x (ix3 (⟨R.val / 8192, by omega⟩ : Fin 2) (⟨R.val % 8192, by omega⟩ : Fin 8192) d))
          (fun d => sh (ix3 (⟨R.val / 8192, by omega⟩ : Fin 2) 0 d)) (fun d => sc (ix3 (⟨R.val / 8192, by omega⟩ : Fin 2) 0 d))
          (fun d => ga (ix3 (⟨R.val / 8192, by omega⟩ : Fin 2) 0 d)) (fun d => g (ix1 d)) (fun d => gp (ix1 d))
          (fun d j => wi (ix2 d j)) (fun k d => wo (ix2 k d)) l := by
  pointwise [val_main_v43, val_main_v42, val_main_v41, val_main_v40, val_main_v39, val_main_v38, val_main_v37, val_main_v36, val_main_v35, val_main_v34, val_main_v33, val_main_v32, val_main_cst_6, val_main_v31, val_main_v30, val_main_cst_5, val_main_v29, val_main_v28, val_main_cst_4, val_main_v27, val_main_v26, val_main_v25, val_main_cst_3, val_main_v24]
  simp only [act_apply, mod_apply]
  rfl

end Cert.Proof.FfnRef

end
-- ==== Proof.FfnClaim.lean ====
/- Hand-written, untrusted: THE CLAIMS ABOUT THE FEED-FORWARD CALL. The kernel's frame at machine words and over the
   extended reals (generated), the reference's frame (its generated run; it declares no semaphore), and the value claim: the
   kernel's run (FfnRun.lean) and the reference's run end with the same array, the half step of each row. -/
module

public import proofs.«01_k».proof.Defs
public import proofs.«01_k».proof.Proof.Gen.Ffn
public import proofs.«01_k».proof.Proof.Gen.Ffn.Frame
public import proofs.«01_k».proof.Proof.FfnRun
public import proofs.«01_k».proof.Proof.FfnRef

@[expose] public section

noncomputable section

namespace Cert.Proof.FfnClaim

open Idealize.ShloMosaic Idealize.ShloMosaic.TcCoe Idealize.SL.Sem

/-- The kernel over machine words runs, changes no argument, and leaves every semaphore at zero. -/
theorem frame_bits : Cert.quiescent_Ffn (hFfn := Cert.Ffn.Gen.facts) := fun m ρ _ => Cert.Ffn.Gen.frame m ρ

/-- The same over the extended reals. -/
theorem frame_ideal : Cert.quiescent_FfnIdeal (hFfnIdeal := Cert.FfnIdeal.Gen.facts) := fun m ρ _ => Cert.FfnIdeal.Gen.frame m ρ

/-- The reference runs and changes no argument. -/
theorem frame_ref : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The kernel's result is the reference's, element by element, over the extended reals. -/
theorem value : Cert.algebraic_FfnIdeal_FfnReferenceIdeal (hFfnIdeal := Cert.FfnIdeal.Gen.facts) (hFfnReferenceIdeal := Cert.FfnReferenceIdeal.Gen.facts) := by
  intro m g m' g' _ hm
  refine ⟨fun c => FfnRun.G m c, FfnRun.run m g, ?_⟩
  refine (θ_run Cert.FfnReferenceIdeal.defs _ _).mono (fun r h c => ⟨(h c).1.trans ?_, (h c).2⟩)
    (Cert.FfnReferenceIdeal.Value.run (F := Ideal) m' g')
  obtain ⟨h0, h1, h2, h3, h4, h5, h6, h7⟩ := hm c
  rw [Cert.FfnReferenceIdeal.Read.val_main_v43_eq, h0, h1, h2, h3, h4, h5, h6, h7]
  funext j
  obtain ⟨R, l, rfl⟩ : ∃ (R : Fin 16384) (l : Fin 1024), j = ix2 R l := ⟨j 0, j 1, eq_ix2 j⟩
  exact FfnRef.out_apply _ _ _ _ _ _ _ _ R l

end Cert.Proof.FfnClaim

end
-- ==== Proof.MixInMath.lean ====
/- Hand-written, untrusted: THE PROJECTIONS OF THE MIXER AS FUNCTIONS OF ONE ROW, over the extended reals: the columns of the
   projected row (`proj`), the rotation of the first sixteen entries of each map of 64 (`rope`), and the padded row of gates
   (`gates`). `ropeT` is the rotation as the kernel computes it, from three tables and two cyclic shifts of each band of 128 columns;
   with the tables of a position it is `rope` (`ropeT_tables`). `reorder` is the kernel's order of the projection's columns, and
   `proj_reorder_*` say which columns its blocks hold. Both programs are read at an index in these terms (MixInOut.lean, MixInRef.lean). -/
module

public import proofs.«01_k».proof.Proof.FfnMath

@[expose] public section

set_option maxRecDepth 16384

noncomputable section

namespace Cert.Proof.MixInMath

open Idealize.ShloMosaic
open scoped BigOperators

/-- Column `k` of the product of a row with a matrix of `n` columns (zero past its end). -/
def proj {n : ℕ} (h : Fin 1024 → EReal) (w : Fin 1024 → Fin n → EReal) (k : ℕ) : EReal :=
  if hk : k < n then ∑ d, h d * w d ⟨k, hk⟩ else 0

theorem proj_of_lt {n : ℕ} (h : Fin 1024 → EReal) (w : Fin 1024 → Fin n → EReal) (k : ℕ) (hk : k < n) :
    proj h w k = ∑ d, h d * w d ⟨k, hk⟩ := dif_pos hk

/-- The rotation angle of frequency `j` at position `s`: `s` times `exp (-(2 j / 16) · log θ)`. -/
def ang (s j : ℕ) : EReal :=
  FloatOps.sitofp (F := Ideal) FTy.f32 (BitVec.ofNat 32 s) *
    Ideal.exp (-Ideal.div (Ideal.ofBits FTy.f32 1073741824#32 * FloatOps.sitofp (F := Ideal) FTy.f32 (BitVec.ofNat 32 j)) (Ideal.ofBits FTy.f32 1098907648#32)
      * Ideal.ofBits FTy.f32 1095890227#32)

/-- Entry `l` of the rotated row: in each map of 64 entries the first eight are turned against the next eight, the rest kept. -/
def rope (p : ℕ → EReal) (s l : ℕ) : EReal :=
  if l % 64 < 8 then p l * Ideal.cos (ang s (l % 64)) - p (l + 8) * Ideal.sin (ang s (l % 64))
  else if l % 64 < 16 then p l * Ideal.cos (ang s (l % 64 - 8)) + p (l - 8) * Ideal.sin (ang s (l % 64 - 8))
  else p l

/-- The rotation written by head, map and entry, as the plain statement of it cuts the row: `l` is entry `l % 64` of map `l / 64 % 2` of
    head `l / 128`. -/
theorem rope_dite (p : ℕ → EReal) (s l : ℕ) (_ : l < 512) :
    (if _ : l % 64 < 16 then
      if _ : l % 64 < 8 then
        p ((l / 128 * 2 + l / 64 % 2) * 64 + l % 64) * Ideal.cos (ang s (l % 64))
          - p ((l / 128 * 2 + l / 64 % 2) * 64 + (8 + l % 64)) * Ideal.sin (ang s (l % 64))
      else
        p ((l / 128 * 2 + l / 64 % 2) * 64 + (8 + (l % 64 - 8))) * Ideal.cos (ang s (l % 64 - 8))
          + p ((l / 128 * 2 + l / 64 % 2) * 64 + (l % 64 - 8)) * Ideal.sin (ang s (l % 64 - 8))
    else p ((l / 128 * 2 + l / 64 % 2) * 64 + (16 + (l % 64 - 16)))) = rope p s l := by
  unfold rope
  by_cases h16 : l % 64 < 16
  · by_cases h8 : l % 64 < 8
    · rw [dif_pos h16, dif_pos h8, if_pos h8, show (l / 128 * 2 + l / 64 % 2) * 64 + l % 64 = l by omega,
        show (l / 128 * 2 + l / 64 % 2) * 64 + (8 + l % 64) = l + 8 by omega]
    · rw [dif_pos h16, dif_neg h8, if_neg h8, if_pos h16, show (l / 128 * 2 + l / 64 % 2) * 64 + (8 + (l % 64 - 8)) = l by omega,
        show (l / 128 * 2 + l / 64 % 2) * 64 + (l % 64 - 8) = l - 8 by omega]
  · rw [dif_neg h16, if_neg (show ¬ l % 64 < 8 by omega), if_neg h16, show (l / 128 * 2 + l / 64 % 2) * 64 + (16 + (l % 64 - 16)) = l by omega]

/-- The table of cosines at position `s`: one past the rotated entries. -/
def tabC (s l : ℕ) : EReal :=
  if l % 64 < 8 then Ideal.cos (ang s (l % 64)) else if l % 64 < 16 then Ideal.cos (ang s (l % 64 - 8)) else 1
/-- The table the entry eight to the right is multiplied by. -/
def tabA (s l : ℕ) : EReal := if l % 64 < 8 then -Ideal.sin (ang s (l % 64)) else 0
/-- The table the entry eight to the left is multiplied by. -/
def tabB (s l : ℕ) : EReal := if l % 64 < 8 then 0 else if l % 64 < 16 then Ideal.sin (ang s (l % 64 - 8)) else 0

/-- The rotation of column `l` from its three table entries, the shifts cyclic in the column's band of 128. -/
def ropeT (p : ℕ → EReal) (co sa sb : EReal) (l : ℕ) : EReal :=
  p l * co + p (l / 128 * 128 + (l % 128 + 8) % 128) * sa + p (l / 128 * 128 + (l % 128 + 120) % 128) * sb

theorem ropeT_tables (p : ℕ → EReal) (s l : ℕ) : ropeT p (tabC s l) (tabA s l) (tabB s l) l = rope p s l := by
  unfold ropeT rope tabC tabA tabB
  by_cases h1 : l % 64 < 8
  · simp only [if_pos h1, mul_zero, add_zero, mul_neg, sub_eq_add_neg]
    rw [show l / 128 * 128 + (l % 128 + 8) % 128 = l + 8 by omega]
  · by_cases h2 : l % 64 < 16
    · simp only [if_neg h1, if_pos h2, mul_zero, add_zero]
      rw [show l / 128 * 128 + (l % 128 + 120) % 128 = l - 8 by omega]
    · simp only [if_neg h1, if_neg h2, mul_zero, add_zero, mul_one]

/-- The rotation reads the row below 512 only. -/
theorem ropeT_congr {p q : ℕ → EReal} (hpq : ∀ k, k < 512 → p k = q k) (co sa sb : EReal) (l : ℕ) (hl : l < 512) :
    ropeT p co sa sb l = ropeT q co sa sb l := by
  unfold ropeT
  rw [hpq l hl, hpq _ (show l / 128 * 128 + (l % 128 + 8) % 128 < 512 by omega), hpq _ (show l / 128 * 128 + (l % 128 + 120) % 128 < 512 by omega)]

/-- One band of 128 columns from offset `o` of a row of 512, rotated: the shifts as the printed operation states them. -/
def band (p : Fin 512 → EReal) (co sa sb : Fin 128 → EReal) (o : ℕ) (ho : o + 128 ≤ 512) (l : Fin 128) : EReal :=
  p ⟨o + l.val, by omega⟩ * co l + p ⟨o + (l.val + 128 - 120) % 128, by omega⟩ * sa l + p ⟨o + (l.val + 128 - 8) % 128, by omega⟩ * sb l

/-- A band is the rotation at its columns. -/
theorem band_eq (p : Fin 512 → EReal) (q : ℕ → EReal) (hpq : ∀ k : Fin 512, p k = q k.val) (co sa sb : Fin 128 → EReal) (o : ℕ) (ho : o + 128 ≤ 512)
    (h128 : o % 128 = 0) (l : Fin 128) : band p co sa sb o ho l = ropeT q (co l) (sa l) (sb l) (o + l.val) := by
  unfold band ropeT
  rw [hpq, hpq, hpq]
  have e1 : o + (l.val + 128 - 120) % 128 = (o + l.val) / 128 * 128 + ((o + l.val) % 128 + 8) % 128 := by omega
  have e2 : o + (l.val + 128 - 8) % 128 = (o + l.val) / 128 * 128 + ((o + l.val) % 128 + 120) % 128 := by omega
  show q (o + l.val) * _ + q (o + (l.val + 128 - 120) % 128) * _ + q (o + (l.val + 128 - 8) % 128) * _ = _
  rw [e1, e2]

/-- The projection's columns in the kernel's order: the first 2048, then the 1536 from 2056 on, then the eight gates from 2048 on and
    zeros. -/
def reorder (w : Fin 1024 → Fin 3592 → EReal) (d : Fin 1024) (j : Fin 3712) : EReal :=
  if h : j.val < 2048 then w d ⟨j.val, by omega⟩
  else if h' : j.val < 3584 then w d ⟨2056 + (j.val - 2048), by omega⟩
  else if h'' : j.val - 3584 < 8 then w d ⟨2048 + (j.val - 3584), by omega⟩ else 0

theorem reorder_head (w : Fin 1024 → Fin 3592 → EReal) (d : Fin 1024) (j : Fin 3712) (h : j.val < 2048) : reorder w d j = w d ⟨j.val, by omega⟩ := dif_pos h
theorem reorder_mid (w : Fin 1024 → Fin 3592 → EReal) (d : Fin 1024) (j : Fin 3712) (h : ¬ j.val < 2048) (h' : j.val - 2048 < 1536) :
    reorder w d j = w d ⟨2056 + (j.val - 2048), by omega⟩ := (dif_neg h).trans (dif_pos (show j.val < 3584 by omega))
theorem reorder_gate (w : Fin 1024 → Fin 3592 → EReal) (d : Fin 1024) (j : Fin 3712) (h : ¬ j.val < 2048) (h' : ¬ j.val - 2048 < 1536) (h'' : j.val - 2048 - 1536 < 8) :
    reorder w d j = w d ⟨2048 + (j.val - 2048 - 1536), by omega⟩ := by
  have e : reorder w d j = w d ⟨2048 + (j.val - 3584), by omega⟩ :=
    (dif_neg h).trans ((dif_neg (show ¬ j.val < 3584 by omega)).trans (dif_pos (show j.val - 3584 < 8 by omega)))
  have hv : j.val - 3584 = j.val - 2048 - 1536 := by omega
  rw [e]
  congr 2
theorem reorder_pad (w : Fin 1024 → Fin 3592 → EReal) (d : Fin 1024) (j : Fin 3712) (h : ¬ j.val < 2048) (h' : ¬ j.val - 2048 < 1536) (h'' : ¬ j.val - 2048 - 1536 < 8) :
    reorder w d j = 0 := (dif_neg h).trans ((dif_neg (show ¬ j.val < 3584 by omega)).trans (dif_neg (show ¬ j.val - 3584 < 8 by omega)))

/-- The reordered weights block by block, each block's column counted from the block's first. -/
theorem reorder_eq (w : Fin 1024 → Fin 3592 → EReal) (d : Fin 1024) (j : Fin 3712) (z : EReal) (hz : z = 0) :
    (if h : j.val < 2048 then w d ⟨j.val, by omega⟩
      else if h' : j.val - 2048 < 1536 then w d ⟨2056 + (j.val - 2048), by omega⟩
      else if h'' : j.val - 2048 - 1536 < 8 then w d ⟨2048 + (j.val - 2048 - 1536), by omega⟩ else z) = reorder w d j := by
  by_cases h1 : j.val < 2048
  · exact (dif_pos h1).trans (reorder_head w d j h1).symm
  · by_cases h2 : j.val - 2048 < 1536
    · exact (dif_neg h1).trans ((dif_pos h2).trans (reorder_mid w d j h1 h2).symm)
    · by_cases h3 : j.val - 2048 - 1536 < 8
      · exact (dif_neg h1).trans ((dif_neg h2).trans ((dif_pos h3).trans (reorder_gate w d j h1 h2 h3).symm))
      · exact (dif_neg h1).trans ((dif_neg h2).trans ((dif_neg h3).trans (hz.trans (reorder_pad w d j h1 h2 h3).symm)))

theorem proj_reorder_head (h : Fin 1024 → EReal) (w : Fin 1024 → Fin 3592 → EReal) (k : ℕ) (hk : k < 2048) :
    proj h (reorder w) k = proj h w k := by
  rw [proj_of_lt _ _ _ (show k < 3712 by omega), proj_of_lt _ _ _ (show k < 3592 by omega)]
  refine Finset.sum_congr rfl fun d _ => ?_
  unfold reorder
  rw [dif_pos (show (⟨k, _⟩ : Fin 3712).val < 2048 from hk)]

theorem proj_reorder_mid (h : Fin 1024 → EReal) (w : Fin 1024 → Fin 3592 → EReal) (k : ℕ) (hk : k < 1536) :
    proj h (reorder w) (2048 + k) = proj h w (2056 + k) := by
  rw [proj_of_lt _ _ _ (show 2048 + k < 3712 by omega), proj_of_lt _ _ _ (show 2056 + k < 3592 by omega)]
  refine Finset.sum_congr rfl fun d _ => ?_
  unfold reorder
  rw [dif_neg (show ¬ (⟨2048 + k, by omega⟩ : Fin 3712).val < 2048 by show ¬ 2048 + k < 2048; omega),
    dif_pos (show (⟨2048 + k, by omega⟩ : Fin 3712).val < 3584 by show 2048 + k < 3584; omega)]
  refine congrArg (fun z => h d * w d z) (Fin.ext ?_)
  show 2056 + (2048 + k - 2048) = 2056 + k; omega

/-- The row of gates: eight columns of the projection, then zeros. -/
def gates (h : Fin 1024 → EReal) (w : Fin 1024 → Fin 3592 → EReal) (l : ℕ) : EReal := if l < 8 then proj h w (2048 + l) else 0

theorem gates_of_lt (h : Fin 1024 → EReal) (w : Fin 1024 → Fin 3592 → EReal) (l : ℕ) (hl : l < 8) : gates h w l = proj h w (2048 + l) := if_pos hl
theorem gates_of_le (h : Fin 1024 → EReal) (w : Fin 1024 → Fin 3592 → EReal) (l : ℕ) (hl : 8 ≤ l) : gates h w l = 0 := if_neg (Nat.not_lt.mpr hl)

theorem proj_reorder_gates (h : Fin 1024 → EReal) (w : Fin 1024 → Fin 3592 → EReal) (k : ℕ) (hk : k < 128) :
    proj h (reorder w) (3584 + k) = gates h w k := by
  rw [proj_of_lt _ _ _ (show 3584 + k < 3712 by omega)]
  unfold gates
  have e1 : ¬ (⟨3584 + k, by omega⟩ : Fin 3712).val < 2048 := by show ¬ 3584 + k < 2048; omega
  have e2 : ¬ (⟨3584 + k, by omega⟩ : Fin 3712).val < 3584 := by show ¬ 3584 + k < 3584; omega
  by_cases h8 : k < 8
  · rw [if_pos h8, proj_of_lt _ _ _ (show 2048 + k < 3592 by omega)]
    refine Finset.sum_congr rfl fun d _ => ?_
    unfold reorder
    rw [dif_neg e1, dif_neg e2, dif_pos (show (⟨3584 + k, by omega⟩ : Fin 3712).val - 3584 < 8 by show 3584 + k - 3584 < 8; omega)]
    refine congrArg (fun z => h d * w d z) (Fin.ext ?_)
    show 2048 + (3584 + k - 3584) = 2048 + k; omega
  · rw [if_neg h8]
    refine Finset.sum_eq_zero fun d _ => ?_
    unfold reorder
    rw [dif_neg e1, dif_neg e2, dif_neg (show ¬ (⟨3584 + k, by omega⟩ : Fin 3712).val - 3584 < 8 by show ¬ 3584 + k - 3584 < 8; omega), mul_zero]

/-- Two matrices equal at every row and lane are equal. -/
theorem ext2 {a b : Nat} {α : Type} {f g : (⟨2, ![a, b]⟩ : Shape).Idx → α} (h : ∀ (R : Fin a) (l : Fin b), f (ix2 R l) = g (ix2 R l)) : f = g :=
  funext fun j => by rw [eq_ix2 j]; exact h _ _

end Cert.Proof.MixInMath

end
-- ==== Proof.MixInOut.lean ====
/- Hand-written, untrusted: WHAT ONE GRID POINT OF THE MIXER'S PROJECTIONS LEAVES IN ITS EIGHT OUTPUT BLOCKS. First, at any float
   values, each block as its stores of the printed payloads of the input blocks (`out_eq8` to `out_eq15`): the normed rows are stored
   once and read back whole before each product. Then, over the extended reals, each payload at an index, and each block at an index as
   columns of the row's projection (`MixInMath.proj`), rotated for the queries and the keys (`MixInMath.ropeT`). -/
module

public import proofs.«01_k».proof.Proof.Gen.MixInIdeal.Frame
public import proofs.«01_k».proof.Proof.MixInMath
public import Idealize.ShloMosaic.Lib.Pipeline.ValueKit.Acc
public import Idealize.ShloMosaic.Lib.Pipeline.ValueKit.Tiles

@[expose] public section

set_option maxRecDepth 16384

noncomputable section

namespace Cert.Proof.MixInOut

open Cert.MixInIdeal Cert.MixInIdeal.Gen Idealize.ShloMosaic Idealize.ShloMosaic.TcCoe Idealize.SL.Sem
open Cert.Proof.FfnMath Cert.Proof.MixInMath

section Any
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A load of the whole of a buffer whose last store was of the whole reads that store's value. -/
theorem rc {e : EltTy} {κ : Kind} {sp : Space} {sig : RefSig} (v : View sig κ sp S512x1024 e) (inb inb' : ∀ a, (![0, 0] : Fin 2 → Nat) a + (![512, 1024] : Fin 2 → Nat) a ≤ S512x1024.size a)
    (w : S512x1024.Idx → Elt F e) (L : List (View.Piece (Elt F) S512x1024 e)) :
    v.readCov ((⟨Rect.unit (s := S512x1024) ![0, 0] ![512, 1024] inb, w⟩ : View.Piece (Elt F) S512x1024 e) :: L) (Rect.unit (s := S512x1024) ![0, 0] ![512, 1024] inb').toLoadRect = w :=
  View.readCov_cons_unit_lit' v inb inb' w L (fun a => by fin_cases a <;> rfl) (fun a => by fin_cases a <;> rfl)

/-- The normed rows, as stored. -/
abbrev hid (x0 : Vec F S512x1024 .f32) (x1 x2 : Vec F S1x1x1024 .f32) (x3 : Vec F S1x1024 .f32) : Vec F S512x1024 .bf16 := k0_pay2 x0 x3 x2 x1

/-- 512 columns of the weights from column `o`. -/
def wcol (x4 : Vec F S1024x3712 .bf16) (o : Nat) (inb : ∀ a, (![0, o] : Fin 2 → Nat) a + S1024x512.size a ≤ S1024x3712.size a) : Vec F S1024x512 .bf16 :=
  View.ld x4 (Rect.unit (s := S1024x3712) ![0, o] S1024x512.size inb)

/-- 128 columns of the weights from column `o`. -/
def wcolb (x4 : Vec F S1024x3712 .bf16) (o : Nat) (inb : ∀ a, (![0, o] : Fin 2 → Nat) a + S1024x128.size a ≤ S1024x3712.size a) : Vec F S1024x128 .bf16 :=
  View.ld x4 (Rect.unit (s := S1024x3712) ![0, o] S1024x128.size inb)

/-! The core, the grid point, the buffers the grid point works on, and the contents of its inputs. -/

variable (c : Dev nD) (i : grid0.Coords)
  (arg1 : Memref sig .tc .vmem S512x1024 .f32) (h1 : arg1.IsWhole) (arg2 : Memref sig .tc .vmem S1x1x1024 .f32) (h2 : arg2.IsWhole) (arg3 : Memref sig .tc .vmem S1x1x1024 .f32) (h3 : arg3.IsWhole)
  (arg4 : Memref sig .tc .vmem S1x1024 .f32) (h4 : arg4.IsWhole) (arg5 : Memref sig .tc .vmem S1024x3712 .bf16) (h5 : arg5.IsWhole) (arg6 : Memref sig .tc .vmem S512x128 .f32) (h6 : arg6.IsWhole)
  (arg7 : Memref sig .tc .vmem S512x128 .f32) (h7 : arg7.IsWhole) (arg8 : Memref sig .tc .vmem S512x128 .f32) (h8 : arg8.IsWhole) (arg9 : Memref sig .tc .vmem S512x1536 .f32) (h9 : arg9.IsWhole)
  (arg10 : Memref sig .tc .vmem S512x512 .f32) (h10 : arg10.IsWhole) (arg11 : Memref sig .tc .vmem S512x128 .f32) (h11 : arg11.IsWhole) (arg12 : Memref sig .tc .vmem S512x512 .bf16) (h12 : arg12.IsWhole)
  (arg13 : Memref sig .tc .vmem S512x512 .f32) (h13 : arg13.IsWhole) (arg14 : Memref sig .tc .vmem S512x512 .bf16) (h14 : arg14.IsWhole) (arg15 : Memref sig .tc .vmem S512x512 .f32) (h15 : arg15.IsWhole)
  (arg16 : Memref sig .tc .vmem S512x512 .bf16) (h16 : arg16.IsWhole) (arg17 : Memref sig .tc .vmem S512x1024 .bf16) (h17 : arg17.IsWhole)
  (x0 : Vec F S512x1024 .f32) (x1 : Vec F S1x1x1024 .f32) (x2 : Vec F S1x1x1024 .f32) (x3 : Vec F S1x1024 .f32) (x4 : Vec F S1024x3712 .bf16) (x5 : Vec F S512x128 .f32) (x6 : Vec F S512x128 .f32) (x7 : Vec F S512x128 .f32)

/-- The stores of output block 8. -/
theorem out_eq8 :
    out0_A_8 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x1536) ![0, 1024] ![512, 512] inb_S512x1536_S512x512_0_1024,
          k0_pay5 (hid x0 x1 x2 x3) (wcol x4 1024 inb_S1024x3712_S1024x512_0_1024)⟩,
        ⟨Rect.unit (s := S512x1536) ![0, 512] ![512, 512] inb_S512x1536_S512x512_0_512,
          k0_pay4 (hid x0 x1 x2 x3) (wcol x4 512 inb_S1024x3712_S1024x512_0_512)⟩,
        ⟨Rect.unit (s := S512x1536) ![0, 0] ![512, 512] inb_S512x1536_S512x512_0_0,
          k0_pay3 (hid x0 x1 x2 x3) (wcol x4 0 inb_S1024x3712_S1024x512_0_0)⟩] := by
  unfold out0_A_8
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

/-- The stores of output block 9. -/
theorem out_eq9 :
    out0_A_9 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 0] ![512, 512] inb_S512x512_S512x512_0_0,
          k0_pay6 (hid x0 x1 x2 x3) (wcol x4 1536 inb_S1024x3712_S1024x512_0_1536)⟩] := by
  unfold out0_A_9
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

/-- The stores of output block 10. -/
theorem out_eq10 :
    out0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x128) ![0, 0] ![512, 128] inb_S512x128_S512x128_0_0,
          k0_pay7 (hid x0 x1 x2 x3) (wcolb x4 3584 inb_S1024x3712_S1024x128_0_3584)⟩] := by
  unfold out0_A_10
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

/-- The stores of output block 11. -/
theorem out_eq11 :
    out0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 384] ![512, 128] inb_S512x512_S512x128_0_384,
          k0_pay16 (k0_pay8 x5) (k0_pay9 x6) (k0_pay10 x7) (k0_pay11 (hid x0 x1 x2 x3) (wcol x4 2048 inb_S1024x3712_S1024x512_0_2048))⟩,
        ⟨Rect.unit (s := S512x512) ![0, 256] ![512, 128] inb_S512x512_S512x128_0_256,
          k0_pay15 (k0_pay14 (k0_pay8 x5) x6 x7 (hid x0 x1 x2 x3) (wcol x4 2048 inb_S1024x3712_S1024x512_0_2048))⟩,
        ⟨Rect.unit (s := S512x512) ![0, 128] ![512, 128] inb_S512x512_S512x128_0_128,
          k0_pay13 (k0_pay8 x5) x6 x7 (hid x0 x1 x2 x3) (wcol x4 2048 inb_S1024x3712_S1024x512_0_2048)⟩,
        ⟨Rect.unit (s := S512x512) ![0, 0] ![512, 128] inb_S512x512_S512x128_0_0,
          k0_pay12 (k0_pay8 x5) x6 x7 (hid x0 x1 x2 x3) (wcol x4 2048 inb_S1024x3712_S1024x512_0_2048)⟩] := by
  unfold out0_A_11
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

/-- The stores of output block 12. -/
theorem out_eq12 :
    out0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 384] ![512, 128] inb_S512x512_S512x128_0_384,
          k0_pay26 (k0_pay8 x5) (k0_pay9 x6) (k0_pay10 x7) (k0_pay17 (hid x0 x1 x2 x3) (wcol x4 2560 inb_S1024x3712_S1024x512_0_2560))⟩,
        ⟨Rect.unit (s := S512x512) ![0, 256] ![512, 128] inb_S512x512_S512x128_0_256,
          k0_pay24 (k0_pay8 x5) (k0_pay9 x6) (k0_pay10 x7) (k0_pay17 (hid x0 x1 x2 x3) (wcol x4 2560 inb_S1024x3712_S1024x512_0_2560))⟩,
        ⟨Rect.unit (s := S512x512) ![0, 128] ![512, 128] inb_S512x512_S512x128_0_128,
          k0_pay22 (k0_pay10 x7) (k0_pay20 (hid x0 x1 x2 x3) (wcol x4 2560 inb_S1024x3712_S1024x512_0_2560)) (k0_pay21 (k0_pay8 x5) (k0_pay9 x6) (hid x0 x1 x2 x3) (wcol x4 2560 inb_S1024x3712_S1024x512_0_2560))⟩,
        ⟨Rect.unit (s := S512x512) ![0, 0] ![512, 128] inb_S512x512_S512x128_0_0,
          k0_pay18 (k0_pay8 x5) (k0_pay9 x6) (k0_pay10 x7) (hid x0 x1 x2 x3) (wcol x4 2560 inb_S1024x3712_S1024x512_0_2560)⟩] := by
  unfold out0_A_12
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

/-- The stores of output block 13. -/
theorem out_eq13 :
    out0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 384] ![512, 128] inb_S512x512_S512x128_0_384,
          k0_pay27 (k0_pay8 x5) (k0_pay9 x6) (k0_pay10 x7) (k0_pay17 (hid x0 x1 x2 x3) (wcol x4 2560 inb_S1024x3712_S1024x512_0_2560))⟩,
        ⟨Rect.unit (s := S512x512) ![0, 256] ![512, 128] inb_S512x512_S512x128_0_256,
          k0_pay25 (k0_pay8 x5) (k0_pay9 x6) (k0_pay10 x7) (k0_pay17 (hid x0 x1 x2 x3) (wcol x4 2560 inb_S1024x3712_S1024x512_0_2560))⟩,
        ⟨Rect.unit (s := S512x512) ![0, 128] ![512, 128] inb_S512x512_S512x128_0_128,
          k0_pay23 (k0_pay10 x7) (k0_pay20 (hid x0 x1 x2 x3) (wcol x4 2560 inb_S1024x3712_S1024x512_0_2560)) (k0_pay21 (k0_pay8 x5) (k0_pay9 x6) (hid x0 x1 x2 x3) (wcol x4 2560 inb_S1024x3712_S1024x512_0_2560))⟩,
        ⟨Rect.unit (s := S512x512) ![0, 0] ![512, 128] inb_S512x512_S512x128_0_0,
          k0_pay19 (k0_pay8 x5) (k0_pay9 x6) (k0_pay10 x7) (hid x0 x1 x2 x3) (wcol x4 2560 inb_S1024x3712_S1024x512_0_2560)⟩] := by
  unfold out0_A_13
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

/-- The stores of output block 14. -/
theorem out_eq14 :
    out0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 0] ![512, 512] inb_S512x512_S512x512_0_0,
          k0_pay28 (hid x0 x1 x2 x3) (wcol x4 3072 inb_S1024x3712_S1024x512_0_3072)⟩] := by
  unfold out0_A_14
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

/-- The stores of output block 15. -/
theorem out_eq15 :
    out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 0] ![512, 512] inb_S512x512_S512x512_0_0,
          k0_pay1 (k0_pay28 (hid x0 x1 x2 x3) (wcol x4 3072 inb_S1024x3712_S1024x512_0_3072))⟩] := by
  unfold out0_A_15
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x1x1024) hz3]
  rfl

end Any

variable (x0 : FVec Ideal S512x1024 .f32) (x1 x2 : FVec Ideal S1x1x1024 .f32) (x3 : FVec Ideal S1x1024 .f32) (x4 : FVec Ideal S1024x3712 .bf16)
  (x5 x6 x7 : FVec Ideal S512x128 .f32) (h : FVec Ideal S512x1024 .bf16) (w : FVec Ideal S1024x512 .bf16) (r : Fin 512)

theorem wcol_apply (o : Nat) (inb : ∀ a, (![0, o] : Fin 2 → Nat) a + S1024x512.size a ≤ S1024x3712.size a) (d : Fin 1024) (k : Fin 512)
    (hk : o + k.val < 3712) : wcol (F := Ideal) x4 o inb (ix2 d k) = x4 (ix2 d ⟨o + k.val, hk⟩) := by
  refine congrArg x4 (funext fun a => Fin.ext ?_)
  match a with
  | ⟨0, _⟩ => show 0 + 1 * d.val = d.val; omega
  | ⟨1, _⟩ => show o + 1 * k.val = o + k.val; omega

theorem wcolb_apply (o : Nat) (inb : ∀ a, (![0, o] : Fin 2 → Nat) a + S1024x128.size a ≤ S1024x3712.size a) (d : Fin 1024) (k : Fin 128)
    (hk : o + k.val < 3712) : wcolb (F := Ideal) x4 o inb (ix2 d k) = x4 (ix2 d ⟨o + k.val, hk⟩) := by
  refine congrArg x4 (funext fun a => Fin.ext ?_)
  match a with
  | ⟨0, _⟩ => show 0 + 1 * d.val = d.val; omega
  | ⟨1, _⟩ => show o + 1 * k.val = o + k.val; omega

/-- The modulated normed row of a block's row. -/
def hrow : Fin 1024 → EReal := modRow (fun d => x0 (ix2 r d)) (fun d => x3 (ix2 0 d)) (fun d => x2 (ix3 0 0 d)) (fun d => x1 (ix3 0 0 d))

theorem hid_apply (l : Fin 1024) : hid (F := Ideal) x0 x1 x2 x3 (ix2 r l) = hrow x0 x1 x2 x3 r l := by
  unfold hid
  pointwise [k0_pay2]
  rfl

/-- A column of the product with a block of 512 columns of the weights is a column of the projection. -/
def mm (k : Fin 512) : EReal := ∑ d, h (ix2 r d) * w (ix2 d k)

/-- The projection of a block's row. -/
def pr (k : ℕ) : EReal := proj (hrow x0 x1 x2 x3 r) (fun d j => x4 (ix2 d j)) k

theorem mm_eq (o : Nat) (inb) (ho : o + 512 ≤ 3712) (k : Fin 512) :
    mm (hid (F := Ideal) x0 x1 x2 x3) (wcol (F := Ideal) x4 o inb) r k = pr x0 x1 x2 x3 x4 r (o + k.val) := by
  unfold mm pr
  rw [proj_of_lt _ _ _ (show o + k.val < 3712 by omega)]
  refine Finset.sum_congr rfl fun d _ => ?_
  rw [hid_apply, wcol_apply x4 o inb d k (by omega)]

theorem pay3_apply (l : Fin 512) : k0_pay3 (F := Ideal) h w (ix2 r l) = mm h w r l := by pointwise [k0_pay3]; rfl
theorem pay4_apply (l : Fin 512) : k0_pay4 (F := Ideal) h w (ix2 r l) = mm h w r l := by pointwise [k0_pay4]; rfl
theorem pay5_apply (l : Fin 512) : k0_pay5 (F := Ideal) h w (ix2 r l) = mm h w r l := by pointwise [k0_pay5]; rfl
theorem pay6_apply (l : Fin 512) : k0_pay6 (F := Ideal) h w (ix2 r l) = mm h w r l := by pointwise [k0_pay6]; rfl
theorem pay28_apply (l : Fin 512) : k0_pay28 (F := Ideal) h w (ix2 r l) = mm h w r l := by pointwise [k0_pay28]; rfl
theorem pay1_apply (l : Fin 512) : k0_pay1 (F := Ideal) (k0_pay28 h w) (ix2 r l) = mm h w r l := by pointwise [k0_pay1, k0_pay28]; rfl
theorem pay7_apply (wb : FVec Ideal S1024x128 .bf16) (l : Fin 128) : k0_pay7 (F := Ideal) h wb (ix2 r l) = ∑ d, h (ix2 r d) * wb (ix2 d l) := by
  pointwise [k0_pay7]

variable (l : Fin 128)

/-- A band of the rotation of the product. -/
abbrev bnd (o : ℕ) (ho : o + 128 ≤ 512) : EReal := band (mm h w r) (fun l => x5 (ix2 r l)) (fun l => x6 (ix2 r l)) (fun l => x7 (ix2 r l)) o ho l

theorem pay12_apply : k0_pay12 (F := Ideal) (k0_pay8 x5) x6 x7 h w (ix2 r l)
    = bnd x5 x6 x7 h w r l 0 (by omega) * Ideal.ofBits FTy.f32 1040187392#32 := by
  unfold bnd band mm
  pointwise [k0_pay12, k0_pay11, k0_pay8, k0_pay9, k0_pay10]

theorem pay13_apply : k0_pay13 (F := Ideal) (k0_pay8 x5) x6 x7 h w (ix2 r l)
    = bnd x5 x6 x7 h w r l 128 (by omega) * Ideal.ofBits FTy.f32 1040187392#32 := by
  unfold bnd band mm
  pointwise [k0_pay13, k0_pay11, k0_pay8, k0_pay9, k0_pay10]

theorem pay15_apply : k0_pay15 (F := Ideal) (k0_pay14 (k0_pay8 x5) x6 x7 h w) (ix2 r l)
    = bnd x5 x6 x7 h w r l 256 (by omega) * Ideal.ofBits FTy.f32 1040187392#32 := by
  unfold bnd band mm
  pointwise [k0_pay15, k0_pay14, k0_pay11, k0_pay8, k0_pay9, k0_pay10]

theorem pay16_apply : k0_pay16 (F := Ideal) (k0_pay8 x5) (k0_pay9 x6) (k0_pay10 x7) (k0_pay11 h w) (ix2 r l)
    = bnd x5 x6 x7 h w r l 384 (by omega) * Ideal.ofBits FTy.f32 1040187392#32 := by
  unfold bnd band mm
  pointwise [k0_pay16, k0_pay11, k0_pay8, k0_pay9, k0_pay10]

theorem pay18_apply : k0_pay18 (F := Ideal) (k0_pay8 x5) (k0_pay9 x6) (k0_pay10 x7) h w (ix2 r l)
    = bnd x5 x6 x7 h w r l 0 (by omega) := by
  unfold bnd band mm
  pointwise [k0_pay18, k0_pay17, k0_pay8, k0_pay9, k0_pay10]

theorem pay19_apply : k0_pay19 (F := Ideal) (k0_pay8 x5) (k0_pay9 x6) (k0_pay10 x7) h w (ix2 r l)
    = bnd x5 x6 x7 h w r l 0 (by omega) := by
  unfold bnd band mm
  pointwise [k0_pay19, k0_pay18, k0_pay17, k0_pay8, k0_pay9, k0_pay10]

theorem pay22_apply : k0_pay22 (F := Ideal) (k0_pay10 x7) (k0_pay20 h w) (k0_pay21 (k0_pay8 x5) (k0_pay9 x6) h w) (ix2 r l)
    = bnd x5 x6 x7 h w r l 128 (by omega) := by
  unfold bnd band mm
  pointwise [k0_pay22, k0_pay21, k0_pay20, k0_pay17, k0_pay8, k0_pay9, k0_pay10]

theorem pay23_apply : k0_pay23 (F := Ideal) (k0_pay10 x7) (k0_pay20 h w) (k0_pay21 (k0_pay8 x5) (k0_pay9 x6) h w) (ix2 r l)
    = bnd x5 x6 x7 h w r l 128 (by omega) := by
  unfold bnd band mm
  pointwise [k0_pay23, k0_pay22, k0_pay21, k0_pay20, k0_pay17, k0_pay8, k0_pay9, k0_pay10]

theorem pay24_apply : k0_pay24 (F := Ideal) (k0_pay8 x5) (k0_pay9 x6) (k0_pay10 x7) (k0_pay17 h w) (ix2 r l)
    = bnd x5 x6 x7 h w r l 256 (by omega) := by
  unfold bnd band mm
  pointwise [k0_pay24, k0_pay17, k0_pay8, k0_pay9, k0_pay10]

theorem pay25_apply : k0_pay25 (F := Ideal) (k0_pay8 x5) (k0_pay9 x6) (k0_pay10 x7) (k0_pay17 h w) (ix2 r l)
    = bnd x5 x6 x7 h w r l 256 (by omega) := by
  unfold bnd band mm
  pointwise [k0_pay25, k0_pay24, k0_pay17, k0_pay8, k0_pay9, k0_pay10]

theorem pay26_apply : k0_pay26 (F := Ideal) (k0_pay8 x5) (k0_pay9 x6) (k0_pay10 x7) (k0_pay17 h w) (ix2 r l)
    = bnd x5 x6 x7 h w r l 384 (by omega) := by
  unfold bnd band mm
  pointwise [k0_pay26, k0_pay17, k0_pay8, k0_pay9, k0_pay10]

theorem pay27_apply : k0_pay27 (F := Ideal) (k0_pay8 x5) (k0_pay9 x6) (k0_pay10 x7) (k0_pay17 h w) (ix2 r l)
    = bnd x5 x6 x7 h w r l 384 (by omega) := by
  unfold bnd band mm
  pointwise [k0_pay27, k0_pay26, k0_pay17, k0_pay8, k0_pay9, k0_pay10]

end Cert.Proof.MixInOut

end
-- ==== Proof.MixInBlk.lean ====
/- Hand-written, untrusted: THE EIGHT OUTPUT BLOCKS OF THE MIXER'S PROJECTIONS AT AN INDEX, over the extended reals (`out8_apply` to
   `out15_apply`): a block filled by bands of columns is read in the band that holds the column. -/
module

public import proofs.«01_k».proof.Proof.MixInOut

@[expose] public section

set_option maxRecDepth 16384

noncomputable section

namespace Cert.Proof.MixInBlk

open Cert.MixInIdeal Cert.MixInIdeal.Gen Idealize.ShloMosaic Idealize.ShloMosaic.TcCoe Idealize.SL.Sem
open Cert.Proof.FfnMath Cert.Proof.MixInMath Cert.Proof.MixInOut

/-- A band of the rotated product, at a column `l` of the 512. -/
theorem bnd_ropeT (x0 : FVec Ideal S512x1024 .f32) (x1 x2 : FVec Ideal S1x1x1024 .f32) (x3 : FVec Ideal S1x1024 .f32) (x4 : FVec Ideal S1024x3712 .bf16) (x5 x6 x7 : FVec Ideal S512x128 .f32) (off : Nat) (inb) (hoff : off + 512 ≤ 3712) (r : Fin 512) (l' : Fin 128) (l : Fin 512) (o : Nat) (ho : o + 128 ≤ 512)
    (h128 : o % 128 = 0) (hl : l.val = o + l'.val) :
    bnd x5 x6 x7 (hid (F := Ideal) x0 x1 x2 x3) (wcol (F := Ideal) x4 off inb) r l' o ho
      = ropeT (fun k => pr x0 x1 x2 x3 x4 r (off + k)) (x5 (ix2 r ⟨l.val % 128, by omega⟩)) (x6 (ix2 r ⟨l.val % 128, by omega⟩)) (x7 (ix2 r ⟨l.val % 128, by omega⟩)) l.val := by
  have e : (⟨l.val % 128, by omega⟩ : Fin 128) = l' := Fin.ext (by show l.val % 128 = l'.val; omega)
  rw [e, hl]
  exact band_eq _ (fun k => pr x0 x1 x2 x3 x4 r (off + k)) (fun k => mm_eq x0 x1 x2 x3 x4 r off inb hoff k) _ _ _ o ho h128 l'

/-- A column of the plain product. -/
theorem mm_pr (x0 : FVec Ideal S512x1024 .f32) (x1 x2 : FVec Ideal S1x1x1024 .f32) (x3 : FVec Ideal S1x1024 .f32) (x4 : FVec Ideal S1024x3712 .bf16) (off : Nat) (inb) (hoff : off + 512 ≤ 3712) (r l' : Fin 512) (n : Nat) (hn : n = off + l'.val) :
    mm (hid (F := Ideal) x0 x1 x2 x3) (wcol (F := Ideal) x4 off inb) r l' = pr x0 x1 x2 x3 x4 r n := by
  rw [hn]; exact mm_eq x0 x1 x2 x3 x4 r off inb hoff l'

/-! The core, the grid point, the buffers the grid point works on, and the contents of its inputs. -/

variable (c : Dev nD) (i : grid0.Coords)
  (arg1 : Memref sig .tc .vmem S512x1024 .f32) (h1 : arg1.IsWhole) (arg2 : Memref sig .tc .vmem S1x1x1024 .f32) (h2 : arg2.IsWhole) (arg3 : Memref sig .tc .vmem S1x1x1024 .f32) (h3 : arg3.IsWhole)
  (arg4 : Memref sig .tc .vmem S1x1024 .f32) (h4 : arg4.IsWhole) (arg5 : Memref sig .tc .vmem S1024x3712 .bf16) (h5 : arg5.IsWhole) (arg6 : Memref sig .tc .vmem S512x128 .f32) (h6 : arg6.IsWhole)
  (arg7 : Memref sig .tc .vmem S512x128 .f32) (h7 : arg7.IsWhole) (arg8 : Memref sig .tc .vmem S512x128 .f32) (h8 : arg8.IsWhole) (arg9 : Memref sig .tc .vmem S512x1536 .f32) (h9 : arg9.IsWhole)
  (arg10 : Memref sig .tc .vmem S512x512 .f32) (h10 : arg10.IsWhole) (arg11 : Memref sig .tc .vmem S512x128 .f32) (h11 : arg11.IsWhole) (arg12 : Memref sig .tc .vmem S512x512 .bf16) (h12 : arg12.IsWhole)
  (arg13 : Memref sig .tc .vmem S512x512 .f32) (h13 : arg13.IsWhole) (arg14 : Memref sig .tc .vmem S512x512 .bf16) (h14 : arg14.IsWhole) (arg15 : Memref sig .tc .vmem S512x512 .f32) (h15 : arg15.IsWhole)
  (arg16 : Memref sig .tc .vmem S512x512 .bf16) (h16 : arg16.IsWhole) (arg17 : Memref sig .tc .vmem S512x1024 .bf16) (h17 : arg17.IsWhole)
  (x0 : FVec Ideal S512x1024 .f32) (x1 x2 : FVec Ideal S1x1x1024 .f32) (x3 : FVec Ideal S1x1024 .f32) (x4 : FVec Ideal S1024x3712 .bf16) (x5 x6 x7 : FVec Ideal S512x128 .f32)

theorem out8_apply (r : Fin 512) (l : Fin 1536) :
    out0_A_8 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r l.val := by
  rw [out_eq8]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 1024 + l'.val := by simpa using hx1
    exact (pay5_apply _ _ r l').trans (mm_pr x0 x1 x2 x3 x4 1024 _ (by omega) r l' _ (by omega))
  · obtain ⟨r', l', rfl⟩ : ∃ (r' : Fin 512) (l' : Fin 512), x = ix2 r' l' := ⟨x 0, x 1, eq_ix2 x⟩
    obtain rfl : r = r' := Fin.ext hx0
    have h1 : l.val = 512 + l'.val := by simpa using hx1
    exact (pay4_apply _ _ r l').trans (mm_pr x0 x1 x2 x3 x4 512 _ (by omega) r l' _ (by omega))
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay3_apply _ _ r l').trans (mm_pr x0 x1 x2 x3 x4 0 _ (by omega) r l' _ (by omega))

theorem out9_apply (r : Fin 512) (l : Fin 512) :
    out0_A_9 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (1536 + l.val) := by
  rw [out_eq9]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay6_apply _ _ r l').trans (mm_pr x0 x1 x2 x3 x4 1536 _ (by omega) r l' _ (by omega))

theorem out10_apply (r : Fin 512) (l : Fin 128) :
    out0_A_10 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (3584 + l.val) := by
  rw [out_eq10]
  canon_tiles x hx
  · obtain ⟨r', l', rfl⟩ : ∃ (r' : Fin 512) (l' : Fin 128), x = ix2 r' l' := ⟨x 0, x 1, eq_ix2 x⟩
    obtain rfl : r = r' := Fin.ext hx0
    obtain rfl : l = l' := Fin.ext hx1
    refine (pay7_apply _ r _ l).trans ?_
    unfold pr
    rw [proj_of_lt _ _ _ (show 3584 + l.val < 3712 by omega)]
    refine Finset.sum_congr rfl fun d _ => ?_
    rw [hid_apply, wcolb_apply x4 3584 _ d l (by omega)]

theorem out11_apply (r : Fin 512) (l : Fin 512) :
    out0_A_11 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = ropeT (fun k => pr x0 x1 x2 x3 x4 r (2048 + k)) (x5 (ix2 r ⟨l.val % 128, by omega⟩)) (x6 (ix2 r ⟨l.val % 128, by omega⟩)) (x7 (ix2 r ⟨l.val % 128, by omega⟩)) l.val * Ideal.ofBits FTy.f32 1040187392#32 := by
  rw [out_eq11]
  canon_tiles x hx
  · obtain ⟨r', l', rfl⟩ : ∃ (r' : Fin 512) (l' : Fin 128), x = ix2 r' l' := ⟨x 0, x 1, eq_ix2 x⟩
    obtain rfl : r = r' := Fin.ext hx0
    have h1 : l.val = 384 + l'.val := by simpa using hx1
    exact (pay16_apply x5 x6 x7 _ _ r l').trans (congrArg (fun z => z * Ideal.ofBits FTy.f32 1040187392#32) (bnd_ropeT x0 x1 x2 x3 x4 x5 x6 x7 2048 _ (by omega) r l' l 384 (by omega) rfl h1))
  · obtain ⟨r', l', rfl⟩ : ∃ (r' : Fin 512) (l' : Fin 128), x = ix2 r' l' := ⟨x 0, x 1, eq_ix2 x⟩
    obtain rfl : r = r' := Fin.ext hx0
    have h1 : l.val = 256 + l'.val := by simpa using hx1
    exact (pay15_apply x5 x6 x7 _ _ r l').trans (congrArg (fun z => z * Ideal.ofBits FTy.f32 1040187392#32) (bnd_ropeT x0 x1 x2 x3 x4 x5 x6 x7 2048 _ (by omega) r l' l 256 (by omega) rfl h1))
  · obtain ⟨r', l', rfl⟩ : ∃ (r' : Fin 512) (l' : Fin 128), x = ix2 r' l' := ⟨x 0, x 1, eq_ix2 x⟩
    obtain rfl : r = r' := Fin.ext hx0
    have h1 : l.val = 128 + l'.val := by simpa using hx1
    exact (pay13_apply x5 x6 x7 _ _ r l').trans (congrArg (fun z => z * Ideal.ofBits FTy.f32 1040187392#32) (bnd_ropeT x0 x1 x2 x3 x4 x5 x6 x7 2048 _ (by omega) r l' l 128 (by omega) rfl h1))
  · obtain ⟨r', l', rfl⟩ : ∃ (r' : Fin 512) (l' : Fin 128), x = ix2 r' l' := ⟨x 0, x 1, eq_ix2 x⟩
    obtain rfl : r = r' := Fin.ext hx0
    have h1 : l.val = 0 + l'.val := by simpa using hx1
    exact (pay12_apply x5 x6 x7 _ _ r l').trans (congrArg (fun z => z * Ideal.ofBits FTy.f32 1040187392#32) (bnd_ropeT x0 x1 x2 x3 x4 x5 x6 x7 2048 _ (by omega) r l' l 0 (by omega) rfl h1))

theorem out12_apply (r : Fin 512) (l : Fin 512) :
    out0_A_12 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = ropeT (fun k => pr x0 x1 x2 x3 x4 r (2560 + k)) (x5 (ix2 r ⟨l.val % 128, by omega⟩)) (x6 (ix2 r ⟨l.val % 128, by omega⟩)) (x7 (ix2 r ⟨l.val % 128, by omega⟩)) l.val := by
  rw [out_eq12]
  canon_tiles x hx
  · obtain ⟨r', l', rfl⟩ : ∃ (r' : Fin 512) (l' : Fin 128), x = ix2 r' l' := ⟨x 0, x 1, eq_ix2 x⟩
    obtain rfl : r = r' := Fin.ext hx0
    have h1 : l.val = 384 + l'.val := by simpa using hx1
    exact (pay26_apply x5 x6 x7 _ _ r l').trans (bnd_ropeT x0 x1 x2 x3 x4 x5 x6 x7 2560 _ (by omega) r l' l 384 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 256 + l'.val := by simpa using hx1
    exact (pay24_apply x5 x6 x7 _ _ r l').trans (bnd_ropeT x0 x1 x2 x3 x4 x5 x6 x7 2560 _ (by omega) r l' l 256 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 128 + l'.val := by simpa using hx1
    exact (pay22_apply x5 x6 x7 _ _ r l').trans (bnd_ropeT x0 x1 x2 x3 x4 x5 x6 x7 2560 _ (by omega) r l' l 128 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 0 + l'.val := by simpa using hx1
    exact (pay18_apply x5 x6 x7 _ _ r l').trans (bnd_ropeT x0 x1 x2 x3 x4 x5 x6 x7 2560 _ (by omega) r l' l 0 (by omega) rfl h1)

theorem out13_apply (r : Fin 512) (l : Fin 512) :
    out0_A_13 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = ropeT (fun k => pr x0 x1 x2 x3 x4 r (2560 + k)) (x5 (ix2 r ⟨l.val % 128, by omega⟩)) (x6 (ix2 r ⟨l.val % 128, by omega⟩)) (x7 (ix2 r ⟨l.val % 128, by omega⟩)) l.val := by
  rw [out_eq13]
  canon_tiles x hx
  · obtain ⟨r', l', rfl⟩ : ∃ (r' : Fin 512) (l' : Fin 128), x = ix2 r' l' := ⟨x 0, x 1, eq_ix2 x⟩
    obtain rfl : r = r' := Fin.ext hx0
    have h1 : l.val = 384 + l'.val := by simpa using hx1
    exact (pay27_apply x5 x6 x7 _ _ r l').trans (bnd_ropeT x0 x1 x2 x3 x4 x5 x6 x7 2560 _ (by omega) r l' l 384 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 256 + l'.val := by simpa using hx1
    exact (pay25_apply x5 x6 x7 _ _ r l').trans (bnd_ropeT x0 x1 x2 x3 x4 x5 x6 x7 2560 _ (by omega) r l' l 256 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 128 + l'.val := by simpa using hx1
    exact (pay23_apply x5 x6 x7 _ _ r l').trans (bnd_ropeT x0 x1 x2 x3 x4 x5 x6 x7 2560 _ (by omega) r l' l 128 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 0 + l'.val := by simpa using hx1
    exact (pay19_apply x5 x6 x7 _ _ r l').trans (bnd_ropeT x0 x1 x2 x3 x4 x5 x6 x7 2560 _ (by omega) r l' l 0 (by omega) rfl h1)

theorem out14_apply (r : Fin 512) (l : Fin 512) :
    out0_A_14 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (3072 + l.val) := by
  rw [out_eq14]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay28_apply _ _ r l').trans (mm_pr x0 x1 x2 x3 x4 3072 _ (by omega) r l' _ (by omega))

theorem out15_apply (r : Fin 512) (l : Fin 512) :
    out0_A_15 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (3072 + l.val) := by
  rw [out_eq15]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay1_apply _ _ r l').trans (mm_pr x0 x1 x2 x3 x4 3072 _ (by omega) r l' _ (by omega))

end Cert.Proof.MixInBlk

end
-- ==== Proof.MixInTab.lean ====
/- Hand-written, untrusted: THE ARRAYS THE HOST PREPARES FOR THE MIXER'S PROJECTIONS, over the extended reals, each at an index: the
   three rotation tables of the positions (`tabC_apply`, `tabA_apply`, `tabB_apply`) and the reordered weights (`w_apply`). -/
module

public import proofs.«01_k».proof.Proof.MixInBlk

@[expose] public section

set_option maxRecDepth 16384

noncomputable section

namespace Cert.Proof.MixInTab

open Cert.MixInIdeal Cert.MixInIdeal.Gen Idealize.ShloMosaic Idealize.ShloMosaic.TcCoe Idealize.SL.Sem
open Cert.Proof.FfnMath Cert.Proof.MixInMath

/-- The angles, position by frequency. -/
def angV : FVec Ideal S8192x8 .f32 :=
  mulf (broadcastInDim S8192x8 ![0, 1] bcast_S8192x1_S8192x8_0_1 (broadcastInDim S8192x1 ![0] bcast_S8192_S8192x1_0 (sitofp (F := Ideal) .f32 (iotaInDim S8192 32 0))))
    (broadcastInDim S8192x8 ![0, 1] bcast_S1x8_S8192x8_0_1 (broadcastInDim S1x8 ![1] bcast_S8_S1x8_1
      (Host.exp (mulf (Host.negf (Host.divf (mulf (broadcastInDim S8 ![] bcast_S_S8 (constant (F := Ideal) S_ .f32 0x40000000#32)) (sitofp (F := Ideal) .f32 (iotaInDim S8 32 0)))
        (broadcastInDim S8 ![] bcast_S_S8 (constant (F := Ideal) S_ .f32 0x41800000#32)))) (broadcastInDim S8 ![] bcast_S_S8 (constant (F := Ideal) S_ .f32 0x4151F533#32))))))

def z48 : FVec Ideal S8192x48 .f32 := broadcastInDim S8192x48 ![] bcast_S_S8192x48 (constant (F := Ideal) S_ .f32 0x00000000#32)
def z8 : FVec Ideal S8192x8 .f32 := broadcastInDim S8192x8 ![] bcast_S_S8192x8 (constant (F := Ideal) S_ .f32 0x00000000#32)
def o48 : FVec Ideal S8192x48 .f32 := addf z48 (broadcastInDim S8192x48 ![] bcast_S_S8192x48 (constant (F := Ideal) S_ .f32 0x3F800000#32))

/-- Three blocks of columns, 8, 8 and 48 wide, twice side by side. -/
def cat3 (a b : FVec Ideal S8192x8 .f32) (c : FVec Ideal S8192x48 .f32) : FVec Ideal S8192x128 .f32 :=
  let t : FVec Ideal S8192x64 .f32 := concatenate S8192x64 1 [⟨S8192x8, a⟩, ⟨S8192x8, b⟩, ⟨S8192x48, c⟩] concatenates_S8192x8_S8192x8_S8192x48_S8192x64_d1
  concatenate S8192x128 1 [⟨S8192x64, t⟩, ⟨S8192x64, t⟩] concatenates_S8192x64_S8192x64_S8192x128_d1

/-- The weights in the kernel's order of columns. -/
def wV (w : FVec Ideal S1024x3592 .f32) : FVec Ideal S1024x3712 .bf16 :=
  truncf (F := Ideal) .bf16 (concatenate S1024x3712 1 [⟨S1024x2048, extractStridedSlice S1024x2048 ![0, 0] w slices_S1024x3592_S1024x2048_0_0⟩,
    ⟨S1024x1536, extractStridedSlice S1024x1536 ![0, 2056] w slices_S1024x3592_S1024x1536_0_2056⟩,
    ⟨S1024x128, pad S1024x128 ![0, 0] ![0, 120] ![0, 0] (extractStridedSlice S1024x8 ![0, 2048] w slices_S1024x3592_S1024x8_0_2048) (sitofp (F := Ideal) .f32 (constantI S_ 32 0#32)) pads_S1024x8_S1024x128_000_01200 h_S_⟩]
    concatenates_S1024x2048_S1024x1536_S1024x128_S1024x3712_d1) bitsLt_bf16_f32

theorem angV_apply (s : Fin 8192) (j : Fin 8) : angV (ix2 s j) = ang s.val j.val := by
  pointwise [angV]
  rfl

theorem cat3_apply (a b : FVec Ideal S8192x8 .f32) (c : FVec Ideal S8192x48 .f32) (s : Fin 8192) (l : Fin 128) :
    cat3 a b c (ix2 s l) = if h : l.val % 64 < 8 then a (ix2 s ⟨l.val % 64, h⟩)
      else if h' : l.val % 64 < 16 then b (ix2 s ⟨l.val % 64 - 8, by omega⟩) else c (ix2 s ⟨l.val % 64 - 16, by omega⟩) := by
  have hl : l.val < 128 := l.isLt
  pointwise [cat3]
  by_cases h64 : l.val < 64
  · refine Eq.trans (dif_pos h64) ?_
    by_cases h8 : l.val < 8
    · refine Eq.trans (dif_pos h8) (Eq.trans ?_ (dif_pos (show l.val % 64 < 8 by omega)).symm)
      exact congrArg (fun k => a (ix2 s k)) (Fin.ext (by show l.val = l.val % 64; omega))
    · by_cases h16 : l.val - 8 < 8
      · refine Eq.trans (dif_neg h8) (Eq.trans (dif_pos h16) (Eq.trans ?_ ((dif_neg (show ¬ l.val % 64 < 8 by omega)).trans (dif_pos (show l.val % 64 < 16 by omega))).symm))
        exact congrArg (fun k => b (ix2 s k)) (Fin.ext (by show l.val - 8 = l.val % 64 - 8; omega))
      · refine Eq.trans (dif_neg h8) (Eq.trans (dif_neg h16) (Eq.trans ?_ ((dif_neg (show ¬ l.val % 64 < 8 by omega)).trans (dif_neg (show ¬ l.val % 64 < 16 by omega))).symm))
        exact congrArg (fun k => c (ix2 s k)) (Fin.ext (by show l.val - 8 - 8 = l.val % 64 - 16; omega))
  · refine Eq.trans (dif_neg h64) ?_
    by_cases h8 : l.val - 64 < 8
    · refine Eq.trans (dif_pos h8) (Eq.trans ?_ (dif_pos (show l.val % 64 < 8 by omega)).symm)
      exact congrArg (fun k => a (ix2 s k)) (Fin.ext (by show l.val - 64 = l.val % 64; omega))
    · by_cases h16 : l.val - 64 - 8 < 8
      · refine Eq.trans (dif_neg h8) (Eq.trans (dif_pos h16) (Eq.trans ?_ ((dif_neg (show ¬ l.val % 64 < 8 by omega)).trans (dif_pos (show l.val % 64 < 16 by omega))).symm))
        exact congrArg (fun k => b (ix2 s k)) (Fin.ext (by show l.val - 64 - 8 = l.val % 64 - 8; omega))
      · refine Eq.trans (dif_neg h8) (Eq.trans (dif_neg h16) (Eq.trans ?_ ((dif_neg (show ¬ l.val % 64 < 8 by omega)).trans (dif_neg (show ¬ l.val % 64 < 16 by omega))).symm))
        exact congrArg (fun k => c (ix2 s k)) (Fin.ext (by show l.val - 64 - 8 - 8 = l.val % 64 - 16; omega))

theorem w_apply (w : FVec Ideal S1024x3592 .f32) (d : Fin 1024) (j : Fin 3712) : wV w (ix2 d j) = reorder (fun d j => w (ix2 d j)) d j := by
  have hj : j.val < 3712 := j.isLt
  pointwise [wV]
  have hz : FloatOps.sitofp (F := Ideal) FTy.f32 (0#32 : BitVec 32) = (0 : EReal) := by
    show ((((0#32 : BitVec 32).toInt : ℝ)) : EReal) = 0
    simp
  exact reorder_eq (fun d j => w (ix2 d j)) d j _ hz

theorem z8_apply (i : S8192x8.Idx) : z8 i = 0 := by
  show Ideal.ofBits .f32 0#32 = 0
  exact Ideal.ofBits_zero .f32
theorem z48_apply (i : S8192x48.Idx) : z48 i = 0 := by
  show Ideal.ofBits .f32 0#32 = 0
  exact Ideal.ofBits_zero .f32
theorem o48_apply (i : S8192x48.Idx) : o48 i = 1 := by
  show z48 i + Ideal.ofBits .f32 0x3F800000#32 = 1
  rw [z48_apply, zero_add]
  exact Ideal.ofBits_one_f32

/-- The three tables at an index. -/
theorem tabC_apply (s : Fin 8192) (l : Fin 128) : cat3 (Host.cos angV) (Host.cos angV) o48 (ix2 s l) = tabC s.val l.val := by
  rw [cat3_apply]
  unfold tabC
  by_cases h8 : l.val % 64 < 8
  · refine (dif_pos h8).trans (Eq.trans ?_ (if_pos h8).symm)
    show Ideal.cos (angV (ix2 s ⟨l.val % 64, h8⟩)) = _
    rw [angV_apply]
  · by_cases h16 : l.val % 64 < 16
    · refine ((dif_neg h8).trans (dif_pos h16)).trans (Eq.trans ?_ ((if_neg h8).trans (if_pos h16)).symm)
      show Ideal.cos (angV (ix2 s ⟨l.val % 64 - 8, _⟩)) = _
      rw [angV_apply]
    · refine ((dif_neg h8).trans (dif_neg h16)).trans (Eq.trans ?_ ((if_neg h8).trans (if_neg h16)).symm)
      exact o48_apply _
theorem tabA_apply (s : Fin 8192) (l : Fin 128) : cat3 (Host.negf (Host.sin angV)) z8 z48 (ix2 s l) = tabA s.val l.val := by
  rw [cat3_apply]
  unfold tabA
  by_cases h8 : l.val % 64 < 8
  · refine (dif_pos h8).trans (Eq.trans ?_ (if_pos h8).symm)
    show -Ideal.sin (angV (ix2 s ⟨l.val % 64, h8⟩)) = _
    rw [angV_apply]
  · by_cases h16 : l.val % 64 < 16
    · refine ((dif_neg h8).trans (dif_pos h16)).trans (Eq.trans ?_ (if_neg h8).symm)
      exact z8_apply _
    · refine ((dif_neg h8).trans (dif_neg h16)).trans (Eq.trans ?_ (if_neg h8).symm)
      exact z48_apply _
theorem tabB_apply (s : Fin 8192) (l : Fin 128) : cat3 z8 (Host.sin angV) z48 (ix2 s l) = tabB s.val l.val := by
  rw [cat3_apply]
  unfold tabB
  by_cases h8 : l.val % 64 < 8
  · refine (dif_pos h8).trans (Eq.trans ?_ (if_pos h8).symm)
    exact z8_apply _
  · by_cases h16 : l.val % 64 < 16
    · refine ((dif_neg h8).trans (dif_pos h16)).trans (Eq.trans ?_ ((if_neg h8).trans (if_pos h16)).symm)
      show Ideal.sin (angV (ix2 s ⟨l.val % 64 - 8, _⟩)) = _
      rw [angV_apply]
    · refine ((dif_neg h8).trans (dif_neg h16)).trans (Eq.trans ?_ ((if_neg h8).trans (if_neg h16)).symm)
      exact z48_apply _

variable (m : (ℓ : Loc nD τ sig) → Buf (Elt Ideal) ℓ) (ρ : Dev nD → PrngReg) (c : Dev nD)

theorem V_v26 : V m c main_v26 = cat3 (Host.cos angV) (Host.cos angV) o48 := by
  simp only [V, V0, hostOps0, hostOps0_1, hostOps0_2, List.flatten_cons, List.flatten_nil, List.append_nil, List.cons_append, List.nil_append]; after_results_simp <;> rfl
theorem V_v27 : V m c main_v27 = cat3 (Host.negf (Host.sin angV)) z8 z48 := by
  simp only [V, V0, hostOps0, hostOps0_1, hostOps0_2, List.flatten_cons, List.flatten_nil, List.append_nil, List.cons_append, List.nil_append]; after_results_simp <;> rfl
theorem V_v28 : V m c main_v28 = cat3 z8 (Host.sin angV) z48 := by
  simp only [V, V0, hostOps0, hostOps0_1, hostOps0_2, List.flatten_cons, List.flatten_nil, List.append_nil, List.cons_append, List.nil_append]; after_results_simp <;> rfl
theorem V_v29 : V m c main_v29 = shapeCast S16384x1024 (m ((c : Thread nD τ).loc main_arg0)) shapeCasts_S2x8192x1024_S16384x1024 := by
  simp only [V, V0, hostOps0, hostOps0_1, hostOps0_2, List.flatten_cons, List.flatten_nil, List.append_nil, List.cons_append, List.nil_append]; after_results_simp <;> rfl
theorem V_v36 : V m c main_v36 = shapeCast S1x1024 (m ((c : Thread nD τ).loc main_arg3)) shapeCasts_S1024_S1x1024 := by
  simp only [V, V0, hostOps0, hostOps0_1, hostOps0_2, List.flatten_cons, List.flatten_nil, List.append_nil, List.cons_append, List.nil_append]; after_results_simp <;> rfl
theorem V_v35 : V m c main_v35 = wV (m ((c : Thread nD τ).loc main_arg4)) := by
  simp only [V, V0, hostOps0, hostOps0_1, hostOps0_2, List.flatten_cons, List.flatten_nil, List.append_nil, List.cons_append, List.nil_append]; after_results_simp <;> rfl

end Cert.Proof.MixInTab

end
-- ==== Proof.MixInRef.lean ====
/- Hand-written, untrusted: WHAT THE REFERENCE OF THE MIXER'S PROJECTIONS RETURNS, at an index: every result's row `R` is a function of
   token `R % 8192` of batch `R / 8192`: columns of its projection, rotated for the queries and keys. The generated reading of the
   printed operations is cited stage by stage. -/
module

public import proofs.«01_k».proof.Proof.Gen.MixInReferenceIdeal.Read
public import proofs.«01_k».proof.Proof.MixInMath

@[expose] public section

noncomputable section

namespace Cert.Proof.MixInRef

open Cert.MixInReferenceIdeal Cert.MixInReferenceIdeal.Read Idealize.ShloMosaic Idealize.ShloMosaic.TcCoe
open Cert.Proof.FfnMath Cert.Proof.MixInMath

variable (x : FVec Ideal S2x8192x1024 .f32) (sh sc : FVec Ideal S2x1x1024 .f32) (g : FVec Ideal S1024 .f32) (w : FVec Ideal S1024x3592 .f32)

/-- The modulated normed row of a token. -/
def hrow (b : Fin 2) (s : Fin 8192) : Fin 1024 → EReal :=
  modRow (fun d => x (ix3 b s d)) (fun d => g (ix1 d)) (fun d => sc (ix3 b 0 d)) (fun d => sh (ix3 b 0 d))

theorem mod_apply (b : Fin 2) (s : Fin 8192) (l : Fin 1024) :
    val_main_v18 (F := Ideal) x sh sc g (ix3 b s l) = hrow x sh sc g b s l := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- A column of the projection. -/
theorem proj_apply (b : Fin 2) (s : Fin 8192) (k : Fin 3592) :
    val_main_v19 (F := Ideal) x sh sc g w (ix3 b s k) = proj (hrow x sh sc g b s) (fun d j => w (ix2 d j)) k.val := by
  rw [proj_of_lt _ _ _ k.isLt]
  pointwise [val_main_v19]
  simp only [mod_apply]

/-- The angles, of the queries' rotation and of the keys'. -/
theorem ang_q (s : Fin 8192) (j : Fin 8) : val_main_v43 (F := Ideal) (ix2 s j) = ang s.val j.val := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst_3, val_main_cst_4, val_main_cst_5]
  rfl
theorem ang_k (s : Fin 8192) (j : Fin 8) : val_main_v85 (F := Ideal) (ix2 s j) = ang s.val j.val := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v27, val_main_cst_7, val_main_cst_8, val_main_cst_9]
  rfl

variable (R : Fin 16384)

/-- The batch and the token of a row. -/
abbrev bt : Fin 2 := ⟨R.val / 8192, by omega⟩
abbrev tk : Fin 8192 := ⟨R.val % 8192, by omega⟩

theorem qkv_apply (l : Fin 1536) : val_main_v115 (F := Ideal) x sh sc g w (ix2 R l)
    = proj (hrow x sh sc g (bt R) (tk R)) (fun d j => w (ix2 d j)) l.val := by
  pointwise [val_main_v115, val_main_v20]
  rw [proj_apply]
theorem z_apply (l : Fin 512) : val_main_v116 (F := Ideal) x sh sc g w (ix2 R l)
    = proj (hrow x sh sc g (bt R) (tk R)) (fun d j => w (ix2 d j)) (1536 + l.val) := by
  pointwise [val_main_v116, val_main_v21]
  rw [proj_apply]
theorem v_apply (l : Fin 512) : val_main_v114 (F := Ideal) x sh sc g w (ix2 R l)
    = proj (hrow x sh sc g (bt R) (tk R)) (fun d j => w (ix2 d j)) (3080 + l.val) := by
  pointwise [val_main_v114, val_main_v26]
  rw [proj_apply]
/-- The value the gates are padded with. -/
theorem pad_zero (i : S_.Idx) : val_main_call0_v0 (F := Ideal) i = 0 := by
  show ((((0#32 : BitVec 32).toInt : ℝ)) : EReal) = 0
  simp

theorem gates_apply (l : Fin 128) : val_main_v117 (F := Ideal) x sh sc g w (ix2 R l)
    = gates (hrow x sh sc g (bt R) (tk R)) (fun d j => w (ix2 d j)) l.val := by
  pointwise [val_main_v117, val_main_v111, val_main_v110, val_main_v22, val_main_v23]
  by_cases h8 : l.val < 8
  · have hc : R.val / 8192 < 2 ∧ R.val % 8192 < 8192 ∧ l.val < 8 := ⟨by omega, by omega, h8⟩
    refine Eq.trans (dif_pos hc) (Eq.trans ?_ (gates_of_lt _ _ _ h8).symm)
    by_cases h4 : l.val < 4
    · refine Eq.trans (dif_pos h4) ?_
      rw [proj_apply]
    · refine Eq.trans (dif_neg h4) ?_
      rw [proj_apply]
      refine congrArg _ ?_
      show 2052 + (l.val - 4) = 2048 + l.val; omega
  · have hc : ¬ (R.val / 8192 < 2 ∧ R.val % 8192 < 8192 ∧ l.val < 8) := fun h => h8 h.2.2
    refine Eq.trans (dif_neg hc) (Eq.trans (pad_zero _) (gates_of_le _ _ _ (Nat.not_lt.mp h8)).symm)

/-- An entry of a map of a head of the queries, before the rotation. -/
theorem qmap_apply (b : Fin 2) (s : Fin 8192) (h : Fin 4) (j : Fin 2) (e : Fin 64) : val_main_v28 (F := Ideal) x sh sc g w (ix5 b s h j e)
    = proj (hrow x sh sc g b s) (fun d j => w (ix2 d j)) (2056 + ((h.val * 2 + j.val) * 64 + e.val)) := by
  pointwise [val_main_v28, val_main_v24]
  rw [proj_apply]
  refine congrArg _ ?_
  show 2056 + (h.val * 128 + j.val * 64 + e.val) = 2056 + ((h.val * 2 + j.val) * 64 + e.val); omega

/-- An entry of a map of a head of the keys, before the rotation. -/
theorem kmap_apply (b : Fin 2) (s : Fin 8192) (h : Fin 4) (j : Fin 2) (e : Fin 64) : val_main_v70 (F := Ideal) x sh sc g w (ix5 b s h j e)
    = proj (hrow x sh sc g b s) (fun d j => w (ix2 d j)) (2568 + ((h.val * 2 + j.val) * 64 + e.val)) := by
  pointwise [val_main_v70, val_main_v25]
  rw [proj_apply]
  refine congrArg _ ?_
  show 2568 + (h.val * 128 + j.val * 64 + e.val) = 2568 + ((h.val * 2 + j.val) * 64 + e.val); omega

theorem k_apply (l : Fin 512) : val_main_v113 (F := Ideal) x sh sc g w (ix2 R l)
    = rope (fun k => proj (hrow x sh sc g (bt R) (tk R)) (fun d j => w (ix2 d j)) (2568 + k)) (tk R).val l.val := by
  pointwise [val_main_v113, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86]
  have hl : l.val < 512 := l.isLt
  simp only [kmap_apply, ang_k, Nat.add_assoc]
  refine Eq.trans ?_ (rope_dite (fun k => proj (hrow x sh sc g (bt R) (tk R)) (fun d j => w (ix2 d j)) (2568 + k)) (tk R).val l.val hl)
  rfl

theorem q_apply (l : Fin 512) : val_main_v112 (F := Ideal) x sh sc g w (ix2 R l)
    = rope (fun k => proj (hrow x sh sc g (bt R) (tk R)) (fun d j => w (ix2 d j)) (2056 + k)) (tk R).val l.val * Ideal.ofBits FTy.f32 1040187392#32 := by
  pointwise [val_main_v112, val_main_v69, val_main_v68, val_main_cst_6, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44]
  have hl : l.val < 512 := l.isLt
  simp only [qmap_apply, ang_q, Nat.add_assoc]
  refine Eq.trans ?_ (congrArg (fun z => z * Ideal.ofBits FTy.f32 1040187392#32) (rope_dite (fun k => proj (hrow x sh sc g (bt R) (tk R)) (fun d j => w (ix2 d j)) (2056 + k)) (tk R).val l.val hl))
  rfl

end Cert.Proof.MixInRef

end
-- ==== Proof.MixInRun.lean ====
/- Hand-written, untrusted: THE RUN OF THE MIXER'S PROJECTIONS WITH ITS NINE RESULTS NAMED, over the extended reals: row `R` of each
   result array is a run of columns of the projection of row `R`'s normed, scaled and shifted hidden row, the queries and the keys
   rotated at the row's token (`G8` to `G15`, `run`); the ninth is cut from the first after the call (`Gconv`). Each grid point writes one block of 512 rows of each result (`flushed8_eq` to
   `flushed15_eq`), the 32 blocks cover the array (`covered8` to `covered15`), and a block's input rows are the arguments at an index
   (`hrow_blk`, `w_blk`) and the rotation's tables at the rows' tokens (`tab5_blk` to `tab7_blk`). -/
module

public import proofs.«01_k».proof.Proof.MixInTab
public import proofs.«01_k».proof.Proof.MixInRef

@[expose] public section

set_option maxRecDepth 16384

noncomputable section

namespace Cert.Proof.MixInRun

open Cert.MixInIdeal Cert.MixInIdeal.Gen Idealize.ShloMosaic Idealize.ShloMosaic.TcCoe Idealize.SL.Sem
open Cert.Proof.MixInMath

variable (m : (ℓ : Loc nD τ sig) → Buf (Elt Ideal) ℓ) (ρ : Dev nD → PrngReg) (c : Dev nD)

/-- The argument arrays as vectors of extended reals. -/
abbrev a0 : FVec Ideal S2x8192x1024 .f32 := m ((c : Thread nD τ).loc main_arg0)
abbrev a1 : FVec Ideal S2x1x1024 .f32 := m ((c : Thread nD τ).loc main_arg1)
abbrev a2 : FVec Ideal S2x1x1024 .f32 := m ((c : Thread nD τ).loc main_arg2)
abbrev a3 : FVec Ideal S1024 .f32 := m ((c : Thread nD τ).loc main_arg3)
abbrev a4 : FVec Ideal S1024x3592 .f32 := m ((c : Thread nD τ).loc main_arg4)

/-- Row `R`'s hidden row, and the weights by row and column. -/
def H (R : Fin 16384) : Fin 1024 → EReal := MixInRef.hrow (a0 m c) (a1 m c) (a2 m c) (a3 m c) (MixInRef.bt R) (MixInRef.tk R)
def W : Fin 1024 → Fin 3592 → EReal := fun d j => a4 m c (ix2 d j)

/-- The results as functions of row and column. -/
def qkv (R : Fin 16384) (l : ℕ) : EReal := proj (H m c R) (W m c) l
def zed (R : Fin 16384) (l : ℕ) : EReal := proj (H m c R) (W m c) (1536 + l)
def gat (R : Fin 16384) (l : ℕ) : EReal := gates (H m c R) (W m c) l
def que (R : Fin 16384) (l : ℕ) : EReal := rope (fun k => proj (H m c R) (W m c) (2056 + k)) (MixInRef.tk R).val l * Ideal.ofBits FTy.f32 1040187392#32
def key (R : Fin 16384) (l : ℕ) : EReal := rope (fun k => proj (H m c R) (W m c) (2568 + k)) (MixInRef.tk R).val l
def val (R : Fin 16384) (l : ℕ) : EReal := proj (H m c R) (W m c) (3080 + l)

/-- The result arrays as functions of the argument arrays. -/
def G8 : FVec Ideal S16384x1536 .f32 := fun j => qkv m c (j 0) (j 1).val
def G9 : FVec Ideal S16384x512 .f32 := fun j => zed m c (j 0) (j 1).val
def G10 : FVec Ideal S16384x128 .f32 := fun j => gat m c (j 0) (j 1).val
def G11 : FVec Ideal S16384x512 .bf16 := fun j => que m c (j 0) (j 1).val
def G12 : FVec Ideal S16384x512 .f32 := fun j => key m c (j 0) (j 1).val
def G13 : FVec Ideal S16384x512 .bf16 := fun j => key m c (j 0) (j 1).val
def G14 : FVec Ideal S16384x512 .f32 := fun j => val m c (j 0) (j 1).val
def G15 : FVec Ideal S16384x512 .bf16 := fun j => val m c (j 0) (j 1).val

/-! ## The windows' blocks -/

theorem ix0w : ∀ t : Fin cfg0.N, win0_0.index t (0 : Fin 2) = t.val ∧ win0_0.index t (1 : Fin 2) = 0 := (by decide +kernel : ∀ t : Fin grid0.N, _)
theorem ix3w : ∀ t : Fin cfg0.N, win0_3.index t (0 : Fin 2) = 0 ∧ win0_3.index t (1 : Fin 2) = 0 := (by decide +kernel : ∀ t : Fin grid0.N, _)
theorem ix4w : ∀ t : Fin cfg0.N, win0_4.index t (0 : Fin 2) = 0 ∧ win0_4.index t (1 : Fin 2) = 0 := (by decide +kernel : ∀ t : Fin grid0.N, _)
theorem ix5w : ∀ t : Fin cfg0.N, win0_5.index t (0 : Fin 2) = t.val % 16 ∧ win0_5.index t (1 : Fin 2) = 0 := (by decide +kernel : ∀ t : Fin grid0.N, _)
theorem ix6w : ∀ t : Fin cfg0.N, win0_6.index t (0 : Fin 2) = t.val % 16 ∧ win0_6.index t (1 : Fin 2) = 0 := (by decide +kernel : ∀ t : Fin grid0.N, _)
theorem ix7w : ∀ t : Fin cfg0.N, win0_7.index t (0 : Fin 2) = t.val % 16 ∧ win0_7.index t (1 : Fin 2) = 0 := (by decide +kernel : ∀ t : Fin grid0.N, _)
theorem ix8w : ∀ t : Fin cfg0.N, win0_8.index t (0 : Fin 2) = t.val ∧ win0_8.index t (1 : Fin 2) = 0 := (by decide +kernel : ∀ t : Fin grid0.N, _)
theorem ix9w : ∀ t : Fin cfg0.N, win0_9.index t (0 : Fin 2) = t.val ∧ win0_9.index t (1 : Fin 2) = 0 := (by decide +kernel : ∀ t : Fin grid0.N, _)
theorem ix10w : ∀ t : Fin cfg0.N, win0_10.index t (0 : Fin 2) = t.val ∧ win0_10.index t (1 : Fin 2) = 0 := (by decide +kernel : ∀ t : Fin grid0.N, _)
theorem ix11w : ∀ t : Fin cfg0.N, win0_11.index t (0 : Fin 2) = t.val ∧ win0_11.index t (1 : Fin 2) = 0 := (by decide +kernel : ∀ t : Fin grid0.N, _)
theorem ix12w : ∀ t : Fin cfg0.N, win0_12.index t (0 : Fin 2) = t.val ∧ win0_12.index t (1 : Fin 2) = 0 := (by decide +kernel : ∀ t : Fin grid0.N, _)
theorem ix13w : ∀ t : Fin cfg0.N, win0_13.index t (0 : Fin 2) = t.val ∧ win0_13.index t (1 : Fin 2) = 0 := (by decide +kernel : ∀ t : Fin grid0.N, _)
theorem ix14w : ∀ t : Fin cfg0.N, win0_14.index t (0 : Fin 2) = t.val ∧ win0_14.index t (1 : Fin 2) = 0 := (by decide +kernel : ∀ t : Fin grid0.N, _)
theorem ix15w : ∀ t : Fin cfg0.N, win0_15.index t (0 : Fin 2) = t.val ∧ win0_15.index t (1 : Fin 2) = 0 := (by decide +kernel : ∀ t : Fin grid0.N, _)
theorem ix1w : ∀ t : Fin cfg0.N, win0_1.index t (0 : Fin 3) = t.val / 16 ∧ win0_1.index t (1 : Fin 3) = 0 ∧ win0_1.index t (2 : Fin 3) = 0 := (by decide +kernel : ∀ t : Fin grid0.N, _)
theorem ix2w : ∀ t : Fin cfg0.N, win0_2.index t (0 : Fin 3) = t.val / 16 ∧ win0_2.index t (1 : Fin 3) = 0 ∧ win0_2.index t (2 : Fin 3) = 0 := (by decide +kernel : ∀ t : Fin grid0.N, _)

/-- Row `r` of point `t`'s block is row `512 t + r` of the array. -/
abbrev rowOf (t : Fin cfg0.N) (r : Fin 512) : Fin 16384 := ⟨t.val * 512 + r.val, by have := t.isLt; have h : cfg0.N = 32 := rfl; omega⟩

theorem tlt (t : Fin cfg0.N) : t.val < 32 := t.isLt

/-- The rows flattened, and a vector as one row, at an index. -/
theorem flat_apply (x : FVec Ideal S2x8192x1024 .f32) (R : Fin 16384) (d : Fin 1024) :
    shapeCast S16384x1024 x shapeCasts_S2x8192x1024_S16384x1024 (ix2 R d) = x (ix3 (⟨R.val / 8192, by omega⟩ : Fin 2) (⟨R.val % 8192, by omega⟩ : Fin 8192) d) := by
  pointwise
theorem row_apply (x : FVec Ideal S1024 .f32) (d : Fin 1024) :
    shapeCast S1x1024 x shapeCasts_S1024_S1x1024 (ix2 0 d) = x (ix1 d) := by
  pointwise

theorem iblk0_apply (t : Fin cfg0.N) (r : Fin 512) (d : Fin 1024) :
    iblk m c 0 t (ix2 r d) = a0 m c (ix3 (MixInRef.bt (rowOf t r)) (MixInRef.tk (rowOf t r)) d) := by
  obtain ⟨e0, e1⟩ := ix0w t
  have he : ((cfg0.win 0).blk t).view.emb (ix2 r d) = ix2 (rowOf t r) d := by
    funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  show V m c main_v29 (((cfg0.win 0).blk t).view.emb (ix2 r d)) = _
  rw [he, MixInTab.V_v29]
  exact flat_apply (a0 m c) (rowOf t r) d

theorem iblk1_apply (t : Fin cfg0.N) (r : Fin 512) (d : Fin 1024) :
    iblk m c 1 t (ix3 0 0 d) = a1 m c (ix3 (MixInRef.bt (rowOf t r)) 0 d) := by
  obtain ⟨e0, e1, e2⟩ := ix1w t
  show V m c main_arg1 (((cfg0.win 1).blk t).view.emb (ix3 0 0 d)) = _
  rw [V_main_arg1]
  refine congrArg (a1 m c) (funext fun a => Fin.ext ?_)
  match a with
  | ⟨0, _⟩ => show win0_1.index t (0 : Fin 3) * 1 + 1 * 0 = (t.val * 512 + r.val) / 8192; omega
  | ⟨1, _⟩ => show win0_1.index t (1 : Fin 3) * 1 + 1 * 0 = 0; omega
  | ⟨2, _⟩ => show win0_1.index t (2 : Fin 3) * 1024 + 1 * d.val = d.val; omega

theorem iblk2_apply (t : Fin cfg0.N) (r : Fin 512) (d : Fin 1024) :
    iblk m c 2 t (ix3 0 0 d) = a2 m c (ix3 (MixInRef.bt (rowOf t r)) 0 d) := by
  obtain ⟨e0, e1, e2⟩ := ix2w t
  show V m c main_arg2 (((cfg0.win 2).blk t).view.emb (ix3 0 0 d)) = _
  rw [V_main_arg2]
  refine congrArg (a2 m c) (funext fun a => Fin.ext ?_)
  match a with
  | ⟨0, _⟩ => show win0_2.index t (0 : Fin 3) * 1 + 1 * 0 = (t.val * 512 + r.val) / 8192; omega
  | ⟨1, _⟩ => show win0_2.index t (1 : Fin 3) * 1 + 1 * 0 = 0; omega
  | ⟨2, _⟩ => show win0_2.index t (2 : Fin 3) * 1024 + 1 * d.val = d.val; omega

theorem iblk3_apply (t : Fin cfg0.N) (d : Fin 1024) : iblk m c 3 t (ix2 0 d) = a3 m c (ix1 d) := by
  obtain ⟨e0, e1⟩ := ix3w t
  have he : ((cfg0.win 3).blk t).view.emb (ix2 0 d) = ix2 (0 : Fin 1) d := by
    funext a; apply Fin.ext
    match a with
    | ⟨0, _⟩ => show win0_3.index t (0 : Fin 2) * 1 + 1 * 0 = 0; omega
    | ⟨1, _⟩ => show win0_3.index t (1 : Fin 2) * 1024 + 1 * d.val = d.val; omega
  show V m c main_v36 (((cfg0.win 3).blk t).view.emb (ix2 0 d)) = _
  rw [he, MixInTab.V_v36]
  exact row_apply (a3 m c) d

theorem iblk4_apply (t : Fin cfg0.N) (d : Fin 1024) (j : Fin 3712) : iblk m c 4 t (ix2 d j) = reorder (W m c) d j := by
  obtain ⟨e0, e1⟩ := ix4w t
  have he : ((cfg0.win 4).blk t).view.emb (ix2 d j) = ix2 d j := by
    funext a; apply Fin.ext
    match a with
    | ⟨0, _⟩ => show win0_4.index t (0 : Fin 2) * 1024 + 1 * d.val = d.val; omega
    | ⟨1, _⟩ => show win0_4.index t (1 : Fin 2) * 3712 + 1 * j.val = j.val; omega
  show V m c main_v35 (((cfg0.win 4).blk t).view.emb (ix2 d j)) = _
  rw [he, MixInTab.V_v35]
  exact MixInTab.w_apply _ d j

theorem tab5_blk (t : Fin cfg0.N) (r : Fin 512) (l : ℕ) :
    iblk m c 5 t (ix2 r (⟨l % 128, by omega⟩ : Fin 128)) = tabC (MixInRef.tk (rowOf t r)).val l := by
  obtain ⟨e0, e1⟩ := ix5w t
  have he : ((cfg0.win 5).blk t).view.emb (ix2 r (⟨l % 128, by omega⟩ : Fin 128)) = ix2 (MixInRef.tk (rowOf t r)) (⟨l % 128, by omega⟩ : Fin 128) := by
    funext a; apply Fin.ext
    match a with
    | ⟨0, _⟩ => show win0_5.index t (0 : Fin 2) * 512 + 1 * r.val = (t.val * 512 + r.val) % 8192; have := tlt t; omega
    | ⟨1, _⟩ => show win0_5.index t (1 : Fin 2) * 128 + 1 * (l % 128) = l % 128; omega
  show V m c main_v26 (((cfg0.win 5).blk t).view.emb (ix2 r (⟨l % 128, by omega⟩ : Fin 128))) = _
  rw [he, MixInTab.V_v26]
  refine (MixInTab.tabC_apply _ _).trans ?_
  have hm : l % 128 % 64 = l % 64 := by omega
  unfold tabC
  simp only [hm]

theorem tab6_blk (t : Fin cfg0.N) (r : Fin 512) (l : ℕ) :
    iblk m c 6 t (ix2 r (⟨l % 128, by omega⟩ : Fin 128)) = tabA (MixInRef.tk (rowOf t r)).val l := by
  obtain ⟨e0, e1⟩ := ix6w t
  have he : ((cfg0.win 6).blk t).view.emb (ix2 r (⟨l % 128, by omega⟩ : Fin 128)) = ix2 (MixInRef.tk (rowOf t r)) (⟨l % 128, by omega⟩ : Fin 128) := by
    funext a; apply Fin.ext
    match a with
    | ⟨0, _⟩ => show win0_6.index t (0 : Fin 2) * 512 + 1 * r.val = (t.val * 512 + r.val) % 8192; have := tlt t; omega
    | ⟨1, _⟩ => show win0_6.index t (1 : Fin 2) * 128 + 1 * (l % 128) = l % 128; omega
  show V m c main_v27 (((cfg0.win 6).blk t).view.emb (ix2 r (⟨l % 128, by omega⟩ : Fin 128))) = _
  rw [he, MixInTab.V_v27]
  refine (MixInTab.tabA_apply _ _).trans ?_
  have hm : l % 128 % 64 = l % 64 := by omega
  unfold tabA
  simp only [hm]

theorem tab7_blk (t : Fin cfg0.N) (r : Fin 512) (l : ℕ) :
    iblk m c 7 t (ix2 r (⟨l % 128, by omega⟩ : Fin 128)) = tabB (MixInRef.tk (rowOf t r)).val l := by
  obtain ⟨e0, e1⟩ := ix7w t
  have he : ((cfg0.win 7).blk t).view.emb (ix2 r (⟨l % 128, by omega⟩ : Fin 128)) = ix2 (MixInRef.tk (rowOf t r)) (⟨l % 128, by omega⟩ : Fin 128) := by
    funext a; apply Fin.ext
    match a with
    | ⟨0, _⟩ => show win0_7.index t (0 : Fin 2) * 512 + 1 * r.val = (t.val * 512 + r.val) % 8192; have := tlt t; omega
    | ⟨1, _⟩ => show win0_7.index t (1 : Fin 2) * 128 + 1 * (l % 128) = l % 128; omega
  show V m c main_v28 (((cfg0.win 7).blk t).view.emb (ix2 r (⟨l % 128, by omega⟩ : Fin 128))) = _
  rw [he, MixInTab.V_v28]
  refine (MixInTab.tabB_apply _ _).trans ?_
  have hm : l % 128 % 64 = l % 64 := by omega
  unfold tabB
  simp only [hm]

/-- The hidden row of a block's row, and a column of its projection. -/
theorem hrow_blk (t : Fin cfg0.N) (r : Fin 512) :
    MixInOut.hrow (iblk m c 0 t) (iblk m c 1 t) (iblk m c 2 t) (iblk m c 3 t) r = H m c (rowOf t r) := by
  unfold MixInOut.hrow H MixInRef.hrow
  simp only [iblk0_apply, iblk1_apply m c t r, iblk2_apply m c t r, iblk3_apply]

theorem pr_blk (t : Fin cfg0.N) (r : Fin 512) (k : ℕ) :
    MixInOut.pr (iblk m c 0 t) (iblk m c 1 t) (iblk m c 2 t) (iblk m c 3 t) (iblk m c 4 t) r k = proj (H m c (rowOf t r)) (reorder (W m c)) k := by
  unfold MixInOut.pr
  rw [hrow_blk]
  refine congrArg (fun w => proj (H m c (rowOf t r)) w k) ?_
  funext d j
  exact iblk4_apply m c t d j

/-- What a point writes back to a window's array is the block the point leaves, cut to the array. -/
theorem flushed_after (t : Fin cfg0.N) (w : Fin cfg0.W) : (dats m 0 c).flushed w t = (cfg0.win w).cut (grid0.coords t) ((dats m 0 c).after w t) := rfl

/-- The columns the kernel's order moves, for the rotated rows. -/
theorem que_cols (R : Fin 16384) (l : ℕ) (hl : l < 512) (s : ℕ) :
    ropeT (fun k => proj (H m c R) (reorder (W m c)) (2048 + k)) (tabC s l) (tabA s l) (tabB s l) l = rope (fun k => proj (H m c R) (W m c) (2056 + k)) s l :=
  (ropeT_congr (fun k hk => proj_reorder_mid _ _ k (by omega)) _ _ _ l hl).trans (ropeT_tables _ s l)

theorem key_cols (R : Fin 16384) (l : ℕ) (hl : l < 512) (s : ℕ) :
    ropeT (fun k => proj (H m c R) (reorder (W m c)) (2560 + k)) (tabC s l) (tabA s l) (tabB s l) l = rope (fun k => proj (H m c R) (W m c) (2568 + k)) s l :=
  (ropeT_congr (fun k hk => by
    have h := proj_reorder_mid (H m c R) (W m c) (512 + k) (by omega)
    rw [show 2048 + (512 + k) = 2560 + k by omega, show 2056 + (512 + k) = 2568 + k by omega] at h
    exact h) _ _ _ l hl).trans (ropeT_tables _ s l)

theorem val_cols (R : Fin 16384) (l : ℕ) (hl : l < 512) :
    proj (H m c R) (reorder (W m c)) (3072 + l) = proj (H m c R) (W m c) (3080 + l) := by
  have h := proj_reorder_mid (H m c R) (W m c) (1024 + l) (by omega)
  rw [show 2048 + (1024 + l) = 3072 + l by omega, show 2056 + (1024 + l) = 3080 + l by omega] at h
  exact h

/-! ## What a point writes back, and the cover -/

theorem emb8 (t : Fin cfg0.N) (r : Fin 512) (l : Fin 1536) : ((cfg0.win 8).blk t).view.emb (ix2 r l) = ix2 (rowOf t r) l := by
  obtain ⟨e0, e1⟩ := ix8w t
  funext a; apply Fin.ext
  match a with
  | ⟨0, _⟩ => show win0_8.index t (0 : Fin 2) * 512 + 1 * r.val = t.val * 512 + r.val; omega
  | ⟨1, _⟩ => show win0_8.index t (1 : Fin 2) * 1536 + 1 * l.val = l.val; omega

theorem flushed8_eq (t : Fin cfg0.N) :
    (dats m 0 c).flushed 8 t = ((cfg0.win 8).blk t).view.read (Elt Ideal) (G8 m c) := by
  simp only [flushed_after, after0_8, outsAt0]
  funext j
  obtain ⟨r, l, rfl⟩ : ∃ (r : Fin 512) (l : Fin 1536), j = ix2 r l := ⟨j 0, j 1, eq_ix2 j⟩
  show out0_A_8 (F := Ideal) _ _ _ _ _ _ _ _ _ _ _ _ _ _ _ _ _ _ _ _ _ _ _ _ _ _ _ _ _ _ _ _ _ _ _ _ _ _ _ _ _ _ _ _ (ix2 r l)
    = G8 m c (((cfg0.win 8).blk t).view.emb (ix2 r l))
  rw [emb8]
  refine (MixInBlk.out8_apply _ _ _ _ _ _ _ _ _ _ _ _ _ _ _ _ _ _ _ _ _ _ _ _ _ _ _ _ _ _ _ _ _ _ _ _ _ _ _ _ _ _ _ _ r l).trans ?_
  show _ = qkv m c (rowOf t r) l.val
  rw [pr_blk]
  exact proj_reorder_head _ _ _ (by omega)

theorem covered8 (i : S16384x1536.Idx) : ∃ t : Fin cfg0.N, (cfg0.win 8).flush t = true ∧ i ∈ ((cfg0.win 8).blk t).view.set := by
  obtain ⟨R, l, rfl⟩ : ∃ (R : Fin 16384) (l : Fin 1536), i = ix2 R l := ⟨i 0, i 1, eq_ix2 i⟩
  refine ⟨(⟨R.val / 512, by show _ < 32; omega⟩ : Fin cfg0.N), flush0_8 _, ?_⟩
  have h := ((cfg0.win 8).blk (⟨R.val / 512, by show _ < 32; omega⟩ : Fin cfg0.N)).view.emb_mem_set (ix2 (⟨R.val % 512, by omega⟩ : Fin 512) l)
  rw [emb8] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

theorem emb9 (t : Fin cfg0.N) (r : Fin 512) (l : Fin 512) : ((cfg0.win 9).blk t).view.emb (ix2 r l) = ix2 (rowOf t r) l := by
  obtain ⟨e0, e1⟩ := ix9w t
  funext a; apply Fin.ext
  match a with
  | ⟨0, _⟩ => show win0_9.index t (0 : Fin 2) * 512 + 1 * r.val = t.val * 512 + r.val; omega
  | ⟨1, _⟩ => show win0_9.index t (1 : Fin 2) * 512 + 1 * l.val = l.val; omega

theorem flushed9_eq (t : Fin cfg0.N) :
    (dats m 0 c).flushed 9 t = ((cfg0.win 9).blk t).view.read (Elt Ideal) (G9 m c) := by
  simp only [flushed_after, after0_9, outsAt0]
  funext j
  obtain ⟨r, l, rfl⟩ : ∃ (r : Fin 512) (l : Fin 512), j = ix2 r l := ⟨j 0, j 1, eq_ix2 j⟩
  show out0_A_9 (F := Ideal) _ _ _ _ _ _ _ _ _ _ _ _ _ _ _ _ _ _ _ _ _ _ _ _ _ _ _ _ _ _ _ _ _ _ _ _ _ _ _ _ _ _ _ _ (ix2 r l)
    = G9 m c (((cfg0.win 9).blk t).view.emb (ix2 r l))
  rw [emb9]
  refine (MixInBlk.out9_apply _ _ _ _ _ _ _ _ _ _ _ _ _ _ _ _ _ _ _ _ _ _ _ _ _ _ _ _ _ _ _ _ _ _ _ _ _ _ _ _ _ _ _ _ r l).trans ?_
  show _ = zed m c (rowOf t r) l.val
  rw [pr_blk]
  exact proj_reorder_head _ _ _ (by omega)

theorem covered9 (i : S16384x512.Idx) : ∃ t : Fin cfg0.N, (cfg0.win 9).flush t = true ∧ i ∈ ((cfg0.win 9).blk t).view.set := by
  obtain ⟨R, l, rfl⟩ : ∃ (R : Fin 16384) (l : Fin 512), i = ix2 R l := ⟨i 0, i 1, eq_ix2 i⟩
  refine ⟨(⟨R.val / 512, by show _ < 32; omega⟩ : Fin cfg0.N), flush0_9 _, ?_⟩
  have h := ((cfg0.win 9).blk (⟨R.val / 512, by show _ < 32; omega⟩ : Fin cfg0.N)).view.emb_mem_set (ix2 (⟨R.val % 512, by omega⟩ : Fin 512) l)
  rw [emb9] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

theorem emb10 (t : Fin cfg0.N) (r : Fin 512) (l : Fin 128) : ((cfg0.win 10).blk t).view.emb (ix2 r l) = ix2 (rowOf t r) l := by
  obtain ⟨e0, e1⟩ := ix10w t
  funext a; apply Fin.ext
  match a with
  | ⟨0, _⟩ => show win0_10.index t (0 : Fin 2) * 512 + 1 * r.val = t.val * 512 + r.val; omega
  | ⟨1, _⟩ => show win0_10.index t (1 : Fin 2) * 128 + 1 * l.val = l.val; omega

theorem flushed10_eq (t : Fin cfg0.N) :
    (dats m 0 c).flushed 10 t = ((cfg0.win 10).blk t).view.read (Elt Ideal) (G10 m c) := by
  simp only [flushed_after, after0_10, outsAt0]
  funext j
  obtain ⟨r, l, rfl⟩ : ∃ (r : Fin 512) (l : Fin 128), j = ix2 r l := ⟨j 0, j 1, eq_ix2 j⟩
  show out0_A_10 (F := Ideal) _ _ _ _ _ _ _ _ _ _ _ _ _ _ _ _ _ _ _ _ _ _ _ _ _ _ _ _ _ _ _ _ _ _ _ _ _ _ _ _ _ _ _ _ (ix2 r l)
    = G10 m c (((cfg0.win 10).blk t).view.emb (ix2 r l))
  rw [emb10]
  refine (MixInBlk.out10_apply _ _ _ _ _ _ _ _ _ _ _ _ _ _ _ _ _ _ _ _ _ _ _ _ _ _ _ _ _ _ _ _ _ _ _ _ _ _ _ _ _ _ _ _ r l).trans ?_
  show _ = gat m c (rowOf t r) l.val
  rw [pr_blk]
  exact proj_reorder_gates _ _ _ l.isLt

theorem covered10 (i : S16384x128.Idx) : ∃ t : Fin cfg0.N, (cfg0.win 10).flush t = true ∧ i ∈ ((cfg0.win 10).blk t).view.set := by
  obtain ⟨R, l, rfl⟩ : ∃ (R : Fin 16384) (l : Fin 128), i = ix2 R l := ⟨i 0, i 1, eq_ix2 i⟩
  refine ⟨(⟨R.val / 512, by show _ < 32; omega⟩ : Fin cfg0.N), flush0_10 _, ?_⟩
  have h := ((cfg0.win 10).blk (⟨R.val / 512, by show _ < 32; omega⟩ : Fin cfg0.N)).view.emb_mem_set (ix2 (⟨R.val % 512, by omega⟩ : Fin 512) l)
  rw [emb10] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

theorem emb11 (t : Fin cfg0.N) (r : Fin 512) (l : Fin 512) : ((cfg0.win 11).blk t).view.emb (ix2 r l) = ix2 (rowOf t r) l := by
  obtain ⟨e0, e1⟩ := ix11w t
  funext a; apply Fin.ext
  match a with
  | ⟨0, _⟩ => show win0_11.index t (0 : Fin 2) * 512 + 1 * r.val = t.val * 512 + r.val; omega
  | ⟨1, _⟩ => show win0_11.index t (1 : Fin 2) * 512 + 1 * l.val = l.val; omega

theorem flushed11_eq (t : Fin cfg0.N) :
    (dats m 0 c).flushed 11 t = ((cfg0.win 11).blk t).view.read (Elt Ideal) (G11 m c) := by
  simp only [flushed_after, after0_11, outsAt0]
  funext j
  obtain ⟨r, l, rfl⟩ : ∃ (r : Fin 512) (l : Fin 512), j = ix2 r l := ⟨j 0, j 1, eq_ix2 j⟩
  show out0_A_11 (F := Ideal) _ _ _ _ _ _ _ _ _ _ _ _ _ _ _ _ _ _ _ _ _ _ _ _ _ _ _ _ _ _ _ _ _ _ _ _ _ _ _ _ _ _ _ _ (ix2 r l)
    = G11 m c (((cfg0.win 11).blk t).view.emb (ix2 r l))
  rw [emb11]
  refine (MixInBlk.out11_apply _ _ _ _ _ _ _ _ _ _ _ _ _ _ _ _ _ _ _ _ _ _ _ _ _ _ _ _ _ _ _ _ _ _ _ _ _ _ _ _ _ _ _ _ r l).trans ?_
  show _ = que m c (rowOf t r) l.val
  simp only [pr_blk]
  rw [tab5_blk, tab6_blk, tab7_blk, que_cols m c _ _ l.isLt]
  rfl

theorem covered11 (i : S16384x512.Idx) : ∃ t : Fin cfg0.N, (cfg0.win 11).flush t = true ∧ i ∈ ((cfg0.win 11).blk t).view.set := by
  obtain ⟨R, l, rfl⟩ : ∃ (R : Fin 16384) (l : Fin 512), i = ix2 R l := ⟨i 0, i 1, eq_ix2 i⟩
  refine ⟨(⟨R.val / 512, by show _ < 32; omega⟩ : Fin cfg0.N), flush0_11 _, ?_⟩
  have h := ((cfg0.win 11).blk (⟨R.val / 512, by show _ < 32; omega⟩ : Fin cfg0.N)).view.emb_mem_set (ix2 (⟨R.val % 512, by omega⟩ : Fin 512) l)
  rw [emb11] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

theorem emb12 (t : Fin cfg0.N) (r : Fin 512) (l : Fin 512) : ((cfg0.win 12).blk t).view.emb (ix2 r l) = ix2 (rowOf t r) l := by
  obtain ⟨e0, e1⟩ := ix12w t
  funext a; apply Fin.ext
  match a with
  | ⟨0, _⟩ => show win0_12.index t (0 : Fin 2) * 512 + 1 * r.val = t.val * 512 + r.val; omega
  | ⟨1, _⟩ => show win0_12.index t (1 : Fin 2) * 512 + 1 * l.val = l.val; omega

theorem flushed12_eq (t : Fin cfg0.N) :
    (dats m 0 c).flushed 12 t = ((cfg0.win 12).blk t).view.read (Elt Ideal) (G12 m c) := by
  simp only [flushed_after, after0_12, outsAt0]
  funext j
  obtain ⟨r, l, rfl⟩ : ∃ (r : Fin 512) (l : Fin 512), j = ix2 r l := ⟨j 0, j 1, eq_ix2 j⟩
  show out0_A_12 (F := Ideal) _ _ _ _ _ _ _ _ _ _ _ _ _ _ _ _ _ _ _ _ _ _ _ _ _ _ _ _ _ _ _ _ _ _ _ _ _ _ _ _ _ _ _ _ (ix2 r l)
    = G12 m c (((cfg0.win 12).blk t).view.emb (ix2 r l))
  rw [emb12]
  refine (MixInBlk.out12_apply _ _ _ _ _ _ _ _ _ _ _ _ _ _ _ _ _ _ _ _ _ _ _ _ _ _ _ _ _ _ _ _ _ _ _ _ _ _ _ _ _ _ _ _ r l).trans ?_
  show _ = key m c (rowOf t r) l.val
  simp only [pr_blk]
  rw [tab5_blk, tab6_blk, tab7_blk, key_cols m c _ _ l.isLt]
  rfl

theorem covered12 (i : S16384x512.Idx) : ∃ t : Fin cfg0.N, (cfg0.win 12).flush t = true ∧ i ∈ ((cfg0.win 12).blk t).view.set := by
  obtain ⟨R, l, rfl⟩ : ∃ (R : Fin 16384) (l : Fin 512), i = ix2 R l := ⟨i 0, i 1, eq_ix2 i⟩
  refine ⟨(⟨R.val / 512, by show _ < 32; omega⟩ : Fin cfg0.N), flush0_12 _, ?_⟩
  have h := ((cfg0.win 12).blk (⟨R.val / 512, by show _ < 32; omega⟩ : Fin cfg0.N)).view.emb_mem_set (ix2 (⟨R.val % 512, by omega⟩ : Fin 512) l)
  rw [emb12] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

theorem emb13 (t : Fin cfg0.N) (r : Fin 512) (l : Fin 512) : ((cfg0.win 13).blk t).view.emb (ix2 r l) = ix2 (rowOf t r) l := by
  obtain ⟨e0, e1⟩ := ix13w t
  funext a; apply Fin.ext
  match a with
  | ⟨0, _⟩ => show win0_13.index t (0 : Fin 2) * 512 + 1 * r.val = t.val * 512 + r.val; omega
  | ⟨1, _⟩ => show win0_13.index t (1 : Fin 2) * 512 + 1 * l.val = l.val; omega

theorem flushed13_eq (t : Fin cfg0.N) :
    (dats m 0 c).flushed 13 t = ((cfg0.win 13).blk t).view.read (Elt Ideal) (G13 m c) := by
  simp only [flushed_after, after0_13, outsAt0]
  funext j
  obtain ⟨r, l, rfl⟩ : ∃ (r : Fin 512) (l : Fin 512), j = ix2 r l := ⟨j 0, j 1, eq_ix2 j⟩
  show out0_A_13 (F := Ideal) _ _ _ _ _ _ _ _ _ _ _ _ _ _ _ _ _ _ _ _ _ _ _ _ _ _ _ _ _ _ _ _ _ _ _ _ _ _ _ _ _ _ _ _ (ix2 r l)
    = G13 m c (((cfg0.win 13).blk t).view.emb (ix2 r l))
  rw [emb13]
  refine (MixInBlk.out13_apply _ _ _ _ _ _ _ _ _ _ _ _ _ _ _ _ _ _ _ _ _ _ _ _ _ _ _ _ _ _ _ _ _ _ _ _ _ _ _ _ _ _ _ _ r l).trans ?_
  show _ = key m c (rowOf t r) l.val
  simp only [pr_blk]
  rw [tab5_blk, tab6_blk, tab7_blk, key_cols m c _ _ l.isLt]
  rfl

theorem covered13 (i : S16384x512.Idx) : ∃ t : Fin cfg0.N, (cfg0.win 13).flush t = true ∧ i ∈ ((cfg0.win 13).blk t).view.set := by
  obtain ⟨R, l, rfl⟩ : ∃ (R : Fin 16384) (l : Fin 512), i = ix2 R l := ⟨i 0, i 1, eq_ix2 i⟩
  refine ⟨(⟨R.val / 512, by show _ < 32; omega⟩ : Fin cfg0.N), flush0_13 _, ?_⟩
  have h := ((cfg0.win 13).blk (⟨R.val / 512, by show _ < 32; omega⟩ : Fin cfg0.N)).view.emb_mem_set (ix2 (⟨R.val % 512, by omega⟩ : Fin 512) l)
  rw [emb13] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

theorem emb14 (t : Fin cfg0.N) (r : Fin 512) (l : Fin 512) : ((cfg0.win 14).blk t).view.emb (ix2 r l) = ix2 (rowOf t r) l := by
  obtain ⟨e0, e1⟩ := ix14w t
  funext a; apply Fin.ext
  match a with
  | ⟨0, _⟩ => show win0_14.index t (0 : Fin 2) * 512 + 1 * r.val = t.val * 512 + r.val; omega
  | ⟨1, _⟩ => show win0_14.index t (1 : Fin 2) * 512 + 1 * l.val = l.val; omega

theorem flushed14_eq (t : Fin cfg0.N) :
    (dats m 0 c).flushed 14 t = ((cfg0.win 14).blk t).view.read (Elt Ideal) (G14 m c) := by
  simp only [flushed_after, after0_14, outsAt0]
  funext j
  obtain ⟨r, l, rfl⟩ : ∃ (r : Fin 512) (l : Fin 512), j = ix2 r l := ⟨j 0, j 1, eq_ix2 j⟩
  show out0_A_14 (F := Ideal) _ _ _ _ _ _ _ _ _ _ _ _ _ _ _ _ _ _ _ _ _ _ _ _ _ _ _ _ _ _ _ _ _ _ _ _ _ _ _ _ _ _ _ _ (ix2 r l)
    = G14 m c (((cfg0.win 14).blk t).view.emb (ix2 r l))
  rw [emb14]
  refine (MixInBlk.out14_apply _ _ _ _ _ _ _ _ _ _ _ _ _ _ _ _ _ _ _ _ _ _ _ _ _ _ _ _ _ _ _ _ _ _ _ _ _ _ _ _ _ _ _ _ r l).trans ?_
  show _ = val m c (rowOf t r) l.val
  rw [pr_blk]
  exact val_cols m c _ _ l.isLt

theorem covered14 (i : S16384x512.Idx) : ∃ t : Fin cfg0.N, (cfg0.win 14).flush t = true ∧ i ∈ ((cfg0.win 14).blk t).view.set := by
  obtain ⟨R, l, rfl⟩ : ∃ (R : Fin 16384) (l : Fin 512), i = ix2 R l := ⟨i 0, i 1, eq_ix2 i⟩
  refine ⟨(⟨R.val / 512, by show _ < 32; omega⟩ : Fin cfg0.N), flush0_14 _, ?_⟩
  have h := ((cfg0.win 14).blk (⟨R.val / 512, by show _ < 32; omega⟩ : Fin cfg0.N)).view.emb_mem_set (ix2 (⟨R.val % 512, by omega⟩ : Fin 512) l)
  rw [emb14] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

theorem emb15 (t : Fin cfg0.N) (r : Fin 512) (l : Fin 512) : ((cfg0.win 15).blk t).view.emb (ix2 r l) = ix2 (rowOf t r) l := by
  obtain ⟨e0, e1⟩ := ix15w t
  funext a; apply Fin.ext
  match a with
  | ⟨0, _⟩ => show win0_15.index t (0 : Fin 2) * 512 + 1 * r.val = t.val * 512 + r.val; omega
  | ⟨1, _⟩ => show win0_15.index t (1 : Fin 2) * 512 + 1 * l.val = l.val; omega

theorem flushed15_eq (t : Fin cfg0.N) :
    (dats m 0 c).flushed 15 t = ((cfg0.win 15).blk t).view.read (Elt Ideal) (G15 m c) := by
  simp only [flushed_after, after0_15, outsAt0]
  funext j
  obtain ⟨r, l, rfl⟩ : ∃ (r : Fin 512) (l : Fin 512), j = ix2 r l := ⟨j 0, j 1, eq_ix2 j⟩
  show out0_A_15 (F := Ideal) _ _ _ _ _ _ _ _ _ _ _ _ _ _ _ _ _ _ _ _ _ _ _ _ _ _ _ _ _ _ _ _ _ _ _ _ _ _ _ _ _ _ _ _ (ix2 r l)
    = G15 m c (((cfg0.win 15).blk t).view.emb (ix2 r l))
  rw [emb15]
  refine (MixInBlk.out15_apply _ _ _ _ _ _ _ _ _ _ _ _ _ _ _ _ _ _ _ _ _ _ _ _ _ _ _ _ _ _ _ _ _ _ _ _ _ _ _ _ _ _ _ _ r l).trans ?_
  show _ = val m c (rowOf t r) l.val
  rw [pr_blk]
  exact val_cols m c _ _ l.isLt

theorem covered15 (i : S16384x512.Idx) : ∃ t : Fin cfg0.N, (cfg0.win 15).flush t = true ∧ i ∈ ((cfg0.win 15).blk t).view.set := by
  obtain ⟨R, l, rfl⟩ : ∃ (R : Fin 16384) (l : Fin 512), i = ix2 R l := ⟨i 0, i 1, eq_ix2 i⟩
  refine ⟨(⟨R.val / 512, by show _ < 32; omega⟩ : Fin cfg0.N), flush0_15 _, ?_⟩
  have h := ((cfg0.win 15).blk (⟨R.val / 512, by show _ < 32; omega⟩ : Fin cfg0.N)).view.emb_mem_set (ix2 (⟨R.val % 512, by omega⟩ : Fin 512) l)
  rw [emb15] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

/-- The last three rows of each sequence of the first result: what the two operations after the call keep of it. -/
def Gconv : FVec Ideal S2x3x1536 .f32 :=
  extractStridedSlice S2x3x1536 ![0, 8189, 0] (shapeCast S2x8192x1536 (G8 m c) shapeCasts_S16384x1536_S2x8192x1536) slices_S2x8192x1536_S2x3x1536_0_8189_0

/-- Once the call has left `G8` in its first result, the two operations after it leave `Gconv`. -/
theorem tail_eq (h8 : (dats m 0 c).arrAt 8 cfg0.N = G8 m c) :
    Pipeline.afterTail₀ cfgs (dats m) 0 (V0 m) [hostOps1] c main_v39 = Gconv m c := by
  have e : Pipeline.withArrays spec0 c (V0 m c) (fun w => (dats m 0 c).arrAt w cfg0.N) (Proc.devRef .tc main_v37_0) = G8 m c :=
    (Pipeline.withArrays_arr spec0 (by decide : ∀ w w', Pipeline.arrRef spec0 w = Pipeline.arrRef spec0 w' → w = w') c (V0 m c) _ 8).trans h8
  unfold Pipeline.afterTail₀
  simp only [hostOps1, List.flatten_cons, List.flatten_nil, List.append_nil]
  after_results_simp
  rw [Gconv, ← e]
  rfl

set_option maxHeartbeats 2000000 in
/-- The run with the result arrays at their functions of the arguments. -/
theorem run : θ_run defs (onTc (τ := τ) (main (F := Ideal))) ⟨m, fun _ => 0, ρ⟩ fun r => ∀ c : Dev nD,
      r.2.mem ((c : Thread nD τ).loc main_v37_0) = G8 m c
      ∧ r.2.mem ((c : Thread nD τ).loc main_v37_1) = G9 m c
      ∧ r.2.mem ((c : Thread nD τ).loc main_v37_2) = G10 m c
      ∧ r.2.mem ((c : Thread nD τ).loc main_v37_3) = G11 m c
      ∧ r.2.mem ((c : Thread nD τ).loc main_v37_4) = G12 m c
      ∧ r.2.mem ((c : Thread nD τ).loc main_v37_5) = G13 m c
      ∧ r.2.mem ((c : Thread nD τ).loc main_v37_6) = G14 m c
      ∧ r.2.mem ((c : Thread nD τ).loc main_v37_7) = G15 m c
      ∧ r.2.mem ((c : Thread nD τ).loc main_v39) = Gconv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    have e8 := (dats m 0 c).arrAt_eq_of_cover 8 (G8 m c) (fun t _ => flushed8_eq m c t) covered8
    exact ⟨((h c).1 8).trans e8,
      ((h c).1 9).trans ((dats m 0 c).arrAt_eq_of_cover 9 (G9 m c) (fun t _ => flushed9_eq m c t) covered9),
      ((h c).1 10).trans ((dats m 0 c).arrAt_eq_of_cover 10 (G10 m c) (fun t _ => flushed10_eq m c t) covered10),
      ((h c).1 11).trans ((dats m 0 c).arrAt_eq_of_cover 11 (G11 m c) (fun t _ => flushed11_eq m c t) covered11),
      ((h c).1 12).trans ((dats m 0 c).arrAt_eq_of_cover 12 (G12 m c) (fun t _ => flushed12_eq m c t) covered12),
      ((h c).1 13).trans ((dats m 0 c).arrAt_eq_of_cover 13 (G13 m c) (fun t _ => flushed13_eq m c t) covered13),
      ((h c).1 14).trans ((dats m 0 c).arrAt_eq_of_cover 14 (G14 m c) (fun t _ => flushed14_eq m c t) covered14),
      ((h c).1 15).trans ((dats m 0 c).arrAt_eq_of_cover 15 (G15 m c) (fun t _ => flushed15_eq m c t) covered15),
      ((h c).2 main_v39 (Pipeline.mem_restRefs_of main_v39 (by decide) (by decide))).trans (tail_eq m c e8),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Proof.MixInRun

end
-- ==== Proof.MixInClaim.lean ====
/- Hand-written, untrusted: THE CLAIMS ABOUT THE MIXER'S PROJECTIONS. The kernel's frame at machine words and over the
   extended reals (generated), the reference's frame (its generated run; it declares no semaphore), and the value claim: the
   kernel's run (MixInRun.lean) and the reference's run end with the same nine arrays, columns of the
   projection of each row (the ninth its last three rows of each sequence), the queries and the keys rotated. -/
module

public import proofs.«01_k».proof.Defs
public import proofs.«01_k».proof.Proof.Gen.MixIn
public import proofs.«01_k».proof.Proof.Gen.MixIn.Frame
public import proofs.«01_k».proof.Proof.MixInRun
public import proofs.«01_k».proof.Proof.MixInRef

@[expose] public section

noncomputable section

namespace Cert.Proof.MixInClaim

open Cert.Proof.MixInMath Cert.Proof.MixInRun Cert.MixInReferenceIdeal.Read Idealize.ShloMosaic Idealize.ShloMosaic.TcCoe Idealize.SL.Sem

/-- The kernel over machine words runs, changes no argument, and leaves every semaphore at zero. -/
theorem frame_bits : Cert.quiescent_MixIn (hMixIn := Cert.MixIn.Gen.facts) := fun m ρ _ => Cert.MixIn.Gen.frame m ρ

/-- The same over the extended reals. -/
theorem frame_ideal : Cert.quiescent_MixInIdeal (hMixInIdeal := Cert.MixInIdeal.Gen.facts) := fun m ρ _ => Cert.MixInIdeal.Gen.frame m ρ

/-- The reference runs and changes no argument. -/
theorem frame_ref : Cert.quiescent_MixInReferenceIdeal (hMixInReferenceIdeal := Cert.MixInReferenceIdeal.Gen.facts) := fun m ρ _ =>
  (θ_run Cert.MixInReferenceIdeal.defs _ _).mono (fun r h => ⟨fun c => (h c).2.2.2.2.2.2.2.2.2, sem_eq_zero_of_no_sems (by decide) r.2⟩)
    (Cert.MixInReferenceIdeal.Value.run (F := Ideal) m ρ)

/-- The reference's first result is the kernel's. -/
theorem qkv_eq (m : (ℓ : Loc Cert.MixInIdeal.nD Cert.MixInIdeal.τ Cert.MixInIdeal.sig) → Buf (Elt Ideal) ℓ) (c : Dev Cert.MixInIdeal.nD) :
    val_main_v115 (F := Ideal) (a0 m c) (a1 m c) (a2 m c) (a3 m c) (a4 m c) = G8 m c :=
  ext2 fun R l => MixInRef.qkv_apply _ _ _ _ _ R l

/-- The reference's last result is the kernel's. -/
theorem conv_eq (m : (ℓ : Loc Cert.MixInIdeal.nD Cert.MixInIdeal.τ Cert.MixInIdeal.sig) → Buf (Elt Ideal) ℓ) (c : Dev Cert.MixInIdeal.nD) :
    val_main_v121 (F := Ideal) (a0 m c) (a1 m c) (a2 m c) (a3 m c) (a4 m c) = Gconv m c := by
  rw [Gconv, ← qkv_eq m c]
  unfold val_main_v115 val_main_v121
  rw [shapeCast_shapeCast]

/-- The kernel's results are the reference's, element by element, over the extended reals. -/
theorem value : Cert.algebraic_MixInIdeal_MixInReferenceIdeal (hMixInIdeal := Cert.MixInIdeal.Gen.facts) (hMixInReferenceIdeal := Cert.MixInReferenceIdeal.Gen.facts) := by
  intro m g m' g' _ hm
  refine ⟨G8 m, G9 m, G10 m, G11 m, G12 m, G13 m, G14 m, G15 m, Gconv m, MixInRun.run m g, ?_⟩
  refine (θ_run Cert.MixInReferenceIdeal.defs _ _).mono (fun r h c => ?_)
    (Cert.MixInReferenceIdeal.Value.run (F := Ideal) m' g')
  obtain ⟨h0, h1, h2, h3, h4⟩ := hm c
  obtain ⟨r8, r9, r10, r11, r12, r13, r14, r15, rc, hr⟩ := h c
  refine ⟨r8.trans ?_, r9.trans ?_, r10.trans ?_, r11.trans ?_, r12.trans ?_, r13.trans ?_, r14.trans ?_, r15.trans ?_, rc.trans ?_, hr⟩
  · rw [val_main_v115_eq, h0, h1, h2, h3, h4]
    exact qkv_eq m c
  · rw [val_main_v116_eq, h0, h1, h2, h3, h4]
    exact ext2 fun R l => MixInRef.z_apply _ _ _ _ _ R l
  · rw [val_main_v117_eq, h0, h1, h2, h3, h4]
    exact ext2 fun R l => MixInRef.gates_apply _ _ _ _ _ R l
  · rw [val_main_v118_eq, h0, h1, h2, h3, h4]
    exact ext2 fun R l => MixInRef.q_apply _ _ _ _ _ R l
  · rw [val_main_v113_eq, h0, h1, h2, h3, h4]
    exact ext2 fun R l => MixInRef.k_apply _ _ _ _ _ R l
  · rw [val_main_v119_eq, h0, h1, h2, h3, h4]
    exact ext2 fun R l => MixInRef.k_apply _ _ _ _ _ R l
  · rw [val_main_v114_eq, h0, h1, h2, h3, h4]
    exact ext2 fun R l => MixInRef.v_apply _ _ _ _ _ R l
  · rw [val_main_v120_eq, h0, h1, h2, h3, h4]
    exact ext2 fun R l => MixInRef.v_apply _ _ _ _ _ R l
  · rw [val_main_v121_eq, h0, h1, h2, h3, h4]
    exact conv_eq m c

end Cert.Proof.MixInClaim

end
-- ==== Proof.MixOutMath.lean ====
/- Hand-written, untrusted: THE OUTPUT MIX AS A FUNCTION OF ONE ROW, over the extended reals, in the words of the mathematics:
   the product of the two halves of a row (512 lanes each) laid side by side with a 1024 × 1024 matrix (`outRow`), cut into the sum over
   the first half and the sum over the second (`outRow_halves`), then the gated residual with a post-norm (`row`). Both programs
   are read at an index in these terms (MixOutOut.lean, MixOutRef.lean). -/
module

public import proofs.«01_k».proof.Proof.FfnMath

@[expose] public section

noncomputable section

namespace Cert.Proof.MixOutMath

open Idealize.ShloMosaic Cert.Proof.FfnMath
open scoped BigOperators

/-- The two halves of a row side by side. -/
def joined (a b : Fin 512 → EReal) (d : Fin 1024) : EReal := if h : d.val < 512 then a ⟨d.val, h⟩ else b ⟨d.val - 512, by omega⟩

/-- The product of the joined row with the weights. -/
def outRow (a b : Fin 512 → EReal) (w : Fin 1024 → Fin 1024 → EReal) (l : Fin 1024) : EReal := ∑ d, joined a b d * w d l

/-- The same product as the first half's sum plus the second half's. -/
theorem outRow_halves (a b : Fin 512 → EReal) (w : Fin 1024 → Fin 1024 → EReal) (l : Fin 1024) :
    outRow a b w l = (∑ d : Fin 512, a d * w ⟨d.val, by omega⟩ l) + ∑ d : Fin 512, b d * w ⟨512 + d.val, by omega⟩ l := by
  unfold outRow
  rw [show (∑ d : Fin 1024, joined a b d * w d l) = ∑ d : Fin (512 + 512), joined a b d * w d l from rfl, Fin.sum_univ_add]
  refine congrArg₂ (· + ·) (Finset.sum_congr rfl fun d _ => ?_) (Finset.sum_congr rfl fun d _ => ?_)
  · have h : (Fin.castAdd 512 d).val < 512 := d.isLt
    unfold joined
    rw [dif_pos h]; rfl
  · have h : ¬ (Fin.natAdd 512 d).val < 512 := by show ¬ (512 + d.val < 512); omega
    unfold joined
    rw [dif_neg h]
    refine congrArg₂ (· * ·) (congrArg b (Fin.ext ?_)) rfl
    show 512 + d.val - 512 = d.val; omega

/-- The whole step on one row: the row plus the gate times the normed product weighted by `gp`. -/
def row (x ga gp : Fin 1024 → EReal) (a b : Fin 512 → EReal) (w : Fin 1024 → Fin 1024 → EReal) (l : Fin 1024) : EReal :=
  x l + ga l * (outRow a b w l * rmsInv (outRow a b w) * gp l)

end Cert.Proof.MixOutMath

end
-- ==== Proof.MixOutOut.lean ====
/- Hand-written, untrusted: WHAT ONE GRID POINT OF THE OUTPUT MIX LEAVES IN ITS BLOCK: the block is stored once, whole (`out_eq`),
   and over the extended reals its row `r` is the step `MixOutMath.row` of the input blocks' rows (`out_apply`). -/
module

public import proofs.«01_k».proof.Proof.Gen.MixOutIdeal.Value
public import proofs.«01_k».proof.Proof.MixOutMath

@[expose] public section

set_option maxRecDepth 16384

noncomputable section

namespace Cert.Proof.MixOutOut

open Cert.MixOutIdeal Cert.MixOutIdeal.Gen Cert.MixOutIdeal.Value Idealize.ShloMosaic Idealize.ShloMosaic.TcCoe Idealize.SL.Sem
open Cert.Proof.FfnMath Cert.Proof.MixOutMath

theorem hz : (![0, 0] : Fin 2 → Nat) = fun _ => 0 := funext fun a => by fin_cases a <;> rfl
theorem hz3 : (![0, 0, 0] : Fin 3 → Nat) = fun _ => 0 := funext fun a => by fin_cases a <;> rfl

/-- 512 rows of the weights from row `o`. -/
def wrow (x5 : Vec Ideal S1024x1024 .bf16) (o : Nat) (inb : ∀ a, (![o, 0] : Fin 2 → Nat) a + S512x1024.size a ≤ S1024x1024.size a) : Vec Ideal S512x1024 .bf16 :=
  View.ld x5 (Rect.unit (s := S1024x1024) ![o, 0] S512x1024.size inb)

theorem wrow_apply (x5 : FVec Ideal S1024x1024 .bf16) (o : Nat) (inb : ∀ a, (![o, 0] : Fin 2 → Nat) a + S512x1024.size a ≤ S1024x1024.size a)
    (k : Fin 512) (d : Fin 1024) (h : o + k.val < 1024) : wrow x5 o inb (ix2 k d) = x5 (ix2 ⟨o + k.val, h⟩ d) := by
  refine congrArg x5 (funext fun a => Fin.ext ?_)
  match a with
  | ⟨0, _⟩ => show o + 1 * k.val = o + k.val; omega
  | ⟨1, _⟩ => show 0 + 1 * d.val = d.val; omega

variable (x0 : FVec Ideal S512x1024 .f32) (x1 x2 : FVec Ideal S512x512 .bf16) (x3 : FVec Ideal S1x1x1024 .f32) (x4 : FVec Ideal S1x1024 .f32) (x5 : FVec Ideal S1024x1024 .bf16)

/-- The block as the printed payload of the input blocks. -/
theorem out_eq : out0_6 (F := Ideal) x0 x1 x2 x3 x4 x5
    = k0_pay1 (F := Ideal) x1 (wrow x5 0 inb_S1024x1024_S512x1024_0_0) x2 (wrow x5 512 inb_S1024x1024_S512x1024_512_0) x0 x3 x4 := by
  unfold out0_6
  rw [View.canon_unit_zero hz]
  simp only [View.ld_unit_zero (S := S512x1024) hz, View.ld_unit_zero (S := S512x512) hz, View.ld_unit_zero (S := S1x1024) hz, View.ld_unit_zero (S := S1x1x1024) hz3]
  rfl

/-- The two products of the payload, at an index. -/
def prod (a b : FVec Ideal S512x512 .bf16) (wa wb : FVec Ideal S512x1024 .bf16) (r : Fin 512) (l : Fin 1024) : EReal :=
  (∑ d : Fin 512, a (ix2 r d) * wa (ix2 d l)) + ∑ d : Fin 512, b (ix2 r d) * wb (ix2 d l)

theorem pay1_apply (a b : FVec Ideal S512x512 .bf16) (wa wb : FVec Ideal S512x1024 .bf16) (r : Fin 512) (l : Fin 1024) :
    k0_pay1 (F := Ideal) a wa b wb x0 x3 x4 (ix2 r l)
      = x0 (ix2 r l) + x3 (ix3 0 0 l) * (prod a b wa wb r l * rmsInv (prod a b wa wb r) * x4 (ix2 0 l)) := by
  pointwise [k0_pay1]
  rfl

theorem prod_eq (r : Fin 512) (l : Fin 1024) :
    prod x1 x2 (wrow x5 0 inb_S1024x1024_S512x1024_0_0) (wrow x5 512 inb_S1024x1024_S512x1024_512_0) r l
      = outRow (fun d => x1 (ix2 r d)) (fun d => x2 (ix2 r d)) (fun d l => x5 (ix2 d l)) l := by
  rw [outRow_halves]
  unfold prod
  refine congrArg₂ (· + ·) (Finset.sum_congr rfl fun d _ => ?_) (Finset.sum_congr rfl fun d _ => ?_)
  · rw [wrow_apply x5 _ _ d l (by omega)]; simp only [Nat.zero_add]
  · rw [wrow_apply x5 _ _ d l (by omega)]

/-- The block at an index. -/
theorem out_apply (r : Fin 512) (l : Fin 1024) : out0_6 (F := Ideal) x0 x1 x2 x3 x4 x5 (ix2 r l)
    = row (fun d => x0 (ix2 r d)) (fun d => x3 (ix3 0 0 d)) (fun d => x4 (ix2 0 d)) (fun d => x1 (ix2 r d)) (fun d => x2 (ix2 r d)) (fun d l => x5 (ix2 d l)) l := by
  rw [out_eq, pay1_apply, funext (prod_eq x1 x2 x5 r)]
  rfl

end Cert.Proof.MixOutOut

end
-- ==== Proof.MixOutRun.lean ====
/- Hand-written, untrusted: THE RUN OF THE OUTPUT MIX WITH ITS RESULT NAMED, over the extended reals: row `R` of the result array is
   the step `MixOutMath.row` of row `R` (`G`, `run`). Each grid point writes one block of 512 rows (`flushed6_eq`), the 32 blocks cover
   the array (`covered6`), and the arrays the host prepared before the call (the weights' cast, the reshapes) are the arguments at an
   index (`V_v0` to `V_v2`). -/
module

public import proofs.«01_k».proof.Proof.MixOutOut

@[expose] public section

set_option maxRecDepth 16384

noncomputable section

namespace Cert.Proof.MixOutRun

open Cert.MixOutIdeal Cert.MixOutIdeal.Gen Cert.MixOutIdeal.Value Idealize.ShloMosaic Idealize.ShloMosaic.TcCoe Idealize.SL.Sem
open Cert.Proof.MixOutMath

variable (m : (ℓ : Loc nD τ sig) → Buf (Elt Ideal) ℓ) (ρ : Dev nD → PrngReg) (c : Dev nD)

/-- The argument arrays as vectors of extended reals. -/
abbrev a0 : FVec Ideal S2x8192x1024 .f32 := m ((c : Thread nD τ).loc main_arg0)
abbrev a1 : FVec Ideal S16384x512 .bf16 := m ((c : Thread nD τ).loc main_arg1)
abbrev a2 : FVec Ideal S16384x512 .bf16 := m ((c : Thread nD τ).loc main_arg2)
abbrev a3 : FVec Ideal S2x1x1024 .f32 := m ((c : Thread nD τ).loc main_arg3)
abbrev a4 : FVec Ideal S1024 .f32 := m ((c : Thread nD τ).loc main_arg4)
abbrev a5 : FVec Ideal S1024x1024 .f32 := m ((c : Thread nD τ).loc main_arg5)

/-- Row `R` of the result from the argument arrays. -/
def Gv (x : FVec Ideal S2x8192x1024 .f32) (og od : FVec Ideal S16384x512 .bf16) (ga : FVec Ideal S2x1x1024 .f32) (gp : FVec Ideal S1024 .f32)
    (w : FVec Ideal S1024x1024 .f32) (R : Fin 16384) (l : Fin 1024) : EReal :=
  row (fun d => x (ix3 (⟨R.val / 8192, by omega⟩ : Fin 2) (⟨R.val % 8192, by omega⟩ : Fin 8192) d))
    (fun d => ga (ix3 (⟨R.val / 8192, by omega⟩ : Fin 2) 0 d)) (fun d => gp (ix1 d))
    (fun d => og (ix2 R d)) (fun d => od (ix2 R d)) (fun d l => w (ix2 d l)) l

/-- The result array as one function of the argument arrays. -/
def G : FVec Ideal S16384x1024 .f32 := fun j => Gv (a0 m c) (a1 m c) (a2 m c) (a3 m c) (a4 m c) (a5 m c) (j 0) (j 1)

/-! ## The arrays the host prepared -/

theorem V_v0 : V m c main_v0 = truncf (F := Ideal) .bf16 (a5 m c) bitsLt_bf16_f32 := by
  simp only [V, hostOps0]; after_results_simp <;> rfl
theorem V_v1 : V m c main_v1 = shapeCast S16384x1024 (a0 m c) shapeCasts_S2x8192x1024_S16384x1024 := by
  simp only [V, hostOps0]; after_results_simp <;> rfl
theorem V_v2 : V m c main_v2 = shapeCast S1x1024 (a4 m c) shapeCasts_S1024_S1x1024 := by
  simp only [V, hostOps0]; after_results_simp <;> rfl

/-! ## The windows' blocks -/

theorem ix0w : ∀ t : Fin cfg0.N, win0_0.index t (0 : Fin 2) = t.val ∧ win0_0.index t (1 : Fin 2) = 0 := (by decide +kernel : ∀ t : Fin grid0.N, _)
theorem ix1w : ∀ t : Fin cfg0.N, win0_1.index t (0 : Fin 2) = t.val ∧ win0_1.index t (1 : Fin 2) = 0 := (by decide +kernel : ∀ t : Fin grid0.N, _)
theorem ix2w : ∀ t : Fin cfg0.N, win0_2.index t (0 : Fin 2) = t.val ∧ win0_2.index t (1 : Fin 2) = 0 := (by decide +kernel : ∀ t : Fin grid0.N, _)
theorem ix4w : ∀ t : Fin cfg0.N, win0_4.index t (0 : Fin 2) = 0 ∧ win0_4.index t (1 : Fin 2) = 0 := (by decide +kernel : ∀ t : Fin grid0.N, _)
theorem ix5w : ∀ t : Fin cfg0.N, win0_5.index t (0 : Fin 2) = 0 ∧ win0_5.index t (1 : Fin 2) = 0 := (by decide +kernel : ∀ t : Fin grid0.N, _)
theorem ix6w : ∀ t : Fin cfg0.N, win0_6.index t (0 : Fin 2) = t.val ∧ win0_6.index t (1 : Fin 2) = 0 := (by decide +kernel : ∀ t : Fin grid0.N, _)
theorem ix3w : ∀ t : Fin cfg0.N, win0_3.index t (0 : Fin 3) = t.val / 16 ∧ win0_3.index t (1 : Fin 3) = 0 ∧ win0_3.index t (2 : Fin 3) = 0 := (by decide +kernel : ∀ t : Fin grid0.N, _)

/-- Row `r` of point `t`'s block is row `512 t + r` of the array. -/
abbrev rowOf (t : Fin cfg0.N) (r : Fin 512) : Fin 16384 := ⟨t.val * 512 + r.val, by have := t.isLt; have h : cfg0.N = 32 := rfl; omega⟩

theorem tlt (t : Fin cfg0.N) : t.val < 32 := t.isLt

theorem iblk0_apply (t : Fin cfg0.N) (r : Fin 512) (d : Fin 1024) :
    iblk m c 0 t (ix2 r d) = a0 m c (ix3 (⟨(rowOf t r).val / 8192, by omega⟩ : Fin 2) (⟨(rowOf t r).val % 8192, by omega⟩ : Fin 8192) d) := by
  obtain ⟨e0, e1⟩ := ix0w t
  have he : ((cfg0.win 0).blk t).view.emb (ix2 r d) = ix2 (rowOf t r) d := by
    funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  show V m c main_v1 (((cfg0.win 0).blk t).view.emb (ix2 r d)) = _
  rw [he, V_v1]
  pointwise

theorem iblk1_apply (t : Fin cfg0.N) (r : Fin 512) (d : Fin 512) : iblk m c 1 t (ix2 r d) = a1 m c (ix2 (rowOf t r) d) := by
  obtain ⟨e0, e1⟩ := ix1w t
  show V m c main_arg1 (((cfg0.win 1).blk t).view.emb (ix2 r d)) = _
  rw [V_main_arg1]
  refine congrArg (a1 m c) (funext fun a => Fin.ext ?_)
  match a with
  | ⟨0, _⟩ => show win0_1.index t (0 : Fin 2) * 512 + 1 * r.val = t.val * 512 + r.val; omega
  | ⟨1, _⟩ => show win0_1.index t (1 : Fin 2) * 512 + 1 * d.val = d.val; omega

theorem iblk2_apply (t : Fin cfg0.N) (r : Fin 512) (d : Fin 512) : iblk m c 2 t (ix2 r d) = a2 m c (ix2 (rowOf t r) d) := by
  obtain ⟨e0, e1⟩ := ix2w t
  show V m c main_arg2 (((cfg0.win 2).blk t).view.emb (ix2 r d)) = _
  rw [V_main_arg2]
  refine congrArg (a2 m c) (funext fun a => Fin.ext ?_)
  match a with
  | ⟨0, _⟩ => show win0_2.index t (0 : Fin 2) * 512 + 1 * r.val = t.val * 512 + r.val; omega
  | ⟨1, _⟩ => show win0_2.index t (1 : Fin 2) * 512 + 1 * d.val = d.val; omega

theorem iblk3_apply (t : Fin cfg0.N) (d : Fin 1024) :
    iblk m c 3 t (ix3 0 0 d) = a3 m c (ix3 (⟨t.val / 16, by have := tlt t; omega⟩ : Fin 2) 0 d) := by
  obtain ⟨e0, e1, e2⟩ := ix3w t
  show V m c main_arg3 (((cfg0.win 3).blk t).view.emb (ix3 0 0 d)) = _
  rw [V_main_arg3]
  refine congrArg (a3 m c) (funext fun a => Fin.ext ?_)
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 1024 + 1 * d.val = d.val; omega

theorem iblk4_apply (t : Fin cfg0.N) (d : Fin 1024) : iblk m c 4 t (ix2 0 d) = a4 m c (ix1 d) := by
  obtain ⟨e0, e1⟩ := ix4w t
  have he : ((cfg0.win 4).blk t).view.emb (ix2 0 d) = ix2 (0 : Fin 1) d := by
    funext a; apply Fin.ext
    match a with
    | ⟨0, _⟩ => show win0_4.index t (0 : Fin 2) * 1 + 1 * 0 = 0; omega
    | ⟨1, _⟩ => show win0_4.index t (1 : Fin 2) * 1024 + 1 * d.val = d.val; omega
  show V m c main_v2 (((cfg0.win 4).blk t).view.emb (ix2 0 d)) = _
  rw [he, V_v2]
  pointwise

theorem iblk5_apply (t : Fin cfg0.N) (d : Fin 1024) (j : Fin 1024) : iblk m c 5 t (ix2 d j) = a5 m c (ix2 d j) := by
  obtain ⟨e0, e1⟩ := ix5w t
  show V m c main_v0 (((cfg0.win 5).blk t).view.emb (ix2 d j)) = _
  rw [V_v0]
  refine congrArg (a5 m c) (funext fun a => Fin.ext ?_)
  match a with
  | ⟨0, _⟩ => show win0_5.index t (0 : Fin 2) * 1024 + 1 * d.val = d.val; omega
  | ⟨1, _⟩ => show win0_5.index t (1 : Fin 2) * 1024 + 1 * j.val = j.val; omega

/-- An index of the output window's block as an index of the array. -/
theorem emb6 (t : Fin cfg0.N) (r : Fin 512) (l : Fin 1024) : ((cfg0.win 6).blk t).view.emb (ix2 r l) = ix2 (rowOf t r) l := by
  obtain ⟨e0, e1⟩ := ix6w t
  funext a; apply Fin.ext
  match a with
  | ⟨0, _⟩ => show win0_6.index t (0 : Fin 2) * 512 + 1 * r.val = t.val * 512 + r.val; omega
  | ⟨1, _⟩ => show win0_6.index t (1 : Fin 2) * 1024 + 1 * l.val = l.val; omega

/-- What point `t` writes back is its block of `G`. -/
theorem flushed6_eq (t : Fin cfg0.N) :
    (dats m 0 c).flushed 6 t = ((cfg0.win 6).blk t).view.read (Elt Ideal) (G m c) := by
  rw [flushed6]
  funext j
  obtain ⟨r, l, rfl⟩ : ∃ (r : Fin 512) (l : Fin 1024), j = ix2 r l := ⟨j 0, j 1, eq_ix2 j⟩
  show out0_6 (F := Ideal) _ _ _ _ _ _ (ix2 r l) = G m c (((cfg0.win 6).blk t).view.emb (ix2 r l))
  rw [emb6, MixOutOut.out_apply]
  have hb : (⟨t.val / 16, by have := tlt t; omega⟩ : Fin 2) = ⟨(rowOf t r).val / 8192, by omega⟩ :=
    Fin.ext (by show t.val / 16 = (t.val * 512 + r.val) / 8192; omega)
  simp only [iblk0_apply, iblk1_apply, iblk2_apply, iblk3_apply, iblk4_apply, iblk5_apply, hb]
  rfl

/-- The 32 blocks cover the result array. -/
theorem covered6 (i : S16384x1024.Idx) : ∃ t : Fin cfg0.N, (cfg0.win 6).flush t = true ∧ i ∈ ((cfg0.win 6).blk t).view.set := by
  obtain ⟨R, l, rfl⟩ : ∃ (R : Fin 16384) (l : Fin 1024), i = ix2 R l := ⟨i 0, i 1, eq_ix2 i⟩
  refine ⟨(⟨R.val / 512, by show _ < 32; omega⟩ : Fin cfg0.N), flush0_6 _, ?_⟩
  have h := ((cfg0.win 6).blk (⟨R.val / 512, by show _ < 32; omega⟩ : Fin cfg0.N)).view.emb_mem_set (ix2 (⟨R.val % 512, by omega⟩ : Fin 512) l)
  rw [emb6] at h
  have e : rowOf (⟨R.val / 512, by show _ < 32; omega⟩ : Fin cfg0.N) (⟨R.val % 512, by omega⟩ : Fin 512) = R :=
    Fin.ext (by show R.val / 512 * 512 + R.val % 512 = R.val; omega)
  rwa [e] at h

/-- The run with the result array at its function of the arguments. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 6 (G m c) (fun t _ => flushed6_eq m c t) covered6), (h c).2⟩)
    (run_blocks m ρ)

end Cert.Proof.MixOutRun

end
-- ==== Proof.MixOutRef.lean ====
/- Hand-written, untrusted: WHAT THE REFERENCE OF THE OUTPUT MIX RETURNS, at an index: row `R` of its result is the step
   `MixOutMath.row` of token `R % 8192` of batch `R / 8192` (`out_apply`). The generated reading of the printed operations is cited
   stage by stage. -/
module

public import proofs.«01_k».proof.Proof.Gen.MixOutReferenceIdeal.Read
public import proofs.«01_k».proof.Proof.MixOutMath

@[expose] public section

noncomputable section

namespace Cert.Proof.MixOutRef

open Cert.MixOutReferenceIdeal Cert.MixOutReferenceIdeal.Read Idealize.ShloMosaic Idealize.ShloMosaic.TcCoe
open Cert.Proof.FfnMath Cert.Proof.MixOutMath

/-- Row `s` of batch `b` of the flattened rows. -/
abbrev flat (b : Fin 2) (s : Fin 8192) : Fin 16384 := ⟨b.val * 8192 + s.val, by omega⟩

/-- The two halves side by side. -/
theorem mixed_apply (og od : FVec Ideal S16384x512 .bf16) (b : Fin 2) (s : Fin 8192) (d : Fin 1024) :
    val_main_v3 (F := Ideal) og od (ix3 b s d) = joined (fun d => og (ix2 (flat b s) d)) (fun d => od (ix2 (flat b s) d)) d := by
  pointwise [val_main_v3, val_main_v2, val_main_v1, val_main_v0]
  rfl

/-- The product. -/
theorem prod_apply (og od : FVec Ideal S16384x512 .bf16) (w : FVec Ideal S1024x1024 .f32) (b : Fin 2) (s : Fin 8192) (l : Fin 1024) :
    val_main_v4 (F := Ideal) og od w (ix3 b s l)
      = outRow (fun d => og (ix2 (flat b s) d)) (fun d => od (ix2 (flat b s) d)) (fun d l => w (ix2 d l)) l := by
  pointwise [val_main_v4]
  simp only [mixed_apply]
  rfl

/-- A row of the result. -/
theorem out_apply (x : FVec Ideal S2x8192x1024 .f32) (og od : FVec Ideal S16384x512 .bf16) (ga : FVec Ideal S2x1x1024 .f32) (gp : FVec Ideal S1024 .f32)
    (w : FVec Ideal S1024x1024 .f32) (R : Fin 16384) (l : Fin 1024) :
    val_main_v23 (F := Ideal) x og od ga gp w (ix2 R l)
      = row (fun d => x (ix3 (⟨R.val / 8192, by omega⟩ : Fin 2) (⟨R.val % 8192, by omega⟩ : Fin 8192) d))
          (fun d => ga (ix3 (⟨R.val / 8192, by omega⟩ : Fin 2) 0 d)) (fun d => gp (ix1 d))
          (fun d => og (ix2 R d)) (fun d => od (ix2 R d)) (fun d l => w (ix2 d l)) l := by
  have hR : flat (⟨R.val / 8192, by omega⟩ : Fin 2) (⟨R.val % 8192, by omega⟩ : Fin 8192) = R :=
    Fin.ext (by show R.val / 8192 * 8192 + R.val % 8192 = R.val; omega)
  pointwise [val_main_v23, val_main_v22, val_main_v21, val_main_v20, val_main_v19, val_main_v18, val_main_v17, val_main_v16, val_main_v15, val_main_v14, val_main_v13, val_main_v12, val_main_cst_2, val_main_v11, val_main_v10, val_main_cst_1, val_main_v9, val_main_v8, val_main_cst_0, val_main_v7, val_main_v6, val_main_v5, val_main_cst]
  simp only [prod_apply, hR]
  rfl

end Cert.Proof.MixOutRef

end
-- ==== Proof.MixOutClaim.lean ====
/- Hand-written, untrusted: THE CLAIMS ABOUT THE OUTPUT MIX. The kernel's frame at machine words and over the
   extended reals (generated), the reference's frame (its generated run; it declares no semaphore), and the value claim: the
   kernel's run (MixOutRun.lean) and the reference's run end with the same array, the gated step of each row. -/
module

public import proofs.«01_k».proof.Defs
public import proofs.«01_k».proof.Proof.Gen.MixOut
public import proofs.«01_k».proof.Proof.Gen.MixOut.Frame
public import proofs.«01_k».proof.Proof.MixOutRun
public import proofs.«01_k».proof.Proof.MixOutRef

@[expose] public section

noncomputable section

namespace Cert.Proof.MixOutClaim

open Idealize.ShloMosaic Idealize.ShloMosaic.TcCoe Idealize.SL.Sem

/-- The kernel over machine words runs, changes no argument, and leaves every semaphore at zero. -/
theorem frame_bits : Cert.quiescent_MixOut (hMixOut := Cert.MixOut.Gen.facts) := fun m ρ _ => Cert.MixOut.Gen.frame m ρ

/-- The same over the extended reals. -/
theorem frame_ideal : Cert.quiescent_MixOutIdeal (hMixOutIdeal := Cert.MixOutIdeal.Gen.facts) := fun m ρ _ => Cert.MixOutIdeal.Gen.frame m ρ

/-- The reference runs and changes no argument. -/
theorem frame_ref : Cert.quiescent_MixOutReferenceIdeal (hMixOutReferenceIdeal := Cert.MixOutReferenceIdeal.Gen.facts) := fun m ρ _ =>
  (θ_run Cert.MixOutReferenceIdeal.defs _ _).mono (fun r h => ⟨fun c => (h c).2, sem_eq_zero_of_no_sems (by decide) r.2⟩)
    (Cert.MixOutReferenceIdeal.Value.run (F := Ideal) m ρ)

/-- The kernel's result is the reference's, element by element, over the extended reals. -/
theorem value : Cert.algebraic_MixOutIdeal_MixOutReferenceIdeal (hMixOutIdeal := Cert.MixOutIdeal.Gen.facts) (hMixOutReferenceIdeal := Cert.MixOutReferenceIdeal.Gen.facts) := by
  intro m g m' g' _ hm
  refine ⟨fun c => MixOutRun.G m c, MixOutRun.run m g, ?_⟩
  refine (θ_run Cert.MixOutReferenceIdeal.defs _ _).mono (fun r h c => ⟨(h c).1.trans ?_, (h c).2⟩)
    (Cert.MixOutReferenceIdeal.Value.run (F := Ideal) m' g')
  obtain ⟨h0, h1, h2, h3, h4, h5⟩ := hm c
  rw [Cert.MixOutReferenceIdeal.Read.val_main_v23_eq, h0, h1, h2, h3, h4, h5]
  funext j
  obtain ⟨R, l, rfl⟩ : ∃ (R : Fin 16384) (l : Fin 1024), j = ix2 R l := ⟨j 0, j 1, eq_ix2 j⟩
  exact MixOutRef.out_apply _ _ _ _ _ _ R l

end Cert.Proof.MixOutClaim

end
-- ==== Proof.FfnSampleOut.lean ====
/- Hand-written, untrusted: WHAT THE ONE GRID POINT OF THE SAMPLE BATCH'S FEED-FORWARD KERNEL LEAVES IN ITS OUTPUT BLOCK. First, at any float
   values, the block as the printed payloads of the input blocks (`out_eq`): the normed rows are stored once, the accumulator
   is stored eleven times and each time read back whole. Then, over the extended reals, each payload at an index, and the
   block's row `r` as the half step `FfnMath.row` of the input blocks (`out_apply`). -/
module

public import proofs.«01_k».proof.Proof.Gen.FfnSampleIdeal.Value
public import proofs.«01_k».proof.Proof.FfnMath
public import Idealize.ShloMosaic.Lib.Pipeline.ValueKit.Acc

@[expose] public section

set_option maxRecDepth 16384

noncomputable section

namespace Cert.Proof.FfnSampleOut

open Cert.FfnSampleIdeal Cert.FfnSampleIdeal.Gen Cert.FfnSampleIdeal.Value Idealize.ShloMosaic Idealize.ShloMosaic.TcCoe Idealize.SL.Sem
open Cert.Proof.FfnMath

section Any
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A load of the whole of a buffer whose last store was of the whole reads that store's value. -/
theorem rc {e : EltTy} {κ : Kind} {sp : Space} {sig : RefSig} (v : View sig κ sp S512x1024 e) (inb inb' : ∀ a, (![0, 0] : Fin 2 → Nat) a + (![512, 1024] : Fin 2 → Nat) a ≤ S512x1024.size a)
    (w : S512x1024.Idx → Elt F e) (L : List (View.Piece (Elt F) S512x1024 e)) :
    v.readCov ((⟨Rect.unit (s := S512x1024) ![0, 0] ![512, 1024] inb, w⟩ : View.Piece (Elt F) S512x1024 e) :: L) (Rect.unit (s := S512x1024) ![0, 0] ![512, 1024] inb').toLoadRect = w :=
  View.readCov_cons_unit_lit' v inb inb' w L (fun a => by fin_cases a <;> rfl) (fun a => by fin_cases a <;> rfl)

/-- 256 columns of the first weight matrix from column `o`. -/
def wcol (x6 : Vec F S1024x5632 .bf16) (o : Nat) (inb : ∀ a, (![0, o] : Fin 2 → Nat) a + S1024x256.size a ≤ S1024x5632.size a) : Vec F S1024x256 .bf16 :=
  View.ld x6 (Rect.unit (s := S1024x5632) ![0, o] S1024x256.size inb)

/-- 256 rows of the second weight matrix from row `o`. -/
def wrow (x7 : Vec F S2816x1024 .bf16) (o : Nat) (inb : ∀ a, (![o, 0] : Fin 2 → Nat) a + S256x1024.size a ≤ S2816x1024.size a) : Vec F S256x1024 .bf16 :=
  View.ld x7 (Rect.unit (s := S2816x1024) ![o, 0] S256x1024.size inb)

/-- The eleven accumulator stores, in order. -/
def accAll (h : Vec F S512x1024 .bf16) (x6 : Vec F S1024x5632 .bf16) (x7 : Vec F S2816x1024 .bf16) : Vec F S512x1024 .f32 :=
  let a0 := k0_pay7 h (k0_pay5 h (wcol x6 0 inb_S1024x5632_S1024x256_0_0)) (k0_pay6 (wcol x6 2816 inb_S1024x5632_S1024x256_0_2816)) (constant S512x256 .f32 0x00000000#32) (wrow x7 0 inb_S2816x1024_S256x1024_0_0)
  let a1 := k0_pay8 h (wcol x6 256 inb_S1024x5632_S1024x256_0_256) (wcol x6 3072 inb_S1024x5632_S1024x256_0_3072) (wrow x7 256 inb_S2816x1024_S256x1024_256_0) a0
  let a2 := k0_pay10 h (k0_pay9 (wcol x6 512 inb_S1024x5632_S1024x256_0_512)) (constant S512x256 .f32 0x00000000#32) (wcol x6 3328 inb_S1024x5632_S1024x256_0_3328) (wrow x7 512 inb_S2816x1024_S256x1024_512_0) a1
  let a3 := k0_pay12 (k0_pay11 h (wcol x6 768 inb_S1024x5632_S1024x256_0_768) (wcol x6 3584 inb_S1024x5632_S1024x256_0_3584) (wrow x7 768 inb_S2816x1024_S256x1024_768_0) a2)
  let a4 := k0_pay13 h (wcol x6 1024 inb_S1024x5632_S1024x256_0_1024) (wcol x6 3840 inb_S1024x5632_S1024x256_0_3840) (wrow x7 1024 inb_S2816x1024_S256x1024_1024_0) a3
  let a5 := k0_pay16 (k0_pay14 h (wcol x6 1280 inb_S1024x5632_S1024x256_0_1280) (wcol x6 4096 inb_S1024x5632_S1024x256_0_4096)) (k0_pay15 (wrow x7 1280 inb_S2816x1024_S256x1024_1280_0)) a4
  let a6 := k0_pay17 h (wcol x6 1536 inb_S1024x5632_S1024x256_0_1536) (wcol x6 4352 inb_S1024x5632_S1024x256_0_4352) (wrow x7 1536 inb_S2816x1024_S256x1024_1536_0) a5
  let a7 := k0_pay20 h (k0_pay18 h (wcol x6 1792 inb_S1024x5632_S1024x256_0_1792)) (k0_pay19 (wcol x6 4608 inb_S1024x5632_S1024x256_0_4608)) (wrow x7 1792 inb_S2816x1024_S256x1024_1792_0) a6
  let a8 := k0_pay21 h (wcol x6 2048 inb_S1024x5632_S1024x256_0_2048) (wcol x6 4864 inb_S1024x5632_S1024x256_0_4864) (wrow x7 2048 inb_S2816x1024_S256x1024_2048_0) a7
  let a9 := k0_pay22 h (wcol x6 2304 inb_S1024x5632_S1024x256_0_2304) (wcol x6 5120 inb_S1024x5632_S1024x256_0_5120) (wrow x7 2304 inb_S2816x1024_S256x1024_2304_0) a8
  k0_pay1 (k0_pay23 h (wcol x6 2560 inb_S1024x5632_S1024x256_0_2560) (wcol x6 5376 inb_S1024x5632_S1024x256_0_5376) (wrow x7 2560 inb_S2816x1024_S256x1024_2560_0)) a9

/-- What the body leaves in the output block, as the printed payloads of the input blocks. -/
theorem out_eq (c : Dev nD) (i : grid0.Coords) (arg1 : Memref sig .tc .vmem S512x1024 .f32) (h1 : arg1.IsWhole) (arg2 : Memref sig .tc .vmem S1x512x1024 .f32) (h2 : arg2.IsWhole) (arg3 : Memref sig .tc .vmem S1x512x1024 .f32) (h3 : arg3.IsWhole) (arg4 : Memref sig .tc .vmem S1x512x1024 .f32) (h4 : arg4.IsWhole) (arg5 : Memref sig .tc .vmem S1x1024 .f32) (h5 : arg5.IsWhole) (arg6 : Memref sig .tc .vmem S1x1024 .f32) (h6 : arg6.IsWhole) (arg7 : Memref sig .tc .vmem S1024x5632 .bf16) (h7 : arg7.IsWhole) (arg8 : Memref sig .tc .vmem S2816x1024 .bf16) (h8 : arg8.IsWhole) (arg9 : Memref sig .tc .vmem S512x1024 .f32) (h9 : arg9.IsWhole) (arg10 : Memref sig .tc .vmem S512x1024 .bf16) (h10 : arg10.IsWhole) (arg11 : Memref sig .tc .vmem S512x1024 .f32) (h11 : arg11.IsWhole)
    (x0 : Vec F S512x1024 .f32) (x1 : Vec F S1x512x1024 .f32) (x2 : Vec F S1x512x1024 .f32) (x3 : Vec F S1x512x1024 .f32) (x4 : Vec F S1x1024 .f32) (x5 : Vec F S1x1024 .f32) (x6 : Vec F S1024x5632 .bf16) (x7 : Vec F S2816x1024 .bf16) :
    out0_A_8 c i arg1 h1 arg2 h2 arg3 h3 arg4 h4 arg5 h5 arg6 h6 arg7 h7 arg8 h8 arg9 h9 arg10 h10 arg11 h11 x0 x1 x2 x3 x4 x5 x6 x7
      = k0_pay2 (k0_pay3 x0) x3 (accAll (k0_pay4 x0 x4 x2 x1) x6 x7) x5 := by
  unfold out0_A_8
  rw [View.read_writes_junk_eq_canon]
  unfold kernelRun0_A
  dsimp only
  sl_unfold_words
  rw [View.canon_unit_zero hz]
  simp only [rc, View.readAt_eq_ld, h1.read_unread, h2.read_unread, h3.read_unread, h4.read_unread, h5.read_unread, h6.read_unread, h7.read_unread, h8.read_unread, View.ld_unit_zero (S := S512x1024) hz, View.ld_unit_zero (S := S1x1024) hz, View.ld_unit_zero (S := S1x512x1024) hz3]
  rfl

end Any

/-- 256 columns of a matrix from column `o`, at an index. -/
theorem wcol_apply (x6 : FVec Ideal S1024x5632 .bf16) (o : Nat) (inb : ∀ a, (![0, o] : Fin 2 → Nat) a + S1024x256.size a ≤ S1024x5632.size a)
    (d : Fin 1024) (k : Fin 256) (h : o + k.val < 5632) : wcol (F := Ideal) x6 o inb (ix2 d k) = x6 (ix2 d ⟨o + k.val, h⟩) := by
  refine congrArg x6 (funext fun a => Fin.ext ?_)
  match a with
  | ⟨0, _⟩ => show 0 + 1 * d.val = d.val; omega
  | ⟨1, _⟩ => show o + 1 * k.val = o + k.val; omega

/-- 256 rows of a matrix from row `o`, at an index. -/
theorem wrow_apply (x7 : FVec Ideal S2816x1024 .bf16) (o : Nat) (inb : ∀ a, (![o, 0] : Fin 2 → Nat) a + S256x1024.size a ≤ S2816x1024.size a)
    (k : Fin 256) (d : Fin 1024) (h : o + k.val < 2816) : wrow (F := Ideal) x7 o inb (ix2 k d) = x7 (ix2 ⟨o + k.val, h⟩ d) := by
  refine congrArg x7 (funext fun a => Fin.ext ?_)
  match a with
  | ⟨0, _⟩ => show o + 1 * k.val = o + k.val; omega
  | ⟨1, _⟩ => show 0 + 1 * d.val = d.val; omega

/-- The normed rows. -/
theorem pay4_apply (x : FVec Ideal S512x1024 .f32) (sc sh : FVec Ideal S1x512x1024 .f32) (g : FVec Ideal S1x1024 .f32) (r : Fin 512) (l : Fin 1024) :
    k0_pay4 (F := Ideal) x g sc sh (ix2 r l)
      = modRow (fun d => x (ix2 r d)) (fun d => g (ix2 0 d)) (fun d => sc (ix3 0 r d)) (fun d => sh (ix3 0 r d)) l := by
  pointwise [k0_pay4, k0_pay3]
  rfl

/-- The residual step. -/
theorem pay2_apply (x acc : FVec Ideal S512x1024 .f32) (ga : FVec Ideal S1x512x1024 .f32) (gp : FVec Ideal S1x1024 .f32) (r : Fin 512) (l : Fin 1024) :
    k0_pay2 (F := Ideal) (k0_pay3 x) ga acc gp (ix2 r l)
      = resRow (fun d => x (ix2 r d)) (fun d => ga (ix3 0 r d)) (fun d => gp (ix2 0 d)) (fun d => acc (ix2 r d)) l := by
  pointwise [k0_pay2, k0_pay3]
  rfl

/-- What one chunk adds to the accumulator, from its three weight blocks. -/
def part (h : FVec Ideal S512x1024 .bf16) (wa wb : FVec Ideal S1024x256 .bf16) (wo : FVec Ideal S256x1024 .bf16) (r : Fin 512) (l : Fin 1024) : EReal :=
  ∑ k : Fin 256, (∑ d, h (ix2 r d) * wa (ix2 d k)) * Ideal.logistic (∑ d, h (ix2 r d) * wa (ix2 d k)) * (∑ d, h (ix2 r d) * wb (ix2 d k)) * wo (ix2 k l)

variable (h : FVec Ideal S512x1024 .bf16) (wa wb : FVec Ideal S1024x256 .bf16) (wo : FVec Ideal S256x1024 .bf16) (acc : FVec Ideal S512x1024 .f32) (r : Fin 512) (l : Fin 1024)

theorem pay7_apply : k0_pay7 (F := Ideal) h (k0_pay5 h wa) (k0_pay6 wb) (constant (F := Ideal) S512x256 .f32 0x00000000#32) wo (ix2 r l) = part h wa wb wo r l := by
  pointwise [k0_pay7, k0_pay5, k0_pay6]; rfl
theorem pay8_apply : k0_pay8 (F := Ideal) h wa wb wo acc (ix2 r l) = acc (ix2 r l) + part h wa wb wo r l := by
  pointwise [k0_pay8]; rfl
theorem pay10_apply : k0_pay10 (F := Ideal) h (k0_pay9 wa) (constant (F := Ideal) S512x256 .f32 0x00000000#32) wb wo acc (ix2 r l) = acc (ix2 r l) + part h wa wb wo r l := by
  pointwise [k0_pay10, k0_pay9]; rfl
theorem pay11_apply : k0_pay12 (k0_pay11 (F := Ideal) h wa wb wo acc) (ix2 r l) = acc (ix2 r l) + part h wa wb wo r l := by
  pointwise [k0_pay12, k0_pay11]; rfl
theorem pay13_apply : k0_pay13 (F := Ideal) h wa wb wo acc (ix2 r l) = acc (ix2 r l) + part h wa wb wo r l := by
  pointwise [k0_pay13]; rfl
theorem pay16_apply : k0_pay16 (k0_pay14 (F := Ideal) h wa wb) (k0_pay15 wo) acc (ix2 r l) = acc (ix2 r l) + part h wa wb wo r l := by
  pointwise [k0_pay16, k0_pay15, k0_pay14]; rfl
theorem pay17_apply : k0_pay17 (F := Ideal) h wa wb wo acc (ix2 r l) = acc (ix2 r l) + part h wa wb wo r l := by
  pointwise [k0_pay17]; rfl
theorem pay20_apply : k0_pay20 (F := Ideal) h (k0_pay18 h wa) (k0_pay19 wb) wo acc (ix2 r l) = acc (ix2 r l) + part h wa wb wo r l := by
  pointwise [k0_pay20, k0_pay19, k0_pay18]; rfl
theorem pay21_apply : k0_pay21 (F := Ideal) h wa wb wo acc (ix2 r l) = acc (ix2 r l) + part h wa wb wo r l := by
  pointwise [k0_pay21]; rfl
theorem pay22_apply : k0_pay22 (F := Ideal) h wa wb wo acc (ix2 r l) = acc (ix2 r l) + part h wa wb wo r l := by
  pointwise [k0_pay22]; rfl
theorem pay23_apply : k0_pay1 (k0_pay23 (F := Ideal) h wa wb wo) acc (ix2 r l) = acc (ix2 r l) + part h wa wb wo r l := by
  pointwise [k0_pay1, k0_pay23]; rfl

/-- One chunk's part, when its weight blocks are cut at the chunk's offsets, is the chunk of the row's second product. -/
theorem part_chunk (x6 : FVec Ideal S1024x5632 .bf16) (x7 : FVec Ideal S2816x1024 .bf16) (c : Fin 11) (oa ob : Nat) (ha : oa = c.val * 256) (hb : ob = 2816 + c.val * 256) (ia ib io) :
    part h (wcol (F := Ideal) x6 oa ia) (wcol (F := Ideal) x6 ob ib) (wrow (F := Ideal) x7 oa io) r l
      = chunk (act (fun d => h (ix2 r d)) (fun d j => x6 (ix2 d j))) (fun k d => x7 (ix2 k d)) l c := by
  subst ha; subst hb
  refine Finset.sum_congr rfl fun k _ => ?_
  rw [wrow_apply x7 _ io k l (by omega)]
  simp only [fun d => wcol_apply x6 _ ia d k (by omega), fun d => wcol_apply x6 _ ib d k (by omega)]
  simp only [act, col, Nat.add_assoc]

/-- The accumulator after the eleven chunks is the row's second product. -/
theorem accAll_apply (x6 : FVec Ideal S1024x5632 .bf16) (x7 : FVec Ideal S2816x1024 .bf16) :
    accAll (F := Ideal) h x6 x7 (ix2 r l) = ffnRow (act (fun d => h (ix2 r d)) (fun d j => x6 (ix2 d j))) (fun k d => x7 (ix2 k d)) l := by
  unfold accAll
  simp only [pay23_apply, pay22_apply, pay21_apply, pay20_apply, pay17_apply, pay16_apply, pay13_apply, pay11_apply, pay10_apply, pay8_apply, pay7_apply]
  rw [ffnRow_chunks, part_chunk h r l x6 x7 0 0 2816 rfl rfl, part_chunk h r l x6 x7 1 256 3072 rfl rfl, part_chunk h r l x6 x7 2 512 3328 rfl rfl,
    part_chunk h r l x6 x7 3 768 3584 rfl rfl, part_chunk h r l x6 x7 4 1024 3840 rfl rfl, part_chunk h r l x6 x7 5 1280 4096 rfl rfl,
    part_chunk h r l x6 x7 6 1536 4352 rfl rfl, part_chunk h r l x6 x7 7 1792 4608 rfl rfl, part_chunk h r l x6 x7 8 2048 4864 rfl rfl,
    part_chunk h r l x6 x7 9 2304 5120 rfl rfl, part_chunk h r l x6 x7 10 2560 5376 rfl rfl]

/-- The output block at an index: the half step of the block's row. -/
theorem out_apply (x0 : FVec Ideal S512x1024 .f32) (x1 x2 x3 : FVec Ideal S1x512x1024 .f32) (x4 x5 : FVec Ideal S1x1024 .f32) (x6 : FVec Ideal S1024x5632 .bf16) (x7 : FVec Ideal S2816x1024 .bf16) :
    k0_pay2 (F := Ideal) (k0_pay3 x0) x3 (accAll (F := Ideal) (k0_pay4 (F := Ideal) x0 x4 x2 x1) x6 x7) x5 (ix2 r l)
      = row (fun d => x0 (ix2 r d)) (fun d => x1 (ix3 0 r d)) (fun d => x2 (ix3 0 r d)) (fun d => x3 (ix3 0 r d)) (fun d => x4 (ix2 0 d)) (fun d => x5 (ix2 0 d))
          (fun d j => x6 (ix2 d j)) (fun k d => x7 (ix2 k d)) l := by
  rw [pay2_apply]
  simp only [accAll_apply, pay4_apply]
  rfl

end Cert.Proof.FfnSampleOut

end
-- ==== Proof.FfnSampleRun.lean ====
/- Hand-written, untrusted: THE RUN OF THE SAMPLE BATCH'S FEED-FORWARD CALL WITH ITS RESULT NAMED, over the extended reals: row `R` of
   the result array is the half step `FfnMath.row` of token `R % 4` of sequence `R / 4` (`G`, `run`). The one grid point writes the whole
   array (`flushed8_eq`, `covered8`); the arrays the host prepared before the call (the weights' casts, the reshapes, the modulation rows
   repeated for each token of a sequence, `modV`) are the arguments at an index. -/
module

public import proofs.«01_k».proof.Proof.FfnSampleOut

@[expose] public section

set_option maxRecDepth 16384

noncomputable section

namespace Cert.Proof.FfnSampleRun

open Cert.FfnSampleIdeal Cert.FfnSampleIdeal.Gen Cert.FfnSampleIdeal.Value Idealize.ShloMosaic Idealize.ShloMosaic.TcCoe Idealize.SL.Sem
open Cert.Proof.FfnMath

variable (m : (ℓ : Loc nD τ sig) → Buf (Elt Ideal) ℓ) (ρ : Dev nD → PrngReg) (c : Dev nD)

/-- The argument arrays as vectors of extended reals. -/
abbrev a0 : FVec Ideal S128x4x1024 .f32 := m ((c : Thread nD τ).loc main_arg0)
abbrev a1 : FVec Ideal S128x1x1024 .f32 := m ((c : Thread nD τ).loc main_arg1)
abbrev a2 : FVec Ideal S128x1x1024 .f32 := m ((c : Thread nD τ).loc main_arg2)
abbrev a3 : FVec Ideal S128x1x1024 .f32 := m ((c : Thread nD τ).loc main_arg3)
abbrev a4 : FVec Ideal S1024 .f32 := m ((c : Thread nD τ).loc main_arg4)
abbrev a5 : FVec Ideal S1024 .f32 := m ((c : Thread nD τ).loc main_arg5)
abbrev a6 : FVec Ideal S1024x5632 .f32 := m ((c : Thread nD τ).loc main_arg6)
abbrev a7 : FVec Ideal S2816x1024 .f32 := m ((c : Thread nD τ).loc main_arg7)

/-- Row `R` of the result from the argument arrays. -/
def Gv (x : FVec Ideal S128x4x1024 .f32) (sh sc ga : FVec Ideal S128x1x1024 .f32) (g gp : FVec Ideal S1024 .f32)
    (wi : FVec Ideal S1024x5632 .f32) (wo : FVec Ideal S2816x1024 .f32) (R : Fin 512) (l : Fin 1024) : EReal :=
  row (fun d => x (ix3 (⟨R.val / 4, by omega⟩ : Fin 128) (⟨R.val % 4, by omega⟩ : Fin 4) d))
    (fun d => sh (ix3 (⟨R.val / 4, by omega⟩ : Fin 128) 0 d)) (fun d => sc (ix3 (⟨R.val / 4, by omega⟩ : Fin 128) 0 d))
    (fun d => ga (ix3 (⟨R.val / 4, by omega⟩ : Fin 128) 0 d)) (fun d => g (ix1 d)) (fun d => gp (ix1 d))
    (fun d j => wi (ix2 d j)) (fun k d => wo (ix2 k d)) l

/-- The result array as one function of the argument arrays. -/
def G : FVec Ideal S512x1024 .f32 := fun j => Gv (a0 m c) (a1 m c) (a2 m c) (a3 m c) (a4 m c) (a5 m c) (a6 m c) (a7 m c) (j 0) (j 1)

/-! ## The arrays the host prepared -/

/-- A sequence's modulation row, repeated for each of its four tokens. -/
def modV (x : FVec Ideal S128x1x1024 .f32) : FVec Ideal S1x512x1024 .f32 :=
  broadcastInDim S1x512x1024 ![1, 2] bcast_S512x1024_S1x512x1024_1_2 (shapeCast S512x1024
    (broadcastInDim S128x4x1024 ![0, 2] bcast_S128x1024_S128x4x1024_0_2 (shapeCast S128x1024 x shapeCasts_S128x1x1024_S128x1024)) shapeCasts_S128x4x1024_S512x1024)

theorem modV_apply (x : FVec Ideal S128x1x1024 .f32) (R : Fin 512) (d : Fin 1024) : modV x (ix3 0 R d) = x (ix3 (⟨R.val / 4, by omega⟩ : Fin 128) 0 d) := by
  pointwise [modV]

theorem V_v0 : V m c main_v0 = truncf (F := Ideal) .bf16 (a6 m c) bitsLt_bf16_f32 := by
  simp only [V, hostOps0]; after_results_simp <;> rfl
theorem V_v1 : V m c main_v1 = truncf (F := Ideal) .bf16 (a7 m c) bitsLt_bf16_f32 := by
  simp only [V, hostOps0]; after_results_simp <;> rfl
theorem V_v2 : V m c main_v2 = shapeCast S512x1024 (a0 m c) shapeCasts_S128x4x1024_S512x1024 := by
  simp only [V, hostOps0]; after_results_simp <;> rfl
theorem V_v6 : V m c main_v6 = modV (a1 m c) := by
  simp only [V, hostOps0]; after_results_simp <;> rfl
theorem V_v10 : V m c main_v10 = modV (a2 m c) := by
  simp only [V, hostOps0]; after_results_simp <;> rfl
theorem V_v14 : V m c main_v14 = modV (a3 m c) := by
  simp only [V, hostOps0]; after_results_simp <;> rfl
theorem V_v15 : V m c main_v15 = shapeCast S1x1024 (a4 m c) shapeCasts_S1024_S1x1024 := by
  simp only [V, hostOps0]; after_results_simp <;> rfl
theorem V_v16 : V m c main_v16 = shapeCast S1x1024 (a5 m c) shapeCasts_S1024_S1x1024 := by
  simp only [V, hostOps0]; after_results_simp <;> rfl

/-! ## The windows' blocks -/

theorem ix0 : ∀ t : Fin cfg0.N, win0_0.index t (0 : Fin 2) = t.val ∧ win0_0.index t (1 : Fin 2) = 0 := (by decide +kernel : ∀ t : Fin grid0.N, _)
theorem ix8 : ∀ t : Fin cfg0.N, win0_8.index t (0 : Fin 2) = t.val ∧ win0_8.index t (1 : Fin 2) = 0 := (by decide +kernel : ∀ t : Fin grid0.N, _)
theorem ix1w : ∀ t : Fin cfg0.N, win0_1.index t (0 : Fin 3) = 0 ∧ win0_1.index t (1 : Fin 3) = t.val ∧ win0_1.index t (2 : Fin 3) = 0 := (by decide +kernel : ∀ t : Fin grid0.N, _)
theorem ix2w : ∀ t : Fin cfg0.N, win0_2.index t (0 : Fin 3) = 0 ∧ win0_2.index t (1 : Fin 3) = t.val ∧ win0_2.index t (2 : Fin 3) = 0 := (by decide +kernel : ∀ t : Fin grid0.N, _)
theorem ix3w : ∀ t : Fin cfg0.N, win0_3.index t (0 : Fin 3) = 0 ∧ win0_3.index t (1 : Fin 3) = t.val ∧ win0_3.index t (2 : Fin 3) = 0 := (by decide +kernel : ∀ t : Fin grid0.N, _)
theorem ix4w : ∀ t : Fin cfg0.N, win0_4.index t (0 : Fin 2) = 0 ∧ win0_4.index t (1 : Fin 2) = 0 := (by decide +kernel : ∀ t : Fin grid0.N, _)
theorem ix5w : ∀ t : Fin cfg0.N, win0_5.index t (0 : Fin 2) = 0 ∧ win0_5.index t (1 : Fin 2) = 0 := (by decide +kernel : ∀ t : Fin grid0.N, _)
theorem ix6w : ∀ t : Fin cfg0.N, win0_6.index t (0 : Fin 2) = 0 ∧ win0_6.index t (1 : Fin 2) = 0 := (by decide +kernel : ∀ t : Fin grid0.N, _)
theorem ix7w : ∀ t : Fin cfg0.N, win0_7.index t (0 : Fin 2) = 0 ∧ win0_7.index t (1 : Fin 2) = 0 := (by decide +kernel : ∀ t : Fin grid0.N, _)

/-- Row `r` of point `t`'s block is row `512 t + r` of the array. -/
abbrev rowOf (t : Fin cfg0.N) (r : Fin 512) : Fin 512 := ⟨t.val * 512 + r.val, by have := t.isLt; have h : cfg0.N = 1 := rfl; omega⟩

theorem tlt (t : Fin cfg0.N) : t.val < 1 := t.isLt

theorem iblk0_apply (t : Fin cfg0.N) (r : Fin 512) (d : Fin 1024) :
    iblk m c 0 t (ix2 r d) = a0 m c (ix3 (⟨(rowOf t r).val / 4, by omega⟩ : Fin 128) (⟨(rowOf t r).val % 4, by omega⟩ : Fin 4) d) := by
  obtain ⟨e0, e1⟩ := ix0 t
  have he : ((cfg0.win 0).blk t).view.emb (ix2 r d) = ix2 (rowOf t r) d := by
    funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  show V m c main_v2 (((cfg0.win 0).blk t).view.emb (ix2 r d)) = _
  rw [he, V_v2]
  pointwise

theorem iblk1_apply (t : Fin cfg0.N) (r : Fin 512) (d : Fin 1024) :
    iblk m c 1 t (ix3 0 r d) = a1 m c (ix3 (⟨(rowOf t r).val / 4, by omega⟩ : Fin 128) 0 d) := by
  obtain ⟨e0, e1, e2⟩ := ix1w t
  have he : ((cfg0.win 1).blk t).view.emb (ix3 0 r d) = ix3 (0 : Fin 1) (rowOf t r) d := by
    funext a; apply Fin.ext
    match a with
    | ⟨0, _⟩ => show win0_1.index t (0 : Fin 3) * 1 + 1 * 0 = 0; omega
    | ⟨1, _⟩ => show win0_1.index t (1 : Fin 3) * 512 + 1 * r.val = t.val * 512 + r.val; omega
    | ⟨2, _⟩ => show win0_1.index t (2 : Fin 3) * 1024 + 1 * d.val = d.val; omega
  show V m c main_v6 (((cfg0.win 1).blk t).view.emb (ix3 0 r d)) = _
  rw [he, V_v6, modV_apply]

theorem iblk2_apply (t : Fin cfg0.N) (r : Fin 512) (d : Fin 1024) :
    iblk m c 2 t (ix3 0 r d) = a2 m c (ix3 (⟨(rowOf t r).val / 4, by omega⟩ : Fin 128) 0 d) := by
  obtain ⟨e0, e1, e2⟩ := ix2w t
  have he : ((cfg0.win 2).blk t).view.emb (ix3 0 r d) = ix3 (0 : Fin 1) (rowOf t r) d := by
    funext a; apply Fin.ext
    match a with
    | ⟨0, _⟩ => show win0_2.index t (0 : Fin 3) * 1 + 1 * 0 = 0; omega
    | ⟨1, _⟩ => show win0_2.index t (1 : Fin 3) * 512 + 1 * r.val = t.val * 512 + r.val; omega
    | ⟨2, _⟩ => show win0_2.index t (2 : Fin 3) * 1024 + 1 * d.val = d.val; omega
  show V m c main_v10 (((cfg0.win 2).blk t).view.emb (ix3 0 r d)) = _
  rw [he, V_v10, modV_apply]

theorem iblk3_apply (t : Fin cfg0.N) (r : Fin 512) (d : Fin 1024) :
    iblk m c 3 t (ix3 0 r d) = a3 m c (ix3 (⟨(rowOf t r).val / 4, by omega⟩ : Fin 128) 0 d) := by
  obtain ⟨e0, e1, e2⟩ := ix3w t
  have he : ((cfg0.win 3).blk t).view.emb (ix3 0 r d) = ix3 (0 : Fin 1) (rowOf t r) d := by
    funext a; apply Fin.ext
    match a with
    | ⟨0, _⟩ => show win0_3.index t (0 : Fin 3) * 1 + 1 * 0 = 0; omega
    | ⟨1, _⟩ => show win0_3.index t (1 : Fin 3) * 512 + 1 * r.val = t.val * 512 + r.val; omega
    | ⟨2, _⟩ => show win0_3.index t (2 : Fin 3) * 1024 + 1 * d.val = d.val; omega
  show V m c main_v14 (((cfg0.win 3).blk t).view.emb (ix3 0 r d)) = _
  rw [he, V_v14, modV_apply]

theorem iblk4_apply (t : Fin cfg0.N) (d : Fin 1024) : iblk m c 4 t (ix2 0 d) = a4 m c (ix1 d) := by
  obtain ⟨e0, e1⟩ := ix4w t
  have he : ((cfg0.win 4).blk t).view.emb (ix2 0 d) = ix2 (0 : Fin 1) d := by
    funext a; apply Fin.ext
    match a with
    | ⟨0, _⟩ => show win0_4.index t (0 : Fin 2) * 1 + 1 * 0 = 0; omega
    | ⟨1, _⟩ => show win0_4.index t (1 : Fin 2) * 1024 + 1 * d.val = d.val; omega
  show V m c main_v15 (((cfg0.win 4).blk t).view.emb (ix2 0 d)) = _
  rw [he, V_v15]
  pointwise

theorem iblk5_apply (t : Fin cfg0.N) (d : Fin 1024) : iblk m c 5 t (ix2 0 d) = a5 m c (ix1 d) := by
  obtain ⟨e0, e1⟩ := ix5w t
  have he : ((cfg0.win 5).blk t).view.emb (ix2 0 d) = ix2 (0 : Fin 1) d := by
    funext a; apply Fin.ext
    match a with
    | ⟨0, _⟩ => show win0_5.index t (0 : Fin 2) * 1 + 1 * 0 = 0; omega
    | ⟨1, _⟩ => show win0_5.index t (1 : Fin 2) * 1024 + 1 * d.val = d.val; omega
  show V m c main_v16 (((cfg0.win 5).blk t).view.emb (ix2 0 d)) = _
  rw [he, V_v16]
  pointwise

theorem iblk6_apply (t : Fin cfg0.N) (d : Fin 1024) (j : Fin 5632) : iblk m c 6 t (ix2 d j) = a6 m c (ix2 d j) := by
  obtain ⟨e0, e1⟩ := ix6w t
  show V m c main_v0 (((cfg0.win 6).blk t).view.emb (ix2 d j)) = _
  rw [V_v0]
  refine congrArg (a6 m c) (funext fun a => Fin.ext ?_)
  match a with
  | ⟨0, _⟩ => show win0_6.index t (0 : Fin 2) * 1024 + 1 * d.val = d.val; omega
  | ⟨1, _⟩ => show win0_6.index t (1 : Fin 2) * 5632 + 1 * j.val = j.val; omega

theorem iblk7_apply (t : Fin cfg0.N) (k : Fin 2816) (d : Fin 1024) : iblk m c 7 t (ix2 k d) = a7 m c (ix2 k d) := by
  obtain ⟨e0, e1⟩ := ix7w t
  show V m c main_v1 (((cfg0.win 7).blk t).view.emb (ix2 k d)) = _
  rw [V_v1]
  refine congrArg (a7 m c) (funext fun a => Fin.ext ?_)
  match a with
  | ⟨0, _⟩ => show win0_7.index t (0 : Fin 2) * 2816 + 1 * k.val = k.val; omega
  | ⟨1, _⟩ => show win0_7.index t (1 : Fin 2) * 1024 + 1 * d.val = d.val; omega

/-- An index of the output window's block as an index of the array. -/
theorem emb8 (t : Fin cfg0.N) (r : Fin 512) (l : Fin 1024) : ((cfg0.win 8).blk t).view.emb (ix2 r l) = ix2 (rowOf t r) l := by
  obtain ⟨e0, e1⟩ := ix8 t
  funext a; apply Fin.ext
  match a with
  | ⟨0, _⟩ => show win0_8.index t (0 : Fin 2) * 512 + 1 * r.val = t.val * 512 + r.val; omega
  | ⟨1, _⟩ => show win0_8.index t (1 : Fin 2) * 1024 + 1 * l.val = l.val; omega

/-- What point `t` writes back is its block of `G`. -/
theorem flushed8_eq (t : Fin cfg0.N) :
    (dats m 0 c).flushed 8 t = ((cfg0.win 8).blk t).view.read (Elt Ideal) (G m c) := by
  rw [flushed8_A, FfnSampleOut.out_eq]
  funext j
  obtain ⟨r, l, rfl⟩ : ∃ (r : Fin 512) (l : Fin 1024), j = ix2 r l := ⟨j 0, j 1, eq_ix2 j⟩
  show k0_pay2 (F := Ideal) _ _ _ _ (ix2 r l) = G m c (((cfg0.win 8).blk t).view.emb (ix2 r l))
  rw [emb8, FfnSampleOut.out_apply]
  simp only [iblk0_apply, iblk1_apply, iblk2_apply, iblk3_apply, iblk4_apply, iblk5_apply, iblk6_apply, iblk7_apply]
  rfl

/-- The one block covers the result array. -/
theorem covered8 (i : S512x1024.Idx) : ∃ t : Fin cfg0.N, (cfg0.win 8).flush t = true ∧ i ∈ ((cfg0.win 8).blk t).view.set := by
  obtain ⟨R, l, rfl⟩ : ∃ (R : Fin 512) (l : Fin 1024), i = ix2 R l := ⟨i 0, i 1, eq_ix2 i⟩
  refine ⟨(⟨R.val / 512, by show _ < 1; omega⟩ : Fin cfg0.N), flush0_8 _, ?_⟩
  have h := ((cfg0.win 8).blk (⟨R.val / 512, by show _ < 1; omega⟩ : Fin cfg0.N)).view.emb_mem_set (ix2 (⟨R.val % 512, by omega⟩ : Fin 512) l)
  rw [emb8] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

/-- The run with the result array at its function of the arguments. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((dats m 0 c).arrAt_eq_of_cover 8 (G m c) (fun t _ => flushed8_eq m c t) covered8), (h c).2⟩)
    (run_blocks m ρ)

end Cert.Proof.FfnSampleRun

end
-- ==== Proof.FfnSampleRef.lean ====
/- Hand-written, untrusted: WHAT THE REFERENCE OF THE SAMPLE BATCH'S FEED-FORWARD CALL RETURNS, at an index: row `R` of its result is the
   half step `FfnMath.row` of token `R % 4` of sequence `R / 4` (`out_apply`). The generated reading of the printed
   operations is cited stage by stage. -/
module

public import proofs.«01_k».proof.Proof.Gen.FfnSampleReferenceIdeal.Read
public import proofs.«01_k».proof.Proof.FfnMath

@[expose] public section

noncomputable section

namespace Cert.Proof.FfnSampleRef

open Cert.FfnSampleReferenceIdeal Cert.FfnSampleReferenceIdeal.Read Idealize.ShloMosaic Idealize.ShloMosaic.TcCoe Cert.Proof.FfnMath

/-- The modulated norm of a token. -/
theorem mod_apply (x : FVec Ideal S128x4x1024 .f32) (sh sc : FVec Ideal S128x1x1024 .f32) (g : FVec Ideal S1024 .f32)
    (b : Fin 128) (s : Fin 4) (l : Fin 1024) :
    val_main_v18 (F := Ideal) x sh sc g (ix3 b s l)
      = modRow (fun d => x (ix3 b s d)) (fun d => g (ix1 d)) (fun d => sc (ix3 b 0 d)) (fun d => sh (ix3 b 0 d)) l := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- A hidden unit of a token. -/
theorem act_apply (x : FVec Ideal S128x4x1024 .f32) (sh sc : FVec Ideal S128x1x1024 .f32) (g : FVec Ideal S1024 .f32)
    (wi : FVec Ideal S1024x5632 .f32) (b : Fin 128) (s : Fin 4) (k : Fin 2816) :
    val_main_v23 (F := Ideal) x sh sc g wi (ix3 b s k)
      = act (fun d => val_main_v18 (F := Ideal) x sh sc g (ix3 b s d)) (fun d j => wi (ix2 d j)) k := by
  pointwise [val_main_v23, val_main_v22, val_main_call0_v5, val_main_call0_v4, val_main_call0_cst_0, val_main_call0_v3, val_main_call0_v2, val_main_call0_cst, val_main_call0_v1, val_main_call0_v0, val_main_v21, val_main_v20, val_main_v19]
  rfl

/-- A row of the result. -/
theorem out_apply (x : FVec Ideal S128x4x1024 .f32) (sh sc ga : FVec Ideal S128x1x1024 .f32) (g gp : FVec Ideal S1024 .f32)
    (wi : FVec Ideal S1024x5632 .f32) (wo : FVec Ideal S2816x1024 .f32) (R : Fin 512) (l : Fin 1024) :
    val_main_v43 (F := Ideal) x sh sc ga g gp wi wo (ix2 R l)
      = row (fun d => x (ix3 (⟨R.val / 4, by omega⟩ : Fin 128) (⟨R.val % 4, by omega⟩ : Fin 4) d))
          (fun d => sh (ix3 (⟨R.val / 4, by omega⟩ : Fin 128) 0 d)) (fun d => sc (ix3 (⟨R.val / 4, by omega⟩ : Fin 128) 0 d))
          (fun d => ga (ix3 (⟨R.val / 4, by omega⟩ : Fin 128) 0 d)) (fun d => g (ix1 d)) (fun d => gp (ix1 d))
          (fun d j => wi (ix2 d j)) (fun k d => wo (ix2 k d)) l := by
  pointwise [val_main_v43, val_main_v42, val_main_v41, val_main_v40, val_main_v39, val_main_v38, val_main_v37, val_main_v36, val_main_v35, val_main_v34, val_main_v33, val_main_v32, val_main_cst_6, val_main_v31, val_main_v30, val_main_cst_5, val_main_v29, val_main_v28, val_main_cst_4, val_main_v27, val_main_v26, val_main_v25, val_main_cst_3, val_main_v24]
  simp only [act_apply, mod_apply]
  rfl

end Cert.Proof.FfnSampleRef

end
-- ==== Proof.FfnSampleClaim.lean ====
/- Hand-written, untrusted: THE CLAIMS ABOUT THE SAMPLE BATCH'S FEED-FORWARD CALL. The kernel's frame at machine words and over the
   extended reals (generated), the reference's frame (its generated run; it declares no semaphore), and the value claim: the
   kernel's run (FfnSampleRun.lean) and the reference's run end with the same array, the half step of each row. -/
module

public import proofs.«01_k».proof.Defs
public import proofs.«01_k».proof.Proof.Gen.FfnSample
public import proofs.«01_k».proof.Proof.Gen.FfnSample.Frame
public import proofs.«01_k».proof.Proof.FfnSampleRun
public import proofs.«01_k».proof.Proof.FfnSampleRef

@[expose] public section

noncomputable section

namespace Cert.Proof.FfnSampleClaim

open Idealize.ShloMosaic Idealize.ShloMosaic.TcCoe Idealize.SL.Sem

/-- The kernel over machine words runs, changes no argument, and leaves every semaphore at zero. -/
theorem frame_bits : Cert.quiescent_FfnSample (hFfnSample := Cert.FfnSample.Gen.facts) := fun m ρ _ => Cert.FfnSample.Gen.frame m ρ

/-- The same over the extended reals. -/
theorem frame_ideal : Cert.quiescent_FfnSampleIdeal (hFfnSampleIdeal := Cert.FfnSampleIdeal.Gen.facts) := fun m ρ _ => Cert.FfnSampleIdeal.Gen.frame m ρ

/-- The reference runs and changes no argument. -/
theorem frame_ref : Cert.quiescent_FfnSampleReferenceIdeal (hFfnSampleReferenceIdeal := Cert.FfnSampleReferenceIdeal.Gen.facts) := fun m ρ _ =>
  (θ_run Cert.FfnSampleReferenceIdeal.defs _ _).mono (fun r h => ⟨fun c => (h c).2, sem_eq_zero_of_no_sems (by decide) r.2⟩)
    (Cert.FfnSampleReferenceIdeal.Value.run (F := Ideal) m ρ)

/-- The kernel's result is the reference's, element by element, over the extended reals. -/
theorem value : Cert.algebraic_FfnSampleIdeal_FfnSampleReferenceIdeal (hFfnSampleIdeal := Cert.FfnSampleIdeal.Gen.facts) (hFfnSampleReferenceIdeal := Cert.FfnSampleReferenceIdeal.Gen.facts) := by
  intro m g m' g' _ hm
  refine ⟨fun c => FfnSampleRun.G m c, FfnSampleRun.run m g, ?_⟩
  refine (θ_run Cert.FfnSampleReferenceIdeal.defs _ _).mono (fun r h c => ⟨(h c).1.trans ?_, (h c).2⟩)
    (Cert.FfnSampleReferenceIdeal.Value.run (F := Ideal) m' g')
  obtain ⟨h0, h1, h2, h3, h4, h5, h6, h7⟩ := hm c
  rw [Cert.FfnSampleReferenceIdeal.Read.val_main_v43_eq, h0, h1, h2, h3, h4, h5, h6, h7]
  funext j
  obtain ⟨R, l, rfl⟩ : ∃ (R : Fin 512) (l : Fin 1024), j = ix2 R l := ⟨j 0, j 1, eq_ix2 j⟩
  exact FfnSampleRef.out_apply _ _ _ _ _ _ _ _ R l

end Cert.Proof.FfnSampleClaim

end
-- ==== Proof.MixInSampleOut.lean ====
/- Hand-written, untrusted: WHAT ONE GRID POINT OF THE MIXER'S PROJECTIONS OF THE SAMPLE BATCH LEAVES IN ITS EIGHT OUTPUT BLOCKS. First, at any float
   values, each block as its stores of the printed payloads of the input blocks (`out_eq8` to `out_eq15`): the normed rows are stored
   once and read back whole before each product. Then, over the extended reals, each payload at an index, and each block at an index as
   columns of the row's projection (`MixInMath.proj`), rotated for the queries and the keys (`MixInMath.ropeT`). -/
module

public import proofs.«01_k».proof.Proof.Gen.MixInSampleIdeal.Frame
public import proofs.«01_k».proof.Proof.MixInMath
public import Idealize.ShloMosaic.Lib.Pipeline.ValueKit.Acc
public import Idealize.ShloMosaic.Lib.Pipeline.ValueKit.Tiles

@[expose] public section

set_option maxRecDepth 16384

noncomputable section

namespace Cert.Proof.MixInSampleOut

open Cert.MixInSampleIdeal Cert.MixInSampleIdeal.Gen Idealize.ShloMosaic Idealize.ShloMosaic.TcCoe Idealize.SL.Sem
open Cert.Proof.FfnMath Cert.Proof.MixInMath

section Any
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A load of the whole of a buffer whose last store was of the whole reads that store's value. -/
theorem rc {e : EltTy} {κ : Kind} {sp : Space} {sig : RefSig} (v : View sig κ sp S512x1024 e) (inb inb' : ∀ a, (![0, 0] : Fin 2 → Nat) a + (![512, 1024] : Fin 2 → Nat) a ≤ S512x1024.size a)
    (w : S512x1024.Idx → Elt F e) (L : List (View.Piece (Elt F) S512x1024 e)) :
    v.readCov ((⟨Rect.unit (s := S512x1024) ![0, 0] ![512, 1024] inb, w⟩ : View.Piece (Elt F) S512x1024 e) :: L) (Rect.unit (s := S512x1024) ![0, 0] ![512, 1024] inb').toLoadRect = w :=
  View.readCov_cons_unit_lit' v inb inb' w L (fun a => by fin_cases a <;> rfl) (fun a => by fin_cases a <;> rfl)

/-- The normed rows, as stored. -/
abbrev hid (x0 : Vec F S512x1024 .f32) (x1 x2 : Vec F S1x512x1024 .f32) (x3 : Vec F S1x1024 .f32) : Vec F S512x1024 .bf16 := k0_pay2 x0 x3 x2 x1

/-- 512 columns of the weights from column `o`. -/
def wcol (x4 : Vec F S1024x3712 .bf16) (o : Nat) (inb : ∀ a, (![0, o] : Fin 2 → Nat) a + S1024x512.size a ≤ S1024x3712.size a) : Vec F S1024x512 .bf16 :=
  View.ld x4 (Rect.unit (s := S1024x3712) ![0, o] S1024x512.size inb)

/-- 128 columns of the weights from column `o`. -/
def wcolb (x4 : Vec F S1024x3712 .bf16) (o : Nat) (inb : ∀ a, (![0, o] : Fin 2 → Nat) a + S1024x128.size a ≤ S1024x3712.size a) : Vec F S1024x128 .bf16 :=
  View.ld x4 (Rect.unit (s := S1024x3712) ![0, o] S1024x128.size inb)

/-! The core, the grid point, the buffers the grid point works on, and the contents of its inputs. -/

variable (c : Dev nD) (i : grid0.Coords)
  (arg1 : Memref sig .tc .vmem S512x1024 .f32) (h1 : arg1.IsWhole) (arg2 : Memref sig .tc .vmem S1x512x1024 .f32) (h2 : arg2.IsWhole) (arg3 : Memref sig .tc .vmem S1x512x1024 .f32) (h3 : arg3.IsWhole)
  (arg4 : Memref sig .tc .vmem S1x1024 .f32) (h4 : arg4.IsWhole) (arg5 : Memref sig .tc .vmem S1024x3712 .bf16) (h5 : arg5.IsWhole) (arg6 : Memref sig .tc .vmem S512x128 .f32) (h6 : arg6.IsWhole)
  (arg7 : Memref sig .tc .vmem S512x128 .f32) (h7 : arg7.IsWhole) (arg8 : Memref sig .tc .vmem S512x128 .f32) (h8 : arg8.IsWhole) (arg9 : Memref sig .tc .vmem S512x1536 .f32) (h9 : arg9.IsWhole)
  (arg10 : Memref sig .tc .vmem S512x512 .f32) (h10 : arg10.IsWhole) (arg11 : Memref sig .tc .vmem S512x128 .f32) (h11 : arg11.IsWhole) (arg12 : Memref sig .tc .vmem S512x512 .bf16) (h12 : arg12.IsWhole)
  (arg13 : Memref sig .tc .vmem S512x512 .f32) (h13 : arg13.IsWhole) (arg14 : Memref sig .tc .vmem S512x512 .bf16) (h14 : arg14.IsWhole) (arg15 : Memref sig .tc .vmem S512x512 .f32) (h15 : arg15.IsWhole)
  (arg16 : Memref sig .tc .vmem S512x512 .bf16) (h16 : arg16.IsWhole) (arg17 : Memref sig .tc .vmem S512x1024 .bf16) (h17 : arg17.IsWhole)
  (x0 : Vec F S512x1024 .f32) (x1 : Vec F S1x512x1024 .f32) (x2 : Vec F S1x512x1024 .f32) (x3 : Vec F S1x1024 .f32) (x4 : Vec F S1024x3712 .bf16) (x5 : Vec F S512x128 .f32) (x6 : Vec F S512x128 .f32) (x7 : Vec F S512x128 .f32)

/-- The stores of output block 8. -/
theorem out_eq8 :
    out0_A_8 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x1536) ![0, 1024] ![512, 512] inb_S512x1536_S512x512_0_1024,
          k0_pay5 (hid x0 x1 x2 x3) (wcol x4 1024 inb_S1024x3712_S1024x512_0_1024)⟩,
        ⟨Rect.unit (s := S512x1536) ![0, 512] ![512, 512] inb_S512x1536_S512x512_0_512,
          k0_pay4 (hid x0 x1 x2 x3) (wcol x4 512 inb_S1024x3712_S1024x512_0_512)⟩,
        ⟨Rect.unit (s := S512x1536) ![0, 0] ![512, 512] inb_S512x1536_S512x512_0_0,
          k0_pay3 (hid x0 x1 x2 x3) (wcol x4 0 inb_S1024x3712_S1024x512_0_0)⟩] := by
  unfold out0_A_8
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

/-- The stores of output block 9. -/
theorem out_eq9 :
    out0_A_9 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 0] ![512, 512] inb_S512x512_S512x512_0_0,
          k0_pay6 (hid x0 x1 x2 x3) (wcol x4 1536 inb_S1024x3712_S1024x512_0_1536)⟩] := by
  unfold out0_A_9
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

/-- The stores of output block 10. -/
theorem out_eq10 :
    out0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x128) ![0, 0] ![512, 128] inb_S512x128_S512x128_0_0,
          k0_pay7 (hid x0 x1 x2 x3) (wcolb x4 3584 inb_S1024x3712_S1024x128_0_3584)⟩] := by
  unfold out0_A_10
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

/-- The stores of output block 11. -/
theorem out_eq11 :
    out0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 384] ![512, 128] inb_S512x512_S512x128_0_384,
          k0_pay17 (k0_pay8 x5) (k0_pay9 x6) (k0_pay10 x7) (k0_pay11 (hid x0 x1 x2 x3) (wcol x4 2048 inb_S1024x3712_S1024x512_0_2048))⟩,
        ⟨Rect.unit (s := S512x512) ![0, 256] ![512, 128] inb_S512x512_S512x128_0_256,
          k0_pay16 (k0_pay14 (k0_pay8 x5) (k0_pay9 x6) x7 (hid x0 x1 x2 x3) (wcol x4 2048 inb_S1024x3712_S1024x512_0_2048)) k0_pay15⟩,
        ⟨Rect.unit (s := S512x512) ![0, 128] ![512, 128] inb_S512x512_S512x128_0_128,
          k0_pay13 (k0_pay8 x5) (k0_pay9 x6) x7 (hid x0 x1 x2 x3) (wcol x4 2048 inb_S1024x3712_S1024x512_0_2048)⟩,
        ⟨Rect.unit (s := S512x512) ![0, 0] ![512, 128] inb_S512x512_S512x128_0_0,
          k0_pay12 (k0_pay8 x5) (k0_pay9 x6) x7 (hid x0 x1 x2 x3) (wcol x4 2048 inb_S1024x3712_S1024x512_0_2048)⟩] := by
  unfold out0_A_11
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

/-- The stores of output block 12. -/
theorem out_eq12 :
    out0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 384] ![512, 128] inb_S512x512_S512x128_0_384,
          k0_pay28 (k0_pay8 x5) (k0_pay9 x6) (k0_pay10 x7) (k0_pay18 (hid x0 x1 x2 x3) (wcol x4 2560 inb_S1024x3712_S1024x512_0_2560))⟩,
        ⟨Rect.unit (s := S512x512) ![0, 256] ![512, 128] inb_S512x512_S512x128_0_256,
          k0_pay26 (k0_pay8 x5) (k0_pay9 x6) (k0_pay10 x7) (k0_pay18 (hid x0 x1 x2 x3) (wcol x4 2560 inb_S1024x3712_S1024x512_0_2560))⟩,
        ⟨Rect.unit (s := S512x512) ![0, 128] ![512, 128] inb_S512x512_S512x128_0_128,
          k0_pay24 (k0_pay10 x7) (k0_pay22 (k0_pay8 x5) (k0_pay9 x6) (hid x0 x1 x2 x3) (wcol x4 2560 inb_S1024x3712_S1024x512_0_2560)) (k0_pay23 (hid x0 x1 x2 x3) (wcol x4 2560 inb_S1024x3712_S1024x512_0_2560))⟩,
        ⟨Rect.unit (s := S512x512) ![0, 0] ![512, 128] inb_S512x512_S512x128_0_0,
          k0_pay19 (k0_pay8 x5) (k0_pay9 x6) (k0_pay10 x7) (hid x0 x1 x2 x3) (wcol x4 2560 inb_S1024x3712_S1024x512_0_2560)⟩] := by
  unfold out0_A_12
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

/-- The stores of output block 13. -/
theorem out_eq13 :
    out0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 384] ![512, 128] inb_S512x512_S512x128_0_384,
          k0_pay29 (k0_pay8 x5) (k0_pay9 x6) (k0_pay10 x7) (k0_pay18 (hid x0 x1 x2 x3) (wcol x4 2560 inb_S1024x3712_S1024x512_0_2560))⟩,
        ⟨Rect.unit (s := S512x512) ![0, 256] ![512, 128] inb_S512x512_S512x128_0_256,
          k0_pay27 (k0_pay8 x5) (k0_pay9 x6) (k0_pay10 x7) (k0_pay18 (hid x0 x1 x2 x3) (wcol x4 2560 inb_S1024x3712_S1024x512_0_2560))⟩,
        ⟨Rect.unit (s := S512x512) ![0, 128] ![512, 128] inb_S512x512_S512x128_0_128,
          k0_pay25 (k0_pay10 x7) (k0_pay22 (k0_pay8 x5) (k0_pay9 x6) (hid x0 x1 x2 x3) (wcol x4 2560 inb_S1024x3712_S1024x512_0_2560)) (k0_pay23 (hid x0 x1 x2 x3) (wcol x4 2560 inb_S1024x3712_S1024x512_0_2560))⟩,
        ⟨Rect.unit (s := S512x512) ![0, 0] ![512, 128] inb_S512x512_S512x128_0_0,
          k0_pay20 (k0_pay8 x5) (k0_pay9 x6) (k0_pay10 x7) (hid x0 x1 x2 x3) (wcol x4 2560 inb_S1024x3712_S1024x512_0_2560)⟩] := by
  unfold out0_A_13
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

/-- The stores of output block 14. -/
theorem out_eq14 :
    out0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 0] ![512, 512] inb_S512x512_S512x512_0_0,
          k0_pay30 (hid x0 x1 x2 x3) (wcol x4 3072 inb_S1024x3712_S1024x512_0_3072)⟩] := by
  unfold out0_A_14
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

/-- The stores of output block 15. -/
theorem out_eq15 :
    out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7
      = View.canon [⟨Rect.unit (s := S512x512) ![0, 0] ![512, 512] inb_S512x512_S512x512_0_0,
          k0_pay1 (k0_pay30 (hid x0 x1 x2 x3) (wcol x4 3072 inb_S1024x3712_S1024x512_0_3072))⟩] := by
  unfold out0_A_15
  rw [View.read_writes_junk_eq_canon]
  unfold kernelRun0_A
  dsimp only
  sl_unfold_words
  simp only [rc, View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S1x1024) hz, View.ld_unit_zero (S := S1x512x1024) hz3]
  rfl

end Any

variable (x0 : FVec Ideal S512x1024 .f32) (x1 x2 : FVec Ideal S1x512x1024 .f32) (x3 : FVec Ideal S1x1024 .f32) (x4 : FVec Ideal S1024x3712 .bf16)
  (x5 x6 x7 : FVec Ideal S512x128 .f32) (h : FVec Ideal S512x1024 .bf16) (w : FVec Ideal S1024x512 .bf16) (r : Fin 512)

theorem wcol_apply (o : Nat) (inb : ∀ a, (![0, o] : Fin 2 → Nat) a + S1024x512.size a ≤ S1024x3712.size a) (d : Fin 1024) (k : Fin 512)
    (hk : o + k.val < 3712) : wcol (F := Ideal) x4 o inb (ix2 d k) = x4 (ix2 d ⟨o + k.val, hk⟩) := by
  refine congrArg x4 (funext fun a => Fin.ext ?_)
  match a with
  | ⟨0, _⟩ => show 0 + 1 * d.val = d.val; omega
  | ⟨1, _⟩ => show o + 1 * k.val = o + k.val; omega

theorem wcolb_apply (o : Nat) (inb : ∀ a, (![0, o] : Fin 2 → Nat) a + S1024x128.size a ≤ S1024x3712.size a) (d : Fin 1024) (k : Fin 128)
    (hk : o + k.val < 3712) : wcolb (F := Ideal) x4 o inb (ix2 d k) = x4 (ix2 d ⟨o + k.val, hk⟩) := by
  refine congrArg x4 (funext fun a => Fin.ext ?_)
  match a with
  | ⟨0, _⟩ => show 0 + 1 * d.val = d.val; omega
  | ⟨1, _⟩ => show o + 1 * k.val = o + k.val; omega

/-- The modulated normed row of a block's row. -/
def hrow : Fin 1024 → EReal := modRow (fun d => x0 (ix2 r d)) (fun d => x3 (ix2 0 d)) (fun d => x2 (ix3 0 r d)) (fun d => x1 (ix3 0 r d))

theorem hid_apply (l : Fin 1024) : hid (F := Ideal) x0 x1 x2 x3 (ix2 r l) = hrow x0 x1 x2 x3 r l := by
  unfold hid
  pointwise [k0_pay2]
  rfl

/-- A column of the product with a block of 512 columns of the weights is a column of the projection. -/
def mm (k : Fin 512) : EReal := ∑ d, h (ix2 r d) * w (ix2 d k)

/-- The projection of a block's row. -/
def pr (k : ℕ) : EReal := proj (hrow x0 x1 x2 x3 r) (fun d j => x4 (ix2 d j)) k

theorem mm_eq (o : Nat) (inb) (ho : o + 512 ≤ 3712) (k : Fin 512) :
    mm (hid (F := Ideal) x0 x1 x2 x3) (wcol (F := Ideal) x4 o inb) r k = pr x0 x1 x2 x3 x4 r (o + k.val) := by
  unfold mm pr
  rw [proj_of_lt _ _ _ (show o + k.val < 3712 by omega)]
  refine Finset.sum_congr rfl fun d _ => ?_
  rw [hid_apply, wcol_apply x4 o inb d k (by omega)]

theorem pay3_apply (l : Fin 512) : k0_pay3 (F := Ideal) h w (ix2 r l) = mm h w r l := by pointwise [k0_pay3]; rfl
theorem pay4_apply (l : Fin 512) : k0_pay4 (F := Ideal) h w (ix2 r l) = mm h w r l := by pointwise [k0_pay4]; rfl
theorem pay5_apply (l : Fin 512) : k0_pay5 (F := Ideal) h w (ix2 r l) = mm h w r l := by pointwise [k0_pay5]; rfl
theorem pay6_apply (l : Fin 512) : k0_pay6 (F := Ideal) h w (ix2 r l) = mm h w r l := by pointwise [k0_pay6]; rfl
theorem pay28_apply (l : Fin 512) : k0_pay30 (F := Ideal) h w (ix2 r l) = mm h w r l := by pointwise [k0_pay30]; rfl
theorem pay1_apply (l : Fin 512) : k0_pay1 (F := Ideal) (k0_pay30 h w) (ix2 r l) = mm h w r l := by pointwise [k0_pay1, k0_pay30]; rfl
theorem pay7_apply (wb : FVec Ideal S1024x128 .bf16) (l : Fin 128) : k0_pay7 (F := Ideal) h wb (ix2 r l) = ∑ d, h (ix2 r d) * wb (ix2 d l) := by
  pointwise [k0_pay7]

variable (l : Fin 128)

/-- A band of the rotation of the product. -/
abbrev bnd (o : ℕ) (ho : o + 128 ≤ 512) : EReal := band (mm h w r) (fun l => x5 (ix2 r l)) (fun l => x6 (ix2 r l)) (fun l => x7 (ix2 r l)) o ho l

theorem pay12_apply : k0_pay12 (F := Ideal) (k0_pay8 x5) (k0_pay9 x6) x7 h w (ix2 r l)
    = bnd x5 x6 x7 h w r l 0 (by omega) * Ideal.ofBits FTy.f32 1040187392#32 := by
  unfold bnd band mm
  pointwise [k0_pay12, k0_pay11, k0_pay8, k0_pay9, k0_pay10]

theorem pay13_apply : k0_pay13 (F := Ideal) (k0_pay8 x5) (k0_pay9 x6) x7 h w (ix2 r l)
    = bnd x5 x6 x7 h w r l 128 (by omega) * Ideal.ofBits FTy.f32 1040187392#32 := by
  unfold bnd band mm
  pointwise [k0_pay13, k0_pay11, k0_pay8, k0_pay9, k0_pay10]

theorem pay15_apply : k0_pay16 (F := Ideal) (k0_pay14 (k0_pay8 x5) (k0_pay9 x6) x7 h w) k0_pay15 (ix2 r l)
    = bnd x5 x6 x7 h w r l 256 (by omega) * Ideal.ofBits FTy.f32 1040187392#32 := by
  unfold bnd band mm
  pointwise [k0_pay16, k0_pay15, k0_pay14, k0_pay11, k0_pay8, k0_pay9, k0_pay10]

theorem pay16_apply : k0_pay17 (F := Ideal) (k0_pay8 x5) (k0_pay9 x6) (k0_pay10 x7) (k0_pay11 h w) (ix2 r l)
    = bnd x5 x6 x7 h w r l 384 (by omega) * Ideal.ofBits FTy.f32 1040187392#32 := by
  unfold bnd band mm
  pointwise [k0_pay17, k0_pay11, k0_pay8, k0_pay9, k0_pay10]

theorem pay18_apply : k0_pay19 (F := Ideal) (k0_pay8 x5) (k0_pay9 x6) (k0_pay10 x7) h w (ix2 r l)
    = bnd x5 x6 x7 h w r l 0 (by omega) := by
  unfold bnd band mm
  pointwise [k0_pay19, k0_pay18, k0_pay8, k0_pay9, k0_pay10]

theorem pay19_apply : k0_pay20 (F := Ideal) (k0_pay8 x5) (k0_pay9 x6) (k0_pay10 x7) h w (ix2 r l)
    = bnd x5 x6 x7 h w r l 0 (by omega) := by
  unfold bnd band mm
  pointwise [k0_pay20, k0_pay19, k0_pay18, k0_pay8, k0_pay9, k0_pay10]

theorem pay22_apply : k0_pay24 (F := Ideal) (k0_pay10 x7) (k0_pay22 (k0_pay8 x5) (k0_pay9 x6) h w) (k0_pay23 h w) (ix2 r l)
    = bnd x5 x6 x7 h w r l 128 (by omega) := by
  unfold bnd band mm
  pointwise [k0_pay24, k0_pay23, k0_pay22, k0_pay21, k0_pay18, k0_pay8, k0_pay9, k0_pay10]

theorem pay23_apply : k0_pay25 (F := Ideal) (k0_pay10 x7) (k0_pay22 (k0_pay8 x5) (k0_pay9 x6) h w) (k0_pay23 h w) (ix2 r l)
    = bnd x5 x6 x7 h w r l 128 (by omega) := by
  unfold bnd band mm
  pointwise [k0_pay25, k0_pay24, k0_pay23, k0_pay22, k0_pay21, k0_pay18, k0_pay8, k0_pay9, k0_pay10]

theorem pay24_apply : k0_pay26 (F := Ideal) (k0_pay8 x5) (k0_pay9 x6) (k0_pay10 x7) (k0_pay18 h w) (ix2 r l)
    = bnd x5 x6 x7 h w r l 256 (by omega) := by
  unfold bnd band mm
  pointwise [k0_pay26, k0_pay18, k0_pay8, k0_pay9, k0_pay10]

theorem pay25_apply : k0_pay27 (F := Ideal) (k0_pay8 x5) (k0_pay9 x6) (k0_pay10 x7) (k0_pay18 h w) (ix2 r l)
    = bnd x5 x6 x7 h w r l 256 (by omega) := by
  unfold bnd band mm
  pointwise [k0_pay27, k0_pay26, k0_pay18, k0_pay8, k0_pay9, k0_pay10]

theorem pay26_apply : k0_pay28 (F := Ideal) (k0_pay8 x5) (k0_pay9 x6) (k0_pay10 x7) (k0_pay18 h w) (ix2 r l)
    = bnd x5 x6 x7 h w r l 384 (by omega) := by
  unfold bnd band mm
  pointwise [k0_pay28, k0_pay18, k0_pay8, k0_pay9, k0_pay10]

theorem pay27_apply : k0_pay29 (F := Ideal) (k0_pay8 x5) (k0_pay9 x6) (k0_pay10 x7) (k0_pay18 h w) (ix2 r l)
    = bnd x5 x6 x7 h w r l 384 (by omega) := by
  unfold bnd band mm
  pointwise [k0_pay29, k0_pay28, k0_pay18, k0_pay8, k0_pay9, k0_pay10]

end Cert.Proof.MixInSampleOut

end
-- ==== Proof.MixInSampleBlk.lean ====
/- Hand-written, untrusted: THE EIGHT OUTPUT BLOCKS OF THE MIXER'S PROJECTIONS OF THE SAMPLE BATCH AT AN INDEX, over the extended reals (`out8_apply` to
   `out15_apply`): a block filled by bands of columns is read in the band that holds the column. -/
module

public import proofs.«01_k».proof.Proof.MixInSampleOut

@[expose] public section

set_option maxRecDepth 16384

noncomputable section

namespace Cert.Proof.MixInSampleBlk

open Cert.MixInSampleIdeal Cert.MixInSampleIdeal.Gen Idealize.ShloMosaic Idealize.ShloMosaic.TcCoe Idealize.SL.Sem
open Cert.Proof.FfnMath Cert.Proof.MixInMath Cert.Proof.MixInSampleOut

/-- A band of the rotated product, at a column `l` of the 512. -/
theorem bnd_ropeT (x0 : FVec Ideal S512x1024 .f32) (x1 x2 : FVec Ideal S1x512x1024 .f32) (x3 : FVec Ideal S1x1024 .f32) (x4 : FVec Ideal S1024x3712 .bf16) (x5 x6 x7 : FVec Ideal S512x128 .f32) (off : Nat) (inb) (hoff : off + 512 ≤ 3712) (r : Fin 512) (l' : Fin 128) (l : Fin 512) (o : Nat) (ho : o + 128 ≤ 512)
    (h128 : o % 128 = 0) (hl : l.val = o + l'.val) :
    bnd x5 x6 x7 (hid (F := Ideal) x0 x1 x2 x3) (wcol (F := Ideal) x4 off inb) r l' o ho
      = ropeT (fun k => pr x0 x1 x2 x3 x4 r (off + k)) (x5 (ix2 r ⟨l.val % 128, by omega⟩)) (x6 (ix2 r ⟨l.val % 128, by omega⟩)) (x7 (ix2 r ⟨l.val % 128, by omega⟩)) l.val := by
  have e : (⟨l.val % 128, by omega⟩ : Fin 128) = l' := Fin.ext (by show l.val % 128 = l'.val; omega)
  rw [e, hl]
  exact band_eq _ (fun k => pr x0 x1 x2 x3 x4 r (off + k)) (fun k => mm_eq x0 x1 x2 x3 x4 r off inb hoff k) _ _ _ o ho h128 l'

/-- A column of the plain product. -/
theorem mm_pr (x0 : FVec Ideal S512x1024 .f32) (x1 x2 : FVec Ideal S1x512x1024 .f32) (x3 : FVec Ideal S1x1024 .f32) (x4 : FVec Ideal S1024x3712 .bf16) (off : Nat) (inb) (hoff : off + 512 ≤ 3712) (r l' : Fin 512) (n : Nat) (hn : n = off + l'.val) :
    mm (hid (F := Ideal) x0 x1 x2 x3) (wcol (F := Ideal) x4 off inb) r l' = pr x0 x1 x2 x3 x4 r n := by
  rw [hn]; exact mm_eq x0 x1 x2 x3 x4 r off inb hoff l'

/-! The core, the grid point, the buffers the grid point works on, and the contents of its inputs. -/

variable (c : Dev nD) (i : grid0.Coords)
  (arg1 : Memref sig .tc .vmem S512x1024 .f32) (h1 : arg1.IsWhole) (arg2 : Memref sig .tc .vmem S1x512x1024 .f32) (h2 : arg2.IsWhole) (arg3 : Memref sig .tc .vmem S1x512x1024 .f32) (h3 : arg3.IsWhole)
  (arg4 : Memref sig .tc .vmem S1x1024 .f32) (h4 : arg4.IsWhole) (arg5 : Memref sig .tc .vmem S1024x3712 .bf16) (h5 : arg5.IsWhole) (arg6 : Memref sig .tc .vmem S512x128 .f32) (h6 : arg6.IsWhole)
  (arg7 : Memref sig .tc .vmem S512x128 .f32) (h7 : arg7.IsWhole) (arg8 : Memref sig .tc .vmem S512x128 .f32) (h8 : arg8.IsWhole) (arg9 : Memref sig .tc .vmem S512x1536 .f32) (h9 : arg9.IsWhole)
  (arg10 : Memref sig .tc .vmem S512x512 .f32) (h10 : arg10.IsWhole) (arg11 : Memref sig .tc .vmem S512x128 .f32) (h11 : arg11.IsWhole) (arg12 : Memref sig .tc .vmem S512x512 .bf16) (h12 : arg12.IsWhole)
  (arg13 : Memref sig .tc .vmem S512x512 .f32) (h13 : arg13.IsWhole) (arg14 : Memref sig .tc .vmem S512x512 .bf16) (h14 : arg14.IsWhole) (arg15 : Memref sig .tc .vmem S512x512 .f32) (h15 : arg15.IsWhole)
  (arg16 : Memref sig .tc .vmem S512x512 .bf16) (h16 : arg16.IsWhole) (arg17 : Memref sig .tc .vmem S512x1024 .bf16) (h17 : arg17.IsWhole)
  (x0 : FVec Ideal S512x1024 .f32) (x1 x2 : FVec Ideal S1x512x1024 .f32) (x3 : FVec Ideal S1x1024 .f32) (x4 : FVec Ideal S1024x3712 .bf16) (x5 x6 x7 : FVec Ideal S512x128 .f32)

theorem out8_apply (r : Fin 512) (l : Fin 1536) :
    out0_A_8 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r l.val := by
  rw [out_eq8]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 1024 + l'.val := by simpa using hx1
    exact (pay5_apply _ _ r l').trans (mm_pr x0 x1 x2 x3 x4 1024 _ (by omega) r l' _ (by omega))
  · obtain ⟨r', l', rfl⟩ : ∃ (r' : Fin 512) (l' : Fin 512), x = ix2 r' l' := ⟨x 0, x 1, eq_ix2 x⟩
    obtain rfl : r = r' := Fin.ext hx0
    have h1 : l.val = 512 + l'.val := by simpa using hx1
    exact (pay4_apply _ _ r l').trans (mm_pr x0 x1 x2 x3 x4 512 _ (by omega) r l' _ (by omega))
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay3_apply _ _ r l').trans (mm_pr x0 x1 x2 x3 x4 0 _ (by omega) r l' _ (by omega))

theorem out9_apply (r : Fin 512) (l : Fin 512) :
    out0_A_9 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (1536 + l.val) := by
  rw [out_eq9]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay6_apply _ _ r l').trans (mm_pr x0 x1 x2 x3 x4 1536 _ (by omega) r l' _ (by omega))

theorem out10_apply (r : Fin 512) (l : Fin 128) :
    out0_A_10 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (3584 + l.val) := by
  rw [out_eq10]
  canon_tiles x hx
  · obtain ⟨r', l', rfl⟩ : ∃ (r' : Fin 512) (l' : Fin 128), x = ix2 r' l' := ⟨x 0, x 1, eq_ix2 x⟩
    obtain rfl : r = r' := Fin.ext hx0
    obtain rfl : l = l' := Fin.ext hx1
    refine (pay7_apply _ r _ l).trans ?_
    unfold pr
    rw [proj_of_lt _ _ _ (show 3584 + l.val < 3712 by omega)]
    refine Finset.sum_congr rfl fun d _ => ?_
    rw [hid_apply, wcolb_apply x4 3584 _ d l (by omega)]

theorem out11_apply (r : Fin 512) (l : Fin 512) :
    out0_A_11 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = ropeT (fun k => pr x0 x1 x2 x3 x4 r (2048 + k)) (x5 (ix2 r ⟨l.val % 128, by omega⟩)) (x6 (ix2 r ⟨l.val % 128, by omega⟩)) (x7 (ix2 r ⟨l.val % 128, by omega⟩)) l.val * Ideal.ofBits FTy.f32 1040187392#32 := by
  rw [out_eq11]
  canon_tiles x hx
  · obtain ⟨r', l', rfl⟩ : ∃ (r' : Fin 512) (l' : Fin 128), x = ix2 r' l' := ⟨x 0, x 1, eq_ix2 x⟩
    obtain rfl : r = r' := Fin.ext hx0
    have h1 : l.val = 384 + l'.val := by simpa using hx1
    exact (pay16_apply x5 x6 x7 _ _ r l').trans (congrArg (fun z => z * Ideal.ofBits FTy.f32 1040187392#32) (bnd_ropeT x0 x1 x2 x3 x4 x5 x6 x7 2048 _ (by omega) r l' l 384 (by omega) rfl h1))
  · obtain ⟨r', l', rfl⟩ : ∃ (r' : Fin 512) (l' : Fin 128), x = ix2 r' l' := ⟨x 0, x 1, eq_ix2 x⟩
    obtain rfl : r = r' := Fin.ext hx0
    have h1 : l.val = 256 + l'.val := by simpa using hx1
    exact (pay15_apply x5 x6 x7 _ _ r l').trans (congrArg (fun z => z * Ideal.ofBits FTy.f32 1040187392#32) (bnd_ropeT x0 x1 x2 x3 x4 x5 x6 x7 2048 _ (by omega) r l' l 256 (by omega) rfl h1))
  · obtain ⟨r', l', rfl⟩ : ∃ (r' : Fin 512) (l' : Fin 128), x = ix2 r' l' := ⟨x 0, x 1, eq_ix2 x⟩
    obtain rfl : r = r' := Fin.ext hx0
    have h1 : l.val = 128 + l'.val := by simpa using hx1
    exact (pay13_apply x5 x6 x7 _ _ r l').trans (congrArg (fun z => z * Ideal.ofBits FTy.f32 1040187392#32) (bnd_ropeT x0 x1 x2 x3 x4 x5 x6 x7 2048 _ (by omega) r l' l 128 (by omega) rfl h1))
  · obtain ⟨r', l', rfl⟩ : ∃ (r' : Fin 512) (l' : Fin 128), x = ix2 r' l' := ⟨x 0, x 1, eq_ix2 x⟩
    obtain rfl : r = r' := Fin.ext hx0
    have h1 : l.val = 0 + l'.val := by simpa using hx1
    exact (pay12_apply x5 x6 x7 _ _ r l').trans (congrArg (fun z => z * Ideal.ofBits FTy.f32 1040187392#32) (bnd_ropeT x0 x1 x2 x3 x4 x5 x6 x7 2048 _ (by omega) r l' l 0 (by omega) rfl h1))

theorem out12_apply (r : Fin 512) (l : Fin 512) :
    out0_A_12 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = ropeT (fun k => pr x0 x1 x2 x3 x4 r (2560 + k)) (x5 (ix2 r ⟨l.val % 128, by omega⟩)) (x6 (ix2 r ⟨l.val % 128, by omega⟩)) (x7 (ix2 r ⟨l.val % 128, by omega⟩)) l.val := by
  rw [out_eq12]
  canon_tiles x hx
  · obtain ⟨r', l', rfl⟩ : ∃ (r' : Fin 512) (l' : Fin 128), x = ix2 r' l' := ⟨x 0, x 1, eq_ix2 x⟩
    obtain rfl : r = r' := Fin.ext hx0
    have h1 : l.val = 384 + l'.val := by simpa using hx1
    exact (pay26_apply x5 x6 x7 _ _ r l').trans (bnd_ropeT x0 x1 x2 x3 x4 x5 x6 x7 2560 _ (by omega) r l' l 384 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 256 + l'.val := by simpa using hx1
    exact (pay24_apply x5 x6 x7 _ _ r l').trans (bnd_ropeT x0 x1 x2 x3 x4 x5 x6 x7 2560 _ (by omega) r l' l 256 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 128 + l'.val := by simpa using hx1
    exact (pay22_apply x5 x6 x7 _ _ r l').trans (bnd_ropeT x0 x1 x2 x3 x4 x5 x6 x7 2560 _ (by omega) r l' l 128 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 0 + l'.val := by simpa using hx1
    exact (pay18_apply x5 x6 x7 _ _ r l').trans (bnd_ropeT x0 x1 x2 x3 x4 x5 x6 x7 2560 _ (by omega) r l' l 0 (by omega) rfl h1)

theorem out13_apply (r : Fin 512) (l : Fin 512) :
    out0_A_13 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = ropeT (fun k => pr x0 x1 x2 x3 x4 r (2560 + k)) (x5 (ix2 r ⟨l.val % 128, by omega⟩)) (x6 (ix2 r ⟨l.val % 128, by omega⟩)) (x7 (ix2 r ⟨l.val % 128, by omega⟩)) l.val := by
  rw [out_eq13]
  canon_tiles x hx
  · obtain ⟨r', l', rfl⟩ : ∃ (r' : Fin 512) (l' : Fin 128), x = ix2 r' l' := ⟨x 0, x 1, eq_ix2 x⟩
    obtain rfl : r = r' := Fin.ext hx0
    have h1 : l.val = 384 + l'.val := by simpa using hx1
    exact (pay27_apply x5 x6 x7 _ _ r l').trans (bnd_ropeT x0 x1 x2 x3 x4 x5 x6 x7 2560 _ (by omega) r l' l 384 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 256 + l'.val := by simpa using hx1
    exact (pay25_apply x5 x6 x7 _ _ r l').trans (bnd_ropeT x0 x1 x2 x3 x4 x5 x6 x7 2560 _ (by omega) r l' l 256 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 128 + l'.val := by simpa using hx1
    exact (pay23_apply x5 x6 x7 _ _ r l').trans (bnd_ropeT x0 x1 x2 x3 x4 x5 x6 x7 2560 _ (by omega) r l' l 128 (by omega) rfl h1)
  · obtain ⟨r', l', rfl⟩ : ∃ (r' : Fin 512) (l' : Fin 128), x = ix2 r' l' := ⟨x 0, x 1, eq_ix2 x⟩
    obtain rfl : r = r' := Fin.ext hx0
    have h1 : l.val = 0 + l'.val := by simpa using hx1
    exact (pay19_apply x5 x6 x7 _ _ r l').trans (bnd_ropeT x0 x1 x2 x3 x4 x5 x6 x7 2560 _ (by omega) r l' l 0 (by omega) rfl h1)

theorem out14_apply (r : Fin 512) (l : Fin 512) :
    out0_A_14 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (3072 + l.val) := by
  rw [out_eq14]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay28_apply _ _ r l').trans (mm_pr x0 x1 x2 x3 x4 3072 _ (by omega) r l' _ (by omega))

theorem out15_apply (r : Fin 512) (l : Fin 512) :
    out0_A_15 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 (ix2 r l)
      = pr x0 x1 x2 x3 x4 r (3072 + l.val) := by
  rw [out_eq15]
  canon_tiles x hx
  · obtain ⟨r', l', rfl⟩ : ∃ (r' : Fin 512) (l' : Fin 512), x = ix2 r' l' := ⟨x 0, x 1, eq_ix2 x⟩
    obtain rfl : r = r' := Fin.ext hx0
    have h1 : l.val = 0 + l'.val := by simpa using hx1
    exact (pay1_apply _ _ r l').trans (mm_pr x0 x1 x2 x3 x4 3072 _ (by omega) r l' _ (by omega))

end Cert.Proof.MixInSampleBlk

end
-- ==== Proof.MixInSampleTab.lean ====
/- Hand-written, untrusted: THE ARRAYS THE HOST PREPARES FOR THE SAMPLE BATCH'S MIXER PROJECTIONS, over the extended reals, each at an index: the
   three rotation tables of the four positions (`tabC_apply`, `tabA_apply`, `tabB_apply`), repeated for each sequence (`tileV_apply`), the
   modulation rows, repeated for each token (`modV_apply`), and the reordered weights (`w_apply`). -/
module

public import proofs.«01_k».proof.Proof.MixInSampleBlk

@[expose] public section

set_option maxRecDepth 16384

noncomputable section

namespace Cert.Proof.MixInSampleTab

open Cert.MixInSampleIdeal Cert.MixInSampleIdeal.Gen Idealize.ShloMosaic Idealize.ShloMosaic.TcCoe Idealize.SL.Sem
open Cert.Proof.FfnMath Cert.Proof.MixInMath

/-- The angles, position by frequency. -/
def angV : FVec Ideal S4x8 .f32 :=
  mulf (broadcastInDim S4x8 ![0, 1] bcast_S4x1_S4x8_0_1 (broadcastInDim S4x1 ![0] bcast_S4_S4x1_0 (sitofp (F := Ideal) .f32 (addi (broadcastInDim S4 ![] bcast_S_S4 (constantI S_ 32 8192#32)) (iotaInDim S4 32 0)))))
    (broadcastInDim S4x8 ![0, 1] bcast_S1x8_S4x8_0_1 (broadcastInDim S1x8 ![1] bcast_S8_S1x8_1
      (Host.exp (mulf (Host.negf (Host.divf (mulf (broadcastInDim S8 ![] bcast_S_S8 (constant (F := Ideal) S_ .f32 0x40000000#32)) (sitofp (F := Ideal) .f32 (iotaInDim S8 32 0)))
        (broadcastInDim S8 ![] bcast_S_S8 (constant (F := Ideal) S_ .f32 0x41800000#32)))) (broadcastInDim S8 ![] bcast_S_S8 (constant (F := Ideal) S_ .f32 0x4151F533#32))))))

def z48 : FVec Ideal S4x48 .f32 := broadcastInDim S4x48 ![] bcast_S_S4x48 (constant (F := Ideal) S_ .f32 0x00000000#32)
def z8 : FVec Ideal S4x8 .f32 := broadcastInDim S4x8 ![] bcast_S_S4x8 (constant (F := Ideal) S_ .f32 0x00000000#32)
def o48 : FVec Ideal S4x48 .f32 := addf z48 (broadcastInDim S4x48 ![] bcast_S_S4x48 (constant (F := Ideal) S_ .f32 0x3F800000#32))

/-- Three blocks of columns, 8, 8 and 48 wide, twice side by side. -/
def cat3 (a b : FVec Ideal S4x8 .f32) (c : FVec Ideal S4x48 .f32) : FVec Ideal S4x128 .f32 :=
  let t : FVec Ideal S4x64 .f32 := concatenate S4x64 1 [⟨S4x8, a⟩, ⟨S4x8, b⟩, ⟨S4x48, c⟩] concatenates_S4x8_S4x8_S4x48_S4x64_d1
  concatenate S4x128 1 [⟨S4x64, t⟩, ⟨S4x64, t⟩] concatenates_S4x64_S4x64_S4x128_d1

/-- The weights in the kernel's order of columns. -/
def wV (w : FVec Ideal S1024x3592 .f32) : FVec Ideal S1024x3712 .bf16 :=
  truncf (F := Ideal) .bf16 (concatenate S1024x3712 1 [⟨S1024x2048, extractStridedSlice S1024x2048 ![0, 0] w slices_S1024x3592_S1024x2048_0_0⟩,
    ⟨S1024x1536, extractStridedSlice S1024x1536 ![0, 2056] w slices_S1024x3592_S1024x1536_0_2056⟩,
    ⟨S1024x128, pad S1024x128 ![0, 0] ![0, 120] ![0, 0] (extractStridedSlice S1024x8 ![0, 2048] w slices_S1024x3592_S1024x8_0_2048) (sitofp (F := Ideal) .f32 (constantI S_ 32 0#32)) pads_S1024x8_S1024x128_000_01200 h_S_⟩]
    concatenates_S1024x2048_S1024x1536_S1024x128_S1024x3712_d1) bitsLt_bf16_f32

theorem angV_apply (s : Fin 4) (j : Fin 8) : angV (ix2 s j) = ang (8192 + s.val) j.val := by
  have pos : ∀ s : Fin 4, 8192#32 + BitVec.ofNat 32 s.val = BitVec.ofNat 32 (8192 + s.val) := by decide
  pointwise [angV]
  unfold ang
  rw [← pos s]
  rfl

theorem cat3_apply (a b : FVec Ideal S4x8 .f32) (c : FVec Ideal S4x48 .f32) (s : Fin 4) (l : Fin 128) :
    cat3 a b c (ix2 s l) = if h : l.val % 64 < 8 then a (ix2 s ⟨l.val % 64, h⟩)
      else if h' : l.val % 64 < 16 then b (ix2 s ⟨l.val % 64 - 8, by omega⟩) else c (ix2 s ⟨l.val % 64 - 16, by omega⟩) := by
  have hl : l.val < 128 := l.isLt
  pointwise [cat3]
  by_cases h64 : l.val < 64
  · refine Eq.trans (dif_pos h64) ?_
    by_cases h8 : l.val < 8
    · refine Eq.trans (dif_pos h8) (Eq.trans ?_ (dif_pos (show l.val % 64 < 8 by omega)).symm)
      exact congrArg (fun k => a (ix2 s k)) (Fin.ext (by show l.val = l.val % 64; omega))
    · by_cases h16 : l.val - 8 < 8
      · refine Eq.trans (dif_neg h8) (Eq.trans (dif_pos h16) (Eq.trans ?_ ((dif_neg (show ¬ l.val % 64 < 8 by omega)).trans (dif_pos (show l.val % 64 < 16 by omega))).symm))
        exact congrArg (fun k => b (ix2 s k)) (Fin.ext (by show l.val - 8 = l.val % 64 - 8; omega))
      · refine Eq.trans (dif_neg h8) (Eq.trans (dif_neg h16) (Eq.trans ?_ ((dif_neg (show ¬ l.val % 64 < 8 by omega)).trans (dif_neg (show ¬ l.val % 64 < 16 by omega))).symm))
        exact congrArg (fun k => c (ix2 s k)) (Fin.ext (by show l.val - 8 - 8 = l.val % 64 - 16; omega))
  · refine Eq.trans (dif_neg h64) ?_
    by_cases h8 : l.val - 64 < 8
    · refine Eq.trans (dif_pos h8) (Eq.trans ?_ (dif_pos (show l.val % 64 < 8 by omega)).symm)
      exact congrArg (fun k => a (ix2 s k)) (Fin.ext (by show l.val - 64 = l.val % 64; omega))
    · by_cases h16 : l.val - 64 - 8 < 8
      · refine Eq.trans (dif_neg h8) (Eq.trans (dif_pos h16) (Eq.trans ?_ ((dif_neg (show ¬ l.val % 64 < 8 by omega)).trans (dif_pos (show l.val % 64 < 16 by omega))).symm))
        exact congrArg (fun k => b (ix2 s k)) (Fin.ext (by show l.val - 64 - 8 = l.val % 64 - 8; omega))
      · refine Eq.trans (dif_neg h8) (Eq.trans (dif_neg h16) (Eq.trans ?_ ((dif_neg (show ¬ l.val % 64 < 8 by omega)).trans (dif_neg (show ¬ l.val % 64 < 16 by omega))).symm))
        exact congrArg (fun k => c (ix2 s k)) (Fin.ext (by show l.val - 64 - 8 - 8 = l.val % 64 - 16; omega))

theorem w_apply (w : FVec Ideal S1024x3592 .f32) (d : Fin 1024) (j : Fin 3712) : wV w (ix2 d j) = reorder (fun d j => w (ix2 d j)) d j := by
  have hj : j.val < 3712 := j.isLt
  pointwise [wV]
  have hz : FloatOps.sitofp (F := Ideal) FTy.f32 (0#32 : BitVec 32) = (0 : EReal) := by
    show ((((0#32 : BitVec 32).toInt : ℝ)) : EReal) = 0
    simp
  exact reorder_eq (fun d j => w (ix2 d j)) d j _ hz

theorem z8_apply (i : S4x8.Idx) : z8 i = 0 := by
  show Ideal.ofBits .f32 0#32 = 0
  exact Ideal.ofBits_zero .f32
theorem z48_apply (i : S4x48.Idx) : z48 i = 0 := by
  show Ideal.ofBits .f32 0#32 = 0
  exact Ideal.ofBits_zero .f32
theorem o48_apply (i : S4x48.Idx) : o48 i = 1 := by
  show z48 i + Ideal.ofBits .f32 0x3F800000#32 = 1
  rw [z48_apply, zero_add]
  exact Ideal.ofBits_one_f32

/-- The three tables at an index. -/
theorem tabC_apply (s : Fin 4) (l : Fin 128) : cat3 (Host.cos angV) (Host.cos angV) o48 (ix2 s l) = tabC (8192 + s.val) l.val := by
  rw [cat3_apply]
  unfold tabC
  by_cases h8 : l.val % 64 < 8
  · refine (dif_pos h8).trans (Eq.trans ?_ (if_pos h8).symm)
    show Ideal.cos (angV (ix2 s ⟨l.val % 64, h8⟩)) = _
    rw [angV_apply]
  · by_cases h16 : l.val % 64 < 16
    · refine ((dif_neg h8).trans (dif_pos h16)).trans (Eq.trans ?_ ((if_neg h8).trans (if_pos h16)).symm)
      show Ideal.cos (angV (ix2 s ⟨l.val % 64 - 8, _⟩)) = _
      rw [angV_apply]
    · refine ((dif_neg h8).trans (dif_neg h16)).trans (Eq.trans ?_ ((if_neg h8).trans (if_neg h16)).symm)
      exact o48_apply _
theorem tabA_apply (s : Fin 4) (l : Fin 128) : cat3 (Host.negf (Host.sin angV)) z8 z48 (ix2 s l) = tabA (8192 + s.val) l.val := by
  rw [cat3_apply]
  unfold tabA
  by_cases h8 : l.val % 64 < 8
  · refine (dif_pos h8).trans (Eq.trans ?_ (if_pos h8).symm)
    show -Ideal.sin (angV (ix2 s ⟨l.val % 64, h8⟩)) = _
    rw [angV_apply]
  · by_cases h16 : l.val % 64 < 16
    · refine ((dif_neg h8).trans (dif_pos h16)).trans (Eq.trans ?_ (if_neg h8).symm)
      exact z8_apply _
    · refine ((dif_neg h8).trans (dif_neg h16)).trans (Eq.trans ?_ (if_neg h8).symm)
      exact z48_apply _
theorem tabB_apply (s : Fin 4) (l : Fin 128) : cat3 z8 (Host.sin angV) z48 (ix2 s l) = tabB (8192 + s.val) l.val := by
  rw [cat3_apply]
  unfold tabB
  by_cases h8 : l.val % 64 < 8
  · refine (dif_pos h8).trans (Eq.trans ?_ (if_pos h8).symm)
    exact z8_apply _
  · by_cases h16 : l.val % 64 < 16
    · refine ((dif_neg h8).trans (dif_pos h16)).trans (Eq.trans ?_ ((if_neg h8).trans (if_pos h16)).symm)
      show Ideal.sin (angV (ix2 s ⟨l.val % 64 - 8, _⟩)) = _
      rw [angV_apply]
    · refine ((dif_neg h8).trans (dif_neg h16)).trans (Eq.trans ?_ ((if_neg h8).trans (if_neg h16)).symm)
      exact z48_apply _

/-- A table of the four positions, once for each sequence. -/
def tileV (x : FVec Ideal S4x128 .f32) : FVec Ideal S512x128 .f32 :=
  shapeCast S512x128 (broadcastInDim S128x4x1x128 ![0, 1, 2, 3] bcast_S1x4x1x128_S128x4x1x128_0_1_2_3 (shapeCast S1x4x1x128 x shapeCasts_S4x128_S1x4x1x128)) shapeCasts_S128x4x1x128_S512x128

/-- A modulation row of each sequence, once for each of its tokens. -/
def modV (x : FVec Ideal S128x1x1024 .f32) : FVec Ideal S1x512x1024 .f32 :=
  broadcastInDim S1x512x1024 ![1, 2] bcast_S512x1024_S1x512x1024_1_2 (shapeCast S512x1024
    (broadcastInDim S128x4x1024 ![0, 2] bcast_S128x1024_S128x4x1024_0_2 (shapeCast S128x1024 x shapeCasts_S128x1x1024_S128x1024)) shapeCasts_S128x4x1024_S512x1024)

theorem tileV_apply (x : FVec Ideal S4x128 .f32) (R : Fin 512) (l : Fin 128) : tileV x (ix2 R l) = x (ix2 (⟨R.val % 4, by omega⟩ : Fin 4) l) := by
  pointwise [tileV]

theorem modV_apply (x : FVec Ideal S128x1x1024 .f32) (R : Fin 512) (d : Fin 1024) : modV x (ix3 0 R d) = x (ix3 (⟨R.val / 4, by omega⟩ : Fin 128) 0 d) := by
  pointwise [modV]

variable (m : (ℓ : Loc nD τ sig) → Buf (Elt Ideal) ℓ) (ρ : Dev nD → PrngReg) (c : Dev nD)

theorem V_v33 : V m c main_v33 = tileV (cat3 (Host.cos angV) (Host.cos angV) o48) := by
  simp only [V, V0, hostOps0, hostOps0_1, hostOps0_2, List.flatten_cons, List.flatten_nil, List.append_nil, List.cons_append, List.nil_append]; after_results_simp <;> rfl
theorem V_v36 : V m c main_v36 = tileV (cat3 (Host.negf (Host.sin angV)) z8 z48) := by
  simp only [V, V0, hostOps0, hostOps0_1, hostOps0_2, List.flatten_cons, List.flatten_nil, List.append_nil, List.cons_append, List.nil_append]; after_results_simp <;> rfl
theorem V_v39 : V m c main_v39 = tileV (cat3 z8 (Host.sin angV) z48) := by
  simp only [V, V0, hostOps0, hostOps0_1, hostOps0_2, List.flatten_cons, List.flatten_nil, List.append_nil, List.cons_append, List.nil_append]; after_results_simp <;> rfl
theorem V_v40 : V m c main_v40 = shapeCast S512x1024 (m ((c : Thread nD τ).loc main_arg0)) shapeCasts_S128x4x1024_S512x1024 := by
  simp only [V, V0, hostOps0, hostOps0_1, hostOps0_2, List.flatten_cons, List.flatten_nil, List.append_nil, List.cons_append, List.nil_append]; after_results_simp <;> rfl
theorem V_v44 : V m c main_v44 = modV (m ((c : Thread nD τ).loc main_arg1)) := by
  simp only [V, V0, hostOps0, hostOps0_1, hostOps0_2, List.flatten_cons, List.flatten_nil, List.append_nil, List.cons_append, List.nil_append]; after_results_simp <;> rfl
theorem V_v48 : V m c main_v48 = modV (m ((c : Thread nD τ).loc main_arg2)) := by
  simp only [V, V0, hostOps0, hostOps0_1, hostOps0_2, List.flatten_cons, List.flatten_nil, List.append_nil, List.cons_append, List.nil_append]; after_results_simp <;> rfl
theorem V_v55 : V m c main_v55 = shapeCast S1x1024 (m ((c : Thread nD τ).loc main_arg3)) shapeCasts_S1024_S1x1024 := by
  simp only [V, V0, hostOps0, hostOps0_1, hostOps0_2, List.flatten_cons, List.flatten_nil, List.append_nil, List.cons_append, List.nil_append]; after_results_simp <;> rfl
theorem V_v54 : V m c main_v54 = wV (m ((c : Thread nD τ).loc main_arg4)) := by
  simp only [V, V0, hostOps0, hostOps0_1, hostOps0_2, List.flatten_cons, List.flatten_nil, List.append_nil, List.cons_append, List.nil_append]; after_results_simp <;> rfl

end Cert.Proof.MixInSampleTab

end
-- ==== Proof.MixInSampleRef.lean ====
/- Hand-written, untrusted: WHAT THE REFERENCE OF THE SAMPLE BATCH'S MIXER PROJECTIONS RETURNS, at an index: every result's row `R` is a function of
   token `R % 4` of sequence `R / 4`: columns of its projection, rotated for the queries and keys. The generated reading of the
   printed operations is cited stage by stage. -/
module

public import proofs.«01_k».proof.Proof.Gen.MixInSampleReferenceIdeal.Read
public import proofs.«01_k».proof.Proof.MixInMath

@[expose] public section

noncomputable section

namespace Cert.Proof.MixInSampleRef

open Cert.MixInSampleReferenceIdeal Cert.MixInSampleReferenceIdeal.Read Idealize.ShloMosaic Idealize.ShloMosaic.TcCoe
open Cert.Proof.FfnMath Cert.Proof.MixInMath

variable (x : FVec Ideal S128x4x1024 .f32) (sh sc : FVec Ideal S128x1x1024 .f32) (g : FVec Ideal S1024 .f32) (w : FVec Ideal S1024x3592 .f32)

/-- The modulated normed row of a token. -/
def hrow (b : Fin 128) (s : Fin 4) : Fin 1024 → EReal :=
  modRow (fun d => x (ix3 b s d)) (fun d => g (ix1 d)) (fun d => sc (ix3 b 0 d)) (fun d => sh (ix3 b 0 d))

theorem mod_apply (b : Fin 128) (s : Fin 4) (l : Fin 1024) :
    val_main_v18 (F := Ideal) x sh sc g (ix3 b s l) = hrow x sh sc g b s l := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- A column of the projection. -/
theorem proj_apply (b : Fin 128) (s : Fin 4) (k : Fin 3592) :
    val_main_v19 (F := Ideal) x sh sc g w (ix3 b s k) = proj (hrow x sh sc g b s) (fun d j => w (ix2 d j)) k.val := by
  rw [proj_of_lt _ _ _ k.isLt]
  pointwise [val_main_v19]
  simp only [mod_apply]

/-- The position of a token, added as machine words: the earlier 8192 positions come first. -/
theorem pos : ∀ s : Fin 4, 8192#32 + BitVec.ofNat 32 s.val = BitVec.ofNat 32 (8192 + s.val) := by decide

/-- The angles, of the queries' rotation and of the keys'. -/
theorem ang_q (s : Fin 4) (j : Fin 8) : val_main_v45 (F := Ideal) (ix2 s j) = ang (8192 + s.val) j.val := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_c, val_main_cst_3, val_main_cst_4, val_main_cst_5]
  unfold ang
  rw [← pos s]
  rfl
theorem ang_k (s : Fin 4) (j : Fin 8) : val_main_v87 (F := Ideal) (ix2 s j) = ang (8192 + s.val) j.val := by
  pointwise [val_main_v87, val_main_v86, val_main_v85, val_main_v84, val_main_v83, val_main_v82, val_main_v81, val_main_v80, val_main_v79, val_main_v78, val_main_v77, val_main_v76, val_main_v75, val_main_v74, val_main_v73, val_main_v72, val_main_v29, val_main_v28, val_main_v27, val_main_c, val_main_cst_7, val_main_cst_8, val_main_cst_9]
  unfold ang
  rw [← pos s]
  rfl

variable (R : Fin 512)

/-- The batch and the token of a row. -/
abbrev bt : Fin 128 := ⟨R.val / 4, by omega⟩
abbrev tk : Fin 4 := ⟨R.val % 4, by omega⟩

theorem qkv_apply (l : Fin 1536) : val_main_v117 (F := Ideal) x sh sc g w (ix2 R l)
    = proj (hrow x sh sc g (bt R) (tk R)) (fun d j => w (ix2 d j)) l.val := by
  pointwise [val_main_v117, val_main_v20]
  rw [proj_apply]
theorem z_apply (l : Fin 512) : val_main_v118 (F := Ideal) x sh sc g w (ix2 R l)
    = proj (hrow x sh sc g (bt R) (tk R)) (fun d j => w (ix2 d j)) (1536 + l.val) := by
  pointwise [val_main_v118, val_main_v21]
  rw [proj_apply]
theorem v_apply (l : Fin 512) : val_main_v116 (F := Ideal) x sh sc g w (ix2 R l)
    = proj (hrow x sh sc g (bt R) (tk R)) (fun d j => w (ix2 d j)) (3080 + l.val) := by
  pointwise [val_main_v116, val_main_v26]
  rw [proj_apply]
/-- The value the gates are padded with. -/
theorem pad_zero (i : S_.Idx) : val_main_call0_v0 (F := Ideal) i = 0 := by
  show ((((0#32 : BitVec 32).toInt : ℝ)) : EReal) = 0
  simp

theorem gates_apply (l : Fin 128) : val_main_v119 (F := Ideal) x sh sc g w (ix2 R l)
    = gates (hrow x sh sc g (bt R) (tk R)) (fun d j => w (ix2 d j)) l.val := by
  pointwise [val_main_v119, val_main_v113, val_main_v112, val_main_v22, val_main_v23]
  by_cases h8 : l.val < 8
  · have hc : R.val / 4 < 128 ∧ R.val % 4 < 4 ∧ l.val < 8 := ⟨by omega, by omega, h8⟩
    refine Eq.trans (dif_pos hc) (Eq.trans ?_ (gates_of_lt _ _ _ h8).symm)
    by_cases h4 : l.val < 4
    · refine Eq.trans (dif_pos h4) ?_
      rw [proj_apply]
    · refine Eq.trans (dif_neg h4) ?_
      rw [proj_apply]
      refine congrArg _ ?_
      show 2052 + (l.val - 4) = 2048 + l.val; omega
  · have hc : ¬ (R.val / 4 < 128 ∧ R.val % 4 < 4 ∧ l.val < 8) := fun h => h8 h.2.2
    refine Eq.trans (dif_neg hc) (Eq.trans (pad_zero _) (gates_of_le _ _ _ (Nat.not_lt.mp h8)).symm)

/-- An entry of a map of a head of the queries, before the rotation. -/
theorem qmap_apply (b : Fin 128) (s : Fin 4) (h : Fin 4) (j : Fin 2) (e : Fin 64) : val_main_v30 (F := Ideal) x sh sc g w (ix5 b s h j e)
    = proj (hrow x sh sc g b s) (fun d j => w (ix2 d j)) (2056 + ((h.val * 2 + j.val) * 64 + e.val)) := by
  pointwise [val_main_v30, val_main_v24]
  rw [proj_apply]
  refine congrArg _ ?_
  show 2056 + (h.val * 128 + j.val * 64 + e.val) = 2056 + ((h.val * 2 + j.val) * 64 + e.val); omega

/-- An entry of a map of a head of the keys, before the rotation. -/
theorem kmap_apply (b : Fin 128) (s : Fin 4) (h : Fin 4) (j : Fin 2) (e : Fin 64) : val_main_v72 (F := Ideal) x sh sc g w (ix5 b s h j e)
    = proj (hrow x sh sc g b s) (fun d j => w (ix2 d j)) (2568 + ((h.val * 2 + j.val) * 64 + e.val)) := by
  pointwise [val_main_v72, val_main_v25]
  rw [proj_apply]
  refine congrArg _ ?_
  show 2568 + (h.val * 128 + j.val * 64 + e.val) = 2568 + ((h.val * 2 + j.val) * 64 + e.val); omega

theorem k_apply (l : Fin 512) : val_main_v115 (F := Ideal) x sh sc g w (ix2 R l)
    = rope (fun k => proj (hrow x sh sc g (bt R) (tk R)) (fun d j => w (ix2 d j)) (2568 + k)) (8192 + (tk R).val) l.val := by
  pointwise [val_main_v115, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88]
  have hl : l.val < 512 := l.isLt
  simp only [kmap_apply, ang_k, Nat.add_assoc]
  refine Eq.trans ?_ (rope_dite (fun k => proj (hrow x sh sc g (bt R) (tk R)) (fun d j => w (ix2 d j)) (2568 + k)) (8192 + (tk R).val) l.val hl)
  rfl

theorem q_apply (l : Fin 512) : val_main_v114 (F := Ideal) x sh sc g w (ix2 R l)
    = rope (fun k => proj (hrow x sh sc g (bt R) (tk R)) (fun d j => w (ix2 d j)) (2056 + k)) (8192 + (tk R).val) l.val * Ideal.ofBits FTy.f32 1040187392#32 := by
  pointwise [val_main_v114, val_main_v71, val_main_v70, val_main_cst_6, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46]
  have hl : l.val < 512 := l.isLt
  simp only [qmap_apply, ang_q, Nat.add_assoc]
  refine Eq.trans ?_ (congrArg (fun z => z * Ideal.ofBits FTy.f32 1040187392#32) (rope_dite (fun k => proj (hrow x sh sc g (bt R) (tk R)) (fun d j => w (ix2 d j)) (2056 + k)) (8192 + (tk R).val) l.val hl))
  rfl

end Cert.Proof.MixInSampleRef

end
-- ==== Proof.MixInSampleRun.lean ====
/- Hand-written, untrusted: THE RUN OF THE SAMPLE BATCH'S MIXER PROJECTIONS WITH ITS NINE RESULTS NAMED, over the extended reals: row `R` of each
   result array is a run of columns of the projection of row `R`'s normed, scaled and shifted hidden row, the queries and the keys
   rotated at the position of the row's token (`G8` to `G15`, `run`); the ninth is cut from the first after the call (`Gconv`). Each grid point writes one block of 512 rows of each result (`flushed8_eq` to
   `flushed15_eq`), the one block covers the array (`covered8` to `covered15`), and a block's input rows are the arguments at an index
   (`hrow_blk`, `w_blk`) and the rotation's tables at the positions of the rows' tokens (`tab5_blk` to `tab7_blk`). -/
module

public import proofs.«01_k».proof.Proof.MixInSampleTab
public import proofs.«01_k».proof.Proof.MixInSampleRef

@[expose] public section

set_option maxRecDepth 16384

noncomputable section

namespace Cert.Proof.MixInSampleRun

open Cert.MixInSampleIdeal Cert.MixInSampleIdeal.Gen Idealize.ShloMosaic Idealize.ShloMosaic.TcCoe Idealize.SL.Sem
open Cert.Proof.MixInMath

variable (m : (ℓ : Loc nD τ sig) → Buf (Elt Ideal) ℓ) (ρ : Dev nD → PrngReg) (c : Dev nD)

/-- The argument arrays as vectors of extended reals. -/
abbrev a0 : FVec Ideal S128x4x1024 .f32 := m ((c : Thread nD τ).loc main_arg0)
abbrev a1 : FVec Ideal S128x1x1024 .f32 := m ((c : Thread nD τ).loc main_arg1)
abbrev a2 : FVec Ideal S128x1x1024 .f32 := m ((c : Thread nD τ).loc main_arg2)
abbrev a3 : FVec Ideal S1024 .f32 := m ((c : Thread nD τ).loc main_arg3)
abbrev a4 : FVec Ideal S1024x3592 .f32 := m ((c : Thread nD τ).loc main_arg4)

/-- Row `R`'s hidden row, and the weights by row and column. -/
def H (R : Fin 512) : Fin 1024 → EReal := MixInSampleRef.hrow (a0 m c) (a1 m c) (a2 m c) (a3 m c) (MixInSampleRef.bt R) (MixInSampleRef.tk R)
def W : Fin 1024 → Fin 3592 → EReal := fun d j => a4 m c (ix2 d j)

/-- The results as functions of row and column. -/
def qkv (R : Fin 512) (l : ℕ) : EReal := proj (H m c R) (W m c) l
def zed (R : Fin 512) (l : ℕ) : EReal := proj (H m c R) (W m c) (1536 + l)
def gat (R : Fin 512) (l : ℕ) : EReal := gates (H m c R) (W m c) l
def que (R : Fin 512) (l : ℕ) : EReal := rope (fun k => proj (H m c R) (W m c) (2056 + k)) (8192 + (MixInSampleRef.tk R).val) l * Ideal.ofBits FTy.f32 1040187392#32
def key (R : Fin 512) (l : ℕ) : EReal := rope (fun k => proj (H m c R) (W m c) (2568 + k)) (8192 + (MixInSampleRef.tk R).val) l
def val (R : Fin 512) (l : ℕ) : EReal := proj (H m c R) (W m c) (3080 + l)

/-- The result arrays as functions of the argument arrays. -/
def G8 : FVec Ideal S512x1536 .f32 := fun j => qkv m c (j 0) (j 1).val
def G9 : FVec Ideal S512x512 .f32 := fun j => zed m c (j 0) (j 1).val
def G10 : FVec Ideal S512x128 .f32 := fun j => gat m c (j 0) (j 1).val
def G11 : FVec Ideal S512x512 .bf16 := fun j => que m c (j 0) (j 1).val
def G12 : FVec Ideal S512x512 .f32 := fun j => key m c (j 0) (j 1).val
def G13 : FVec Ideal S512x512 .bf16 := fun j => key m c (j 0) (j 1).val
def G14 : FVec Ideal S512x512 .f32 := fun j => val m c (j 0) (j 1).val
def G15 : FVec Ideal S512x512 .bf16 := fun j => val m c (j 0) (j 1).val

/-! ## The windows' blocks -/

theorem ix0w : ∀ t : Fin cfg0.N, win0_0.index t (0 : Fin 2) = t.val ∧ win0_0.index t (1 : Fin 2) = 0 := (by decide +kernel : ∀ t : Fin grid0.N, _)
theorem ix3w : ∀ t : Fin cfg0.N, win0_3.index t (0 : Fin 2) = 0 ∧ win0_3.index t (1 : Fin 2) = 0 := (by decide +kernel : ∀ t : Fin grid0.N, _)
theorem ix4w : ∀ t : Fin cfg0.N, win0_4.index t (0 : Fin 2) = 0 ∧ win0_4.index t (1 : Fin 2) = 0 := (by decide +kernel : ∀ t : Fin grid0.N, _)
theorem ix5w : ∀ t : Fin cfg0.N, win0_5.index t (0 : Fin 2) = 0 ∧ win0_5.index t (1 : Fin 2) = 0 := (by decide +kernel : ∀ t : Fin grid0.N, _)
theorem ix6w : ∀ t : Fin cfg0.N, win0_6.index t (0 : Fin 2) = 0 ∧ win0_6.index t (1 : Fin 2) = 0 := (by decide +kernel : ∀ t : Fin grid0.N, _)
theorem ix7w : ∀ t : Fin cfg0.N, win0_7.index t (0 : Fin 2) = 0 ∧ win0_7.index t (1 : Fin 2) = 0 := (by decide +kernel : ∀ t : Fin grid0.N, _)
theorem ix8w : ∀ t : Fin cfg0.N, win0_8.index t (0 : Fin 2) = t.val ∧ win0_8.index t (1 : Fin 2) = 0 := (by decide +kernel : ∀ t : Fin grid0.N, _)
theorem ix9w : ∀ t : Fin cfg0.N, win0_9.index t (0 : Fin 2) = t.val ∧ win0_9.index t (1 : Fin 2) = 0 := (by decide +kernel : ∀ t : Fin grid0.N, _)
theorem ix10w : ∀ t : Fin cfg0.N, win0_10.index t (0 : Fin 2) = t.val ∧ win0_10.index t (1 : Fin 2) = 0 := (by decide +kernel : ∀ t : Fin grid0.N, _)
theorem ix11w : ∀ t : Fin cfg0.N, win0_11.index t (0 : Fin 2) = t.val ∧ win0_11.index t (1 : Fin 2) = 0 := (by decide +kernel : ∀ t : Fin grid0.N, _)
theorem ix12w : ∀ t : Fin cfg0.N, win0_12.index t (0 : Fin 2) = t.val ∧ win0_12.index t (1 : Fin 2) = 0 := (by decide +kernel : ∀ t : Fin grid0.N, _)
theorem ix13w : ∀ t : Fin cfg0.N, win0_13.index t (0 : Fin 2) = t.val ∧ win0_13.index t (1 : Fin 2) = 0 := (by decide +kernel : ∀ t : Fin grid0.N, _)
theorem ix14w : ∀ t : Fin cfg0.N, win0_14.index t (0 : Fin 2) = t.val ∧ win0_14.index t (1 : Fin 2) = 0 := (by decide +kernel : ∀ t : Fin grid0.N, _)
theorem ix15w : ∀ t : Fin cfg0.N, win0_15.index t (0 : Fin 2) = t.val ∧ win0_15.index t (1 : Fin 2) = 0 := (by decide +kernel : ∀ t : Fin grid0.N, _)
theorem ix1w : ∀ t : Fin cfg0.N, win0_1.index t (0 : Fin 3) = 0 ∧ win0_1.index t (1 : Fin 3) = t.val ∧ win0_1.index t (2 : Fin 3) = 0 := (by decide +kernel : ∀ t : Fin grid0.N, _)
theorem ix2w : ∀ t : Fin cfg0.N, win0_2.index t (0 : Fin 3) = 0 ∧ win0_2.index t (1 : Fin 3) = t.val ∧ win0_2.index t (2 : Fin 3) = 0 := (by decide +kernel : ∀ t : Fin grid0.N, _)

/-- Row `r` of point `t`'s block is row `512 t + r` of the array. -/
abbrev rowOf (t : Fin cfg0.N) (r : Fin 512) : Fin 512 := ⟨t.val * 512 + r.val, by have := t.isLt; have h : cfg0.N = 1 := rfl; omega⟩

theorem tlt (t : Fin cfg0.N) : t.val < 1 := t.isLt

/-- The rows flattened, and a vector as one row, at an index. -/
theorem flat_apply (x : FVec Ideal S128x4x1024 .f32) (R : Fin 512) (d : Fin 1024) :
    shapeCast S512x1024 x shapeCasts_S128x4x1024_S512x1024 (ix2 R d) = x (ix3 (⟨R.val / 4, by omega⟩ : Fin 128) (⟨R.val % 4, by omega⟩ : Fin 4) d) := by
  pointwise
theorem row_apply (x : FVec Ideal S1024 .f32) (d : Fin 1024) :
    shapeCast S1x1024 x shapeCasts_S1024_S1x1024 (ix2 0 d) = x (ix1 d) := by
  pointwise

theorem iblk0_apply (t : Fin cfg0.N) (r : Fin 512) (d : Fin 1024) :
    iblk m c 0 t (ix2 r d) = a0 m c (ix3 (MixInSampleRef.bt (rowOf t r)) (MixInSampleRef.tk (rowOf t r)) d) := by
  obtain ⟨e0, e1⟩ := ix0w t
  have he : ((cfg0.win 0).blk t).view.emb (ix2 r d) = ix2 (rowOf t r) d := by
    funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  show V m c main_v40 (((cfg0.win 0).blk t).view.emb (ix2 r d)) = _
  rw [he, MixInSampleTab.V_v40]
  exact flat_apply (a0 m c) (rowOf t r) d

theorem iblk1_apply (t : Fin cfg0.N) (r : Fin 512) (d : Fin 1024) :
    iblk m c 1 t (ix3 0 r d) = a1 m c (ix3 (MixInSampleRef.bt (rowOf t r)) 0 d) := by
  obtain ⟨e0, e1, e2⟩ := ix1w t
  have he : ((cfg0.win 1).blk t).view.emb (ix3 0 r d) = ix3 (0 : Fin 1) (rowOf t r) d := by
    funext a; apply Fin.ext
    match a with
    | ⟨0, _⟩ => show win0_1.index t (0 : Fin 3) * 1 + 1 * 0 = 0; omega
    | ⟨1, _⟩ => show win0_1.index t (1 : Fin 3) * 512 + 1 * r.val = t.val * 512 + r.val; omega
    | ⟨2, _⟩ => show win0_1.index t (2 : Fin 3) * 1024 + 1 * d.val = d.val; omega
  show V m c main_v44 (((cfg0.win 1).blk t).view.emb (ix3 0 r d)) = _
  rw [he, MixInSampleTab.V_v44]
  exact MixInSampleTab.modV_apply (a1 m c) (rowOf t r) d

theorem iblk2_apply (t : Fin cfg0.N) (r : Fin 512) (d : Fin 1024) :
    iblk m c 2 t (ix3 0 r d) = a2 m c (ix3 (MixInSampleRef.bt (rowOf t r)) 0 d) := by
  obtain ⟨e0, e1, e2⟩ := ix2w t
  have he : ((cfg0.win 2).blk t).view.emb (ix3 0 r d) = ix3 (0 : Fin 1) (rowOf t r) d := by
    funext a; apply Fin.ext
    match a with
    | ⟨0, _⟩ => show win0_2.index t (0 : Fin 3) * 1 + 1 * 0 = 0; omega
    | ⟨1, _⟩ => show win0_2.index t (1 : Fin 3) * 512 + 1 * r.val = t.val * 512 + r.val; omega
    | ⟨2, _⟩ => show win0_2.index t (2 : Fin 3) * 1024 + 1 * d.val = d.val; omega
  show V m c main_v48 (((cfg0.win 2).blk t).view.emb (ix3 0 r d)) = _
  rw [he, MixInSampleTab.V_v48]
  exact MixInSampleTab.modV_apply (a2 m c) (rowOf t r) d

theorem iblk3_apply (t : Fin cfg0.N) (d : Fin 1024) : iblk m c 3 t (ix2 0 d) = a3 m c (ix1 d) := by
  obtain ⟨e0, e1⟩ := ix3w t
  have he : ((cfg0.win 3).blk t).view.emb (ix2 0 d) = ix2 (0 : Fin 1) d := by
    funext a; apply Fin.ext
    match a with
    | ⟨0, _⟩ => show win0_3.index t (0 : Fin 2) * 1 + 1 * 0 = 0; omega
    | ⟨1, _⟩ => show win0_3.index t (1 : Fin 2) * 1024 + 1 * d.val = d.val; omega
  show V m c main_v55 (((cfg0.win 3).blk t).view.emb (ix2 0 d)) = _
  rw [he, MixInSampleTab.V_v55]
  exact row_apply (a3 m c) d

theorem iblk4_apply (t : Fin cfg0.N) (d : Fin 1024) (j : Fin 3712) : iblk m c 4 t (ix2 d j) = reorder (W m c) d j := by
  obtain ⟨e0, e1⟩ := ix4w t
  have he : ((cfg0.win 4).blk t).view.emb (ix2 d j) = ix2 d j := by
    funext a; apply Fin.ext
    match a with
    | ⟨0, _⟩ => show win0_4.index t (0 : Fin 2) * 1024 + 1 * d.val = d.val; omega
    | ⟨1, _⟩ => show win0_4.index t (1 : Fin 2) * 3712 + 1 * j.val = j.val; omega
  show V m c main_v54 (((cfg0.win 4).blk t).view.emb (ix2 d j)) = _
  rw [he, MixInSampleTab.V_v54]
  exact MixInSampleTab.w_apply _ d j

theorem tab5_blk (t : Fin cfg0.N) (r : Fin 512) (l : ℕ) :
    iblk m c 5 t (ix2 r (⟨l % 128, by omega⟩ : Fin 128)) = tabC (8192 + (MixInSampleRef.tk (rowOf t r)).val) l := by
  obtain ⟨e0, e1⟩ := ix5w t
  have he : ((cfg0.win 5).blk t).view.emb (ix2 r (⟨l % 128, by omega⟩ : Fin 128)) = ix2 (rowOf t r) (⟨l % 128, by omega⟩ : Fin 128) := by
    funext a; apply Fin.ext
    match a with
    | ⟨0, _⟩ => show win0_5.index t (0 : Fin 2) * 512 + 1 * r.val = t.val * 512 + r.val; have := tlt t; omega
    | ⟨1, _⟩ => show win0_5.index t (1 : Fin 2) * 128 + 1 * (l % 128) = l % 128; omega
  show V m c main_v33 (((cfg0.win 5).blk t).view.emb (ix2 r (⟨l % 128, by omega⟩ : Fin 128))) = _
  rw [he, MixInSampleTab.V_v33]
  refine ((MixInSampleTab.tileV_apply _ _ _).trans (MixInSampleTab.tabC_apply _ _)).trans ?_
  have hm : l % 128 % 64 = l % 64 := by omega
  unfold tabC
  simp only [hm]

theorem tab6_blk (t : Fin cfg0.N) (r : Fin 512) (l : ℕ) :
    iblk m c 6 t (ix2 r (⟨l % 128, by omega⟩ : Fin 128)) = tabA (8192 + (MixInSampleRef.tk (rowOf t r)).val) l := by
  obtain ⟨e0, e1⟩ := ix6w t
  have he : ((cfg0.win 6).blk t).view.emb (ix2 r (⟨l % 128, by omega⟩ : Fin 128)) = ix2 (rowOf t r) (⟨l % 128, by omega⟩ : Fin 128) := by
    funext a; apply Fin.ext
    match a with
    | ⟨0, _⟩ => show win0_6.index t (0 : Fin 2) * 512 + 1 * r.val = t.val * 512 + r.val; have := tlt t; omega
    | ⟨1, _⟩ => show win0_6.index t (1 : Fin 2) * 128 + 1 * (l % 128) = l % 128; omega
  show V m c main_v36 (((cfg0.win 6).blk t).view.emb (ix2 r (⟨l % 128, by omega⟩ : Fin 128))) = _
  rw [he, MixInSampleTab.V_v36]
  refine ((MixInSampleTab.tileV_apply _ _ _).trans (MixInSampleTab.tabA_apply _ _)).trans ?_
  have hm : l % 128 % 64 = l % 64 := by omega
  unfold tabA
  simp only [hm]

theorem tab7_blk (t : Fin cfg0.N) (r : Fin 512) (l : ℕ) :
    iblk m c 7 t (ix2 r (⟨l % 128, by omega⟩ : Fin 128)) = tabB (8192 + (MixInSampleRef.tk (rowOf t r)).val) l := by
  obtain ⟨e0, e1⟩ := ix7w t
  have he : ((cfg0.win 7).blk t).view.emb (ix2 r (⟨l % 128, by omega⟩ : Fin 128)) = ix2 (rowOf t r) (⟨l % 128, by omega⟩ : Fin 128) := by
    funext a; apply Fin.ext
    match a with
    | ⟨0, _⟩ => show win0_7.index t (0 : Fin 2) * 512 + 1 * r.val = t.val * 512 + r.val; have := tlt t; omega
    | ⟨1, _⟩ => show win0_7.index t (1 : Fin 2) * 128 + 1 * (l % 128) = l % 128; omega
  show V m c main_v39 (((cfg0.win 7).blk t).view.emb (ix2 r (⟨l % 128, by omega⟩ : Fin 128))) = _
  rw [he, MixInSampleTab.V_v39]
  refine ((MixInSampleTab.tileV_apply _ _ _).trans (MixInSampleTab.tabB_apply _ _)).trans ?_
  have hm : l % 128 % 64 = l % 64 := by omega
  unfold tabB
  simp only [hm]

/-- The hidden row of a block's row, and a column of its projection. -/
theorem hrow_blk (t : Fin cfg0.N) (r : Fin 512) :
    MixInSampleOut.hrow (iblk m c 0 t) (iblk m c 1 t) (iblk m c 2 t) (iblk m c 3 t) r = H m c (rowOf t r) := by
  unfold MixInSampleOut.hrow H MixInSampleRef.hrow
  simp only [iblk0_apply, iblk1_apply m c t r, iblk2_apply m c t r, iblk3_apply]

theorem pr_blk (t : Fin cfg0.N) (r : Fin 512) (k : ℕ) :
    MixInSampleOut.pr (iblk m c 0 t) (iblk m c 1 t) (iblk m c 2 t) (iblk m c 3 t) (iblk m c 4 t) r k = proj (H m c (rowOf t r)) (reorder (W m c)) k := by
  unfold MixInSampleOut.pr
  rw [hrow_blk]
  refine congrArg (fun w => proj (H m c (rowOf t r)) w k) ?_
  funext d j
  exact iblk4_apply m c t d j

/-- What a point writes back to a window's array is the block the point leaves, cut to the array. -/
theorem flushed_after (t : Fin cfg0.N) (w : Fin cfg0.W) : (dats m 0 c).flushed w t = (cfg0.win w).cut (grid0.coords t) ((dats m 0 c).after w t) := rfl

/-- The columns the kernel's order moves, for the rotated rows. -/
theorem que_cols (R : Fin 512) (l : ℕ) (hl : l < 512) (s : ℕ) :
    ropeT (fun k => proj (H m c R) (reorder (W m c)) (2048 + k)) (tabC s l) (tabA s l) (tabB s l) l = rope (fun k => proj (H m c R) (W m c) (2056 + k)) s l :=
  (ropeT_congr (fun k hk => proj_reorder_mid _ _ k (by omega)) _ _ _ l hl).trans (ropeT_tables _ s l)

theorem key_cols (R : Fin 512) (l : ℕ) (hl : l < 512) (s : ℕ) :
    ropeT (fun k => proj (H m c R) (reorder (W m c)) (2560 + k)) (tabC s l) (tabA s l) (tabB s l) l = rope (fun k => proj (H m c R) (W m c) (2568 + k)) s l :=
  (ropeT_congr (fun k hk => by
    have h := proj_reorder_mid (H m c R) (W m c) (512 + k) (by omega)
    rw [show 2048 + (512 + k) = 2560 + k by omega, show 2056 + (512 + k) = 2568 + k by omega] at h
    exact h) _ _ _ l hl).trans (ropeT_tables _ s l)

theorem val_cols (R : Fin 512) (l : ℕ) (hl : l < 512) :
    proj (H m c R) (reorder (W m c)) (3072 + l) = proj (H m c R) (W m c) (3080 + l) := by
  have h := proj_reorder_mid (H m c R) (W m c) (1024 + l) (by omega)
  rw [show 2048 + (1024 + l) = 3072 + l by omega, show 2056 + (1024 + l) = 3080 + l by omega] at h
  exact h

/-! ## What a point writes back, and the cover -/

theorem emb8 (t : Fin cfg0.N) (r : Fin 512) (l : Fin 1536) : ((cfg0.win 8).blk t).view.emb (ix2 r l) = ix2 (rowOf t r) l := by
  obtain ⟨e0, e1⟩ := ix8w t
  funext a; apply Fin.ext
  match a with
  | ⟨0, _⟩ => show win0_8.index t (0 : Fin 2) * 512 + 1 * r.val = t.val * 512 + r.val; omega
  | ⟨1, _⟩ => show win0_8.index t (1 : Fin 2) * 1536 + 1 * l.val = l.val; omega

theorem flushed8_eq (t : Fin cfg0.N) :
    (dats m 0 c).flushed 8 t = ((cfg0.win 8).blk t).view.read (Elt Ideal) (G8 m c) := by
  simp only [flushed_after, after0_8, outsAt0]
  funext j
  obtain ⟨r, l, rfl⟩ : ∃ (r : Fin 512) (l : Fin 1536), j = ix2 r l := ⟨j 0, j 1, eq_ix2 j⟩
  show out0_A_8 (F := Ideal) _ _ _ _ _ _ _ _ _ _ _ _ _ _ _ _ _ _ _ _ _ _ _ _ _ _ _ _ _ _ _ _ _ _ _ _ _ _ _ _ _ _ _ _ (ix2 r l)
    = G8 m c (((cfg0.win 8).blk t).view.emb (ix2 r l))
  rw [emb8]
  refine (MixInSampleBlk.out8_apply _ _ _ _ _ _ _ _ _ _ _ _ _ _ _ _ _ _ _ _ _ _ _ _ _ _ _ _ _ _ _ _ _ _ _ _ _ _ _ _ _ _ _ _ r l).trans ?_
  show _ = qkv m c (rowOf t r) l.val
  rw [pr_blk]
  exact proj_reorder_head _ _ _ (by omega)

theorem covered8 (i : S512x1536.Idx) : ∃ t : Fin cfg0.N, (cfg0.win 8).flush t = true ∧ i ∈ ((cfg0.win 8).blk t).view.set := by
  obtain ⟨R, l, rfl⟩ : ∃ (R : Fin 512) (l : Fin 1536), i = ix2 R l := ⟨i 0, i 1, eq_ix2 i⟩
  refine ⟨(⟨R.val / 512, by show _ < 1; omega⟩ : Fin cfg0.N), flush0_8 _, ?_⟩
  have h := ((cfg0.win 8).blk (⟨R.val / 512, by show _ < 1; omega⟩ : Fin cfg0.N)).view.emb_mem_set (ix2 (⟨R.val % 512, by omega⟩ : Fin 512) l)
  rw [emb8] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

theorem emb9 (t : Fin cfg0.N) (r : Fin 512) (l : Fin 512) : ((cfg0.win 9).blk t).view.emb (ix2 r l) = ix2 (rowOf t r) l := by
  obtain ⟨e0, e1⟩ := ix9w t
  funext a; apply Fin.ext
  match a with
  | ⟨0, _⟩ => show win0_9.index t (0 : Fin 2) * 512 + 1 * r.val = t.val * 512 + r.val; omega
  | ⟨1, _⟩ => show win0_9.index t (1 : Fin 2) * 512 + 1 * l.val = l.val; omega

theorem flushed9_eq (t : Fin cfg0.N) :
    (dats m 0 c).flushed 9 t = ((cfg0.win 9).blk t).view.read (Elt Ideal) (G9 m c) := by
  simp only [flushed_after, after0_9, outsAt0]
  funext j
  obtain ⟨r, l, rfl⟩ : ∃ (r : Fin 512) (l : Fin 512), j = ix2 r l := ⟨j 0, j 1, eq_ix2 j⟩
  show out0_A_9 (F := Ideal) _ _ _ _ _ _ _ _ _ _ _ _ _ _ _ _ _ _ _ _ _ _ _ _ _ _ _ _ _ _ _ _ _ _ _ _ _ _ _ _ _ _ _ _ (ix2 r l)
    = G9 m c (((cfg0.win 9).blk t).view.emb (ix2 r l))
  rw [emb9]
  refine (MixInSampleBlk.out9_apply _ _ _ _ _ _ _ _ _ _ _ _ _ _ _ _ _ _ _ _ _ _ _ _ _ _ _ _ _ _ _ _ _ _ _ _ _ _ _ _ _ _ _ _ r l).trans ?_
  show _ = zed m c (rowOf t r) l.val
  rw [pr_blk]
  exact proj_reorder_head _ _ _ (by omega)

theorem covered9 (i : S512x512.Idx) : ∃ t : Fin cfg0.N, (cfg0.win 9).flush t = true ∧ i ∈ ((cfg0.win 9).blk t).view.set := by
  obtain ⟨R, l, rfl⟩ : ∃ (R : Fin 512) (l : Fin 512), i = ix2 R l := ⟨i 0, i 1, eq_ix2 i⟩
  refine ⟨(⟨R.val / 512, by show _ < 1; omega⟩ : Fin cfg0.N), flush0_9 _, ?_⟩
  have h := ((cfg0.win 9).blk (⟨R.val / 512, by show _ < 1; omega⟩ : Fin cfg0.N)).view.emb_mem_set (ix2 (⟨R.val % 512, by omega⟩ : Fin 512) l)
  rw [emb9] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

theorem emb10 (t : Fin cfg0.N) (r : Fin 512) (l : Fin 128) : ((cfg0.win 10).blk t).view.emb (ix2 r l) = ix2 (rowOf t r) l := by
  obtain ⟨e0, e1⟩ := ix10w t
  funext a; apply Fin.ext
  match a with
  | ⟨0, _⟩ => show win0_10.index t (0 : Fin 2) * 512 + 1 * r.val = t.val * 512 + r.val; omega
  | ⟨1, _⟩ => show win0_10.index t (1 : Fin 2) * 128 + 1 * l.val = l.val; omega

theorem flushed10_eq (t : Fin cfg0.N) :
    (dats m 0 c).flushed 10 t = ((cfg0.win 10).blk t).view.read (Elt Ideal) (G10 m c) := by
  simp only [flushed_after, after0_10, outsAt0]
  funext j
  obtain ⟨r, l, rfl⟩ : ∃ (r : Fin 512) (l : Fin 128), j = ix2 r l := ⟨j 0, j 1, eq_ix2 j⟩
  show out0_A_10 (F := Ideal) _ _ _ _ _ _ _ _ _ _ _ _ _ _ _ _ _ _ _ _ _ _ _ _ _ _ _ _ _ _ _ _ _ _ _ _ _ _ _ _ _ _ _ _ (ix2 r l)
    = G10 m c (((cfg0.win 10).blk t).view.emb (ix2 r l))
  rw [emb10]
  refine (MixInSampleBlk.out10_apply _ _ _ _ _ _ _ _ _ _ _ _ _ _ _ _ _ _ _ _ _ _ _ _ _ _ _ _ _ _ _ _ _ _ _ _ _ _ _ _ _ _ _ _ r l).trans ?_
  show _ = gat m c (rowOf t r) l.val
  rw [pr_blk]
  exact proj_reorder_gates _ _ _ l.isLt

theorem covered10 (i : S512x128.Idx) : ∃ t : Fin cfg0.N, (cfg0.win 10).flush t = true ∧ i ∈ ((cfg0.win 10).blk t).view.set := by
  obtain ⟨R, l, rfl⟩ : ∃ (R : Fin 512) (l : Fin 128), i = ix2 R l := ⟨i 0, i 1, eq_ix2 i⟩
  refine ⟨(⟨R.val / 512, by show _ < 1; omega⟩ : Fin cfg0.N), flush0_10 _, ?_⟩
  have h := ((cfg0.win 10).blk (⟨R.val / 512, by show _ < 1; omega⟩ : Fin cfg0.N)).view.emb_mem_set (ix2 (⟨R.val % 512, by omega⟩ : Fin 512) l)
  rw [emb10] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

theorem emb11 (t : Fin cfg0.N) (r : Fin 512) (l : Fin 512) : ((cfg0.win 11).blk t).view.emb (ix2 r l) = ix2 (rowOf t r) l := by
  obtain ⟨e0, e1⟩ := ix11w t
  funext a; apply Fin.ext
  match a with
  | ⟨0, _⟩ => show win0_11.index t (0 : Fin 2) * 512 + 1 * r.val = t.val * 512 + r.val; omega
  | ⟨1, _⟩ => show win0_11.index t (1 : Fin 2) * 512 + 1 * l.val = l.val; omega

theorem flushed11_eq (t : Fin cfg0.N) :
    (dats m 0 c).flushed 11 t = ((cfg0.win 11).blk t).view.read (Elt Ideal) (G11 m c) := by
  simp only [flushed_after, after0_11, outsAt0]
  funext j
  obtain ⟨r, l, rfl⟩ : ∃ (r : Fin 512) (l : Fin 512), j = ix2 r l := ⟨j 0, j 1, eq_ix2 j⟩
  show out0_A_11 (F := Ideal) _ _ _ _ _ _ _ _ _ _ _ _ _ _ _ _ _ _ _ _ _ _ _ _ _ _ _ _ _ _ _ _ _ _ _ _ _ _ _ _ _ _ _ _ (ix2 r l)
    = G11 m c (((cfg0.win 11).blk t).view.emb (ix2 r l))
  rw [emb11]
  refine (MixInSampleBlk.out11_apply _ _ _ _ _ _ _ _ _ _ _ _ _ _ _ _ _ _ _ _ _ _ _ _ _ _ _ _ _ _ _ _ _ _ _ _ _ _ _ _ _ _ _ _ r l).trans ?_
  show _ = que m c (rowOf t r) l.val
  simp only [pr_blk]
  rw [tab5_blk, tab6_blk, tab7_blk, que_cols m c _ _ l.isLt]
  rfl

theorem covered11 (i : S512x512.Idx) : ∃ t : Fin cfg0.N, (cfg0.win 11).flush t = true ∧ i ∈ ((cfg0.win 11).blk t).view.set := by
  obtain ⟨R, l, rfl⟩ : ∃ (R : Fin 512) (l : Fin 512), i = ix2 R l := ⟨i 0, i 1, eq_ix2 i⟩
  refine ⟨(⟨R.val / 512, by show _ < 1; omega⟩ : Fin cfg0.N), flush0_11 _, ?_⟩
  have h := ((cfg0.win 11).blk (⟨R.val / 512, by show _ < 1; omega⟩ : Fin cfg0.N)).view.emb_mem_set (ix2 (⟨R.val % 512, by omega⟩ : Fin 512) l)
  rw [emb11] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

theorem emb12 (t : Fin cfg0.N) (r : Fin 512) (l : Fin 512) : ((cfg0.win 12).blk t).view.emb (ix2 r l) = ix2 (rowOf t r) l := by
  obtain ⟨e0, e1⟩ := ix12w t
  funext a; apply Fin.ext
  match a with
  | ⟨0, _⟩ => show win0_12.index t (0 : Fin 2) * 512 + 1 * r.val = t.val * 512 + r.val; omega
  | ⟨1, _⟩ => show win0_12.index t (1 : Fin 2) * 512 + 1 * l.val = l.val; omega

theorem flushed12_eq (t : Fin cfg0.N) :
    (dats m 0 c).flushed 12 t = ((cfg0.win 12).blk t).view.read (Elt Ideal) (G12 m c) := by
  simp only [flushed_after, after0_12, outsAt0]
  funext j
  obtain ⟨r, l, rfl⟩ : ∃ (r : Fin 512) (l : Fin 512), j = ix2 r l := ⟨j 0, j 1, eq_ix2 j⟩
  show out0_A_12 (F := Ideal) _ _ _ _ _ _ _ _ _ _ _ _ _ _ _ _ _ _ _ _ _ _ _ _ _ _ _ _ _ _ _ _ _ _ _ _ _ _ _ _ _ _ _ _ (ix2 r l)
    = G12 m c (((cfg0.win 12).blk t).view.emb (ix2 r l))
  rw [emb12]
  refine (MixInSampleBlk.out12_apply _ _ _ _ _ _ _ _ _ _ _ _ _ _ _ _ _ _ _ _ _ _ _ _ _ _ _ _ _ _ _ _ _ _ _ _ _ _ _ _ _ _ _ _ r l).trans ?_
  show _ = key m c (rowOf t r) l.val
  simp only [pr_blk]
  rw [tab5_blk, tab6_blk, tab7_blk, key_cols m c _ _ l.isLt]
  rfl

theorem covered12 (i : S512x512.Idx) : ∃ t : Fin cfg0.N, (cfg0.win 12).flush t = true ∧ i ∈ ((cfg0.win 12).blk t).view.set := by
  obtain ⟨R, l, rfl⟩ : ∃ (R : Fin 512) (l : Fin 512), i = ix2 R l := ⟨i 0, i 1, eq_ix2 i⟩
  refine ⟨(⟨R.val / 512, by show _ < 1; omega⟩ : Fin cfg0.N), flush0_12 _, ?_⟩
  have h := ((cfg0.win 12).blk (⟨R.val / 512, by show _ < 1; omega⟩ : Fin cfg0.N)).view.emb_mem_set (ix2 (⟨R.val % 512, by omega⟩ : Fin 512) l)
  rw [emb12] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

theorem emb13 (t : Fin cfg0.N) (r : Fin 512) (l : Fin 512) : ((cfg0.win 13).blk t).view.emb (ix2 r l) = ix2 (rowOf t r) l := by
  obtain ⟨e0, e1⟩ := ix13w t
  funext a; apply Fin.ext
  match a with
  | ⟨0, _⟩ => show win0_13.index t (0 : Fin 2) * 512 + 1 * r.val = t.val * 512 + r.val; omega
  | ⟨1, _⟩ => show win0_13.index t (1 : Fin 2) * 512 + 1 * l.val = l.val; omega

theorem flushed13_eq (t : Fin cfg0.N) :
    (dats m 0 c).flushed 13 t = ((cfg0.win 13).blk t).view.read (Elt Ideal) (G13 m c) := by
  simp only [flushed_after, after0_13, outsAt0]
  funext j
  obtain ⟨r, l, rfl⟩ : ∃ (r : Fin 512) (l : Fin 512), j = ix2 r l := ⟨j 0, j 1, eq_ix2 j⟩
  show out0_A_13 (F := Ideal) _ _ _ _ _ _ _ _ _ _ _ _ _ _ _ _ _ _ _ _ _ _ _ _ _ _ _ _ _ _ _ _ _ _ _ _ _ _ _ _ _ _ _ _ (ix2 r l)
    = G13 m c (((cfg0.win 13).blk t).view.emb (ix2 r l))
  rw [emb13]
  refine (MixInSampleBlk.out13_apply _ _ _ _ _ _ _ _ _ _ _ _ _ _ _ _ _ _ _ _ _ _ _ _ _ _ _ _ _ _ _ _ _ _ _ _ _ _ _ _ _ _ _ _ r l).trans ?_
  show _ = key m c (rowOf t r) l.val
  simp only [pr_blk]
  rw [tab5_blk, tab6_blk, tab7_blk, key_cols m c _ _ l.isLt]
  rfl

theorem covered13 (i : S512x512.Idx) : ∃ t : Fin cfg0.N, (cfg0.win 13).flush t = true ∧ i ∈ ((cfg0.win 13).blk t).view.set := by
  obtain ⟨R, l, rfl⟩ : ∃ (R : Fin 512) (l : Fin 512), i = ix2 R l := ⟨i 0, i 1, eq_ix2 i⟩
  refine ⟨(⟨R.val / 512, by show _ < 1; omega⟩ : Fin cfg0.N), flush0_13 _, ?_⟩
  have h := ((cfg0.win 13).blk (⟨R.val / 512, by show _ < 1; omega⟩ : Fin cfg0.N)).view.emb_mem_set (ix2 (⟨R.val % 512, by omega⟩ : Fin 512) l)
  rw [emb13] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

theorem emb14 (t : Fin cfg0.N) (r : Fin 512) (l : Fin 512) : ((cfg0.win 14).blk t).view.emb (ix2 r l) = ix2 (rowOf t r) l := by
  obtain ⟨e0, e1⟩ := ix14w t
  funext a; apply Fin.ext
  match a with
  | ⟨0, _⟩ => show win0_14.index t (0 : Fin 2) * 512 + 1 * r.val = t.val * 512 + r.val; omega
  | ⟨1, _⟩ => show win0_14.index t (1 : Fin 2) * 512 + 1 * l.val = l.val; omega

theorem flushed14_eq (t : Fin cfg0.N) :
    (dats m 0 c).flushed 14 t = ((cfg0.win 14).blk t).view.read (Elt Ideal) (G14 m c) := by
  simp only [flushed_after, after0_14, outsAt0]
  funext j
  obtain ⟨r, l, rfl⟩ : ∃ (r : Fin 512) (l : Fin 512), j = ix2 r l := ⟨j 0, j 1, eq_ix2 j⟩
  show out0_A_14 (F := Ideal) _ _ _ _ _ _ _ _ _ _ _ _ _ _ _ _ _ _ _ _ _ _ _ _ _ _ _ _ _ _ _ _ _ _ _ _ _ _ _ _ _ _ _ _ (ix2 r l)
    = G14 m c (((cfg0.win 14).blk t).view.emb (ix2 r l))
  rw [emb14]
  refine (MixInSampleBlk.out14_apply _ _ _ _ _ _ _ _ _ _ _ _ _ _ _ _ _ _ _ _ _ _ _ _ _ _ _ _ _ _ _ _ _ _ _ _ _ _ _ _ _ _ _ _ r l).trans ?_
  show _ = val m c (rowOf t r) l.val
  rw [pr_blk]
  exact val_cols m c _ _ l.isLt

theorem covered14 (i : S512x512.Idx) : ∃ t : Fin cfg0.N, (cfg0.win 14).flush t = true ∧ i ∈ ((cfg0.win 14).blk t).view.set := by
  obtain ⟨R, l, rfl⟩ : ∃ (R : Fin 512) (l : Fin 512), i = ix2 R l := ⟨i 0, i 1, eq_ix2 i⟩
  refine ⟨(⟨R.val / 512, by show _ < 1; omega⟩ : Fin cfg0.N), flush0_14 _, ?_⟩
  have h := ((cfg0.win 14).blk (⟨R.val / 512, by show _ < 1; omega⟩ : Fin cfg0.N)).view.emb_mem_set (ix2 (⟨R.val % 512, by omega⟩ : Fin 512) l)
  rw [emb14] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

theorem emb15 (t : Fin cfg0.N) (r : Fin 512) (l : Fin 512) : ((cfg0.win 15).blk t).view.emb (ix2 r l) = ix2 (rowOf t r) l := by
  obtain ⟨e0, e1⟩ := ix15w t
  funext a; apply Fin.ext
  match a with
  | ⟨0, _⟩ => show win0_15.index t (0 : Fin 2) * 512 + 1 * r.val = t.val * 512 + r.val; omega
  | ⟨1, _⟩ => show win0_15.index t (1 : Fin 2) * 512 + 1 * l.val = l.val; omega

theorem flushed15_eq (t : Fin cfg0.N) :
    (dats m 0 c).flushed 15 t = ((cfg0.win 15).blk t).view.read (Elt Ideal) (G15 m c) := by
  simp only [flushed_after, after0_15, outsAt0]
  funext j
  obtain ⟨r, l, rfl⟩ : ∃ (r : Fin 512) (l : Fin 512), j = ix2 r l := ⟨j 0, j 1, eq_ix2 j⟩
  show out0_A_15 (F := Ideal) _ _ _ _ _ _ _ _ _ _ _ _ _ _ _ _ _ _ _ _ _ _ _ _ _ _ _ _ _ _ _ _ _ _ _ _ _ _ _ _ _ _ _ _ (ix2 r l)
    = G15 m c (((cfg0.win 15).blk t).view.emb (ix2 r l))
  rw [emb15]
  refine (MixInSampleBlk.out15_apply _ _ _ _ _ _ _ _ _ _ _ _ _ _ _ _ _ _ _ _ _ _ _ _ _ _ _ _ _ _ _ _ _ _ _ _ _ _ _ _ _ _ _ _ r l).trans ?_
  show _ = val m c (rowOf t r) l.val
  rw [pr_blk]
  exact val_cols m c _ _ l.isLt

theorem covered15 (i : S512x512.Idx) : ∃ t : Fin cfg0.N, (cfg0.win 15).flush t = true ∧ i ∈ ((cfg0.win 15).blk t).view.set := by
  obtain ⟨R, l, rfl⟩ : ∃ (R : Fin 512) (l : Fin 512), i = ix2 R l := ⟨i 0, i 1, eq_ix2 i⟩
  refine ⟨(⟨R.val / 512, by show _ < 1; omega⟩ : Fin cfg0.N), flush0_15 _, ?_⟩
  have h := ((cfg0.win 15).blk (⟨R.val / 512, by show _ < 1; omega⟩ : Fin cfg0.N)).view.emb_mem_set (ix2 (⟨R.val % 512, by omega⟩ : Fin 512) l)
  rw [emb15] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

/-! The result arrays, whole. -/

theorem arr8 : (dats m 0 c).arrAt 8 cfg0.N = G8 m c := (dats m 0 c).arrAt_eq_of_cover 8 (G8 m c) (fun t _ => flushed8_eq m c t) covered8
theorem arr9 : (dats m 0 c).arrAt 9 cfg0.N = G9 m c := (dats m 0 c).arrAt_eq_of_cover 9 (G9 m c) (fun t _ => flushed9_eq m c t) covered9
theorem arr10 : (dats m 0 c).arrAt 10 cfg0.N = G10 m c := (dats m 0 c).arrAt_eq_of_cover 10 (G10 m c) (fun t _ => flushed10_eq m c t) covered10
theorem arr11 : (dats m 0 c).arrAt 11 cfg0.N = G11 m c := (dats m 0 c).arrAt_eq_of_cover 11 (G11 m c) (fun t _ => flushed11_eq m c t) covered11
theorem arr12 : (dats m 0 c).arrAt 12 cfg0.N = G12 m c := (dats m 0 c).arrAt_eq_of_cover 12 (G12 m c) (fun t _ => flushed12_eq m c t) covered12
theorem arr13 : (dats m 0 c).arrAt 13 cfg0.N = G13 m c := (dats m 0 c).arrAt_eq_of_cover 13 (G13 m c) (fun t _ => flushed13_eq m c t) covered13
theorem arr14 : (dats m 0 c).arrAt 14 cfg0.N = G14 m c := (dats m 0 c).arrAt_eq_of_cover 14 (G14 m c) (fun t _ => flushed14_eq m c t) covered14
theorem arr15 : (dats m 0 c).arrAt 15 cfg0.N = G15 m c := (dats m 0 c).arrAt_eq_of_cover 15 (G15 m c) (fun t _ => flushed15_eq m c t) covered15

/-- The last three rows of each sequence of the first result: what the two operations after the call keep of it. -/
def Gconv : FVec Ideal S128x3x1536 .f32 :=
  extractStridedSlice S128x3x1536 ![0, 1, 0] (shapeCast S128x4x1536 (G8 m c) shapeCasts_S512x1536_S128x4x1536) slices_S128x4x1536_S128x3x1536_0_1_0

/-- Once the call has left `G8` in its first result, the two operations after it leave `Gconv`. -/
theorem tail_eq (h8 : (dats m 0 c).arrAt 8 cfg0.N = G8 m c) :
    Pipeline.afterTail₀ cfgs (dats m) 0 (V0 m) [hostOps1] c main_v58 = Gconv m c := by
  have e : Pipeline.withArrays spec0 c (V0 m c) (fun w => (dats m 0 c).arrAt w cfg0.N) (Proc.devRef .tc main_v56_0) = G8 m c :=
    (Pipeline.withArrays_arr spec0 (by decide : ∀ w w', Pipeline.arrRef spec0 w = Pipeline.arrRef spec0 w' → w = w') c (V0 m c) _ 8).trans h8
  unfold Pipeline.afterTail₀
  simp only [hostOps1, List.flatten_cons, List.flatten_nil, List.append_nil]
  after_results_simp
  rw [Gconv, ← e]
  rfl

set_option maxHeartbeats 2000000 in
/-- The run with the result arrays at their functions of the arguments. -/
theorem run : θ_run defs (onTc (τ := τ) (main (F := Ideal))) ⟨m, fun _ => 0, ρ⟩ fun r => ∀ c : Dev nD,
      r.2.mem ((c : Thread nD τ).loc main_v56_0) = G8 m c
      ∧ r.2.mem ((c : Thread nD τ).loc main_v56_1) = G9 m c
      ∧ r.2.mem ((c : Thread nD τ).loc main_v56_2) = G10 m c
      ∧ r.2.mem ((c : Thread nD τ).loc main_v56_3) = G11 m c
      ∧ r.2.mem ((c : Thread nD τ).loc main_v56_4) = G12 m c
      ∧ r.2.mem ((c : Thread nD τ).loc main_v56_5) = G13 m c
      ∧ r.2.mem ((c : Thread nD τ).loc main_v56_6) = G14 m c
      ∧ r.2.mem ((c : Thread nD τ).loc main_v56_7) = G15 m c
      ∧ r.2.mem ((c : Thread nD τ).loc main_v58) = Gconv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    have e8 := (dats m 0 c).arrAt_eq_of_cover 8 (G8 m c) (fun t _ => flushed8_eq m c t) covered8
    exact ⟨((h c).1 8).trans e8,
      ((h c).1 9).trans ((dats m 0 c).arrAt_eq_of_cover 9 (G9 m c) (fun t _ => flushed9_eq m c t) covered9),
      ((h c).1 10).trans ((dats m 0 c).arrAt_eq_of_cover 10 (G10 m c) (fun t _ => flushed10_eq m c t) covered10),
      ((h c).1 11).trans ((dats m 0 c).arrAt_eq_of_cover 11 (G11 m c) (fun t _ => flushed11_eq m c t) covered11),
      ((h c).1 12).trans ((dats m 0 c).arrAt_eq_of_cover 12 (G12 m c) (fun t _ => flushed12_eq m c t) covered12),
      ((h c).1 13).trans ((dats m 0 c).arrAt_eq_of_cover 13 (G13 m c) (fun t _ => flushed13_eq m c t) covered13),
      ((h c).1 14).trans ((dats m 0 c).arrAt_eq_of_cover 14 (G14 m c) (fun t _ => flushed14_eq m c t) covered14),
      ((h c).1 15).trans ((dats m 0 c).arrAt_eq_of_cover 15 (G15 m c) (fun t _ => flushed15_eq m c t) covered15),
      ((h c).2 main_v58 (Pipeline.mem_restRefs_of main_v58 (by decide) (by decide))).trans (tail_eq m c e8),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Proof.MixInSampleRun

end
-- ==== Proof.MixInSampleClaim.lean ====
/- Hand-written, untrusted: THE CLAIMS ABOUT THE SAMPLE BATCH'S MIXER PROJECTIONS. The kernel's frame at machine words and over the
   extended reals (generated), the reference's frame (its generated run; it declares no semaphore), and the value claim: the
   kernel's run (MixInSampleRun.lean) and the reference's run end with the same nine arrays, columns of the
   projection of each row (the ninth its last three rows of each sequence), the queries and the keys rotated. -/
module

public import proofs.«01_k».proof.Defs
public import proofs.«01_k».proof.Proof.Gen.MixInSample
public import proofs.«01_k».proof.Proof.Gen.MixInSample.Frame
public import proofs.«01_k».proof.Proof.MixInSampleRun
public import proofs.«01_k».proof.Proof.MixInSampleRef

@[expose] public section

noncomputable section

namespace Cert.Proof.MixInSampleClaim

open Cert.Proof.MixInMath Cert.Proof.MixInSampleRun Cert.MixInSampleReferenceIdeal.Read Idealize.ShloMosaic Idealize.ShloMosaic.TcCoe Idealize.SL.Sem

/-- The kernel over machine words runs, changes no argument, and leaves every semaphore at zero. -/
theorem frame_bits : Cert.quiescent_MixInSample (hMixInSample := Cert.MixInSample.Gen.facts) := fun m ρ _ => Cert.MixInSample.Gen.frame m ρ

/-- The same over the extended reals. -/
theorem frame_ideal : Cert.quiescent_MixInSampleIdeal (hMixInSampleIdeal := Cert.MixInSampleIdeal.Gen.facts) := fun m ρ _ => Cert.MixInSampleIdeal.Gen.frame m ρ

/-- The reference runs and changes no argument. -/
theorem frame_ref : Cert.quiescent_MixInSampleReferenceIdeal (hMixInSampleReferenceIdeal := Cert.MixInSampleReferenceIdeal.Gen.facts) := fun m ρ _ =>
  (θ_run Cert.MixInSampleReferenceIdeal.defs _ _).mono (fun r h => ⟨fun c => (h c).2.2.2.2.2.2.2.2.2, sem_eq_zero_of_no_sems (by decide) r.2⟩)
    (Cert.MixInSampleReferenceIdeal.Value.run (F := Ideal) m ρ)

/-- The reference's first result is the kernel's. -/
theorem qkv_eq (m : (ℓ : Loc Cert.MixInSampleIdeal.nD Cert.MixInSampleIdeal.τ Cert.MixInSampleIdeal.sig) → Buf (Elt Ideal) ℓ) (c : Dev Cert.MixInSampleIdeal.nD) :
    val_main_v117 (F := Ideal) (a0 m c) (a1 m c) (a2 m c) (a3 m c) (a4 m c) = G8 m c :=
  ext2 fun R l => MixInSampleRef.qkv_apply _ _ _ _ _ R l

/-- The reference's last result is the kernel's. -/
theorem conv_eq (m : (ℓ : Loc Cert.MixInSampleIdeal.nD Cert.MixInSampleIdeal.τ Cert.MixInSampleIdeal.sig) → Buf (Elt Ideal) ℓ) (c : Dev Cert.MixInSampleIdeal.nD) :
    val_main_v123 (F := Ideal) (a0 m c) (a1 m c) (a2 m c) (a3 m c) (a4 m c) = Gconv m c := by
  rw [Gconv, ← qkv_eq m c]
  unfold val_main_v117 val_main_v123
  rw [shapeCast_shapeCast]

/-- The kernel's results are the reference's, element by element, over the extended reals. -/
theorem value : Cert.algebraic_MixInSampleIdeal_MixInSampleReferenceIdeal (hMixInSampleIdeal := Cert.MixInSampleIdeal.Gen.facts) (hMixInSampleReferenceIdeal := Cert.MixInSampleReferenceIdeal.Gen.facts) := by
  intro m g m' g' _ hm
  refine ⟨G8 m, G9 m, G10 m, G11 m, G12 m, G13 m, G14 m, G15 m, Gconv m, MixInSampleRun.run m g, ?_⟩
  refine (θ_run Cert.MixInSampleReferenceIdeal.defs _ _).mono (fun r h c => ?_)
    (Cert.MixInSampleReferenceIdeal.Value.run (F := Ideal) m' g')
  obtain ⟨h0, h1, h2, h3, h4⟩ := hm c
  obtain ⟨r8, r9, r10, r11, r12, r13, r14, r15, rc, hr⟩ := h c
  refine ⟨r8.trans ?_, r9.trans ?_, r10.trans ?_, r11.trans ?_, r12.trans ?_, r13.trans ?_, r14.trans ?_, r15.trans ?_, rc.trans ?_, hr⟩
  · rw [val_main_v117_eq, h0, h1, h2, h3, h4]
    exact qkv_eq m c
  · rw [val_main_v118_eq, h0, h1, h2, h3, h4]
    exact ext2 fun R l => MixInSampleRef.z_apply _ _ _ _ _ R l
  · rw [val_main_v119_eq, h0, h1, h2, h3, h4]
    exact ext2 fun R l => MixInSampleRef.gates_apply _ _ _ _ _ R l
  · rw [val_main_v120_eq, h0, h1, h2, h3, h4]
    exact ext2 fun R l => MixInSampleRef.q_apply _ _ _ _ _ R l
  · rw [val_main_v115_eq, h0, h1, h2, h3, h4]
    exact ext2 fun R l => MixInSampleRef.k_apply _ _ _ _ _ R l
  · rw [val_main_v121_eq, h0, h1, h2, h3, h4]
    exact ext2 fun R l => MixInSampleRef.k_apply _ _ _ _ _ R l
  · rw [val_main_v116_eq, h0, h1, h2, h3, h4]
    exact ext2 fun R l => MixInSampleRef.v_apply _ _ _ _ _ R l
  · rw [val_main_v122_eq, h0, h1, h2, h3, h4]
    exact ext2 fun R l => MixInSampleRef.v_apply _ _ _ _ _ R l
  · rw [val_main_v123_eq, h0, h1, h2, h3, h4]
    exact conv_eq m c

end Cert.Proof.MixInSampleClaim

end
-- ==== Proof.AdaMath.lean ====
/- Hand-written, untrusted: THE MODULATION PRODUCT AS A FUNCTION OF ONE CONDITIONING ROW, over the extended reals: the row's SiLU
   times the weights, plus the bias (`modAt`), and the 136 rows the product is taken of: two, then 128, then six of zeros (`cond`). -/
module

public import Idealize.ShloMosaic.Lib.Pointwise

@[expose] public section

noncomputable section

namespace Cert.Proof.AdaMath

open Idealize.ShloMosaic
open scoped BigOperators

/-- Column `l` of the product of the row's SiLU with the weights, plus the bias. -/
def modAt {n : ℕ} (x : Fin 1024 → EReal) (w : Fin 1024 → Fin n → EReal) (b : Fin n → EReal) (l : Fin n) : EReal :=
  (∑ d, x d * Ideal.logistic (x d) * w d l) + b l

/-- SiLU with the quotient written out. -/
theorem silu_quot (x : EReal) :
    x * Ideal.div (Ideal.ofBits FTy.f32 0x3F800000#32) (Ideal.ofBits FTy.f32 0x3F800000#32 + Ideal.exp (-x)) = x * Ideal.logistic x := by
  rw [Ideal.ofBits_one_f32]
  rfl

/-- The rows of conditioning: the prompts', the samples', zeros. -/
def cond (p : Fin 2 → Fin 1024 → EReal) (s : Fin 128 → Fin 1024 → EReal) (R : Fin 136) (d : Fin 1024) : EReal :=
  if h : R.val < 2 then p ⟨R.val, h⟩ d else if h' : R.val < 130 then s ⟨R.val - 2, by omega⟩ d else 0

theorem cond_prompt (p : Fin 2 → Fin 1024 → EReal) (s : Fin 128 → Fin 1024 → EReal) (R : Fin 136) (h : R.val < 2) : cond p s R = p ⟨R.val, h⟩ :=
  funext fun _ => dif_pos h
theorem cond_sample (p : Fin 2 → Fin 1024 → EReal) (s : Fin 128 → Fin 1024 → EReal) (R : Fin 136) (h : ¬ R.val < 2) (h' : R.val < 130) :
    cond p s R = s ⟨R.val - 2, by omega⟩ :=
  funext fun _ => (dif_neg h).trans (dif_pos h')
theorem cond_tail (p : Fin 2 → Fin 1024 → EReal) (s : Fin 128 → Fin 1024 → EReal) (R : Fin 136) (h : ¬ R.val < 2) (h' : ¬ R.val < 130) :
    cond p s R = fun _ => 0 :=
  funext fun _ => (dif_neg h).trans (dif_neg h')

end Cert.Proof.AdaMath
-- ==== Proof.AdaRun.lean ====
/- Hand-written, untrusted: THE RUN OF THE MODULATION PRODUCT WITH ITS RESULT NAMED, over the extended reals: row `R` of the result
   array is `AdaMath.modAt` of row `R` of the conditioning (`G`, `run`). A grid point's block is stored once, whole (`out_eq`,
   `out_apply`); each point writes 1024 columns of all rows (`flushed3_eq`), the nine blocks cover the array (`covered3`), and the
   arrays the host prepared before the call are the arguments at an index (`rows_apply`, `V_v2`). -/
module

public import proofs.«01_k».proof.Proof.Gen.AdaIdeal.Value
public import proofs.«01_k».proof.Proof.AdaMath

@[expose] public section

set_option maxRecDepth 16384

noncomputable section

namespace Cert.Proof.AdaRun

open Cert.AdaIdeal Cert.AdaIdeal.Gen Cert.AdaIdeal.Value Idealize.ShloMosaic Idealize.ShloMosaic.TcCoe Idealize.SL.Sem
open Cert.Proof.AdaMath

theorem hz : (![0, 0] : Fin 2 → Nat) = fun _ => 0 := funext fun a => by fin_cases a <;> rfl

/-! ## One grid point's block -/

theorem out_eq (x0 : FVec Ideal S136x1024 .f32) (x1 : FVec Ideal S1024x1024 .f32) (x2 : FVec Ideal S1x1024 .f32) :
    out0_3 (F := Ideal) x0 x1 x2 = k0_pay1 (F := Ideal) x0 x1 x2 := by
  unfold out0_3
  rw [View.canon_unit_zero hz]
  simp only [View.ld_unit_zero (S := S136x1024) hz, View.ld_unit_zero (S := S1024x1024) hz, View.ld_unit_zero (S := S1x1024) hz]

theorem out_apply (x0 : FVec Ideal S136x1024 .f32) (x1 : FVec Ideal S1024x1024 .f32) (x2 : FVec Ideal S1x1024 .f32) (r : Fin 136) (l : Fin 1024) :
    out0_3 (F := Ideal) x0 x1 x2 (ix2 r l) = modAt (fun d => x0 (ix2 r d)) (fun d l => x1 (ix2 d l)) (fun l => x2 (ix2 0 l)) l := by
  rw [out_eq]
  pointwise [k0_pay1]
  rfl

variable (m : (ℓ : Loc nD τ sig) → Buf (Elt Ideal) ℓ) (ρ : Dev nD → PrngReg) (c : Dev nD)

/-- The argument arrays as vectors of extended reals. -/
abbrev a0 : FVec Ideal S2x1024 .f32 := m ((c : Thread nD τ).loc main_arg0)
abbrev a1 : FVec Ideal S128x1024 .f32 := m ((c : Thread nD τ).loc main_arg1)
abbrev a2 : FVec Ideal S1024x9216 .f32 := m ((c : Thread nD τ).loc main_arg2)
abbrev a3 : FVec Ideal S9216 .f32 := m ((c : Thread nD τ).loc main_arg3)

/-- Row `R` of the result from the argument arrays. -/
def Gv (p : FVec Ideal S2x1024 .f32) (s : FVec Ideal S128x1024 .f32) (w : FVec Ideal S1024x9216 .f32) (b : FVec Ideal S9216 .f32)
    (R : Fin 136) (l : Fin 9216) : EReal :=
  modAt (cond (fun r d => p (ix2 r d)) (fun r d => s (ix2 r d)) R) (fun d l => w (ix2 d l)) (fun l => b (ix1 l)) l

/-- The result array as one function of the argument arrays. -/
def G : FVec Ideal S136x9216 .f32 := fun j => Gv (a0 m c) (a1 m c) (a2 m c) (a3 m c) (j 0) (j 1)

/-! ## The arrays the host prepared -/

/-- The rows of conditioning, padded with zeros. -/
def rows (p : FVec Ideal S2x1024 .f32) (s : FVec Ideal S128x1024 .f32) : FVec Ideal S136x1024 .f32 :=
  pad S136x1024 ![0, 0] ![6, 0] ![0, 0] (concatenate S130x1024 0 [⟨S2x1024, p⟩, ⟨S128x1024, s⟩] concatenates_S2x1024_S128x1024_S130x1024_d0)
    (sitofp (F := Ideal) .f32 (constantI S_ 32 0#32)) pads_S130x1024_S136x1024_060_000 h_S_

theorem rows_apply (p : FVec Ideal S2x1024 .f32) (s : FVec Ideal S128x1024 .f32) (R : Fin 136) (d : Fin 1024) :
    rows p s (ix2 R d) = cond (fun r d => p (ix2 r d)) (fun r d => s (ix2 r d)) R d := by
  have hR : R.val < 136 := R.isLt
  have hd : d.val < 1024 := d.isLt
  pointwise [rows]
  by_cases h2 : R.val < 2
  · rw [cond_prompt _ _ R h2]
    exact (dif_pos (by omega)).trans (dif_pos h2)
  · by_cases h130 : R.val < 130
    · rw [cond_sample _ _ R h2 h130]
      exact (dif_pos (by omega)).trans (dif_neg h2)
    · rw [cond_tail _ _ R h2 h130]
      refine (dif_neg (by omega)).trans ?_
      show ((((0#32 : BitVec 32).toInt : ℝ)) : EReal) = 0
      simp

theorem V_v1 : V m c main_v1 = rows (a0 m c) (a1 m c) := by
  simp only [V, hostOps0, hostOps0_1, hostOps0_2, List.flatten_cons, List.flatten_nil, List.append_nil, List.cons_append, List.nil_append]
  after_results_simp <;> rfl
theorem V_v2 : V m c main_v2 = shapeCast S1x9216 (a3 m c) shapeCasts_S9216_S1x9216 := by
  simp only [V, hostOps0, hostOps0_1, hostOps0_2, List.flatten_cons, List.flatten_nil, List.append_nil, List.cons_append, List.nil_append]
  after_results_simp <;> rfl

/-! ## The windows' blocks -/

theorem ix0w : ∀ t : Fin cfg0.N, win0_0.index t (0 : Fin 2) = 0 ∧ win0_0.index t (1 : Fin 2) = 0 := (by decide +kernel : ∀ t : Fin grid0.N, _)
theorem ix1w : ∀ t : Fin cfg0.N, win0_1.index t (0 : Fin 2) = 0 ∧ win0_1.index t (1 : Fin 2) = t.val := (by decide +kernel : ∀ t : Fin grid0.N, _)
theorem ix2w : ∀ t : Fin cfg0.N, win0_2.index t (0 : Fin 2) = 0 ∧ win0_2.index t (1 : Fin 2) = t.val := (by decide +kernel : ∀ t : Fin grid0.N, _)
theorem ix3w : ∀ t : Fin cfg0.N, win0_3.index t (0 : Fin 2) = 0 ∧ win0_3.index t (1 : Fin 2) = t.val := (by decide +kernel : ∀ t : Fin grid0.N, _)

/-- Column `l` of point `t`'s block is column `1024 t + l` of the array. -/
abbrev colOf (t : Fin cfg0.N) (l : Fin 1024) : Fin 9216 := ⟨t.val * 1024 + l.val, by have := t.isLt; have h : cfg0.N = 9 := rfl; omega⟩

theorem iblk0_apply (t : Fin cfg0.N) (r : Fin 136) (d : Fin 1024) :
    iblk m c 0 t (ix2 r d) = cond (fun r d => a0 m c (ix2 r d)) (fun r d => a1 m c (ix2 r d)) r d := by
  obtain ⟨e0, e1⟩ := ix0w t
  have he : ((cfg0.win 0).blk t).view.emb (ix2 r d) = ix2 r d := by
    funext a; apply Fin.ext
    match a with
    | ⟨0, _⟩ => show win0_0.index t (0 : Fin 2) * 136 + 1 * r.val = r.val; omega
    | ⟨1, _⟩ => show win0_0.index t (1 : Fin 2) * 1024 + 1 * d.val = d.val; omega
  show V m c main_v1 (((cfg0.win 0).blk t).view.emb (ix2 r d)) = _
  rw [he, V_v1]
  exact rows_apply _ _ r d

theorem iblk1_apply (t : Fin cfg0.N) (d : Fin 1024) (l : Fin 1024) : iblk m c 1 t (ix2 d l) = a2 m c (ix2 d (colOf t l)) := by
  obtain ⟨e0, e1⟩ := ix1w t
  show V m c main_arg2 (((cfg0.win 1).blk t).view.emb (ix2 d l)) = _
  rw [V_main_arg2]
  refine congrArg (a2 m c) (funext fun a => Fin.ext ?_)
  match a with
  | ⟨0, _⟩ => show win0_1.index t (0 : Fin 2) * 1024 + 1 * d.val = d.val; omega
  | ⟨1, _⟩ => show win0_1.index t (1 : Fin 2) * 1024 + 1 * l.val = t.val * 1024 + l.val; omega

theorem iblk2_apply (t : Fin cfg0.N) (l : Fin 1024) : iblk m c 2 t (ix2 0 l) = a3 m c (ix1 (colOf t l)) := by
  obtain ⟨e0, e1⟩ := ix2w t
  have he : ((cfg0.win 2).blk t).view.emb (ix2 0 l) = ix2 (0 : Fin 1) (colOf t l) := by
    funext a; apply Fin.ext
    match a with
    | ⟨0, _⟩ => show win0_2.index t (0 : Fin 2) * 1 + 1 * 0 = 0; omega
    | ⟨1, _⟩ => show win0_2.index t (1 : Fin 2) * 1024 + 1 * l.val = t.val * 1024 + l.val; omega
  show V m c main_v2 (((cfg0.win 2).blk t).view.emb (ix2 0 l)) = _
  rw [he, V_v2]
  pointwise

/-- An index of the output window's block as an index of the array. -/
theorem emb3 (t : Fin cfg0.N) (r : Fin 136) (l : Fin 1024) : ((cfg0.win 3).blk t).view.emb (ix2 r l) = ix2 r (colOf t l) := by
  obtain ⟨e0, e1⟩ := ix3w t
  funext a; apply Fin.ext
  match a with
  | ⟨0, _⟩ => show win0_3.index t (0 : Fin 2) * 136 + 1 * r.val = r.val; omega
  | ⟨1, _⟩ => show win0_3.index t (1 : Fin 2) * 1024 + 1 * l.val = t.val * 1024 + l.val; omega

/-- What point `t` writes back is its block of `G`. -/
theorem flushed3_eq (t : Fin cfg0.N) :
    (dats m 0 c).flushed 3 t = ((cfg0.win 3).blk t).view.read (Elt Ideal) (G m c) := by
  rw [flushed3]
  funext j
  obtain ⟨r, l, rfl⟩ : ∃ (r : Fin 136) (l : Fin 1024), j = ix2 r l := ⟨j 0, j 1, eq_ix2 j⟩
  show out0_3 (F := Ideal) _ _ _ (ix2 r l) = G m c (((cfg0.win 3).blk t).view.emb (ix2 r l))
  rw [emb3, out_apply]
  simp only [iblk0_apply, iblk1_apply, iblk2_apply]
  rfl

/-- The nine blocks cover the result array. -/
theorem covered3 (i : S136x9216.Idx) : ∃ t : Fin cfg0.N, (cfg0.win 3).flush t = true ∧ i ∈ ((cfg0.win 3).blk t).view.set := by
  obtain ⟨R, l, rfl⟩ : ∃ (R : Fin 136) (l : Fin 9216), i = ix2 R l := ⟨i 0, i 1, eq_ix2 i⟩
  refine ⟨(⟨l.val / 1024, by show _ < 9; omega⟩ : Fin cfg0.N), flush0_3 _, ?_⟩
  have h := ((cfg0.win 3).blk (⟨l.val / 1024, by show _ < 9; omega⟩ : Fin cfg0.N)).view.emb_mem_set (ix2 R (⟨l.val % 1024, by omega⟩ : Fin 1024))
  rw [emb3] at h
  have e : colOf (⟨l.val / 1024, by show _ < 9; omega⟩ : Fin cfg0.N) (⟨l.val % 1024, by omega⟩ : Fin 1024) = l :=
    Fin.ext (by show l.val / 1024 * 1024 + l.val % 1024 = l.val; omega)
  rwa [e] at h

/-- The run with the result array at its function of the arguments. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 3 (G m c) (fun t _ => flushed3_eq m c t) covered3), (h c).2⟩)
    (run_blocks m ρ)

end Cert.Proof.AdaRun

end
-- ==== Proof.AdaRef.lean ====
/- Hand-written, untrusted: WHAT THE REFERENCE OF THE MODULATION PRODUCT RETURNS, at an index: row `R` of its result is
   `AdaMath.modAt` of row `R` of the conditioning (`out_apply`). The generated reading of the printed operations is cited stage
   by stage. -/
module

public import proofs.«01_k».proof.Proof.Gen.AdaReferenceIdeal.Read
public import proofs.«01_k».proof.Proof.AdaMath

@[expose] public section

set_option maxRecDepth 16384

noncomputable section

namespace Cert.Proof.AdaRef

open Cert.AdaReferenceIdeal Cert.AdaReferenceIdeal.Read Idealize.ShloMosaic Idealize.ShloMosaic.TcCoe
open Cert.Proof.AdaMath

variable (p : FVec Ideal S2x1024 .f32) (s : FVec Ideal S128x1024 .f32) (w : FVec Ideal S1024x9216 .f32) (b : FVec Ideal S9216 .f32)

/-- The SiLU of each part. -/
theorem silu_p (r : Fin 2) (d : Fin 1024) : val_main_v1 (F := Ideal) p (ix2 r d) = p (ix2 r d) * Ideal.logistic (p (ix2 r d)) := silu_quot (p (ix2 r d))
theorem silu_s (r : Fin 128) (d : Fin 1024) : val_main_v6 (F := Ideal) s (ix2 r d) = s (ix2 r d) * Ideal.logistic (s (ix2 r d)) := silu_quot (s (ix2 r d))
theorem silu_t (r : Fin 6) (d : Fin 1024) : val_main_v11 (F := Ideal) (ix2 r d) = 0 * Ideal.logistic 0 := by
  have h0 : val_main_v0 (F := Ideal) (ix2 r d) = 0 := Ideal.ofBits_zero .f32
  have h := silu_quot (val_main_v0 (F := Ideal) (ix2 r d))
  rw [h0] at h
  refine Eq.trans ?_ h
  rw [← h0]
  rfl

/-- A row of each part. -/
theorem part_p (r : Fin 2) (l : Fin 9216) : val_main_v5 (F := Ideal) p w b (ix2 r l)
    = modAt (fun d => p (ix2 r d)) (fun d l => w (ix2 d l)) (fun l => b (ix1 l)) l := by
  pointwise [val_main_v5, val_main_v4, val_main_v3, val_main_v2]
  simp only [silu_p]
  rfl
theorem part_s (r : Fin 128) (l : Fin 9216) : val_main_v10 (F := Ideal) s w b (ix2 r l)
    = modAt (fun d => s (ix2 r d)) (fun d l => w (ix2 d l)) (fun l => b (ix1 l)) l := by
  pointwise [val_main_v10, val_main_v9, val_main_v8, val_main_v7]
  simp only [silu_s]
  rfl
theorem part_t (r : Fin 6) (l : Fin 9216) : val_main_v15 (F := Ideal) w b (ix2 r l)
    = modAt (fun _ => 0) (fun d l => w (ix2 d l)) (fun l => b (ix1 l)) l := by
  pointwise [val_main_v15, val_main_v14, val_main_v13, val_main_v12]
  simp only [silu_t]
  rfl

/-- A row of the result. -/
theorem out_apply (R : Fin 136) (l : Fin 9216) : val_main_v16 (F := Ideal) p s w b (ix2 R l)
    = modAt (cond (fun r d => p (ix2 r d)) (fun r d => s (ix2 r d)) R) (fun d l => w (ix2 d l)) (fun l => b (ix1 l)) l := by
  pointwise [val_main_v16]
  by_cases h2 : R.val < 2
  · rw [cond_prompt _ _ R h2]
    exact (dif_pos h2).trans (part_p p w b ⟨R.val, h2⟩ l)
  · by_cases h130 : R.val < 130
    · have h : R.val - 2 < 128 := by omega
      rw [cond_sample _ _ R h2 h130]
      exact (dif_neg h2).trans ((dif_pos h).trans (part_s s w b ⟨R.val - 2, h⟩ l))
    · have h : ¬ R.val - 2 < 128 := by omega
      rw [cond_tail _ _ R h2 h130]
      exact (dif_neg h2).trans ((dif_neg h).trans (part_t w b _ l))

end Cert.Proof.AdaRef
-- ==== Proof.AdaClaim.lean ====
/- Hand-written, untrusted: THE CLAIMS ABOUT THE MODULATION PRODUCT. The kernel's frame at machine words and over the
   extended reals (generated), the reference's frame (its generated run; it declares no semaphore), and the value claim: the
   kernel's run (AdaRun.lean) and the reference's run end with the same array, the product row by row. -/
module

public import proofs.«01_k».proof.Defs
public import proofs.«01_k».proof.Proof.Gen.Ada
public import proofs.«01_k».proof.Proof.Gen.Ada.Frame
public import proofs.«01_k».proof.Proof.AdaRun
public import proofs.«01_k».proof.Proof.AdaRef

@[expose] public section

noncomputable section

namespace Cert.Proof.AdaClaim

open Idealize.ShloMosaic Idealize.ShloMosaic.TcCoe Idealize.SL.Sem

/-- The kernel over machine words runs, changes no argument, and leaves every semaphore at zero. -/
theorem frame_bits : Cert.quiescent_Ada (hAda := Cert.Ada.Gen.facts) := fun m ρ _ => Cert.Ada.Gen.frame m ρ

/-- The same over the extended reals. -/
theorem frame_ideal : Cert.quiescent_AdaIdeal (hAdaIdeal := Cert.AdaIdeal.Gen.facts) := fun m ρ _ => Cert.AdaIdeal.Gen.frame m ρ

/-- The reference runs and changes no argument. -/
theorem frame_ref : Cert.quiescent_AdaReferenceIdeal (hAdaReferenceIdeal := Cert.AdaReferenceIdeal.Gen.facts) := fun m ρ _ =>
  (θ_run Cert.AdaReferenceIdeal.defs _ _).mono (fun r h => ⟨fun c => (h c).2, sem_eq_zero_of_no_sems (by decide) r.2⟩)
    (Cert.AdaReferenceIdeal.Value.run (F := Ideal) m ρ)

/-- The kernel's result is the reference's, element by element, over the extended reals. -/
theorem value : Cert.algebraic_AdaIdeal_AdaReferenceIdeal (hAdaIdeal := Cert.AdaIdeal.Gen.facts) (hAdaReferenceIdeal := Cert.AdaReferenceIdeal.Gen.facts) := by
  intro m g m' g' _ hm
  refine ⟨fun c => AdaRun.G m c, AdaRun.run m g, ?_⟩
  refine (θ_run Cert.AdaReferenceIdeal.defs _ _).mono (fun r h c => ⟨(h c).1.trans ?_, (h c).2⟩)
    (Cert.AdaReferenceIdeal.Value.run (F := Ideal) m' g')
  obtain ⟨h0, h1, h2, h3⟩ := hm c
  rw [Cert.AdaReferenceIdeal.Read.val_main_v16_eq, h0, h1, h2, h3]
  funext j
  obtain ⟨R, l, rfl⟩ : ∃ (R : Fin 136) (l : Fin 9216), j = ix2 R l := ⟨j 0, j 1, eq_ix2 j⟩
  exact AdaRef.out_apply _ _ _ _ R l

end Cert.Proof.AdaClaim

end
-- ==== Proof.MixOutSampleOut.lean ====
/- Hand-written, untrusted: WHAT THE GRID POINT OF THE SAMPLE BATCH'S OUTPUT MIX LEAVES IN ITS BLOCK: the block is stored once, whole (`out_eq`),
   and over the extended reals its row `r` is the step `MixOutMath.row` of the input blocks' rows (`out_apply`). -/
module

public import proofs.«01_k».proof.Proof.Gen.MixOutSampleIdeal.Value
public import proofs.«01_k».proof.Proof.MixOutMath

@[expose] public section

set_option maxRecDepth 16384

noncomputable section

namespace Cert.Proof.MixOutSampleOut

open Cert.MixOutSampleIdeal Cert.MixOutSampleIdeal.Gen Cert.MixOutSampleIdeal.Value Idealize.ShloMosaic Idealize.ShloMosaic.TcCoe Idealize.SL.Sem
open Cert.Proof.FfnMath Cert.Proof.MixOutMath

theorem hz : (![0, 0] : Fin 2 → Nat) = fun _ => 0 := funext fun a => by fin_cases a <;> rfl
theorem hz3 : (![0, 0, 0] : Fin 3 → Nat) = fun _ => 0 := funext fun a => by fin_cases a <;> rfl

/-- 512 rows of the weights from row `o`. -/
def wrow (x5 : Vec Ideal S1024x1024 .bf16) (o : Nat) (inb : ∀ a, (![o, 0] : Fin 2 → Nat) a + S512x1024.size a ≤ S1024x1024.size a) : Vec Ideal S512x1024 .bf16 :=
  View.ld x5 (Rect.unit (s := S1024x1024) ![o, 0] S512x1024.size inb)

theorem wrow_apply (x5 : FVec Ideal S1024x1024 .bf16) (o : Nat) (inb : ∀ a, (![o, 0] : Fin 2 → Nat) a + S512x1024.size a ≤ S1024x1024.size a)
    (k : Fin 512) (d : Fin 1024) (h : o + k.val < 1024) : wrow x5 o inb (ix2 k d) = x5 (ix2 ⟨o + k.val, h⟩ d) := by
  refine congrArg x5 (funext fun a => Fin.ext ?_)
  match a with
  | ⟨0, _⟩ => show o + 1 * k.val = o + k.val; omega
  | ⟨1, _⟩ => show 0 + 1 * d.val = d.val; omega

variable (x0 : FVec Ideal S512x1024 .f32) (x1 : FVec Ideal S512x512 .bf16) (x2 : FVec Ideal S512x512 .f32) (x3 : FVec Ideal S1x512x1024 .f32) (x4 : FVec Ideal S1x1024 .f32) (x5 : FVec Ideal S1024x1024 .bf16)

/-- The block as the printed payload of the input blocks. -/
theorem out_eq : out0_6 (F := Ideal) x0 x1 x2 x3 x4 x5
    = k0_pay1 (F := Ideal) x1 (wrow x5 0 inb_S1024x1024_S512x1024_0_0) x2 (wrow x5 512 inb_S1024x1024_S512x1024_512_0) x0 x3 x4 := by
  unfold out0_6
  rw [View.canon_unit_zero hz]
  simp only [View.ld_unit_zero (S := S512x1024) hz, View.ld_unit_zero (S := S512x512) hz, View.ld_unit_zero (S := S1x1024) hz, View.ld_unit_zero (S := S1x512x1024) hz3]
  rfl

/-- The two products of the payload, at an index. -/
def prod (a : FVec Ideal S512x512 .bf16) (b : FVec Ideal S512x512 .f32) (wa wb : FVec Ideal S512x1024 .bf16) (r : Fin 512) (l : Fin 1024) : EReal :=
  (∑ d : Fin 512, a (ix2 r d) * wa (ix2 d l)) + ∑ d : Fin 512, b (ix2 r d) * wb (ix2 d l)

theorem pay1_apply (a : FVec Ideal S512x512 .bf16) (b : FVec Ideal S512x512 .f32) (wa wb : FVec Ideal S512x1024 .bf16) (r : Fin 512) (l : Fin 1024) :
    k0_pay1 (F := Ideal) a wa b wb x0 x3 x4 (ix2 r l)
      = x0 (ix2 r l) + x3 (ix3 0 r l) * (prod a b wa wb r l * rmsInv (prod a b wa wb r) * x4 (ix2 0 l)) := by
  pointwise [k0_pay1]
  rfl

theorem prod_eq (r : Fin 512) (l : Fin 1024) :
    prod x1 x2 (wrow x5 0 inb_S1024x1024_S512x1024_0_0) (wrow x5 512 inb_S1024x1024_S512x1024_512_0) r l
      = outRow (fun d => x1 (ix2 r d)) (fun d => x2 (ix2 r d)) (fun d l => x5 (ix2 d l)) l := by
  rw [outRow_halves]
  unfold prod
  refine congrArg₂ (· + ·) (Finset.sum_congr rfl fun d _ => ?_) (Finset.sum_congr rfl fun d _ => ?_)
  · rw [wrow_apply x5 _ _ d l (by omega)]; simp only [Nat.zero_add]
  · rw [wrow_apply x5 _ _ d l (by omega)]

/-- The block at an index. -/
theorem out_apply (r : Fin 512) (l : Fin 1024) : out0_6 (F := Ideal) x0 x1 x2 x3 x4 x5 (ix2 r l)
    = row (fun d => x0 (ix2 r d)) (fun d => x3 (ix3 0 r d)) (fun d => x4 (ix2 0 d)) (fun d => x1 (ix2 r d)) (fun d => x2 (ix2 r d)) (fun d l => x5 (ix2 d l)) l := by
  rw [out_eq, pay1_apply, funext (prod_eq x1 x2 x5 r)]
  rfl

end Cert.Proof.MixOutSampleOut

end
-- ==== Proof.MixOutSampleRun.lean ====
/- Hand-written, untrusted: THE RUN OF THE SAMPLE BATCH'S OUTPUT MIX WITH ITS RESULT NAMED, over the extended reals: row `R` of the
   result array is the step `MixOutMath.row` of row `R` (`G`, `run`). The one grid point writes the whole array (`flushed6_eq`,
   `covered6`), and the arrays the host prepared before the call (the weights' cast, the reshapes, the gate rows repeated for each
   token, `modV`) are the arguments at an index. -/
module

public import proofs.«01_k».proof.Proof.MixOutSampleOut

@[expose] public section

set_option maxRecDepth 16384

noncomputable section

namespace Cert.Proof.MixOutSampleRun

open Cert.MixOutSampleIdeal Cert.MixOutSampleIdeal.Gen Cert.MixOutSampleIdeal.Value Idealize.ShloMosaic Idealize.ShloMosaic.TcCoe Idealize.SL.Sem
open Cert.Proof.MixOutMath

variable (m : (ℓ : Loc nD τ sig) → Buf (Elt Ideal) ℓ) (ρ : Dev nD → PrngReg) (c : Dev nD)

/-- The argument arrays as vectors of extended reals. -/
abbrev a0 : FVec Ideal S128x4x1024 .f32 := m ((c : Thread nD τ).loc main_arg0)
abbrev a1 : FVec Ideal S512x512 .bf16 := m ((c : Thread nD τ).loc main_arg1)
abbrev a2 : FVec Ideal S512x512 .f32 := m ((c : Thread nD τ).loc main_arg2)
abbrev a3 : FVec Ideal S128x1x1024 .f32 := m ((c : Thread nD τ).loc main_arg3)
abbrev a4 : FVec Ideal S1024 .f32 := m ((c : Thread nD τ).loc main_arg4)
abbrev a5 : FVec Ideal S1024x1024 .f32 := m ((c : Thread nD τ).loc main_arg5)

/-- Row `R` of the result from the argument arrays. -/
def Gv (x : FVec Ideal S128x4x1024 .f32) (og : FVec Ideal S512x512 .bf16) (od : FVec Ideal S512x512 .f32) (ga : FVec Ideal S128x1x1024 .f32) (gp : FVec Ideal S1024 .f32)
    (w : FVec Ideal S1024x1024 .f32) (R : Fin 512) (l : Fin 1024) : EReal :=
  row (fun d => x (ix3 (⟨R.val / 4, by omega⟩ : Fin 128) (⟨R.val % 4, by omega⟩ : Fin 4) d))
    (fun d => ga (ix3 (⟨R.val / 4, by omega⟩ : Fin 128) 0 d)) (fun d => gp (ix1 d))
    (fun d => og (ix2 R d)) (fun d => od (ix2 R d)) (fun d l => w (ix2 d l)) l

/-- The result array as one function of the argument arrays. -/
def G : FVec Ideal S512x1024 .f32 := fun j => Gv (a0 m c) (a1 m c) (a2 m c) (a3 m c) (a4 m c) (a5 m c) (j 0) (j 1)

/-! ## The arrays the host prepared -/

/-- A sequence's modulation row, repeated for each of its four tokens. -/
def modV (x : FVec Ideal S128x1x1024 .f32) : FVec Ideal S1x512x1024 .f32 :=
  broadcastInDim S1x512x1024 ![1, 2] bcast_S512x1024_S1x512x1024_1_2 (shapeCast S512x1024
    (broadcastInDim S128x4x1024 ![0, 2] bcast_S128x1024_S128x4x1024_0_2 (shapeCast S128x1024 x shapeCasts_S128x1x1024_S128x1024)) shapeCasts_S128x4x1024_S512x1024)

theorem modV_apply (x : FVec Ideal S128x1x1024 .f32) (R : Fin 512) (d : Fin 1024) : modV x (ix3 0 R d) = x (ix3 (⟨R.val / 4, by omega⟩ : Fin 128) 0 d) := by
  pointwise [modV]

theorem V_v0 : V m c main_v0 = truncf (F := Ideal) .bf16 (a5 m c) bitsLt_bf16_f32 := by
  simp only [V, hostOps0]; after_results_simp <;> rfl
theorem V_v1 : V m c main_v1 = shapeCast S512x1024 (a0 m c) shapeCasts_S128x4x1024_S512x1024 := by
  simp only [V, hostOps0]; after_results_simp <;> rfl
theorem V_v5 : V m c main_v5 = modV (a3 m c) := by
  simp only [V, hostOps0]; after_results_simp <;> rfl
theorem V_v6 : V m c main_v6 = shapeCast S1x1024 (a4 m c) shapeCasts_S1024_S1x1024 := by
  simp only [V, hostOps0]; after_results_simp <;> rfl

/-! ## The windows' blocks -/

theorem ix0w : ∀ t : Fin cfg0.N, win0_0.index t (0 : Fin 2) = t.val ∧ win0_0.index t (1 : Fin 2) = 0 := (by decide +kernel : ∀ t : Fin grid0.N, _)
theorem ix1w : ∀ t : Fin cfg0.N, win0_1.index t (0 : Fin 2) = t.val ∧ win0_1.index t (1 : Fin 2) = 0 := (by decide +kernel : ∀ t : Fin grid0.N, _)
theorem ix2w : ∀ t : Fin cfg0.N, win0_2.index t (0 : Fin 2) = t.val ∧ win0_2.index t (1 : Fin 2) = 0 := (by decide +kernel : ∀ t : Fin grid0.N, _)
theorem ix4w : ∀ t : Fin cfg0.N, win0_4.index t (0 : Fin 2) = 0 ∧ win0_4.index t (1 : Fin 2) = 0 := (by decide +kernel : ∀ t : Fin grid0.N, _)
theorem ix5w : ∀ t : Fin cfg0.N, win0_5.index t (0 : Fin 2) = 0 ∧ win0_5.index t (1 : Fin 2) = 0 := (by decide +kernel : ∀ t : Fin grid0.N, _)
theorem ix6w : ∀ t : Fin cfg0.N, win0_6.index t (0 : Fin 2) = t.val ∧ win0_6.index t (1 : Fin 2) = 0 := (by decide +kernel : ∀ t : Fin grid0.N, _)
theorem ix3w : ∀ t : Fin cfg0.N, win0_3.index t (0 : Fin 3) = 0 ∧ win0_3.index t (1 : Fin 3) = t.val ∧ win0_3.index t (2 : Fin 3) = 0 := (by decide +kernel : ∀ t : Fin grid0.N, _)

/-- Row `r` of point `t`'s block is row `512 t + r` of the array. -/
abbrev rowOf (t : Fin cfg0.N) (r : Fin 512) : Fin 512 := ⟨t.val * 512 + r.val, by have := t.isLt; have h : cfg0.N = 1 := rfl; omega⟩

theorem iblk0_apply (t : Fin cfg0.N) (r : Fin 512) (d : Fin 1024) :
    iblk m c 0 t (ix2 r d) = a0 m c (ix3 (⟨(rowOf t r).val / 4, by omega⟩ : Fin 128) (⟨(rowOf t r).val % 4, by omega⟩ : Fin 4) d) := by
  obtain ⟨e0, e1⟩ := ix0w t
  have he : ((cfg0.win 0).blk t).view.emb (ix2 r d) = ix2 (rowOf t r) d := by
    funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  show V m c main_v1 (((cfg0.win 0).blk t).view.emb (ix2 r d)) = _
  rw [he, V_v1]
  pointwise

theorem iblk1_apply (t : Fin cfg0.N) (r : Fin 512) (d : Fin 512) : iblk m c 1 t (ix2 r d) = a1 m c (ix2 (rowOf t r) d) := by
  obtain ⟨e0, e1⟩ := ix1w t
  show V m c main_arg1 (((cfg0.win 1).blk t).view.emb (ix2 r d)) = _
  rw [V_main_arg1]
  refine congrArg (a1 m c) (funext fun a => Fin.ext ?_)
  match a with
  | ⟨0, _⟩ => show win0_1.index t (0 : Fin 2) * 512 + 1 * r.val = t.val * 512 + r.val; omega
  | ⟨1, _⟩ => show win0_1.index t (1 : Fin 2) * 512 + 1 * d.val = d.val; omega

theorem iblk2_apply (t : Fin cfg0.N) (r : Fin 512) (d : Fin 512) : iblk m c 2 t (ix2 r d) = a2 m c (ix2 (rowOf t r) d) := by
  obtain ⟨e0, e1⟩ := ix2w t
  show V m c main_arg2 (((cfg0.win 2).blk t).view.emb (ix2 r d)) = _
  rw [V_main_arg2]
  refine congrArg (a2 m c) (funext fun a => Fin.ext ?_)
  match a with
  | ⟨0, _⟩ => show win0_2.index t (0 : Fin 2) * 512 + 1 * r.val = t.val * 512 + r.val; omega
  | ⟨1, _⟩ => show win0_2.index t (1 : Fin 2) * 512 + 1 * d.val = d.val; omega

theorem iblk3_apply (t : Fin cfg0.N) (r : Fin 512) (d : Fin 1024) :
    iblk m c 3 t (ix3 0 r d) = a3 m c (ix3 (⟨(rowOf t r).val / 4, by omega⟩ : Fin 128) 0 d) := by
  obtain ⟨e0, e1, e2⟩ := ix3w t
  have he : ((cfg0.win 3).blk t).view.emb (ix3 0 r d) = ix3 (0 : Fin 1) (rowOf t r) d := by
    funext a; apply Fin.ext
    match a with
    | ⟨0, _⟩ => show win0_3.index t (0 : Fin 3) * 1 + 1 * 0 = 0; omega
    | ⟨1, _⟩ => show win0_3.index t (1 : Fin 3) * 512 + 1 * r.val = t.val * 512 + r.val; omega
    | ⟨2, _⟩ => show win0_3.index t (2 : Fin 3) * 1024 + 1 * d.val = d.val; omega
  show V m c main_v5 (((cfg0.win 3).blk t).view.emb (ix3 0 r d)) = _
  rw [he, V_v5, modV_apply]

theorem iblk4_apply (t : Fin cfg0.N) (d : Fin 1024) : iblk m c 4 t (ix2 0 d) = a4 m c (ix1 d) := by
  obtain ⟨e0, e1⟩ := ix4w t
  have he : ((cfg0.win 4).blk t).view.emb (ix2 0 d) = ix2 (0 : Fin 1) d := by
    funext a; apply Fin.ext
    match a with
    | ⟨0, _⟩ => show win0_4.index t (0 : Fin 2) * 1 + 1 * 0 = 0; omega
    | ⟨1, _⟩ => show win0_4.index t (1 : Fin 2) * 1024 + 1 * d.val = d.val; omega
  show V m c main_v6 (((cfg0.win 4).blk t).view.emb (ix2 0 d)) = _
  rw [he, V_v6]
  pointwise

theorem iblk5_apply (t : Fin cfg0.N) (d : Fin 1024) (j : Fin 1024) : iblk m c 5 t (ix2 d j) = a5 m c (ix2 d j) := by
  obtain ⟨e0, e1⟩ := ix5w t
  show V m c main_v0 (((cfg0.win 5).blk t).view.emb (ix2 d j)) = _
  rw [V_v0]
  refine congrArg (a5 m c) (funext fun a => Fin.ext ?_)
  match a with
  | ⟨0, _⟩ => show win0_5.index t (0 : Fin 2) * 1024 + 1 * d.val = d.val; omega
  | ⟨1, _⟩ => show win0_5.index t (1 : Fin 2) * 1024 + 1 * j.val = j.val; omega

/-- An index of the output window's block as an index of the array. -/
theorem emb6 (t : Fin cfg0.N) (r : Fin 512) (l : Fin 1024) : ((cfg0.win 6).blk t).view.emb (ix2 r l) = ix2 (rowOf t r) l := by
  obtain ⟨e0, e1⟩ := ix6w t
  funext a; apply Fin.ext
  match a with
  | ⟨0, _⟩ => show win0_6.index t (0 : Fin 2) * 512 + 1 * r.val = t.val * 512 + r.val; omega
  | ⟨1, _⟩ => show win0_6.index t (1 : Fin 2) * 1024 + 1 * l.val = l.val; omega

/-- What point `t` writes back is its block of `G`. -/
theorem flushed6_eq (t : Fin cfg0.N) :
    (dats m 0 c).flushed 6 t = ((cfg0.win 6).blk t).view.read (Elt Ideal) (G m c) := by
  rw [flushed6]
  funext j
  obtain ⟨r, l, rfl⟩ : ∃ (r : Fin 512) (l : Fin 1024), j = ix2 r l := ⟨j 0, j 1, eq_ix2 j⟩
  show out0_6 (F := Ideal) _ _ _ _ _ _ (ix2 r l) = G m c (((cfg0.win 6).blk t).view.emb (ix2 r l))
  rw [emb6, MixOutSampleOut.out_apply]
  simp only [iblk0_apply, iblk1_apply, iblk2_apply, iblk3_apply, iblk4_apply, iblk5_apply]
  rfl

/-- The one block covers the result array. -/
theorem covered6 (i : S512x1024.Idx) : ∃ t : Fin cfg0.N, (cfg0.win 6).flush t = true ∧ i ∈ ((cfg0.win 6).blk t).view.set := by
  obtain ⟨R, l, rfl⟩ : ∃ (R : Fin 512) (l : Fin 1024), i = ix2 R l := ⟨i 0, i 1, eq_ix2 i⟩
  refine ⟨(⟨R.val / 512, by show _ < 1; omega⟩ : Fin cfg0.N), flush0_6 _, ?_⟩
  have h := ((cfg0.win 6).blk (⟨R.val / 512, by show _ < 1; omega⟩ : Fin cfg0.N)).view.emb_mem_set (ix2 (⟨R.val % 512, by omega⟩ : Fin 512) l)
  rw [emb6] at h
  have e : rowOf (⟨R.val / 512, by show _ < 1; omega⟩ : Fin cfg0.N) (⟨R.val % 512, by omega⟩ : Fin 512) = R :=
    Fin.ext (by show R.val / 512 * 512 + R.val % 512 = R.val; omega)
  rwa [e] at h

/-- The run with the result array at its function of the arguments. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 6 (G m c) (fun t _ => flushed6_eq m c t) covered6), (h c).2⟩)
    (run_blocks m ρ)

end Cert.Proof.MixOutSampleRun

end
-- ==== Proof.MixOutSampleRef.lean ====
/- Hand-written, untrusted: WHAT THE REFERENCE OF THE SAMPLE BATCH'S OUTPUT MIX RETURNS, at an index: row `R` of its result is the step
   `MixOutMath.row` of token `R % 4` of sequence `R / 4` (`out_apply`). The generated reading of the printed operations is cited
   stage by stage. -/
module

public import proofs.«01_k».proof.Proof.Gen.MixOutSampleReferenceIdeal.Read
public import proofs.«01_k».proof.Proof.MixOutMath

@[expose] public section

noncomputable section

namespace Cert.Proof.MixOutSampleRef

open Cert.MixOutSampleReferenceIdeal Cert.MixOutSampleReferenceIdeal.Read Idealize.ShloMosaic Idealize.ShloMosaic.TcCoe
open Cert.Proof.FfnMath Cert.Proof.MixOutMath

/-- Token `s` of sequence `b` as one of the flattened rows. -/
abbrev flat (b : Fin 128) (s : Fin 4) : Fin 512 := ⟨b.val * 4 + s.val, by omega⟩

/-- The two halves side by side. -/
theorem mixed_apply (og : FVec Ideal S512x512 .bf16) (od : FVec Ideal S512x512 .f32) (b : Fin 128) (s : Fin 4) (d : Fin 1024) :
    val_main_v3 (F := Ideal) og od (ix3 b s d) = joined (fun d => og (ix2 (flat b s) d)) (fun d => od (ix2 (flat b s) d)) d := by
  pointwise [val_main_v3, val_main_v2, val_main_v1, val_main_v0]
  rfl

/-- The product. -/
theorem prod_apply (og : FVec Ideal S512x512 .bf16) (od : FVec Ideal S512x512 .f32) (w : FVec Ideal S1024x1024 .f32) (b : Fin 128) (s : Fin 4) (l : Fin 1024) :
    val_main_v4 (F := Ideal) og od w (ix3 b s l)
      = outRow (fun d => og (ix2 (flat b s) d)) (fun d => od (ix2 (flat b s) d)) (fun d l => w (ix2 d l)) l := by
  pointwise [val_main_v4]
  simp only [mixed_apply]
  rfl

/-- A row of the result. -/
theorem out_apply (x : FVec Ideal S128x4x1024 .f32) (og : FVec Ideal S512x512 .bf16) (od : FVec Ideal S512x512 .f32) (ga : FVec Ideal S128x1x1024 .f32) (gp : FVec Ideal S1024 .f32)
    (w : FVec Ideal S1024x1024 .f32) (R : Fin 512) (l : Fin 1024) :
    val_main_v23 (F := Ideal) x og od ga gp w (ix2 R l)
      = row (fun d => x (ix3 (⟨R.val / 4, by omega⟩ : Fin 128) (⟨R.val % 4, by omega⟩ : Fin 4) d))
          (fun d => ga (ix3 (⟨R.val / 4, by omega⟩ : Fin 128) 0 d)) (fun d => gp (ix1 d))
          (fun d => og (ix2 R d)) (fun d => od (ix2 R d)) (fun d l => w (ix2 d l)) l := by
  have hR : flat (⟨R.val / 4, by omega⟩ : Fin 128) (⟨R.val % 4, by omega⟩ : Fin 4) = R :=
    Fin.ext (by show R.val / 4 * 4 + R.val % 4 = R.val; omega)
  pointwise [val_main_v23, val_main_v22, val_main_v21, val_main_v20, val_main_v19, val_main_v18, val_main_v17, val_main_v16, val_main_v15, val_main_v14, val_main_v13, val_main_v12, val_main_cst_2, val_main_v11, val_main_v10, val_main_cst_1, val_main_v9, val_main_v8, val_main_cst_0, val_main_v7, val_main_v6, val_main_v5, val_main_cst]
  simp only [prod_apply, hR]
  rfl

end Cert.Proof.MixOutSampleRef

end
-- ==== Proof.MixOutSampleClaim.lean ====
/- Hand-written, untrusted: THE CLAIMS ABOUT THE SAMPLE BATCH'S OUTPUT MIX. The kernel's frame at machine words and over the
   extended reals (generated), the reference's frame (its generated run; it declares no semaphore), and the value claim: the
   kernel's run (MixOutSampleRun.lean) and the reference's run end with the same array, the gated step of each row. -/
module

public import proofs.«01_k».proof.Defs
public import proofs.«01_k».proof.Proof.Gen.MixOutSample
public import proofs.«01_k».proof.Proof.Gen.MixOutSample.Frame
public import proofs.«01_k».proof.Proof.MixOutSampleRun
public import proofs.«01_k».proof.Proof.MixOutSampleRef

@[expose] public section

noncomputable section

namespace Cert.Proof.MixOutSampleClaim

open Idealize.ShloMosaic Idealize.ShloMosaic.TcCoe Idealize.SL.Sem

/-- The kernel over machine words runs, changes no argument, and leaves every semaphore at zero. -/
theorem frame_bits : Cert.quiescent_MixOutSample (hMixOutSample := Cert.MixOutSample.Gen.facts) := fun m ρ _ => Cert.MixOutSample.Gen.frame m ρ

/-- The same over the extended reals. -/
theorem frame_ideal : Cert.quiescent_MixOutSampleIdeal (hMixOutSampleIdeal := Cert.MixOutSampleIdeal.Gen.facts) := fun m ρ _ => Cert.MixOutSampleIdeal.Gen.frame m ρ

/-- The reference runs and changes no argument. -/
theorem frame_ref : Cert.quiescent_MixOutSampleReferenceIdeal (hMixOutSampleReferenceIdeal := Cert.MixOutSampleReferenceIdeal.Gen.facts) := fun m ρ _ =>
  (θ_run Cert.MixOutSampleReferenceIdeal.defs _ _).mono (fun r h => ⟨fun c => (h c).2, sem_eq_zero_of_no_sems (by decide) r.2⟩)
    (Cert.MixOutSampleReferenceIdeal.Value.run (F := Ideal) m ρ)

/-- The kernel's result is the reference's, element by element, over the extended reals. -/
theorem value : Cert.algebraic_MixOutSampleIdeal_MixOutSampleReferenceIdeal (hMixOutSampleIdeal := Cert.MixOutSampleIdeal.Gen.facts) (hMixOutSampleReferenceIdeal := Cert.MixOutSampleReferenceIdeal.Gen.facts) := by
  intro m g m' g' _ hm
  refine ⟨fun c => MixOutSampleRun.G m c, MixOutSampleRun.run m g, ?_⟩
  refine (θ_run Cert.MixOutSampleReferenceIdeal.defs _ _).mono (fun r h c => ⟨(h c).1.trans ?_, (h c).2⟩)
    (Cert.MixOutSampleReferenceIdeal.Value.run (F := Ideal) m' g')
  obtain ⟨h0, h1, h2, h3, h4, h5⟩ := hm c
  rw [Cert.MixOutSampleReferenceIdeal.Read.val_main_v23_eq, h0, h1, h2, h3, h4, h5]
  funext j
  obtain ⟨R, l, rfl⟩ : ∃ (R : Fin 512) (l : Fin 1024), j = ix2 R l := ⟨j 0, j 1, eq_ix2 j⟩
  exact MixOutSampleRef.out_apply _ _ _ _ _ _ R l

end Cert.Proof.MixOutSampleClaim

end
-- ==== Proof.lean ====
/- Hand-written, untrusted: THE CERTIFICATE. Each call's claims are proved in its own module; here they are put together in
   the order `Cert.Claim` states them. -/
module

public import proofs.«01_k».proof.Defs
public import proofs.«01_k».proof.Proof.AttClaim
public import proofs.«01_k».proof.Proof.FfnClaim
public import proofs.«01_k».proof.Proof.MixInClaim
public import proofs.«01_k».proof.Proof.MixOutClaim
public import proofs.«01_k».proof.Proof.FfnSampleClaim
public import proofs.«01_k».proof.Proof.MixInSampleClaim
public import proofs.«01_k».proof.Proof.AdaClaim
public import proofs.«01_k».proof.Proof.MixOutSampleClaim

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.MixIn.Gen.facts, Cert.MixInIdeal.Gen.facts, Cert.MixInReferenceIdeal.Gen.facts,
    Cert.MixOut.Gen.facts, Cert.MixOutIdeal.Gen.facts, Cert.MixOutReferenceIdeal.Gen.facts,
    Cert.FfnSample.Gen.facts, Cert.FfnSampleIdeal.Gen.facts, Cert.FfnSampleReferenceIdeal.Gen.facts,
    Cert.MixInSample.Gen.facts, Cert.MixInSampleIdeal.Gen.facts, Cert.MixInSampleReferenceIdeal.Gen.facts,
    Cert.Ada.Gen.facts, Cert.AdaIdeal.Gen.facts, Cert.AdaReferenceIdeal.Gen.facts,
    Cert.MixOutSample.Gen.facts, Cert.MixOutSampleIdeal.Gen.facts, Cert.MixOutSampleReferenceIdeal.Gen.facts,
    Cert.Pre_finite.Gen.facts,
    AttClaim.frame_bits, AttClaim.frame_ideal, AttClaim.frame_ideal_finite, AttClaim.frame_ref, AttClaim.frame_ref_finite,
    FfnClaim.frame_bits, FfnClaim.frame_ideal, FfnClaim.frame_ref,
    MixInClaim.frame_bits, MixInClaim.frame_ideal, MixInClaim.frame_ref,
    MixOutClaim.frame_bits, MixOutClaim.frame_ideal, MixOutClaim.frame_ref,
    FfnSampleClaim.frame_bits, FfnSampleClaim.frame_ideal, FfnSampleClaim.frame_ref,
    MixInSampleClaim.frame_bits, MixInSampleClaim.frame_ideal, MixInSampleClaim.frame_ref,
    AdaClaim.frame_bits, AdaClaim.frame_ideal, AdaClaim.frame_ref,
    MixOutSampleClaim.frame_bits, MixOutSampleClaim.frame_ideal, MixOutSampleClaim.frame_ref,
    AttClaim.preserves, AttClaim.value, trivial, FfnClaim.value, trivial, MixInClaim.value, trivial, MixOutClaim.value,
    trivial, FfnSampleClaim.value, trivial, MixInSampleClaim.value, trivial, AdaClaim.value,
    trivial, MixOutSampleClaim.value⟩

end Cert.Proof

end
